-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "log2e_8" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v106) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2304x768 : Shape := ⟨3, ![16, 2304, 768]⟩
abbrev S8 : Shape := ⟨1, ![8]⟩
abbrev S16x2304x768x1 : Shape := ⟨4, ![16, 2304, 768, 1]⟩
abbrev S_ : Shape := ⟨0, ![]⟩
abbrev S1x1x1x8 : Shape := ⟨4, ![1, 1, 1, 8]⟩
abbrev S16x2304x768x8 : Shape := ⟨4, ![16, 2304, 768, 8]⟩

class Facts : Prop where
  bcast_S16x2304x768_S16x2304x768x1_0_1_2 : S16x2304x768.BroadcastsInDim S16x2304x768x1 (![0, 1, 2] : Fin 3 → Fin S16x2304x768x1.rank)
  bcast_S_S16x2304x768x1 : S_.BroadcastsInDim S16x2304x768x1 (![] : Fin 0 → Fin S16x2304x768x1.rank)
  bcast_S_S8 : S_.BroadcastsInDim S8 (![] : Fin 0 → Fin S8.rank)
  bcast_S8_S1x1x1x8_3 : S8.BroadcastsInDim S1x1x1x8 (![3] : Fin 1 → Fin S1x1x1x8.rank)
  bcast_S16x2304x768x1_S16x2304x768x8_0_1_2_3 : S16x2304x768x1.BroadcastsInDim S16x2304x768x8 (![0, 1, 2, 3] : Fin 4 → Fin S16x2304x768x8.rank)
  bcast_S1x1x1x8_S16x2304x768x8_0_1_2_3 : S1x1x1x8.BroadcastsInDim S16x2304x768x8 (![0, 1, 2, 3] : Fin 4 → Fin S16x2304x768x8.rank)

variable [Facts]

def fn {F : FTy → Type} [FloatOps F] (main_arg0 : FVec F S16x2304x768 .f32) (main_arg1 : FVec F S8 .f32) : IVec S16x2304x768x8 1 :=
  let main_v0 : FVec F S16x2304x768 .f32 := Host.absf main_arg0
  let main_v1 : FVec F S16x2304x768x1 .f32 := broadcastInDim S16x2304x768x1 ![0, 1, 2] bcast_S16x2304x768_S16x2304x768x1_0_1_2 main_v0
  let main_cst : FVec F S_ .f32 := constant S_ .f32 0x7F800000#32
  let main_v2 : FVec F S16x2304x768x1 .f32 := broadcastInDim S16x2304x768x1 ![] bcast_S_S16x2304x768x1 main_cst
  let main_v3 : IVec S16x2304x768x1 1 := cmpf .olt main_v1 main_v2
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_v7 : IVec S1x1x1x8 1 := broadcastInDim S1x1x1x8 ![3] bcast_S8_S1x1x1x8_3 main_v6
  let main_v8 : IVec S16x2304x768x8 1 := broadcastInDim S16x2304x768x8 ![0, 1, 2, 3] bcast_S16x2304x768x1_S16x2304x768x8_0_1_2_3 main_v3
  let main_v9 : IVec S16x2304x768x8 1 := broadcastInDim S16x2304x768x8 ![0, 1, 2, 3] bcast_S1x1x1x8_S16x2304x768x8_0_1_2_3 main_v7
  let main_v10 : IVec S16x2304x768x8 1 := andi main_v8 main_v9
  main_v10
-- ==== Kernel.lean ====
abbrev S16x2304x768 : Shape := ⟨3, ![16, 2304, 768]⟩
abbrev S8 : Shape := ⟨1, ![8]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S16x2304x512 : Shape := ⟨3, ![16, 2304, 512]⟩
abbrev S1x2304x768 : Shape := ⟨3, ![1, 2304, 768]⟩
abbrev S1x2304x512 : Shape := ⟨3, ![1, 2304, 512]⟩
abbrev S2304x512 : Shape := ⟨2, ![2304, 512]⟩
abbrev S2x2304x128 : Shape := ⟨3, ![2, 2304, 128]⟩
abbrev S3x128x384 : Shape := ⟨3, ![3, 128, 384]⟩
abbrev S128x128 : Shape := ⟨2, ![128, 128]⟩
abbrev S128x512 : Shape := ⟨2, ![128, 512]⟩
abbrev S1x128x512 : Shape := ⟨3, ![1, 128, 512]⟩
abbrev S1x128x128 : Shape := ⟨3, ![1, 128, 128]⟩
abbrev S512x256 : Shape := ⟨2, ![512, 256]⟩
abbrev S512x1 : Shape := ⟨2, ![512, 1]⟩
abbrev S128x256 : Shape := ⟨2, ![128, 256]⟩
abbrev S1 : Shape := ⟨1, ![1]⟩
abbrev S128x384 : Shape := ⟨2, ![128, 384]⟩
abbrev S1x128x384 : Shape := ⟨3, ![1, 128, 384]⟩
abbrev S1x256x128 : Shape := ⟨3, ![1, 256, 128]⟩
abbrev S256x128 : Shape := ⟨2, ![256, 128]⟩
abbrev S256x256 : Shape := ⟨2, ![256, 256]⟩
abbrev S512 : Shape := ⟨1, ![512]⟩
abbrev S1x128x256 : Shape := ⟨3, ![1, 128, 256]⟩
abbrev S512x384 : Shape := ⟨2, ![512, 384]⟩
abbrev S1x384x128 : Shape := ⟨3, ![1, 384, 128]⟩
abbrev S384x128 : Shape := ⟨2, ![384, 128]⟩
abbrev S384x256 : Shape := ⟨2, ![384, 256]⟩

abbrev nBuf : Space → Nat
  | .hbm => 47
  | .vmem => 10
  | .smem => 1
  | _ => 0

abbrev bufTy : (tb : Table) → Fin (tcTables nBuf tb) → BufTy
  | .hbm, ⟨0, _⟩ => ⟨S16x2304x768, .f32⟩
  | .hbm, ⟨1, _⟩ => ⟨S8, .f32⟩
  | .hbm, ⟨2, _⟩ => ⟨S32, .i32⟩
  | .hbm, ⟨3, _⟩ => ⟨S32x64, .i32⟩
  | .hbm, ⟨4, _⟩ => ⟨S2048, .i32⟩
  | .hbm, ⟨5, _⟩ => ⟨S2048, .f32⟩
  | .hbm, ⟨6, _⟩ => ⟨S64, .i32⟩
  | .hbm, ⟨7, _⟩ => ⟨S1x64, .i32⟩
  | .hbm, ⟨8, _⟩ => ⟨S32x64, .i32⟩
  | .hbm, ⟨9, _⟩ => ⟨S2048, .i32⟩
  | .hbm, ⟨10, _⟩ => ⟨S2048, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x1, .f32⟩
  | .hbm, ⟨31, _⟩ => ⟨S1x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S1x2048x1x32, .f32⟩
  | .hbm, ⟨39, _⟩ => ⟨S1x2048x4x32, .f32⟩
  | .hbm, ⟨40, _⟩ => ⟨S2048x128, .f32⟩
  | .hbm, ⟨41, _⟩ => ⟨S2048x32, .f32⟩
  | .hbm, ⟨42, _⟩ => ⟨S2048x64, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S16x2304x512, .bf16⟩
  | .local _ .vmem, ⟨0, _⟩ => ⟨S1x2304x768, .f32⟩
  | .local _ .vmem, ⟨1, _⟩ => ⟨S1x2304x768, .f32⟩
  | .local _ .vmem, ⟨2, _⟩ => ⟨S2048x128, .f32⟩
  | .local _ .vmem, ⟨3, _⟩ => ⟨S2048x128, .f32⟩
  | .local _ .vmem, ⟨4, _⟩ => ⟨S1x2304x512, .bf16⟩
  | .local _ .vmem, ⟨5, _⟩ => ⟨S1x2304x512, .bf16⟩
  | .local _ .vmem, ⟨6, _⟩ => ⟨S2304x512, .bf16⟩
  | .local _ .vmem, ⟨7, _⟩ => ⟨S2x2304x128, .bf16⟩
  | .local _ .vmem, ⟨8, _⟩ => ⟨S2x2304x128, .bf16⟩
  | .local _ .vmem, ⟨9, _⟩ => ⟨S3x128x384, .f32⟩
  | .local _ .smem, ⟨0, _⟩ => ⟨S8, .f32⟩
  | _, _ => ⟨S16x2304x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c18_i32 : BitVec 32 := 18#32
  let v12 : BitVec 32 := Scalar.addi c0_i32 c18_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_48 : BitVec 32 := 128#32
  let v118 : BitVec 32 := Scalar.muli arg10 c128_i32_48
  v118
def k0_off1 (k0_t1 : Fin k0_t1_loop.trips) : Fin 3 → Nat :=
  let c0_49 : Index := 0#32
  let c0_i32 : BitVec 32 := 0#32
  let c1_i32 : BitVec 32 := 1#32
  let arg10 : BitVec 32 := Scf.iv c0_i32 c1_i32 k0_t1
  let c128_i32_48 : BitVec 32 := 128#32
  let v118 : BitVec 32 := Scalar.muli arg10 c128_i32_48
  let v119 : BitVec 32 := v118
  let v120 : Index := Scalar.indexCast v119
  let c0_50 : Index := 0#32
  ![0, v120.toNat, 0]
def k0_off2 (k0_t1 : Fin k0_t1_loop.trips) : Fin 3 → Nat :=
  let c0_51 : Index := 0#32
  let c0_i32 : BitVec 32 := 0#32
  let c1_i32 : BitVec 32 := 1#32
  let arg10 : BitVec 32 := Scf.iv c0_i32 c1_i32 k0_t1
  let c128_i32_48 : BitVec 32 := 128#32
  let v118 : BitVec 32 := Scalar.muli arg10 c128_i32_48
  let v119 : BitVec 32 := v118
  let v123 : Index := Scalar.indexCast v119
  let c512 : Index := 512#32
  ![0, v123.toNat, 512]
def k0_off3 (k0_t1 : Fin k0_t1_loop.trips) : Fin 3 → Nat :=
  let c0_52 : Index := 0#32
  let c0_i32 : BitVec 32 := 0#32
  let c1_i32 : BitVec 32 := 1#32
  let arg10 : BitVec 32 := Scf.iv c0_i32 c1_i32 k0_t1
  let c128_i32_48 : BitVec 32 := 128#32
  let v118 : BitVec 32 := Scalar.muli arg10 c128_i32_48
  let v119 : BitVec 32 := v118
  let v126 : Index := Scalar.indexCast v119
  let c640 : Index := 640#32
  ![0, v126.toNat, 640]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_48 : BitVec 32 := 128#32
  let v118 : BitVec 32 := Scalar.muli arg10 c128_i32_48
  let v119 : BitVec 32 := v118
  let c256_i32_53 : BitVec 32 := 256#32
  let v129 : BitVec 32 := Scalar.subi v119 c256_i32_53
  let c0_i32_54 : BitVec 32 := 0#32
  let v130 : BitVec 32 := Scalar.maxsi v129 c0_i32_54
  v130
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32_48 : BitVec 32 := 128#32
  let v118 : BitVec 32 := Scalar.muli arg10 c128_i32_48
  let v119 : BitVec 32 := v118
  let c256_i32_53 : BitVec 32 := 256#32
  let v129 : BitVec 32 := Scalar.subi v119 c256_i32_53
  let c0_i32_54 : BitVec 32 := 0#32
  let v130 : BitVec 32 := Scalar.maxsi v129 c0_i32_54
  let v131 : BitVec 32 := v130
  let v132 : Index := Scalar.indexCast v131
  let c0_55 : Index := 0#32
  ![v132.toNat, 0]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32_48 : BitVec 32 := 128#32
  let v118 : BitVec 32 := Scalar.muli arg10 c128_i32_48
  let v119 : BitVec 32 := v118
  let v157 : Index := Scalar.indexCast v119
  let c0_63 : Index := 0#32
  ![v157.toNat, 0]
def k0_off6 (k0_t1 : Fin k0_t1_loop.trips) : Fin 3 → Nat :=
  let c0_66 : Index := 0#32
  let c0_i32 : BitVec 32 := 0#32
  let c1_i32 : BitVec 32 := 1#32
  let arg10 : BitVec 32 := Scf.iv c0_i32 c1_i32 k0_t1
  let c128_i32_48 : BitVec 32 := 128#32
  let v118 : BitVec 32 := Scalar.muli arg10 c128_i32_48
  let v119 : BitVec 32 := v118
  let v171 : Index := Scalar.indexCast v119
  let c0_67 : Index := 0#32
  ![0, v171.toNat, 0]
def k0_off7 (k0_t1 : Fin k0_t1_loop.trips) : Fin 3 → Nat :=
  let c1_68 : Index := 1#32
  let c0_i32 : BitVec 32 := 0#32
  let c1_i32 : BitVec 32 := 1#32
  let arg10 : BitVec 32 := Scf.iv c0_i32 c1_i32 k0_t1
  let c128_i32_48 : BitVec 32 := 128#32
  let v118 : BitVec 32 := Scalar.muli arg10 c128_i32_48
  let v119 : BitVec 32 := v118
  let v176 : Index := Scalar.indexCast v119
  let c0_69 : Index := 0#32
  ![1, v176.toNat, 0]
@[reducible] def k0_t2_loop : Scf.Loop 32 :=
  let c0_i32_41 : BitVec 32 := 0#32
  let c2_i32_42 : BitVec 32 := 2#32
  let v116 : BitVec 32 := Scalar.addi c0_i32_41 c2_i32_42
  let c1_i32_43 : BitVec 32 := 1#32
  ⟨c0_i32_41, v116, c1_i32_43⟩
def k0_mult3 (k0_t2 : Fin k0_t2_loop.trips) : BitVec 32 :=
  let c0_i32_41 : BitVec 32 := 0#32
  let c1_i32_43 : BitVec 32 := 1#32
  let arg10 : BitVec 32 := Scf.iv c0_i32_41 c1_i32_43 k0_t2
  let c128_i32_48 : BitVec 32 := 128#32
  let v118 : BitVec 32 := Scalar.muli arg10 c128_i32_48
  v118
def k0_off8 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c128_i32_48 : BitVec 32 := 128#32
  let v118 : BitVec 32 := Scalar.muli arg10 c128_i32_48
  let v119 : BitVec 32 := v118
  let v120 : Index := Scalar.indexCast v119
  let c0_49 : Index := 0#32
  ![v120.toNat, 0]
def k0_off9 (k0_t2 : Fin k0_t2_loop.trips) : Fin 2 → Nat :=
  let c0_i32_41 : BitVec 32 := 0#32
  let c1_i32_43 : BitVec 32 := 1#32
  let arg10 : BitVec 32 := Scf.iv c0_i32_41 c1_i32_43 k0_t2
  let c128_i32_48 : BitVec 32 := 128#32
  let v118 : BitVec 32 := Scalar.muli arg10 c128_i32_48
  let v119 : BitVec 32 := v118
  let v124 : Index := Scalar.indexCast v119
  let c256 : Index := 256#32
  ![v124.toNat, 256]
def k0_off10 (k0_t2 : Fin k0_t2_loop.trips) : Fin 3 → Nat :=
  let c0_75 : Index := 0#32
  let c0_i32_41 : BitVec 32 := 0#32
  let c1_i32_43 : BitVec 32 := 1#32
  let arg10 : BitVec 32 := Scf.iv c0_i32_41 c1_i32_43 k0_t2
  let c128_i32_48 : BitVec 32 := 128#32
  let v118 : BitVec 32 := Scalar.muli arg10 c128_i32_48
  let v119 : BitVec 32 := v118
  let v188 : Index := Scalar.indexCast v119
  let c0_76 : Index := 0#32
  ![0, v188.toNat, 0]
def k0_off11 (k0_t2 : Fin k0_t2_loop.trips) : Fin 3 → Nat :=
  let c0_82 : Index := 0#32
  let c0_i32_41 : BitVec 32 := 0#32
  let c1_i32_43 : BitVec 32 := 1#32
  let arg10 : BitVec 32 := Scf.iv c0_i32_41 c1_i32_43 k0_t2
  let c128_i32_48 : BitVec 32 := 128#32
  let v118 : BitVec 32 := Scalar.muli arg10 c128_i32_48
  let v119 : BitVec 32 := v118
  let v212 : Index := Scalar.indexCast v119
  let c256_83 : Index := 256#32
  ![0, v212.toNat, 256]
@[reducible] def k0_t3_loop : Scf.Loop 32 :=
  let c0_i32_45 : BitVec 32 := 0#32
  let c8_i32 : BitVec 32 := 8#32
  let v117 : BitVec 32 := Scalar.addi c0_i32_45 c8_i32
  let c1_i32_46 : BitVec 32 := 1#32
  ⟨c0_i32_45, v117, c1_i32_46⟩
def k0_mult4 (k0_t3 : Fin k0_t3_loop.trips) : BitVec 32 :=
  let c256_i32_51 : BitVec 32 := 256#32
  let c0_i32_45 : BitVec 32 := 0#32
  let c1_i32_46 : BitVec 32 := 1#32
  let arg10 : BitVec 32 := Scf.iv c0_i32_45 c1_i32_46 k0_t3
  let c2_i32_48 : BitVec 32 := 2#32
  let v118 : BitVec 32 := Scalar.muli arg10 c2_i32_48
  let c0_i32_49 : BitVec 32 := 0#32
  let v119 : BitVec 32 := Scalar.addi v118 c0_i32_49
  let c128_i32_50 : BitVec 32 := 128#32
  let v120 : BitVec 32 := Scalar.muli v119 c128_i32_50
  let v121 : BitVec 32 := Scalar.addi c256_i32_51 v120
  v121
def k0_mult5 (k0_t3 : Fin k0_t3_loop.trips) : BitVec 32 :=
  let c1664_i32 : BitVec 32 := 1664#32
  let c0_i32_54 : BitVec 32 := 0#32
  let c0_i32_45 : BitVec 32 := 0#32
  let c1_i32_46 : BitVec 32 := 1#32
  let arg10 : BitVec 32 := Scf.iv c0_i32_45 c1_i32_46 k0_t3
  let c2_i32_48 : BitVec 32 := 2#32
  let v118 : BitVec 32 := Scalar.muli arg10 c2_i32_48
  let c0_i32_49 : BitVec 32 := 0#32
  let v119 : BitVec 32 := Scalar.addi v118 c0_i32_49
  let c1_i32_52 : BitVec 32 := 1#32
  let v123 : BitVec 32 := Scalar.subi v119 c1_i32_52
  let c128_i32_53 : BitVec 32 := 128#32
  let v124 : BitVec 32 := Scalar.muli v123 c128_i32_53
  let v125 : BitVec 32 := Scalar.maxsi c0_i32_54 v124
  let v126 : BitVec 32 := Scalar.minsi c1664_i32 v125
  v126
def k0_off12 (k0_t3 : Fin k0_t3_loop.trips) (c0_i32_49 : BitVec 32) : Fin 2 → Nat :=
  let c256_i32_51 : BitVec 32 := 256#32
  let c0_i32_45 : BitVec 32 := 0#32
  let c1_i32_46 : BitVec 32 := 1#32
  let arg10 : BitVec 32 := Scf.iv c0_i32_45 c1_i32_46 k0_t3
  let c2_i32_48 : BitVec 32 := 2#32
  let v118 : BitVec 32 := Scalar.muli arg10 c2_i32_48
  let v119 : BitVec 32 := Scalar.addi v118 c0_i32_49
  let c128_i32_50 : BitVec 32 := 128#32
  let v120 : BitVec 32 := Scalar.muli v119 c128_i32_50
  let v121 : BitVec 32 := Scalar.addi c256_i32_51 v120
  let v122 : BitVec 32 := v121
  let v128 : Index := Scalar.indexCast v122
  let c0_55 : Index := 0#32
  ![v128.toNat, 0]
def k0_off13 (k0_t3 : Fin k0_t3_loop.trips) (c0_i32_49 : BitVec 32) : Fin 2 → Nat :=
  let c256_i32_51 : BitVec 32 := 256#32
  let c0_i32_45 : BitVec 32 := 0#32
  let c1_i32_46 : BitVec 32 := 1#32
  let arg10 : BitVec 32 := Scf.iv c0_i32_45 c1_i32_46 k0_t3
  let c2_i32_48 : BitVec 32 := 2#32
  let v118 : BitVec 32 := Scalar.muli arg10 c2_i32_48
  let v119 : BitVec 32 := Scalar.addi v118 c0_i32_49
  let c128_i32_50 : BitVec 32 := 128#32
  let v120 : BitVec 32 := Scalar.muli v119 c128_i32_50
  let v121 : BitVec 32 := Scalar.addi c256_i32_51 v120
  let v122 : BitVec 32 := v121
  let v132 : Index := Scalar.indexCast v122
  let c256 : Index := 256#32
  ![v132.toNat, 256]
def k0_off14 (k0_t3 : Fin k0_t3_loop.trips) (c0_i32_49 : BitVec 32) : Fin 3 → Nat :=
  let c256_i32_51 : BitVec 32 := 256#32
  let c0_i32_45 : BitVec 32 := 0#32
  let c1_i32_46 : BitVec 32 := 1#32
  let arg10 : BitVec 32 := Scf.iv c0_i32_45 c1_i32_46 k0_t3
  let c2_i32_48 : BitVec 32 := 2#32
  let v118 : BitVec 32 := Scalar.muli arg10 c2_i32_48
  let v119 : BitVec 32 := Scalar.addi v118 c0_i32_49
  let c128_i32_50 : BitVec 32 := 128#32
  let v120 : BitVec 32 := Scalar.muli v119 c128_i32_50
  let v121 : BitVec 32 := Scalar.addi c256_i32_51 v120
  let v122 : BitVec 32 := v121
  let c256_i32_66 : BitVec 32 := 256#32
  let v150 : BitVec 32 := Scalar.subi v122 c256_i32_66
  let c1664_i32 : BitVec 32 := 1664#32
  let c0_i32_54 : BitVec 32 := 0#32
  let c1_i32_52 : BitVec 32 := 1#32
  let v123 : BitVec 32 := Scalar.subi v119 c1_i32_52
  let c128_i32_53 : BitVec 32 := 128#32
  let v124 : BitVec 32 := Scalar.muli v123 c128_i32_53
  let v125 : BitVec 32 := Scalar.maxsi c0_i32_54 v124
  let v126 : BitVec 32 := Scalar.minsi c1664_i32 v125
  let v127 : BitVec 32 := v126
  let v151 : BitVec 32 := Scalar.subi v150 v127
  let c7_i32_67 : BitVec 32 := 7#32
  let v152 : BitVec 32 := Scalar.shrsi v151 c7_i32_67
  let v153 : Index := Scalar.indexCast v152
  let c0_68 : Index := 0#32
  let c0_69 : Index := 0#32
  ![v153.toNat, 0, 0]
def k0_off15 (k0_t3 : Fin k0_t3_loop.trips) (c0_i32_49 : BitVec 32) : Fin 3 → Nat :=
  let c0_71 : Index := 0#32
  let c256_i32_70 : BitVec 32 := 256#32
  let c1664_i32 : BitVec 32 := 1664#32
  let c0_i32_54 : BitVec 32 := 0#32
  let c0_i32_45 : BitVec 32 := 0#32
  let c1_i32_46 : BitVec 32 := 1#32
  let arg10 : BitVec 32 := Scf.iv c0_i32_45 c1_i32_46 k0_t3
  let c2_i32_48 : BitVec 32 := 2#32
  let v118 : BitVec 32 := Scalar.muli arg10 c2_i32_48
  let v119 : BitVec 32 := Scalar.addi v118 c0_i32_49
  let c1_i32_52 : BitVec 32 := 1#32
  let v123 : BitVec 32 := Scalar.subi v119 c1_i32_52
  let c128_i32_53 : BitVec 32 := 128#32
  let v124 : BitVec 32 := Scalar.muli v123 c128_i32_53
  let v125 : BitVec 32 := Scalar.maxsi c0_i32_54 v124
  let v126 : BitVec 32 := Scalar.minsi c1664_i32 v125
  let v127 : BitVec 32 := v126
  let v157 : BitVec 32 := Scalar.addi c256_i32_70 v127
  let v158 : Index := Scalar.indexCast v157
  let c0_72 : Index := 0#32
  ![0, v158.toNat, 0]
def k0_off16 (k0_t3 : Fin k0_t3_loop.trips) (c0_i32_49 : BitVec 32) : Fin 3 → Nat :=
  let c1_74 : Index := 1#32
  let c256_i32_70 : BitVec 32 := 256#32
  let c1664_i32 : BitVec 32 := 1664#32
  let c0_i32_54 : BitVec 32 := 0#32
  let c0_i32_45 : BitVec 32 := 0#32
  let c1_i32_46 : BitVec 32 := 1#32
  let arg10 : BitVec 32 := Scf.iv c0_i32_45 c1_i32_46 k0_t3
  let c2_i32_48 : BitVec 32 := 2#32
  let v118 : BitVec 32 := Scalar.muli arg10 c2_i32_48
  let v119 : BitVec 32 := Scalar.addi v118 c0_i32_49
  let c1_i32_52 : BitVec 32 := 1#32
  let v123 : BitVec 32 := Scalar.subi v119 c1_i32_52
  let c128_i32_53 : BitVec 32 := 128#32
  let v124 : BitVec 32 := Scalar.muli v123 c128_i32_53
  let v125 : BitVec 32 := Scalar.maxsi c0_i32_54 v124
  let v126 : BitVec 32 := Scalar.minsi c1664_i32 v125
  let v127 : BitVec 32 := v126
  let v157 : BitVec 32 := Scalar.addi c256_i32_70 v127
  let v164 : Index := Scalar.indexCast v157
  let c0_75 : Index := 0#32
  ![1, v164.toNat, 0]
def k0_off17 (k0_t3 : Fin k0_t3_loop.trips) (c0_i32_49 : BitVec 32) : Fin 3 → Nat :=
  let c0_102 : Index := 0#32
  let c256_i32_51 : BitVec 32 := 256#32
  let c0_i32_45 : BitVec 32 := 0#32
  let c1_i32_46 : BitVec 32 := 1#32
  let arg10 : BitVec 32 := Scf.iv c0_i32_45 c1_i32_46 k0_t3
  let c2_i32_48 : BitVec 32 := 2#32
  let v118 : BitVec 32 := Scalar.muli arg10 c2_i32_48
  let v119 : BitVec 32 := Scalar.addi v118 c0_i32_49
  let c128_i32_50 : BitVec 32 := 128#32
  let v120 : BitVec 32 := Scalar.muli v119 c128_i32_50
  let v121 : BitVec 32 := Scalar.addi c256_i32_51 v120
  let v122 : BitVec 32 := v121
  let v248 : Index := Scalar.indexCast v122
  let c0_103 : Index := 0#32
  ![0, v248.toNat, 0]
def k0_off18 (k0_t3 : Fin k0_t3_loop.trips) (c0_i32_49 : BitVec 32) : Fin 3 → Nat :=
  let c0_109 : Index := 0#32
  let c256_i32_51 : BitVec 32 := 256#32
  let c0_i32_45 : BitVec 32 := 0#32
  let c1_i32_46 : BitVec 32 := 1#32
  let arg10 : BitVec 32 := Scf.iv c0_i32_45 c1_i32_46 k0_t3
  let c2_i32_48 : BitVec 32 := 2#32
  let v118 : BitVec 32 := Scalar.muli arg10 c2_i32_48
  let v119 : BitVec 32 := Scalar.addi v118 c0_i32_49
  let c128_i32_50 : BitVec 32 := 128#32
  let v120 : BitVec 32 := Scalar.muli v119 c128_i32_50
  let v121 : BitVec 32 := Scalar.addi c256_i32_51 v120
  let v122 : BitVec 32 := v121
  let v272 : Index := Scalar.indexCast v122
  let c256_110 : Index := 256#32
  ![0, v272.toNat, 256]
def k0_mult6 (k0_t3 : Fin k0_t3_loop.trips) : BitVec 32 :=
  let c256_i32_114 : BitVec 32 := 256#32
  let c0_i32_45 : BitVec 32 := 0#32
  let c1_i32_46 : BitVec 32 := 1#32
  let arg10 : BitVec 32 := Scf.iv c0_i32_45 c1_i32_46 k0_t3
  let c2_i32_111 : BitVec 32 := 2#32
  let v276 : BitVec 32 := Scalar.muli arg10 c2_i32_111
  let c1_i32_112 : BitVec 32 := 1#32
  let v277 : BitVec 32 := Scalar.addi v276 c1_i32_112
  let c128_i32_113 : BitVec 32 := 128#32
  let v278 : BitVec 32 := Scalar.muli v277 c128_i32_113
  let v279 : BitVec 32 := Scalar.addi c256_i32_114 v278
  v279
def k0_mult7 (k0_t3 : Fin k0_t3_loop.trips) : BitVec 32 :=
  let c1664_i32_118 : BitVec 32 := 1664#32
  let c0_i32_117 : BitVec 32 := 0#32
  let c0_i32_45 : BitVec 32 := 0#32
  let c1_i32_46 : BitVec 32 := 1#32
  let arg10 : BitVec 32 := Scf.iv c0_i32_45 c1_i32_46 k0_t3
  let c2_i32_111 : BitVec 32 := 2#32
  let v276 : BitVec 32 := Scalar.muli arg10 c2_i32_111
  let c1_i32_112 : BitVec 32 := 1#32
  let v277 : BitVec 32 := Scalar.addi v276 c1_i32_112
  let c1_i32_115 : BitVec 32 := 1#32
  let v281 : BitVec 32 := Scalar.subi v277 c1_i32_115
  let c128_i32_116 : BitVec 32 := 128#32
  let v282 : BitVec 32 := Scalar.muli v281 c128_i32_116
  let v283 : BitVec 32 := Scalar.maxsi c0_i32_117 v282
  let v284 : BitVec 32 := Scalar.minsi c1664_i32_118 v283
  v284
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2304x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2304x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "log2e" => some (((Real.log 2)⁻¹ : ℝ) : EReal)
  | "log2e_8" => some ((8⁻¹ * (Real.log 2)⁻¹ : ℝ) : EReal)
  | _ => none
-- ==== ReferenceIdeal.lean ====
abbrev S16x2304x768 : Shape := ⟨3, ![16, 2304, 768]⟩
abbrev S8 : Shape := ⟨1, ![8]⟩
abbrev S16x256x768 : Shape := ⟨3, ![16, 256, 768]⟩
abbrev S16x2048x768 : Shape := ⟨3, ![16, 2048, 768]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S16x2048x512 : Shape := ⟨3, ![16, 2048, 512]⟩
abbrev S16x2048x128 : Shape := ⟨3, ![16, 2048, 128]⟩
abbrev S16x256x512 : Shape := ⟨3, ![16, 256, 512]⟩
abbrev S16x256x128 : Shape := ⟨3, ![16, 256, 128]⟩
abbrev S16x2048x8x64 : Shape := ⟨4, ![16, 2048, 8, 64]⟩
abbrev S16x8x2048x64 : Shape := ⟨4, ![16, 8, 2048, 64]⟩
abbrev S16x8x2048x32 : Shape := ⟨4, ![16, 8, 2048, 32]⟩
abbrev S1x1x2048x32 : Shape := ⟨4, ![1, 1, 2048, 32]⟩
abbrev S16x2048x2x64 : Shape := ⟨4, ![16, 2048, 2, 64]⟩
abbrev S16x2x2048x64 : Shape := ⟨4, ![16, 2, 2048, 64]⟩
abbrev S16x2x2048x32 : Shape := ⟨4, ![16, 2, 2048, 32]⟩
abbrev S16x256x2x64 : Shape := ⟨4, ![16, 256, 2, 64]⟩
abbrev S16x2x256x64 : Shape := ⟨4, ![16, 2, 256, 64]⟩
abbrev S2x4 : Shape := ⟨2, ![2, 4]⟩
abbrev S16x2x4x16x128x64 : Shape := ⟨6, ![16, 2, 4, 16, 128, 64]⟩
abbrev S16x2x2304x64 : Shape := ⟨4, ![16, 2, 2304, 64]⟩
abbrev S16x2x18x128x64 : Shape := ⟨5, ![16, 2, 18, 128, 64]⟩
abbrev S16x2x16x128x64 : Shape := ⟨5, ![16, 2, 16, 128, 64]⟩
abbrev S16x2x16x384x64 : Shape := ⟨5, ![16, 2, 16, 384, 64]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x128x1 : Shape := ⟨3, ![16, 128, 1]⟩
abbrev S16x1x384 : Shape := ⟨3, ![16, 1, 384]⟩
abbrev S16x128x384 : Shape := ⟨3, ![16, 128, 384]⟩
abbrev S16x2x16x384x4x128 : Shape := ⟨6, ![16, 2, 16, 384, 4, 128]⟩
abbrev S16x2x4x16x128x384 : Shape := ⟨6, ![16, 2, 4, 16, 128, 384]⟩
abbrev S16x2x4x16x128x256 : Shape := ⟨6, ![16, 2, 4, 16, 128, 256]⟩
abbrev S1x2x4x1x1x1 : Shape := ⟨6, ![1, 2, 4, 1, 1, 1]⟩
abbrev S16x2x4x16x128x1 : Shape := ⟨6, ![16, 2, 4, 16, 128, 1]⟩
abbrev S16x2x4x16x128x641 : Shape := ⟨6, ![16, 2, 4, 16, 128, 641]⟩
abbrev S16x2x4x16x128 : Shape := ⟨5, ![16, 2, 4, 16, 128]⟩
abbrev S16x2x16x64x4x128 : Shape := ⟨6, ![16, 2, 16, 64, 4, 128]⟩
abbrev S16x256x8x64 : Shape := ⟨4, ![16, 256, 8, 64]⟩
abbrev S16x8x256x64 : Shape := ⟨4, ![16, 8, 256, 64]⟩
abbrev S16x2x4x256x64 : Shape := ⟨5, ![16, 2, 4, 256, 64]⟩
abbrev S16x2x4x256x256 : Shape := ⟨5, ![16, 2, 4, 256, 256]⟩
abbrev S1x2x4x1x1 : Shape := ⟨5, ![1, 2, 4, 1, 1]⟩
abbrev S16x2x4x256x1 : Shape := ⟨5, ![16, 2, 4, 256, 1]⟩
abbrev S16x2x4x256x257 : Shape := ⟨5, ![16, 2, 4, 256, 257]⟩
abbrev S16x2x4x256 : Shape := ⟨4, ![16, 2, 4, 256]⟩
abbrev S16x2304x512 : Shape := ⟨3, ![16, 2304, 512]⟩

abbrev nBuf : Space → Nat
  | .hbm => 222
  | .vmem => 0
  | .smem => 0
  | _ => 0

abbrev hbmTy0_0 (i : Nat) : BufTy := match i % 128 with
  | 0 => ⟨S16x2304x768, .f32⟩
  | 1 => ⟨S8, .f32⟩
  | 2 => ⟨S16x256x768, .f32⟩
  | 3 => ⟨S16x2048x768, .f32⟩
  | 4 => ⟨S32, .i32⟩
  | 5 => ⟨S32x64, .i32⟩
  | 6 => ⟨S2048, .i32⟩
  | 7 => ⟨S2048, .f32⟩
  | 8 => ⟨S64, .i32⟩
  | 9 => ⟨S1x64, .i32⟩
  | 10 => ⟨S32x64, .i32⟩
  | 11 => ⟨S2048, .i32⟩
  | 12 => ⟨S2048, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S2048x1, .f32⟩
  | 28 => ⟨S1x16, .f32⟩
  | 29 => ⟨S2048x16, .f32⟩
  | 30 => ⟨S2048x16, .f32⟩
  | 31 => ⟨S2048x16, .f32⟩
  | 32 => ⟨S2048x1, .f32⟩
  | 33 => ⟨S1x16, .f32⟩
  | 34 => ⟨S2048x16, .f32⟩
  | 35 => ⟨S2048x16, .f32⟩
  | 36 => ⟨S2048x16, .f32⟩
  | 37 => ⟨S2048x32, .f32⟩
  | 38 => ⟨S2048x32, .f32⟩
  | 39 => ⟨S2048x32, .f32⟩
  | 40 => ⟨S16x2048x512, .f32⟩
  | 41 => ⟨S16x2048x128, .f32⟩
  | 42 => ⟨S16x2048x128, .f32⟩
  | 43 => ⟨S16x256x512, .f32⟩
  | 44 => ⟨S16x256x128, .f32⟩
  | 45 => ⟨S16x256x128, .f32⟩
  | 46 => ⟨S16x2048x8x64, .f32⟩
  | 47 => ⟨S16x8x2048x64, .f32⟩
  | 48 => ⟨S16x8x2048x32, .f32⟩
  | 49 => ⟨S1x1x2048x32, .f32⟩
  | 50 => ⟨S16x8x2048x32, .f32⟩
  | 51 => ⟨S16x8x2048x32, .f32⟩
  | 52 => ⟨S16x8x2048x32, .f32⟩
  | 53 => ⟨S1x1x2048x32, .f32⟩
  | 54 => ⟨S16x8x2048x32, .f32⟩
  | 55 => ⟨S16x8x2048x32, .f32⟩
  | 56 => ⟨S16x8x2048x32, .f32⟩
  | 57 => ⟨S16x8x2048x32, .f32⟩
  | 58 => ⟨S1x1x2048x32, .f32⟩
  | 59 => ⟨S16x8x2048x32, .f32⟩
  | 60 => ⟨S16x8x2048x32, .f32⟩
  | 61 => ⟨S16x8x2048x32, .f32⟩
  | 62 => ⟨S1x1x2048x32, .f32⟩
  | 63 => ⟨S16x8x2048x32, .f32⟩
  | 64 => ⟨S16x8x2048x32, .f32⟩
  | 65 => ⟨S16x8x2048x32, .f32⟩
  | 66 => ⟨S16x8x2048x64, .f32⟩
  | 67 => ⟨S_, .f32⟩
  | 68 => ⟨S16x8x2048x64, .f32⟩
  | 69 => ⟨S16x8x2048x64, .f32⟩
  | 70 => ⟨S16x2048x2x64, .f32⟩
  | 71 => ⟨S16x2x2048x64, .f32⟩
  | 72 => ⟨S16x2x2048x32, .f32⟩
  | 73 => ⟨S1x1x2048x32, .f32⟩
  | 74 => ⟨S16x2x2048x32, .f32⟩
  | 75 => ⟨S16x2x2048x32, .f32⟩
  | 76 => ⟨S16x2x2048x32, .f32⟩
  | 77 => ⟨S1x1x2048x32, .f32⟩
  | 78 => ⟨S16x2x2048x32, .f32⟩
  | 79 => ⟨S16x2x2048x32, .f32⟩
  | 80 => ⟨S16x2x2048x32, .f32⟩
  | 81 => ⟨S16x2x2048x32, .f32⟩
  | 82 => ⟨S1x1x2048x32, .f32⟩
  | 83 => ⟨S16x2x2048x32, .f32⟩
  | 84 => ⟨S16x2x2048x32, .f32⟩
  | 85 => ⟨S16x2x2048x32, .f32⟩
  | 86 => ⟨S1x1x2048x32, .f32⟩
  | 87 => ⟨S16x2x2048x32, .f32⟩
  | 88 => ⟨S16x2x2048x32, .f32⟩
  | 89 => ⟨S16x2x2048x32, .f32⟩
  | 90 => ⟨S16x2x2048x64, .f32⟩
  | 91 => ⟨S16x2048x2x64, .f32⟩
  | 92 => ⟨S16x2x2048x64, .f32⟩
  | 93 => ⟨S16x256x2x64, .f32⟩
  | 94 => ⟨S16x2x256x64, .f32⟩
  | 95 => ⟨S16x256x2x64, .f32⟩
  | 96 => ⟨S16x2x256x64, .f32⟩
  | 97 => ⟨S2x4, .f32⟩
  | 98 => ⟨S16x2x4x16x128x64, .f32⟩
  | 99 => ⟨S_, .i32⟩
  | 100 => ⟨S_, .f32⟩
  | 101 => ⟨S16x2x2304x64, .f32⟩
  | 102 => ⟨S16x2x18x128x64, .f32⟩
  | 103 => ⟨S16x2x16x128x64, .f32⟩
  | 104 => ⟨S16x2x16x128x64, .f32⟩
  | 105 => ⟨S16x2x16x128x64, .f32⟩
  | 106 => ⟨S16x2x16x384x64, .f32⟩
  | 107 => ⟨S_, .i32⟩
  | 108 => ⟨S_, .f32⟩
  | 109 => ⟨S16x2x2304x64, .f32⟩
  | 110 => ⟨S16x2x18x128x64, .f32⟩
  | 111 => ⟨S16x2x16x128x64, .f32⟩
  | 112 => ⟨S16x2x16x128x64, .f32⟩
  | 113 => ⟨S16x2x16x128x64, .f32⟩
  | 114 => ⟨S16x2x16x384x64, .f32⟩
  | 115 => ⟨S16, .i32⟩
  | 116 => ⟨S16x1, .i32⟩
  | 117 => ⟨S_, .i32⟩
  | 118 => ⟨S16x1, .i32⟩
  | 119 => ⟨S16x1, .i32⟩
  | 120 => ⟨S128, .i32⟩
  | 121 => ⟨S1x128, .i32⟩
  | 122 => ⟨S16x128, .i32⟩
  | 123 => ⟨S16x128, .i32⟩
  | 124 => ⟨S16x128, .i32⟩
  | 125 => ⟨S_, .i32⟩
  | 126 => ⟨S16x1, .i32⟩
  | 127 => ⟨S16x1, .i32⟩
  | _ => ⟨S16x2304x768, .f32⟩

abbrev hbmTy0_1 (i : Nat) : BufTy := match i % 128 with
  | 0 => ⟨S_, .i32⟩
  | 1 => ⟨S16x1, .i32⟩
  | 2 => ⟨S16x1, .i32⟩
  | 3 => ⟨S384, .i32⟩
  | 4 => ⟨S1x384, .i32⟩
  | 5 => ⟨S16x384, .i32⟩
  | 6 => ⟨S16x384, .i32⟩
  | 7 => ⟨S16x384, .i32⟩
  | 8 => ⟨S16x128x1, .i32⟩
  | 9 => ⟨S16x1x384, .i32⟩
  | 10 => ⟨S16x128x384, .i32⟩
  | 11 => ⟨S16x128x384, .i32⟩
  | 12 => ⟨S16x128x384, .i32⟩
  | 13 => ⟨S16x128x384, .i32⟩
  | 14 => ⟨S_, .i32⟩
  | 15 => ⟨S16x128x384, .i32⟩
  | 16 => ⟨S16x128x384, .i1⟩
  | 17 => ⟨S16x1x384, .i32⟩
  | 18 => ⟨S_, .i32⟩
  | 19 => ⟨S16x1x384, .i32⟩
  | 20 => ⟨S16x1x384, .i1⟩
  | 21 => ⟨S16x128x384, .i1⟩
  | 22 => ⟨S16x128x384, .i1⟩
  | 23 => ⟨S16x1x384, .i32⟩
  | 24 => ⟨S_, .i32⟩
  | 25 => ⟨S16x1x384, .i32⟩
  | 26 => ⟨S16x1x384, .i1⟩
  | 27 => ⟨S16x128x384, .i1⟩
  | 28 => ⟨S16x128x384, .i1⟩
  | 29 => ⟨S16x2x16x384x4x128, .f32⟩
  | 30 => ⟨S16x2x4x16x128x384, .f32⟩
  | 31 => ⟨S_, .f32⟩
  | 32 => ⟨S_, .f32⟩
  | 33 => ⟨S16x2x4x16x128x384, .i1⟩
  | 34 => ⟨S16x2x4x16x128x384, .f32⟩
  | 35 => ⟨S16x2x4x16x128x384, .f32⟩
  | 36 => ⟨S16x2x4x16x128x256, .f32⟩
  | 37 => ⟨S1x2x4x1x1x1, .f32⟩
  | 38 => ⟨S16x2x4x16x128x1, .f32⟩
  | 39 => ⟨S16x2x4x16x128x641, .f32⟩
  | 40 => ⟨S_, .f32⟩
  | 41 => ⟨S16x2x4x16x128, .f32⟩
  | 42 => ⟨S_, .f32⟩
  | 43 => ⟨S16x2x4x16x128, .f32⟩
  | 44 => ⟨S16x2x4x16x128, .f32⟩
  | 45 => ⟨S16x2x4x16x128x1, .f32⟩
  | 46 => ⟨S16x2x4x16x128x641, .f32⟩
  | 47 => ⟨S16x2x4x16x128x641, .f32⟩
  | 48 => ⟨S16x2x4x16x128x641, .f32⟩
  | 49 => ⟨S_, .f32⟩
  | 50 => ⟨S16x2x4x16x128, .f32⟩
  | 51 => ⟨S16x2x4x16x128x1, .f32⟩
  | 52 => ⟨S16x2x4x16x128x641, .f32⟩
  | 53 => ⟨S16x2x4x16x128x641, .f32⟩
  | 54 => ⟨S16x2x4x16x128x384, .f32⟩
  | 55 => ⟨S16x2x16x64x4x128, .f32⟩
  | 56 => ⟨S16x2x4x16x128x64, .f32⟩
  | 57 => ⟨S16x2x4x16x128x256, .f32⟩
  | 58 => ⟨S16x2x4x16x128x64, .f32⟩
  | 59 => ⟨S16x2x4x16x128x64, .f32⟩
  | 60 => ⟨S16x8x2048x64, .f32⟩
  | 61 => ⟨S16x2048x8x64, .f32⟩
  | 62 => ⟨S16x2048x512, .f32⟩
  | 63 => ⟨S16x256x8x64, .f32⟩
  | 64 => ⟨S16x8x256x64, .f32⟩
  | 65 => ⟨S_, .f32⟩
  | 66 => ⟨S16x8x256x64, .f32⟩
  | 67 => ⟨S16x8x256x64, .f32⟩
  | 68 => ⟨S16x2x4x256x64, .f32⟩
  | 69 => ⟨S16x2x4x256x256, .f32⟩
  | 70 => ⟨S1x2x4x1x1, .f32⟩
  | 71 => ⟨S16x2x4x256x1, .f32⟩
  | 72 => ⟨S16x2x4x256x257, .f32⟩
  | 73 => ⟨S_, .f32⟩
  | 74 => ⟨S16x2x4x256, .f32⟩
  | 75 => ⟨S_, .f32⟩
  | 76 => ⟨S16x2x4x256, .f32⟩
  | 77 => ⟨S16x2x4x256, .f32⟩
  | 78 => ⟨S16x2x4x256x1, .f32⟩
  | 79 => ⟨S16x2x4x256x257, .f32⟩
  | 80 => ⟨S16x2x4x256x257, .f32⟩
  | 81 => ⟨S16x2x4x256x257, .f32⟩
  | 82 => ⟨S_, .f32⟩
  | 83 => ⟨S16x2x4x256, .f32⟩
  | 84 => ⟨S16x2x4x256x1, .f32⟩
  | 85 => ⟨S16x2x4x256x257, .f32⟩
  | 86 => ⟨S16x2x4x256x257, .f32⟩
  | 87 => ⟨S16x2x4x256x256, .f32⟩
  | 88 => ⟨S16x2x4x256x64, .f32⟩
  | 89 => ⟨S16x8x256x64, .f32⟩
  | 90 => ⟨S16x256x8x64, .f32⟩
  | 91 => ⟨S16x256x512, .f32⟩
  | 92 => ⟨S16x2304x512, .f32⟩
  | 93 => ⟨S16x2304x512, .bf16⟩
  | _ => ⟨S16x2304x768, .f32⟩

abbrev hbmTy (i : Nat) : BufTy := match i / 128 with
  | 0 => hbmTy0_0 i
  | 1 => hbmTy0_1 i
  | _ => ⟨S16x2304x768, .f32⟩

abbrev bufTy : (tb : Table) → Fin (tcTables nBuf tb) → BufTy
  | .hbm, ⟨i, _⟩ => hbmTy i
  | _, _ => ⟨S16x2304x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_cst_3 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_c : Ref sig .tc := ⟨.hbm, 99, rfl⟩
abbrev main_call0_v0 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_c_4 : Ref sig .tc := ⟨.hbm, 107, rfl⟩
abbrev main_call1_v0 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_c_5 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_c_6 : Ref sig .tc := ⟨.hbm, 125, rfl⟩
abbrev main_v113 : Ref sig .tc := ⟨.hbm, 126, rfl⟩
abbrev main_v114 : Ref sig .tc := ⟨.hbm, 127, rfl⟩
abbrev main_c_7 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_c_8 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_c_9 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_c_10 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_cst_11 : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_cst_12 : Ref sig .tc := ⟨.hbm, 168, rfl⟩
abbrev main_v147 : Ref sig .tc := ⟨.hbm, 169, rfl⟩
abbrev main_cst_13 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_cst_14 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_cst_15 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_cst_16 : Ref sig .tc := ⟨.hbm, 201, rfl⟩
abbrev main_v176 : Ref sig .tc := ⟨.hbm, 202, rfl⟩
abbrev main_cst_17 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_cst_18 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩

abbrev nD : Nat := 1
abbrev τ : Topo := Topo.v7x

variable {F : FTy → Type} [FloatOps F]
-- ==== Kernel2.lean ====
abbrev S16x2304x1024 : Shape := ⟨3, ![16, 2304, 1024]⟩
abbrev S16x2304x256 : Shape := ⟨3, ![16, 2304, 256]⟩
abbrev S16x2304x512 : Shape := ⟨3, ![16, 2304, 512]⟩
abbrev S4x24x6144 : Shape := ⟨3, ![4, 24, 6144]⟩
abbrev S4x1024 : Shape := ⟨2, ![4, 1024]⟩
abbrev S1024 : Shape := ⟨1, ![1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S16x2048x1024 : Shape := ⟨3, ![16, 2048, 1024]⟩
abbrev S1x256x1024 : Shape := ⟨3, ![1, 256, 1024]⟩
abbrev S1x256x256 : Shape := ⟨3, ![1, 256, 256]⟩
abbrev S1x256x512 : Shape := ⟨3, ![1, 256, 512]⟩
abbrev S1x24x6144 : Shape := ⟨3, ![1, 24, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S256x256 : Shape := ⟨2, ![256, 256]⟩
abbrev S256x512 : Shape := ⟨2, ![256, 512]⟩
abbrev S256x1024 : Shape := ⟨2, ![256, 1024]⟩
abbrev S1024x1024 : Shape := ⟨2, ![1024, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 18
  | .vmem => 16
  | .smem => 0
  | _ => 0

abbrev bufTy : (tb : Table) → Fin (tcTables nBuf tb) → BufTy
  | .hbm, ⟨0, _⟩ => ⟨S16x2304x1024, .f32⟩
  | .hbm, ⟨1, _⟩ => ⟨S16x2304x256, .bf16⟩
  | .hbm, ⟨2, _⟩ => ⟨S16x2304x512, .bf16⟩
  | .hbm, ⟨3, _⟩ => ⟨S16x2304x256, .bf16⟩
  | .hbm, ⟨4, _⟩ => ⟨S4x24x6144, .f32⟩
  | .hbm, ⟨5, _⟩ => ⟨S4x1024, .f32⟩
  | .hbm, ⟨6, _⟩ => ⟨S1024, .f32⟩
  | .hbm, ⟨7, _⟩ => ⟨S4x1024x1024, .f32⟩
  | .hbm, ⟨8, _⟩ => ⟨S4x1024x4096, .f32⟩
  | .hbm, ⟨9, _⟩ => ⟨S4x4096x1024, .f32⟩
  | .hbm, ⟨10, _⟩ => ⟨S1x1024, .f32⟩
  | .hbm, ⟨11, _⟩ => ⟨S1024, .f32⟩
  | .hbm, ⟨12, _⟩ => ⟨S4x1024x1024, .bf16⟩
  | .hbm, ⟨13, _⟩ => ⟨S4x1024x4096, .bf16⟩
  | .hbm, ⟨14, _⟩ => ⟨S4x4096x1024, .bf16⟩
  | .hbm, ⟨15, _⟩ => ⟨S1x1024, .f32⟩
  | .hbm, ⟨16, _⟩ => ⟨S1x1024, .f32⟩
  | .hbm, ⟨17, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x256, .bf16⟩
  | .local _ .vmem, ⟨7, _⟩ => ⟨S1x256x256, .bf16⟩
  | .local _ .vmem, ⟨8, _⟩ => ⟨S1x24x6144, .f32⟩
  | .local _ .vmem, ⟨9, _⟩ => ⟨S1x1024, .f32⟩
  | .local _ .vmem, ⟨10, _⟩ => ⟨S1x1024, .f32⟩
  | .local _ .vmem, ⟨11, _⟩ => ⟨S1x1024x1024, .bf16⟩
  | .local _ .vmem, ⟨12, _⟩ => ⟨S1x1024x4096, .bf16⟩
  | .local _ .vmem, ⟨13, _⟩ => ⟨S1x4096x1024, .bf16⟩
  | .local _ .vmem, ⟨14, _⟩ => ⟨S1x256x1024, .f32⟩
  | .local _ .vmem, ⟨15, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let c0_16 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c0_i32 : BitVec 32 := 0#32
  let v2 : BitVec 32 := Scalar.addi v1 c0_i32
  let c1_i32_1 : BitVec 32 := 1#32
  let v3 : BitVec 1 := Scalar.cmpi .slt v2 c1_i32_1
  let c16_i32 : BitVec 32 := 16#32
  let arg0 : BitVec 32 := BitVec.ofNat 32 (i 0).val
  let v4 : BitVec 32 := Scalar.select v3 c16_i32 arg0
  let v17 : Index := Scalar.indexCast v4
  let c2048 : Index := 2048#32
  ![0, v17.toNat, 2048]
def k0_off2 (i : grid0.Coords) : Fin 3 → Nat :=
  let c0_22 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c0_i32 : BitVec 32 := 0#32
  let v2 : BitVec 32 := Scalar.addi v1 c0_i32
  let c1_i32_1 : BitVec 32 := 1#32
  let v3 : BitVec 1 := Scalar.cmpi .slt v2 c1_i32_1
  let c16_i32 : BitVec 32 := 16#32
  let arg0 : BitVec 32 := BitVec.ofNat 32 (i 0).val
  let v4 : BitVec 32 := Scalar.select v3 c16_i32 arg0
  let v37 : Index := Scalar.indexCast v4
  let c4096 : Index := 4096#32
  ![0, v37.toNat, 4096]
def k0_off3 (i : grid0.Coords) : Fin 3 → Nat :=
  let c0_24 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c0_i32 : BitVec 32 := 0#32
  let v2 : BitVec 32 := Scalar.addi v1 c0_i32
  let c1_i32_1 : BitVec 32 := 1#32
  let v3 : BitVec 1 := Scalar.cmpi .slt v2 c1_i32_1
  let c16_i32 : BitVec 32 := 16#32
  let arg0 : BitVec 32 := BitVec.ofNat 32 (i 0).val
  let v4 : BitVec 32 := Scalar.select v3 c16_i32 arg0
  let v44 : Index := Scalar.indexCast v4
  let c3072 : Index := 3072#32
  ![0, v44.toNat, 3072]
def k0_off4 (i : grid0.Coords) : Fin 3 → Nat :=
  let c0_61 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c0_i32 : BitVec 32 := 0#32
  let v2 : BitVec 32 := Scalar.addi v1 c0_i32
  let c1_i32_1 : BitVec 32 := 1#32
  let v3 : BitVec 1 := Scalar.cmpi .slt v2 c1_i32_1
  let c16_i32 : BitVec 32 := 16#32
  let arg0 : BitVec 32 := BitVec.ofNat 32 (i 0).val
  let v4 : BitVec 32 := Scalar.select v3 c16_i32 arg0
  let v95 : Index := Scalar.indexCast v4
  let c5120 : Index := 5120#32
  ![0, v95.toNat, 5120]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x24x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S16x2304x1024 : Shape := ⟨3, ![16, 2304, 1024]⟩
abbrev S16x2304x256 : Shape := ⟨3, ![16, 2304, 256]⟩
abbrev S16x2304x512 : Shape := ⟨3, ![16, 2304, 512]⟩
abbrev S4x24x6144 : Shape := ⟨3, ![4, 24, 6144]⟩
abbrev S4x1024 : Shape := ⟨2, ![4, 1024]⟩
abbrev S1024 : Shape := ⟨1, ![1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x16x6144 : Shape := ⟨3, ![1, 16, 6144]⟩
abbrev S16x6144 : Shape := ⟨2, ![16, 6144]⟩
abbrev S16x6x1x1024 : Shape := ⟨4, ![16, 6, 1, 1024]⟩
abbrev S16x2048x1024 : Shape := ⟨3, ![16, 2048, 1024]⟩
abbrev S16x2048x256 : Shape := ⟨3, ![16, 2048, 256]⟩
abbrev S16x2048x512 : Shape := ⟨3, ![16, 2048, 512]⟩
abbrev S1x1024x1024 : Shape := ⟨3, ![1, 1024, 1024]⟩
abbrev S1024x1024 : Shape := ⟨2, ![1024, 1024]⟩
abbrev S16x1x1x1024 : Shape := ⟨4, ![16, 1, 1, 1024]⟩
abbrev S16x1x1024 : Shape := ⟨3, ![16, 1, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16x2048x4096 : Shape := ⟨3, ![16, 2048, 4096]⟩

abbrev nBuf : Space → Nat
  | .hbm => 89
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2304x256, .bf16⟩
  | .hbm, ⟨2, _⟩ => ⟨S16x2304x512, .bf16⟩
  | .hbm, ⟨3, _⟩ => ⟨S16x2304x256, .bf16⟩
  | .hbm, ⟨4, _⟩ => ⟨S4x24x6144, .f32⟩
  | .hbm, ⟨5, _⟩ => ⟨S4x1024, .f32⟩
  | .hbm, ⟨6, _⟩ => ⟨S1024, .f32⟩
  | .hbm, ⟨7, _⟩ => ⟨S4x1024x1024, .f32⟩
  | .hbm, ⟨8, _⟩ => ⟨S4x1024x4096, .f32⟩
  | .hbm, ⟨9, _⟩ => ⟨S4x4096x1024, .f32⟩
  | .hbm, ⟨10, _⟩ => ⟨S1x16x6144, .f32⟩
  | .hbm, ⟨11, _⟩ => ⟨S16x6144, .f32⟩
  | .hbm, ⟨12, _⟩ => ⟨S16x6x1x1024, .f32⟩
  | .hbm, ⟨13, _⟩ => ⟨S16x2048x1024, .f32⟩
  | .hbm, ⟨14, _⟩ => ⟨S16x2048x256, .bf16⟩
  | .hbm, ⟨15, _⟩ => ⟨S16x2048x256, .f32⟩
  | .hbm, ⟨16, _⟩ => ⟨S16x2048x512, .bf16⟩
  | .hbm, ⟨17, _⟩ => ⟨S16x2048x512, .f32⟩
  | .hbm, ⟨18, _⟩ => ⟨S16x2048x256, .bf16⟩
  | .hbm, ⟨19, _⟩ => ⟨S16x2048x256, .f32⟩
  | .hbm, ⟨20, _⟩ => ⟨S16x2048x1024, .f32⟩
  | .hbm, ⟨21, _⟩ => ⟨S1x1024x1024, .f32⟩
  | .hbm, ⟨22, _⟩ => ⟨S1024x1024, .f32⟩
  | .hbm, ⟨23, _⟩ => ⟨S16x2048x1024, .f32⟩
  | .hbm, ⟨24, _⟩ => ⟨S16x1x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x1x1x1024, .f32⟩
  | .hbm, ⟨30, _⟩ => ⟨S16x1x1024, .f32⟩
  | .hbm, ⟨31, _⟩ => ⟨S1x1024, .f32⟩
  | .hbm, ⟨32, _⟩ => ⟨S1024, .f32⟩
  | .hbm, ⟨33, _⟩ => ⟨S16x2048x1024, .f32⟩
  | .hbm, ⟨34, _⟩ => ⟨S_, .f32⟩
  | .hbm, ⟨35, _⟩ => ⟨S16x2048, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S16x1x1x1024, .f32⟩
  | .hbm, ⟨50, _⟩ => ⟨S16x1x1024, .f32⟩
  | .hbm, ⟨51, _⟩ => ⟨S16x1x1x1024, .f32⟩
  | .hbm, ⟨52, _⟩ => ⟨S16x1x1024, .f32⟩
  | .hbm, ⟨53, _⟩ => ⟨S_, .f32⟩
  | .hbm, ⟨54, _⟩ => ⟨S16x1x1024, .f32⟩
  | .hbm, ⟨55, _⟩ => ⟨S16x1x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S1x1024x4096, .f32⟩
  | .hbm, ⟨61, _⟩ => ⟨S1024x4096, .f32⟩
  | .hbm, ⟨62, _⟩ => ⟨S1x4096x1024, .f32⟩
  | .hbm, ⟨63, _⟩ => ⟨S4096x1024, .f32⟩
  | .hbm, ⟨64, _⟩ => ⟨S16x2048x4096, .f32⟩
  | .hbm, ⟨65, _⟩ => ⟨S_, .f32⟩
  | .hbm, ⟨66, _⟩ => ⟨S16x2048x4096, .f32⟩
  | .hbm, ⟨67, _⟩ => ⟨S16x2048x4096, .f32⟩
  | .hbm, ⟨68, _⟩ => ⟨S16x2048x4096, .f32⟩
  | .hbm, ⟨69, _⟩ => ⟨S16x2048x1024, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | .hbm, ⟨73, _⟩ => ⟨S16x2048x1024, .f32⟩
  | .hbm, ⟨74, _⟩ => ⟨S_, .f32⟩
  | .hbm, ⟨75, _⟩ => ⟨S16x2048, .f32⟩
  | .hbm, ⟨76, _⟩ => ⟨S16x2048x1, .f32⟩
  | .hbm, ⟨77, _⟩ => ⟨S_, .f32⟩
  | .hbm, ⟨78, _⟩ => ⟨S16x2048x1, .f32⟩
  | .hbm, ⟨79, _⟩ => ⟨S16x2048x1, .f32⟩
  | .hbm, ⟨80, _⟩ => ⟨S_, .f32⟩
  | .hbm, ⟨81, _⟩ => ⟨S16x2048x1, .f32⟩
  | .hbm, ⟨82, _⟩ => ⟨S16x2048x1, .f32⟩
  | .hbm, ⟨83, _⟩ => ⟨S16x2048x1, .f32⟩
  | .hbm, ⟨84, _⟩ => ⟨S16x2048x1024, .f32⟩
  | .hbm, ⟨85, _⟩ => ⟨S16x2048x1024, .f32⟩
  | .hbm, ⟨86, _⟩ => ⟨S1x1x1024, .f32⟩
  | .hbm, ⟨87, _⟩ => ⟨S16x2048x1024, .f32⟩
  | .hbm, ⟨88, _⟩ => ⟨S16x2048x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call0_cst : Ref sig .tc := ⟨.hbm, 65, rfl⟩
abbrev main_call0_v0 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_3 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_v61 : Ref sig .tc := ⟨.hbm, 79, rfl⟩
abbrev main_cst_5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel3.lean ====
abbrev S16x2304x1024 : Shape := ⟨3, ![16, 2304, 1024]⟩
abbrev S16x2304x256 : Shape := ⟨3, ![16, 2304, 256]⟩
abbrev S16x2304x512 : Shape := ⟨3, ![16, 2304, 512]⟩
abbrev S4x24x6144 : Shape := ⟨3, ![4, 24, 6144]⟩
abbrev S4x1024 : Shape := ⟨2, ![4, 1024]⟩
abbrev S1024 : Shape := ⟨1, ![1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1x768x1024 : Shape := ⟨3, ![1, 768, 1024]⟩
abbrev S1x768x256 : Shape := ⟨3, ![1, 768, 256]⟩
abbrev S1x768x512 : Shape := ⟨3, ![1, 768, 512]⟩
abbrev S1x24x6144 : Shape := ⟨3, ![1, 24, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S768x256 : Shape := ⟨2, ![768, 256]⟩
abbrev S768x512 : Shape := ⟨2, ![768, 512]⟩
abbrev S768x1024 : Shape := ⟨2, ![768, 1024]⟩
abbrev S1024x1024 : Shape := ⟨2, ![1024, 1024]⟩
abbrev S1x256x1024 : Shape := ⟨3, ![1, 256, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 18
  | .vmem => 16
  | .smem => 0
  | _ => 0

abbrev bufTy : (tb : Table) → Fin (tcTables nBuf tb) → BufTy
  | .hbm, ⟨0, _⟩ => ⟨S16x2304x1024, .f32⟩
  | .hbm, ⟨1, _⟩ => ⟨S16x2304x256, .bf16⟩
  | .hbm, ⟨2, _⟩ => ⟨S16x2304x512, .bf16⟩
  | .hbm, ⟨3, _⟩ => ⟨S16x2304x256, .bf16⟩
  | .hbm, ⟨4, _⟩ => ⟨S4x24x6144, .f32⟩
  | .hbm, ⟨5, _⟩ => ⟨S4x1024, .f32⟩
  | .hbm, ⟨6, _⟩ => ⟨S1024, .f32⟩
  | .hbm, ⟨7, _⟩ => ⟨S4x1024x1024, .f32⟩
  | .hbm, ⟨8, _⟩ => ⟨S4x1024x4096, .f32⟩
  | .hbm, ⟨9, _⟩ => ⟨S4x4096x1024, .f32⟩
  | .hbm, ⟨10, _⟩ => ⟨S1x1024, .f32⟩
  | .hbm, ⟨11, _⟩ => ⟨S1024, .f32⟩
  | .hbm, ⟨12, _⟩ => ⟨S4x1024x1024, .bf16⟩
  | .hbm, ⟨13, _⟩ => ⟨S4x1024x4096, .bf16⟩
  | .hbm, ⟨14, _⟩ => ⟨S4x4096x1024, .bf16⟩
  | .hbm, ⟨15, _⟩ => ⟨S1x1024, .f32⟩
  | .hbm, ⟨16, _⟩ => ⟨S1x1024, .f32⟩
  | .hbm, ⟨17, _⟩ => ⟨S16x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x768x256, .bf16⟩
  | .local _ .vmem, ⟨3, _⟩ => ⟨S1x768x256, .bf16⟩
  | .local _ .vmem, ⟨4, _⟩ => ⟨S1x768x512, .bf16⟩
  | .local _ .vmem, ⟨5, _⟩ => ⟨S1x768x512, .bf16⟩
  | .local _ .vmem, ⟨6, _⟩ => ⟨S1x768x256, .bf16⟩
  | .local _ .vmem, ⟨7, _⟩ => ⟨S1x768x256, .bf16⟩
  | .local _ .vmem, ⟨8, _⟩ => ⟨S1x24x6144, .f32⟩
  | .local _ .vmem, ⟨9, _⟩ => ⟨S1x1024, .f32⟩
  | .local _ .vmem, ⟨10, _⟩ => ⟨S1x1024, .f32⟩
  | .local _ .vmem, ⟨11, _⟩ => ⟨S1x1024x1024, .bf16⟩
  | .local _ .vmem, ⟨12, _⟩ => ⟨S1x1024x4096, .bf16⟩
  | .local _ .vmem, ⟨13, _⟩ => ⟨S1x4096x1024, .bf16⟩
  | .local _ .vmem, ⟨14, _⟩ => ⟨S1x768x1024, .f32⟩
  | .local _ .vmem, ⟨15, _⟩ => ⟨S1x768x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 3], ![false, false]⟩

def k0_off1 (i : grid0.Coords) (c0_i32_0 : BitVec 32) : Fin 3 → Nat :=
  let c0_20 : Index := 0#32
  let arg1 : BitVec 32 := BitVec.ofNat 32 (i 1).val
  let c0_i32 : BitVec 32 := 0#32
  let v0 : BitVec 32 := Scalar.addi arg1 c0_i32
  let c3_i32 : BitVec 32 := 3#32
  let v1 : BitVec 32 := Scalar.muli v0 c3_i32
  let v2 : BitVec 32 := Scalar.addi v1 c0_i32_0
  let c1_i32 : BitVec 32 := 1#32
  let v3 : BitVec 1 := Scalar.cmpi .slt v2 c1_i32
  let c16_i32 : BitVec 32 := 16#32
  let arg0 : BitVec 32 := BitVec.ofNat 32 (i 0).val
  let v4 : BitVec 32 := Scalar.select v3 c16_i32 arg0
  let v23 : Index := Scalar.indexCast v4
  let c2048 : Index := 2048#32
  ![0, v23.toNat, 2048]
def k0_off2 (i : grid0.Coords) (c0_i32_0 : BitVec 32) : Fin 3 → Nat :=
  let c0_34 : Index := 0#32
  let arg1 : BitVec 32 := BitVec.ofNat 32 (i 1).val
  let c0_i32 : BitVec 32 := 0#32
  let v0 : BitVec 32 := Scalar.addi arg1 c0_i32
  let c3_i32 : BitVec 32 := 3#32
  let v1 : BitVec 32 := Scalar.muli v0 c3_i32
  let v2 : BitVec 32 := Scalar.addi v1 c0_i32_0
  let c1_i32 : BitVec 32 := 1#32
  let v3 : BitVec 1 := Scalar.cmpi .slt v2 c1_i32
  let c16_i32 : BitVec 32 := 16#32
  let arg0 : BitVec 32 := BitVec.ofNat 32 (i 0).val
  let v4 : BitVec 32 := Scalar.select v3 c16_i32 arg0
  let v62 : Index := Scalar.indexCast v4
  let c4096 : Index := 4096#32
  ![0, v62.toNat, 4096]
def k0_off3 (i : grid0.Coords) (c0_i32_0 : BitVec 32) : Fin 3 → Nat :=
  let c0_36 : Index := 0#32
  let arg1 : BitVec 32 := BitVec.ofNat 32 (i 1).val
  let c0_i32 : BitVec 32 := 0#32
  let v0 : BitVec 32 := Scalar.addi arg1 c0_i32
  let c3_i32 : BitVec 32 := 3#32
  let v1 : BitVec 32 := Scalar.muli v0 c3_i32
  let v2 : BitVec 32 := Scalar.addi v1 c0_i32_0
  let c1_i32 : BitVec 32 := 1#32
  let v3 : BitVec 1 := Scalar.cmpi .slt v2 c1_i32
  let c16_i32 : BitVec 32 := 16#32
  let arg0 : BitVec 32 := BitVec.ofNat 32 (i 0).val
  let v4 : BitVec 32 := Scalar.select v3 c16_i32 arg0
  let v69 : Index := Scalar.indexCast v4
  let c3072 : Index := 3072#32
  ![0, v69.toNat, 3072]
def k0_off4 (i : grid0.Coords) (c0_i32_0 : BitVec 32) : Fin 3 → Nat :=
  let c0_93 : Index := 0#32
  let arg1 : BitVec 32 := BitVec.ofNat 32 (i 1).val
  let c0_i32 : BitVec 32 := 0#32
  let v0 : BitVec 32 := Scalar.addi arg1 c0_i32
  let c3_i32 : BitVec 32 := 3#32
  let v1 : BitVec 32 := Scalar.muli v0 c3_i32
  let v2 : BitVec 32 := Scalar.addi v1 c0_i32_0
  let c1_i32 : BitVec 32 := 1#32
  let v3 : BitVec 1 := Scalar.cmpi .slt v2 c1_i32
  let c16_i32 : BitVec 32 := 16#32
  let arg0 : BitVec 32 := BitVec.ofNat 32 (i 0).val
  let v4 : BitVec 32 := Scalar.select v3 c16_i32 arg0
  let v175 : Index := Scalar.indexCast v4
  let c5120 : Index := 5120#32
  ![0, v175.toNat, 5120]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x24x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x768x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x2304x1024 : Shape := ⟨3, ![16, 2304, 1024]⟩
abbrev S16x2304x256 : Shape := ⟨3, ![16, 2304, 256]⟩
abbrev S16x2304x512 : Shape := ⟨3, ![16, 2304, 512]⟩
abbrev S4x24x6144 : Shape := ⟨3, ![4, 24, 6144]⟩
abbrev S4x1024 : Shape := ⟨2, ![4, 1024]⟩
abbrev S1024 : Shape := ⟨1, ![1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x16x6144 : Shape := ⟨3, ![1, 16, 6144]⟩
abbrev S16x6144 : Shape := ⟨2, ![16, 6144]⟩
abbrev S16x6x1x1024 : Shape := ⟨4, ![16, 6, 1, 1024]⟩
abbrev S1x1x6144 : Shape := ⟨3, ![1, 1, 6144]⟩
abbrev S1x6144 : Shape := ⟨2, ![1, 6144]⟩
abbrev S1x6x1x1024 : Shape := ⟨4, ![1, 6, 1, 1024]⟩
abbrev S16x2048x1024 : Shape := ⟨3, ![16, 2048, 1024]⟩
abbrev S16x2048x256 : Shape := ⟨3, ![16, 2048, 256]⟩
abbrev S16x2048x512 : Shape := ⟨3, ![16, 2048, 512]⟩
abbrev S16x256x1024 : Shape := ⟨3, ![16, 256, 1024]⟩
abbrev S16x256x256 : Shape := ⟨3, ![16, 256, 256]⟩
abbrev S16x256x512 : Shape := ⟨3, ![16, 256, 512]⟩
abbrev S16x1x1x1024 : Shape := ⟨4, ![16, 1, 1, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S1x1x1x1024 : Shape := ⟨4, ![1, 1, 1, 1024]⟩
abbrev S16x256 : Shape := ⟨2, ![16, 256]⟩
abbrev S16x256x1 : Shape := ⟨3, ![16, 256, 1]⟩
abbrev S16x256x4096 : Shape := ⟨3, ![16, 256, 4096]⟩

abbrev nBuf : Space → Nat
  | .hbm => 129
  | .vmem => 0
  | .smem => 0
  | _ => 0

abbrev hbmTy0_0 (i : Nat) : BufTy := match i % 128 with
  | 0 => ⟨S16x2304x1024, .f32⟩
  | 1 => ⟨S16x2304x256, .bf16⟩
  | 2 => ⟨S16x2304x512, .bf16⟩
  | 3 => ⟨S16x2304x256, .bf16⟩
  | 4 => ⟨S4x24x6144, .f32⟩
  | 5 => ⟨S4x1024, .f32⟩
  | 6 => ⟨S1024, .f32⟩
  | 7 => ⟨S4x1024x1024, .f32⟩
  | 8 => ⟨S4x1024x4096, .f32⟩
  | 9 => ⟨S4x4096x1024, .f32⟩
  | 10 => ⟨S1x1024, .f32⟩
  | 11 => ⟨S1024, .f32⟩
  | 12 => ⟨S1x1024x1024, .f32⟩
  | 13 => ⟨S1024x1024, .f32⟩
  | 14 => ⟨S1x1024x4096, .f32⟩
  | 15 => ⟨S1024x4096, .f32⟩
  | 16 => ⟨S1x4096x1024, .f32⟩
  | 17 => ⟨S4096x1024, .f32⟩
  | 18 => ⟨S1x16x6144, .f32⟩
  | 19 => ⟨S16x6144, .f32⟩
  | 20 => ⟨S16x6x1x1024, .f32⟩
  | 21 => ⟨S1x1x6144, .f32⟩
  | 22 => ⟨S1x6144, .f32⟩
  | 23 => ⟨S1x6x1x1024, .f32⟩
  | 24 => ⟨S16x2048x1024, .f32⟩
  | 25 => ⟨S16x2048x256, .bf16⟩
  | 26 => ⟨S16x2048x256, .f32⟩
  | 27 => ⟨S16x2048x512, .bf16⟩
  | 28 => ⟨S16x2048x512, .f32⟩
  | 29 => ⟨S16x2048x256, .bf16⟩
  | 30 => ⟨S16x2048x256, .f32⟩
  | 31 => ⟨S16x256x1024, .f32⟩
  | 32 => ⟨S16x256x256, .bf16⟩
  | 33 => ⟨S16x256x256, .f32⟩
  | 34 => ⟨S16x256x512, .bf16⟩
  | 35 => ⟨S16x256x512, .f32⟩
  | 36 => ⟨S16x256x256, .bf16⟩
  | 37 => ⟨S16x256x256, .f32⟩
  | 38 => ⟨S16x2048x1024, .f32⟩
  | 39 => ⟨S16x2048x1024, .f32⟩
  | 40 => ⟨S16x256x1024, .f32⟩
  | 41 => ⟨S16x256x1024, .f32⟩
  | 42 => ⟨S16x1x1x1024, .f32⟩
  | 43 => ⟨S16x1x1024, .f32⟩
  | 44 => ⟨S16x2048x1024, .f32⟩
  | 45 => ⟨S16x2048x1024, .f32⟩
  | 46 => ⟨S16x2048x1024, .f32⟩
  | 47 => ⟨S16x1x1x1024, .f32⟩
  | 48 => ⟨S16x1x1024, .f32⟩
  | 49 => ⟨S16x2048x1024, .f32⟩
  | 50 => ⟨S_, .f32⟩
  | 51 => ⟨S16x2048, .f32⟩
  | 52 => ⟨S16x2048x1, .f32⟩
  | 53 => ⟨S_, .f32⟩
  | 54 => ⟨S16x2048x1, .f32⟩
  | 55 => ⟨S16x2048x1, .f32⟩
  | 56 => ⟨S_, .f32⟩
  | 57 => ⟨S16x2048x1, .f32⟩
  | 58 => ⟨S16x2048x1, .f32⟩
  | 59 => ⟨S16x2048x1, .f32⟩
  | 60 => ⟨S16x2048x1024, .f32⟩
  | 61 => ⟨S16x2048x1024, .f32⟩
  | 62 => ⟨S1x1x1024, .f32⟩
  | 63 => ⟨S16x2048x1024, .f32⟩
  | 64 => ⟨S16x2048x1024, .f32⟩
  | 65 => ⟨S16x1x1x1024, .f32⟩
  | 66 => ⟨S16x1x1024, .f32⟩
  | 67 => ⟨S16x1x1x1024, .f32⟩
  | 68 => ⟨S16x1x1024, .f32⟩
  | 69 => ⟨S_, .f32⟩
  | 70 => ⟨S16x1x1024, .f32⟩
  | 71 => ⟨S16x1x1024, .f32⟩
  | 72 => ⟨S16x2048x1024, .f32⟩
  | 73 => ⟨S16x2048x1024, .f32⟩
  | 74 => ⟨S16x2048x1024, .f32⟩
  | 75 => ⟨S16x2048x1024, .f32⟩
  | 76 => ⟨S16x2048x4096, .f32⟩
  | 77 => ⟨S_, .f32⟩
  | 78 => ⟨S16x2048x4096, .f32⟩
  | 79 => ⟨S16x2048x4096, .f32⟩
  | 80 => ⟨S16x2048x4096, .f32⟩
  | 81 => ⟨S16x2048x1024, .f32⟩
  | 82 => ⟨S16x2048x1024, .f32⟩
  | 83 => ⟨S16x2048x1024, .f32⟩
  | 84 => ⟨S16x2048x1024, .f32⟩
  | 85 => ⟨S1x1x1x1024, .f32⟩
  | 86 => ⟨S1x1x1024, .f32⟩
  | 87 => ⟨S16x256x1024, .f32⟩
  | 88 => ⟨S16x256x1024, .f32⟩
  | 89 => ⟨S16x256x1024, .f32⟩
  | 90 => ⟨S1x1x1x1024, .f32⟩
  | 91 => ⟨S1x1x1024, .f32⟩
  | 92 => ⟨S16x256x1024, .f32⟩
  | 93 => ⟨S_, .f32⟩
  | 94 => ⟨S16x256, .f32⟩
  | 95 => ⟨S16x256x1, .f32⟩
  | 96 => ⟨S_, .f32⟩
  | 97 => ⟨S16x256x1, .f32⟩
  | 98 => ⟨S16x256x1, .f32⟩
  | 99 => ⟨S_, .f32⟩
  | 100 => ⟨S16x256x1, .f32⟩
  | 101 => ⟨S16x256x1, .f32⟩
  | 102 => ⟨S16x256x1, .f32⟩
  | 103 => ⟨S16x256x1024, .f32⟩
  | 104 => ⟨S16x256x1024, .f32⟩
  | 105 => ⟨S1x1x1024, .f32⟩
  | 106 => ⟨S16x256x1024, .f32⟩
  | 107 => ⟨S16x256x1024, .f32⟩
  | 108 => ⟨S1x1x1x1024, .f32⟩
  | 109 => ⟨S1x1x1024, .f32⟩
  | 110 => ⟨S1x1x1x1024, .f32⟩
  | 111 => ⟨S1x1x1024, .f32⟩
  | 112 => ⟨S_, .f32⟩
  | 113 => ⟨S1x1x1024, .f32⟩
  | 114 => ⟨S1x1x1024, .f32⟩
  | 115 => ⟨S16x256x1024, .f32⟩
  | 116 => ⟨S16x256x1024, .f32⟩
  | 117 => ⟨S16x256x1024, .f32⟩
  | 118 => ⟨S16x256x1024, .f32⟩
  | 119 => ⟨S16x256x4096, .f32⟩
  | 120 => ⟨S_, .f32⟩
  | 121 => ⟨S16x256x4096, .f32⟩
  | 122 => ⟨S16x256x4096, .f32⟩
  | 123 => ⟨S16x256x4096, .f32⟩
  | 124 => ⟨S16x256x1024, .f32⟩
  | 125 => ⟨S16x256x1024, .f32⟩
  | 126 => ⟨S16x256x1024, .f32⟩
  | 127 => ⟨S16x256x1024, .f32⟩
  | _ => ⟨S16x2304x1024, .f32⟩

abbrev hbmTy0_1 (i : Nat) : BufTy := match i % 128 with
  | 0 => ⟨S16x2304x1024, .f32⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst : Ref sig .tc := ⟨.hbm, 50, rfl⟩
abbrev main_v40 : Ref sig .tc := ⟨.hbm, 51, rfl⟩
abbrev main_v41 : Ref sig .tc := ⟨.hbm, 52, rfl⟩
abbrev main_cst_0 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_call0_cst : Ref sig .tc := ⟨.hbm, 77, rfl⟩
abbrev main_call0_v0 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_3 : Ref sig .tc := ⟨.hbm, 93, rfl⟩
abbrev main_v77 : Ref sig .tc := ⟨.hbm, 94, rfl⟩
abbrev main_v78 : Ref sig .tc := ⟨.hbm, 95, rfl⟩
abbrev main_cst_4 : Ref sig .tc := ⟨.hbm, 96, rfl⟩
abbrev main_v79 : Ref sig .tc := ⟨.hbm, 97, rfl⟩
abbrev main_v80 : Ref sig .tc := ⟨.hbm, 98, rfl⟩
abbrev main_cst_5 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_6 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_call1_cst : Ref sig .tc := ⟨.hbm, 120, rfl⟩
abbrev main_call1_v0 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩

abbrev nD : Nat := 1
abbrev τ : Topo := Topo.v7x

variable {F : FTy → Type} [FloatOps F]
-- ==== Proof.Out.Core.lean ====
/- One token's row through the output projection, the gated residual, the normalised and modulated hidden row, the squared-ReLU
   feed-forward of 4096 columns, and the final normalisation, over extended reals; and the feed-forward's sum taken in four parts. -/
module

public import Idealize.ShloMosaic.PureOps.Ideal.Laws

@[expose] public section

noncomputable section

namespace Cert.Out

open Idealize.ShloMosaic

theorem zero_bits : Ideal.ofBits .f32 0x00000000#32 = 0 := by simp [Ideal.ofBits, Ideal.ieee]
theorem one_bits : Ideal.ofBits .f32 0x3F800000#32 = 1 := by
  simp [Ideal.ofBits, Ideal.ieee]
  rw [← EReal.coe_mul]; norm_num

/-- The mixers' outputs joined: 256 columns, 512 columns, 256 columns. -/
def cat (d s h : ℕ → EReal) (k : ℕ) : EReal := if k < 256 then d k else if k < 768 then s (k - 256) else h (k - 768)

/-- A row times a column of a matrix of 1024 rows. -/
def dot (y : ℕ → EReal) (w : ℕ → ℕ → EReal) (l : ℕ) : EReal := ∑ k : Fin 1024, y k.val * w k.val l

/-- The residual row: what enters plus the gate times the mixed row. -/
def resid (x g y : ℕ → EReal) (w : ℕ → ℕ → EReal) (l : ℕ) : EReal := x l + g l * dot y w l

/-- The sum of a row's squares. -/
def ssq (v : ℕ → EReal) : EReal := ∑ k : Fin 1024, v k.val * v k.val

/-- The reciprocal root of a row's mean square, given the sum of squares. -/
def rstd (s : EReal) : EReal := Ideal.rsqrt (Ideal.div s (Ideal.ofBits .f32 0x44800000#32) + Ideal.ofBits .f32 0x358637BD#32)

/-- The row normalised, times its gain. -/
def norm (v g : ℕ → EReal) (l : ℕ) : EReal := v l * rstd (ssq v) * g l

/-- The hidden row: normalised, scaled and shifted. -/
def hid (v g sc sh : ℕ → EReal) (l : ℕ) : EReal := norm v g l * (1 + sc l) + sh l

/-- A feed-forward column: the squared ReLU of the hidden row times the first matrix. -/
def act (h : ℕ → EReal) (w : ℕ → ℕ → EReal) (j : ℕ) : EReal := max (dot h w j) 0 * max (dot h w j) 0

/-- The row after the feed-forward. -/
def ffn (v g a : ℕ → EReal) (w : ℕ → ℕ → EReal) (l : ℕ) : EReal := v l + g l * ∑ j : Fin 4096, a j.val * w j.val l

/-- The row the call leaves, of the row's six modulations one after the other. -/
def row (x d s h m g2 gf : ℕ → EReal) (wo w1 w2 : ℕ → ℕ → EReal) : ℕ → EReal :=
  let v := resid x (fun l => m (2048 + l)) (cat d s h) wo
  norm (ffn v (fun l => m (5120 + l)) (act (hid v g2 (fun l => m (4096 + l)) (fun l => m (3072 + l))) w1) w2) gf

theorem sum_half {M : Type*} [AddCommMonoid M] (n : ℕ) (f : ℕ → M) :
    ∑ j : Fin (n + n), f j.val = ∑ k : Fin n, f k.val + ∑ k : Fin n, f (n + k.val) := by
  rw [Fin.sum_univ_add]; rfl

/-- The sum over 4096 columns, 1024 at a time. -/
theorem sum_four {M : Type*} [AddCommMonoid M] (f : ℕ → M) :
    ∑ j : Fin 4096, f j.val = ∑ k : Fin 1024, f k.val + ∑ k : Fin 1024, f (1024 + k.val) + ∑ k : Fin 1024, f (2048 + k.val) + ∑ k : Fin 1024, f (3072 + k.val) := by
  have e1 := sum_half 2048 f
  have e2 := sum_half 1024 f
  have e3 := sum_half 1024 (fun k => f (2048 + k))
  refine e1.trans ?_
  rw [show (∑ k : Fin 2048, f k.val) = _ from e2, show (∑ k : Fin 2048, f (2048 + k.val)) = _ from e3, ← add_assoc]
  simp only [← Nat.add_assoc]

end Cert.Out

end
-- ==== Proof.Out.Args.lean ====
/- Arrays read at natural-number indices, and the row the call leaves as a function of its ten arguments. -/
module

public import proofs.«01_k».proof.Proof.Out.Core
public import Idealize.ShloMosaic.Lib.ValueIdx

@[expose] public section

noncomputable section

namespace Cert.Out

open Idealize.ShloMosaic

/-- An array of one axis at an index; zero out of range. -/
def at1 {a : ℕ} (v : (⟨1, ![a]⟩ : Shape).Idx → EReal) (i : ℕ) : EReal := if h : i < a then v (ValueIdx.ix1 (⟨i, h⟩ : Fin a)) else 0
/-- An array of two axes at an index; zero out of range. -/
def at2 {a b : ℕ} (v : (⟨2, ![a, b]⟩ : Shape).Idx → EReal) (i j : ℕ) : EReal :=
  if h : i < a ∧ j < b then v (ValueIdx.ix2 (⟨i, h.1⟩ : Fin a) (⟨j, h.2⟩ : Fin b)) else 0
/-- An array of three axes at an index; zero out of range. -/
def at3 {a b c : ℕ} (v : (⟨3, ![a, b, c]⟩ : Shape).Idx → EReal) (i j k : ℕ) : EReal :=
  if h : i < a ∧ j < b ∧ k < c then v (ValueIdx.ix3 (⟨i, h.1⟩ : Fin a) (⟨j, h.2.1⟩ : Fin b) (⟨k, h.2.2⟩ : Fin c)) else 0

theorem at1_eq {a : ℕ} {v : (⟨1, ![a]⟩ : Shape).Idx → EReal} {i : (⟨1, ![a]⟩ : Shape).Idx} {x : ℕ} (e0 : (i 0).val = x) : v i = at1 v x := by
  subst e0
  have l0 : (i 0).val < a := (i 0).isLt
  unfold at1
  rw [dif_pos l0]
  exact congrArg v (funext fun p => match p with | ⟨0, _⟩ => rfl)

theorem at2_eq {a b : ℕ} {v : (⟨2, ![a, b]⟩ : Shape).Idx → EReal} {i : (⟨2, ![a, b]⟩ : Shape).Idx} {x y : ℕ} (e0 : (i 0).val = x) (e1 : (i 1).val = y) :
    v i = at2 v x y := by
  subst e0; subst e1
  have l0 : (i 0).val < a := (i 0).isLt
  have l1 : (i 1).val < b := (i 1).isLt
  unfold at2
  rw [dif_pos ⟨l0, l1⟩]
  exact congrArg v (funext fun p => match p with | ⟨0, _⟩ => rfl | ⟨1, _⟩ => rfl)

theorem at3_eq {a b c : ℕ} {v : (⟨3, ![a, b, c]⟩ : Shape).Idx → EReal} {i : (⟨3, ![a, b, c]⟩ : Shape).Idx} {x y z : ℕ}
    (e0 : (i 0).val = x) (e1 : (i 1).val = y) (e2 : (i 2).val = z) : v i = at3 v x y z := by
  subst e0; subst e1; subst e2
  have l0 : (i 0).val < a := (i 0).isLt
  have l1 : (i 1).val < b := (i 1).isLt
  have l2 : (i 2).val < c := (i 2).isLt
  unfold at3
  rw [dif_pos ⟨l0, l1, l2⟩]
  exact congrArg v (funext fun p => match p with | ⟨0, _⟩ => rfl | ⟨1, _⟩ => rfl | ⟨2, _⟩ => rfl)

/-- The row of a latent token, of the ten arguments. -/
def outRow (x0 : (⟨3, ![16, 2304, 1024]⟩ : Shape).Idx → EReal) (x1 : (⟨3, ![16, 2304, 256]⟩ : Shape).Idx → EReal)
    (x2 : (⟨3, ![16, 2304, 512]⟩ : Shape).Idx → EReal) (x3 : (⟨3, ![16, 2304, 256]⟩ : Shape).Idx → EReal)
    (x4 : (⟨3, ![4, 24, 6144]⟩ : Shape).Idx → EReal) (x5 : (⟨2, ![4, 1024]⟩ : Shape).Idx → EReal) (x6 : (⟨1, ![1024]⟩ : Shape).Idx → EReal)
    (x7 : (⟨3, ![4, 1024, 1024]⟩ : Shape).Idx → EReal) (x8 : (⟨3, ![4, 1024, 4096]⟩ : Shape).Idx → EReal)
    (x9 : (⟨3, ![4, 4096, 1024]⟩ : Shape).Idx → EReal) (b t : ℕ) : ℕ → EReal :=
  row (at3 x0 b (256 + t)) (at3 x1 b (256 + t)) (at3 x2 b (256 + t)) (at3 x3 b (256 + t)) (at3 x4 3 b) (at2 x5 3) (at1 x6) (at3 x7 3) (at3 x8 3) (at3 x9 3)

/-- The result array, of the ten arguments. -/
def outArr (x0 : (⟨3, ![16, 2304, 1024]⟩ : Shape).Idx → EReal) (x1 : (⟨3, ![16, 2304, 256]⟩ : Shape).Idx → EReal)
    (x2 : (⟨3, ![16, 2304, 512]⟩ : Shape).Idx → EReal) (x3 : (⟨3, ![16, 2304, 256]⟩ : Shape).Idx → EReal)
    (x4 : (⟨3, ![4, 24, 6144]⟩ : Shape).Idx → EReal) (x5 : (⟨2, ![4, 1024]⟩ : Shape).Idx → EReal) (x6 : (⟨1, ![1024]⟩ : Shape).Idx → EReal)
    (x7 : (⟨3, ![4, 1024, 1024]⟩ : Shape).Idx → EReal) (x8 : (⟨3, ![4, 1024, 4096]⟩ : Shape).Idx → EReal)
    (x9 : (⟨3, ![4, 4096, 1024]⟩ : Shape).Idx → EReal) : (⟨3, ![16, 2048, 1024]⟩ : Shape).Idx → EReal :=
  fun i => outRow x0 x1 x2 x3 x4 x5 x6 x7 x8 x9 (i 0).val (i 1).val (i 2).val

end Cert.Out

end
-- ==== Proof.Out.Ref.lean ====
/- The reference's last layer after its mixers, entry by entry: the row of `Cert.Out`. -/
module

public import proofs.«01_k».proof.Proof.Gen.Reference2Ideal.Read
public import proofs.«01_k».proof.Proof.Out.Args
public import Idealize.ShloMosaic.Lib.Pointwise.Tactic
public import Idealize.ShloMosaic.Lib.Pointwise.Reshape

@[expose] public section

set_option maxRecDepth 16384

noncomputable section

namespace Cert.Reference2Ideal.Out

open Cert.Reference2Ideal Cert.Reference2Ideal.Gen Cert.Reference2Ideal.Read Idealize.ShloMosaic Idealize.ShloMosaic.TcCoe Idealize.SL.Sem Idealize.ShloMosaic.StableHlo
open Cert.Out

variable (x0 : Vec Ideal S16x2304x1024 .f32) (x1 : Vec Ideal S16x2304x256 .bf16) (x2 : Vec Ideal S16x2304x512 .bf16) (x3 : Vec Ideal S16x2304x256 .bf16)
  (x4 : Vec Ideal S4x24x6144 .f32) (x5 : Vec Ideal S4x1024 .f32) (x6 : Vec Ideal S1024 .f32) (x7 : Vec Ideal S4x1024x1024 .f32)
  (x8 : Vec Ideal S4x1024x4096 .f32) (x9 : Vec Ideal S4x4096x1024 .f32)

/-- A token's six modulations lie one after the other. -/
theorem v2 {i : S16x6x1x1024.Idx} {b k l : ℕ} (e0 : (i 0).val = b) (e1 : (i 1).val = k) (e3 : (i 3).val = l) :
    val_main_v2 (F := Ideal) x4 i = at3 (a := 4) (b := 24) (c := 6144) x4 3 b (1024 * k + l) := by
  have l0 : (i 0).val < 16 := (i 0).isLt
  have l1 : (i 1).val < 6 := (i 1).isLt
  have l2 : (i 2).val < 1 := (i 2).isLt
  have l3 : (i 3).val < 1024 := (i 3).isLt
  rw [val_main_v2_apply, val_main_v1_apply, val_main_v0_apply]
  refine at3_eq rfl ?_ ?_
  · show (((((i 0).val * 6 + (i 1).val) * 1 + (i 2).val) * 1024 + (i 3).val) / 6144 * 6144 + ((((i 0).val * 6 + (i 1).val) * 1 + (i 2).val) * 1024 + (i 3).val) % 6144) / 6144 % 16 = b
    omega
  · show (((((i 0).val * 6 + (i 1).val) * 1 + (i 2).val) * 1024 + (i 3).val) / 6144 * 6144 + ((((i 0).val * 6 + (i 1).val) * 1 + (i 2).val) * 1024 + (i 3).val) % 6144) % 6144 = 1024 * k + l
    omega

/-- The mixers' gate. -/
theorem v15 {i : S16x1x1024.Idx} {b l : ℕ} (e0 : (i 0).val = b) (e2 : (i 2).val = l) :
    val_main_v15 (F := Ideal) x4 i = at3 (a := 4) (b := 24) (c := 6144) x4 3 b (2048 + l) := by
  have l1 : (i 1).val < 1 := (i 1).isLt
  have l2 : (i 2).val < 1024 := (i 2).isLt
  rw [val_main_v15_apply, val_main_v14_apply]
  exact v2 x4 (k := 2) (by show (((i 0).val * 1 + (i 1).val) * 1024 + (i 2).val) / 1024 = b; omega) rfl (by show (((i 0).val * 1 + (i 1).val) * 1024 + (i 2).val) % 1024 = l; omega)
/-- The feed-forward's gate. -/
theorem v20 {i : S16x1x1024.Idx} {b l : ℕ} (e0 : (i 0).val = b) (e2 : (i 2).val = l) :
    val_main_v20 (F := Ideal) x4 i = at3 (a := 4) (b := 24) (c := 6144) x4 3 b (5120 + l) := by
  have l1 : (i 1).val < 1 := (i 1).isLt
  have l2 : (i 2).val < 1024 := (i 2).isLt
  rw [val_main_v20_apply, val_main_v19_apply]
  exact v2 x4 (k := 5) (by show (((i 0).val * 1 + (i 1).val) * 1024 + (i 2).val) / 1024 = b; omega) rfl (by show (((i 0).val * 1 + (i 1).val) * 1024 + (i 2).val) % 1024 = l; omega)
/-- The feed-forward's shift. -/
theorem v37 {i : S16x1x1024.Idx} {b l : ℕ} (e0 : (i 0).val = b) (e2 : (i 2).val = l) :
    val_main_v37 (F := Ideal) x4 i = at3 (a := 4) (b := 24) (c := 6144) x4 3 b (3072 + l) := by
  have l1 : (i 1).val < 1 := (i 1).isLt
  have l2 : (i 2).val < 1024 := (i 2).isLt
  rw [val_main_v37_apply, val_main_v36_apply]
  exact v2 x4 (k := 3) (by show (((i 0).val * 1 + (i 1).val) * 1024 + (i 2).val) / 1024 = b; omega) rfl (by show (((i 0).val * 1 + (i 1).val) * 1024 + (i 2).val) % 1024 = l; omega)
/-- The feed-forward's scale. -/
theorem v39 {i : S16x1x1024.Idx} {b l : ℕ} (e0 : (i 0).val = b) (e2 : (i 2).val = l) :
    val_main_v39 (F := Ideal) x4 i = at3 (a := 4) (b := 24) (c := 6144) x4 3 b (4096 + l) := by
  have l1 : (i 1).val < 1 := (i 1).isLt
  have l2 : (i 2).val < 1024 := (i 2).isLt
  rw [val_main_v39_apply, val_main_v38_apply]
  exact v2 x4 (k := 4) (by show (((i 0).val * 1 + (i 1).val) * 1024 + (i 2).val) / 1024 = b; omega) rfl (by show (((i 0).val * 1 + (i 1).val) * 1024 + (i 2).val) % 1024 = l; omega)

/-- The mixers' outputs joined. -/
theorem v10 {i : S16x2048x1024.Idx} {b t k : ℕ} (e0 : (i 0).val = b) (e1 : (i 1).val = t) (e2 : (i 2).val = k) :
    val_main_v10 (F := Ideal) x1 x2 x3 i = cat (at3 (a := 16) (b := 2304) (c := 256) x1 b (256 + t)) (at3 (a := 16) (b := 2304) (c := 512) x2 b (256 + t))
      (at3 (a := 16) (b := 2304) (c := 256) x3 b (256 + t)) k := by
  have l0 : (i 0).val < 16 := (i 0).isLt
  have l1 : (i 1).val < 2048 := (i 1).isLt
  have l2 : (i 2).val < 1024 := (i 2).isLt
  unfold val_main_v10 cat
  by_cases h1 : k < 256
  · rw [if_pos h1]
    refine (concatenate_apply_piece 2 _ _ i 0 (by show 0 < 3; omega) S16x2048x256 (val_main_v5 (F := Ideal) x1) rfl rfl 0 rfl
      (ValueIdx.ix3 (⟨b, by omega⟩ : Fin 16) (⟨t, by omega⟩ : Fin 2048) (⟨k, by omega⟩ : Fin 256))
      (fun a ha => match a, ha with | ⟨0, _⟩, _ => e0.symm | ⟨1, _⟩, _ => e1.symm | ⟨2, _⟩, ha => absurd rfl ha)
      (by show 0 + k = (i 2).val; omega)).trans ?_
    rw [val_main_v5_apply, val_main_v4_apply]
    exact at3_eq rfl rfl rfl
  rw [if_neg h1]
  by_cases h2 : k < 768
  · rw [if_pos h2]
    refine (concatenate_apply_piece 2 _ _ i 1 (by show 1 < 3; omega) S16x2048x512 (val_main_v7 (F := Ideal) x2) rfl rfl 256 rfl
      (ValueIdx.ix3 (⟨b, by omega⟩ : Fin 16) (⟨t, by omega⟩ : Fin 2048) (⟨k - 256, by omega⟩ : Fin 512))
      (fun a ha => match a, ha with | ⟨0, _⟩, _ => e0.symm | ⟨1, _⟩, _ => e1.symm | ⟨2, _⟩, ha => absurd rfl ha)
      (by show 256 + (k - 256) = (i 2).val; omega)).trans ?_
    rw [val_main_v7_apply, val_main_v6_apply]
    exact at3_eq rfl rfl rfl
  rw [if_neg h2]
  refine (concatenate_apply_piece 2 _ _ i 2 (by show 2 < 3; omega) S16x2048x256 (val_main_v9 (F := Ideal) x3) rfl rfl 768 rfl
    (ValueIdx.ix3 (⟨b, by omega⟩ : Fin 16) (⟨t, by omega⟩ : Fin 2048) (⟨k - 768, by omega⟩ : Fin 256))
    (fun a ha => match a, ha with | ⟨0, _⟩, _ => e0.symm | ⟨1, _⟩, _ => e1.symm | ⟨2, _⟩, ha => absurd rfl ha)
    (by show 768 + (k - 768) = (i 2).val; omega)).trans ?_
  rw [val_main_v9_apply, val_main_v8_apply]
  exact at3_eq rfl rfl rfl

theorem v12 {i : S1024x1024.Idx} {k l : ℕ} (e0 : (i 0).val = k) (e1 : (i 1).val = l) :
    val_main_v12 (F := Ideal) x7 i = at3 (a := 4) (b := 1024) (c := 1024) x7 3 k l := by
  have l0 : (i 0).val < 1024 := (i 0).isLt
  have l1 : (i 1).val < 1024 := (i 1).isLt
  rw [val_main_v12_apply, val_main_v11_apply]
  exact at3_eq rfl (by show ((i 0).val * 1024 + (i 1).val) / 1024 % 1024 = k; omega) (by show ((i 0).val * 1024 + (i 1).val) % 1024 = l; omega)
theorem v47 {i : S1024x4096.Idx} {k l : ℕ} (e0 : (i 0).val = k) (e1 : (i 1).val = l) :
    val_main_v47 (F := Ideal) x8 i = at3 (a := 4) (b := 1024) (c := 4096) x8 3 k l := by
  have l0 : (i 0).val < 1024 := (i 0).isLt
  have l1 : (i 1).val < 4096 := (i 1).isLt
  rw [val_main_v47_apply, val_main_v46_apply]
  exact at3_eq rfl (by show ((i 0).val * 4096 + (i 1).val) / 4096 % 1024 = k; omega) (by show ((i 0).val * 4096 + (i 1).val) % 4096 = l; omega)
theorem v49 {i : S4096x1024.Idx} {k l : ℕ} (e0 : (i 0).val = k) (e1 : (i 1).val = l) :
    val_main_v49 (F := Ideal) x9 i = at3 (a := 4) (b := 4096) (c := 1024) x9 3 k l := by
  have l0 : (i 0).val < 4096 := (i 0).isLt
  have l1 : (i 1).val < 1024 := (i 1).isLt
  rw [val_main_v49_apply, val_main_v48_apply]
  exact at3_eq rfl (by show ((i 0).val * 1024 + (i 1).val) / 1024 % 4096 = k; omega) (by show ((i 0).val * 1024 + (i 1).val) % 1024 = l; omega)

/-- The row after the mixers. -/
abbrev rowV (b t : ℕ) : ℕ → EReal :=
  resid (at3 (a := 16) (b := 2304) (c := 1024) x0 b (256 + t)) (fun l => at3 (a := 4) (b := 24) (c := 6144) x4 3 b (2048 + l))
    (cat (at3 (a := 16) (b := 2304) (c := 256) x1 b (256 + t)) (at3 (a := 16) (b := 2304) (c := 512) x2 b (256 + t)) (at3 (a := 16) (b := 2304) (c := 256) x3 b (256 + t)))
    (at3 (a := 4) (b := 1024) (c := 1024) x7 3)
/-- The hidden row. -/
abbrev rowH (b t : ℕ) : ℕ → EReal :=
  hid (rowV x0 x1 x2 x3 x4 x7 b t) (at2 (a := 4) (b := 1024) x5 3) (fun l => at3 (a := 4) (b := 24) (c := 6144) x4 3 b (4096 + l))
    (fun l => at3 (a := 4) (b := 24) (c := 6144) x4 3 b (3072 + l))
/-- The row after the feed-forward. -/
abbrev rowF (b t : ℕ) : ℕ → EReal :=
  ffn (rowV x0 x1 x2 x3 x4 x7 b t) (fun l => at3 (a := 4) (b := 24) (c := 6144) x4 3 b (5120 + l))
    (act (rowH x0 x1 x2 x3 x4 x5 x7 b t) (at3 (a := 4) (b := 1024) (c := 4096) x8 3)) (at3 (a := 4) (b := 4096) (c := 1024) x9 3)

theorem v18 {i : S16x2048x1024.Idx} {b t l : ℕ} (e0 : (i 0).val = b) (e1 : (i 1).val = t) (e2 : (i 2).val = l) :
    val_main_v18 (F := Ideal) x0 x1 x2 x3 x4 x7 i = rowV x0 x1 x2 x3 x4 x7 b t l := by
  rw [val_main_v18_apply, val_main_v17_apply, val_main_v13_apply, val_main_v3_apply, val_main_v16_apply]
  show (_ : EReal) + _ * _ = _
  unfold rowV resid dot
  refine congrArg₂ (· + ·) (at3_eq e0 (by show 256 + (i 1).val = 256 + t; omega) e2) (congrArg₂ (· * ·) (v15 x4 e0 e2) (Finset.sum_congr rfl fun k _ => ?_))
  exact congrArg₂ (· * ·) (v10 x1 x2 x3 e0 e1 rfl) (v12 x7 rfl e2)

theorem v32 {i : S16x2048x1024.Idx} {b t l : ℕ} (e0 : (i 0).val = b) (e1 : (i 1).val = t) (e2 : (i 2).val = l) :
    val_main_v32 (F := Ideal) x0 x1 x2 x3 x4 x7 i = rowV x0 x1 x2 x3 x4 x7 b t l * rstd (ssq (rowV x0 x1 x2 x3 x4 x7 b t)) := by
  rw [val_main_v32_apply, val_main_v31_apply, val_main_v30_apply, val_main_v29_apply, val_main_v27_apply, val_main_v28_apply, val_main_cst_1_apply,
    val_main_v26_apply, val_main_cst_0_apply, val_main_v25_apply, val_main_v24_apply, val_main_cst_apply]
  refine congrArg₂ (fun p q : EReal => p * Ideal.rsqrt (Ideal.div q (Ideal.ofBits .f32 0x44800000#32) + Ideal.ofBits .f32 0x358637BD#32)) (v18 x0 x1 x2 x3 x4 x7 e0 e1 e2) ?_
  unfold ssq
  refine (congrArg (· + _) zero_bits).trans ((zero_add _).trans (Finset.sum_congr rfl fun k _ => ?_))
  rw [val_main_v23_apply]
  exact congrArg₂ (· * ·) (v18 x0 x1 x2 x3 x4 x7 e0 e1 rfl) (v18 x0 x1 x2 x3 x4 x7 e0 e1 rfl)

theorem v34 {i : S16x2048x1024.Idx} {l : ℕ} (e2 : (i 2).val = l) : val_main_v34 (F := Ideal) x5 i = at2 (a := 4) (b := 1024) x5 3 l := by
  have l2 : (i 2).val < 1024 := (i 2).isLt
  rw [val_main_v34_apply, val_main_v33_apply, val_main_v22_apply, val_main_v21_apply]
  exact at2_eq rfl (by show (i 2).val % 1024 = l; omega)

theorem v45 {i : S16x2048x1024.Idx} {b t l : ℕ} (e0 : (i 0).val = b) (e1 : (i 1).val = t) (e2 : (i 2).val = l) :
    val_main_v45 (F := Ideal) x0 x1 x2 x3 x4 x5 x7 i = rowH x0 x1 x2 x3 x4 x5 x7 b t l := by
  rw [val_main_v45_apply, val_main_v43_apply, val_main_v35_apply, val_main_v42_apply, val_main_v41_apply, val_main_v40_apply, val_main_cst_2_apply, val_main_v44_apply]
  show (_ : EReal) * _ * (_ + _) + _ = _
  unfold rowH hid Cert.Out.norm
  refine congrArg₂ (· + ·) (congrArg₂ (· * ·) (congrArg₂ (· * ·) (v32 x0 x1 x2 x3 x4 x7 e0 e1 e2) (v34 x5 e2)) (congrArg₂ (· + ·) one_bits (v39 x4 e0 e2))) (v37 x4 e0 e2)

theorem v52 {i : S16x2048x4096.Idx} {b t j : ℕ} (e0 : (i 0).val = b) (e1 : (i 1).val = t) (e2 : (i 2).val = j) :
    val_main_v52 (F := Ideal) x0 x1 x2 x3 x4 x5 x7 x8 i = act (rowH x0 x1 x2 x3 x4 x5 x7 b t) (at3 (a := 4) (b := 1024) (c := 4096) x8 3) j := by
  have e : val_main_v51 (F := Ideal) x0 x1 x2 x3 x4 x5 x7 x8 i = max (dot (rowH x0 x1 x2 x3 x4 x5 x7 b t) (at3 (a := 4) (b := 1024) (c := 4096) x8 3) j) 0 := by
    rw [val_main_v51_apply, val_main_v50_apply, val_main_call0_v0_apply, val_main_call0_cst_apply]
    refine congrArg₂ (fun p q : EReal => max p q) ?_ zero_bits
    unfold dot
    exact Finset.sum_congr rfl fun k _ => congrArg₂ (· * ·) (v45 x0 x1 x2 x3 x4 x5 x7 e0 e1 rfl) (v47 x8 rfl e2)
  rw [val_main_v52_apply, e]
  rfl

theorem v56 {i : S16x2048x1024.Idx} {b t l : ℕ} (e0 : (i 0).val = b) (e1 : (i 1).val = t) (e2 : (i 2).val = l) :
    val_main_v56 (F := Ideal) x0 x1 x2 x3 x4 x5 x7 x8 x9 i = rowF x0 x1 x2 x3 x4 x5 x7 x8 x9 b t l := by
  rw [val_main_v56_apply, val_main_v55_apply, val_main_v53_apply, val_main_v54_apply]
  show (_ : EReal) + _ * _ = _
  unfold rowF ffn
  refine congrArg₂ (· + ·) (v18 x0 x1 x2 x3 x4 x7 e0 e1 e2) (congrArg₂ (· * ·) (v20 x4 e0 e2) (Finset.sum_congr rfl fun k _ => ?_))
  exact congrArg₂ (· * ·) (v52 x0 x1 x2 x3 x4 x5 x7 x8 e0 e1 rfl) (v49 x9 rfl e2)

theorem v66 {i : S16x2048x1024.Idx} {b t l : ℕ} (e0 : (i 0).val = b) (e1 : (i 1).val = t) (e2 : (i 2).val = l) :
    val_main_v66 (F := Ideal) x0 x1 x2 x3 x4 x5 x7 x8 x9 i
      = rowF x0 x1 x2 x3 x4 x5 x7 x8 x9 b t l * rstd (ssq (rowF x0 x1 x2 x3 x4 x5 x7 x8 x9 b t)) := by
  rw [val_main_v66_apply, val_main_v65_apply, val_main_v64_apply, val_main_v63_apply, val_main_v61_apply, val_main_v62_apply, val_main_cst_5_apply,
    val_main_v60_apply, val_main_cst_4_apply, val_main_v59_apply, val_main_v58_apply, val_main_cst_3_apply]
  refine congrArg₂ (fun p q : EReal => p * Ideal.rsqrt (Ideal.div q (Ideal.ofBits .f32 0x44800000#32) + Ideal.ofBits .f32 0x358637BD#32)) (v56 x0 x1 x2 x3 x4 x5 x7 x8 x9 e0 e1 e2) ?_
  unfold ssq
  refine (congrArg (· + _) zero_bits).trans ((zero_add _).trans (Finset.sum_congr rfl fun k _ => ?_))
  rw [val_main_v57_apply]
  exact congrArg₂ (· * ·) (v56 x0 x1 x2 x3 x4 x5 x7 x8 x9 e0 e1 rfl) (v56 x0 x1 x2 x3 x4 x5 x7 x8 x9 e0 e1 rfl)

/-- The reference's result array. -/
theorem v69 : val_main_v69 (F := Ideal) x0 x1 x2 x3 x4 x5 x6 x7 x8 x9 = outArr x0 x1 x2 x3 x4 x5 x6 x7 x8 x9 := by
  funext i
  rw [val_main_v69_apply, val_main_v68_apply, val_main_v67_apply]
  unfold outArr outRow row Cert.Out.norm
  exact congrArg₂ (fun p q : EReal => p * q) (v66 x0 x1 x2 x3 x4 x5 x7 x8 x9 rfl rfl rfl) (at1_eq rfl)

end Cert.Reference2Ideal.Out

end
-- ==== Proof.Out.Body.lean ====
/- One block of the call over the ideal values: each row it stores is the row function of `Core` of what its loads hold. -/
module

public import proofs.«01_k».proof.Proof.Gen.Kernel2Ideal.Value
public import proofs.«01_k».proof.Proof.Out.Core
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.ReduceUnfold
public import Idealize.ShloMosaic.Lib.Pointwise.Select
public import Idealize.ShloMosaic.Lib.ValueIdx
public import Idealize.ShloMosaic.Lib.WholeRead

@[expose] public section

set_option maxRecDepth 16384

noncomputable section

namespace Cert.Kernel2Ideal.Out

open Cert.Kernel2Ideal Cert.Kernel2Ideal.Gen Idealize.ShloMosaic Idealize.ShloMosaic.TcCoe Idealize.SL.Sem
open Cert.Out

section
variable (r : Fin 256) {x d s h g2 gf m2 m3 m4 m5 : ℕ → EReal} {wo w1 w2 : ℕ → ℕ → EReal}

theorem pay2_val {v5 : Vec Ideal S1x256x256 .bf16} {v7 : Vec Ideal S1x256x512 .bf16} {v9 : Vec Ideal S1x256x256 .bf16}
    {v12 : Vec Ideal S1x1024x1024 .bf16} {v15 : Vec Ideal S1x256x1024 .f32} {v18 : Vec Ideal S1x1x1024 .f32}
    (h5 : ∀ k : Fin 256, v5 (ix3 0 r k) = d k.val) (h7 : ∀ k : Fin 512, v7 (ix3 0 r k) = s k.val) (h9 : ∀ k : Fin 256, v9 (ix3 0 r k) = h k.val)
    (h12 : ∀ k l : Fin 1024, v12 (ix3 0 k l) = wo k.val l.val) (h15 : ∀ l : Fin 1024, v15 (ix3 0 r l) = x l.val)
    (h18 : ∀ l : Fin 1024, v18 (ix3 0 0 l) = m2 l.val) (l : Fin 1024) :
    k0_pay2 v5 v7 v9 v12 v15 v18 (ix2 r l) = resid x m2 (cat d s h) wo l.val := by
  pointwise [k0_pay2, dot_S256x1024_S1024x1024_S256x1024_1_0_0_1_n_n]
  unfold resid dot cat
  rw [h15, h18]
  congr 2
  refine Finset.sum_congr rfl fun k _ => ?_
  have hk := k.isLt
  rw [h12]
  congr 1
  by_cases c1 : k.val < 256
  · rw [dif_pos c1, if_pos c1, h5]
  · rw [dif_neg c1, if_neg c1]
    by_cases c2 : k.val < 768
    · rw [dif_pos (show k.val - 256 < 512 by omega), if_pos c2, h7]
    · rw [dif_neg (show ¬ k.val - 256 < 512 by omega), if_neg c2, h9]
      simp only [Nat.sub_sub]

theorem pay3_val {v5 : Vec Ideal S1x256x256 .bf16} {v7 : Vec Ideal S1x256x512 .bf16} {v9 : Vec Ideal S1x256x256 .bf16}
    {v12 : Vec Ideal S1x1024x1024 .bf16} {v15 : Vec Ideal S1x256x1024 .f32} {v18 : Vec Ideal S1x1x1024 .f32} {v : ℕ → EReal}
    (hv : ∀ l : Fin 1024, k0_pay2 v5 v7 v9 v12 v15 v18 (ix2 r l) = v l.val) (l : Fin 1024) :
    k0_pay3 v5 v7 v9 v12 v15 v18 (ix2 r l) = rstd (ssq v) := by
  unfold k0_pay3
  generalize k0_pay2 v5 v7 v9 v12 v15 v18 = y at hv ⊢
  pointwise []
  unfold rstd ssq
  simp only [hv]

theorem pay4_val {v22 v31 : FVec Ideal S256x1024 .f32} {v33 : Vec Ideal S1x1024 .f32} {v38 v45 : Vec Ideal S1x1x1024 .f32} {v : ℕ → EReal}
    (h22 : ∀ l : Fin 1024, v22 (ix2 r l) = v l.val) (h31 : ∀ l : Fin 1024, v31 (ix2 r l) = rstd (ssq v)) (h33 : ∀ l : Fin 1024, v33 (ix2 0 l) = g2 l.val)
    (h38 : ∀ l : Fin 1024, v38 (ix3 0 0 l) = m4 l.val) (h45 : ∀ l : Fin 1024, v45 (ix3 0 0 l) = m3 l.val) (l : Fin 1024) :
    k0_pay4 v22 v31 v33 v38 v45 (ix2 r l) = hid v g2 m4 m3 l.val := by
  pointwise [k0_pay4]
  rw [h22, h31, h33, h38, h45]
  rfl

theorem pay5_val {v22 v31 : FVec Ideal S256x1024 .f32} {v33 : Vec Ideal S1x1024 .f32} {v38 v45 : Vec Ideal S1x1x1024 .f32} {v51 v58 : Vec Ideal S1x1024x1024 .bf16} {y : ℕ → EReal}
    (hy : ∀ l : Fin 1024, k0_pay4 v22 v31 v33 v38 v45 (ix2 r l) = y l.val) (h51 : ∀ k l : Fin 1024, v51 (ix3 0 k l) = w1 k.val l.val)
    (h58 : ∀ k l : Fin 1024, v58 (ix3 0 k l) = w2 k.val l.val) (l : Fin 1024) :
    k0_pay5 v22 v31 v33 v38 v45 v51 v58 (ix2 r l) = ∑ k : Fin 1024, act y w1 k.val * w2 k.val l.val := by
  unfold k0_pay5
  generalize k0_pay4 v22 v31 v33 v38 v45 = z at hy ⊢
  pointwise [dot_S256x1024_S1024x1024_S256x1024_1_0_0_1_n_n]
  unfold act dot
  simp only [hy, h51, h58]

theorem pay6_val {v22 v31 : FVec Ideal S256x1024 .f32} {v33 : Vec Ideal S1x1024 .f32} {v38 v45 : Vec Ideal S1x1x1024 .f32} {v62 : Vec Ideal S1x1024x1024 .bf16} {y : ℕ → EReal}
    (hy : ∀ l : Fin 1024, k0_pay4 v22 v31 v33 v38 v45 (ix2 r l) = y l.val) (h62 : ∀ k l : Fin 1024, v62 (ix3 0 k l) = w1 k.val (1024 + l.val)) (l : Fin 1024) :
    k0_pay6 v22 v31 v33 v38 v45 v62 (ix2 r l) = act y w1 (1024 + l.val) := by
  unfold k0_pay6
  generalize k0_pay4 v22 v31 v33 v38 v45 = z at hy ⊢
  pointwise [dot_S256x1024_S1024x1024_S256x1024_1_0_0_1_n_n]
  unfold act dot
  simp only [hy, h62]

theorem pay7_val {v22 : FVec Ideal S256x1024 .f32} {v49 : FVec Ideal S256x1024 .bf16} {v61 : FVec Ideal S256x1024 .f32} {v68 : FVec Ideal S256x1024 .bf16}
    {v69 v73 v80 v84 v91 : Vec Ideal S1x1024x1024 .bf16} {v96 : Vec Ideal S1x1x1024 .f32} {v y : ℕ → EReal}
    (h22 : ∀ l : Fin 1024, v22 (ix2 r l) = v l.val) (h49 : ∀ l : Fin 1024, v49 (ix2 r l) = y l.val)
    (h61 : ∀ l : Fin 1024, v61 (ix2 r l) = ∑ k : Fin 1024, act y w1 k.val * w2 k.val l.val)
    (h68 : ∀ l : Fin 1024, v68 (ix2 r l) = act y w1 (1024 + l.val)) (h69 : ∀ k l : Fin 1024, v69 (ix3 0 k l) = w2 (1024 + k.val) l.val)
    (h73 : ∀ k l : Fin 1024, v73 (ix3 0 k l) = w1 k.val (2048 + l.val)) (h80 : ∀ k l : Fin 1024, v80 (ix3 0 k l) = w2 (2048 + k.val) l.val)
    (h84 : ∀ k l : Fin 1024, v84 (ix3 0 k l) = w1 k.val (3072 + l.val)) (h91 : ∀ k l : Fin 1024, v91 (ix3 0 k l) = w2 (3072 + k.val) l.val)
    (h96 : ∀ l : Fin 1024, v96 (ix3 0 0 l) = m5 l.val) (l : Fin 1024) :
    k0_pay7 v22 v49 v61 v68 v69 v73 v80 v84 v91 v96 (ix2 r l) = ffn v m5 (act y w1) w2 l.val := by
  pointwise [k0_pay7, dot_S256x1024_S1024x1024_S256x1024_1_0_0_1_n_n]
  unfold ffn
  rw [sum_four (fun j => act y w1 j * w2 j l.val)]
  simp only [h22, h49, h61, h68, h69, h73, h80, h84, h91, h96]
  rfl

theorem pay8_val {v22 : FVec Ideal S256x1024 .f32} {v49 : FVec Ideal S256x1024 .bf16} {v61 : FVec Ideal S256x1024 .f32} {v68 : FVec Ideal S256x1024 .bf16}
    {v69 v73 v80 v84 v91 : Vec Ideal S1x1024x1024 .bf16} {v96 : Vec Ideal S1x1x1024 .f32} {v : ℕ → EReal}
    (hv : ∀ l : Fin 1024, k0_pay7 v22 v49 v61 v68 v69 v73 v80 v84 v91 v96 (ix2 r l) = v l.val) :
    k0_pay8 v22 v49 v61 v68 v69 v73 v80 v84 v91 v96 (ix2 r 0) = ssq v := by
  unfold k0_pay8
  generalize k0_pay7 v22 v49 v61 v68 v69 v73 v80 v84 v91 v96 = y at hv ⊢
  pointwise []
  unfold ssq
  simp only [hv]

theorem pay1_val {v100 : FVec Ideal S256x1024 .f32} {v103 : FVec Ideal S256x1 .f32} {v111 : Vec Ideal S1x1024 .f32} {v : ℕ → EReal}
    (h100 : ∀ l : Fin 1024, v100 (ix2 r l) = v l.val) (h103 : v103 (ix2 r 0) = ssq v) (h111 : ∀ l : Fin 1024, v111 (ix2 0 l) = gf l.val) (l : Fin 1024) :
    k0_pay1 v100 v103 (Ideal.ofBits .f32 0x44800000#32) v111 (ix3 0 r l) = norm v gf l.val := by
  pointwise [k0_pay1]
  rw [h100, h103, h111]
  rfl

end

/-! ## The block's loads -/

theorem hz3 : (![0, 0, 0] : Fin 3 → ℕ) = fun _ => 0 := funext fun a => match a with | ⟨0, _⟩ => rfl | ⟨1, _⟩ => rfl | ⟨2, _⟩ => rfl

theorem off1 : ∀ i : grid0.Coords, k0_off1 i = ![0, (i 0).val, 2048] := by decide +kernel
theorem off2 : ∀ i : grid0.Coords, k0_off2 i = ![0, (i 0).val, 4096] := by decide +kernel
theorem off3 : ∀ i : grid0.Coords, k0_off3 i = ![0, (i 0).val, 3072] := by decide +kernel
theorem off4 : ∀ i : grid0.Coords, k0_off4 i = ![0, (i 0).val, 5120] := by decide +kernel

theorem out_val (c : Dev nD) (i : grid0.Coords) (arg2 : Memref sig .tc .vmem S1x256x1024 .f32) (harg2 : arg2.IsWhole) (arg3 : Memref sig .tc .vmem S1x256x256 .bf16) (harg3 : arg3.IsWhole) (arg4 : Memref sig .tc .vmem S1x256x512 .bf16) (harg4 : arg4.IsWhole) (arg5 : Memref sig .tc .vmem S1x256x256 .bf16) (harg5 : arg5.IsWhole) (arg6 : Memref sig .tc .vmem S1x24x6144 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x1024 .bf16) (harg9 : arg9.IsWhole) (arg10 : Memref sig .tc .vmem S1x1024x4096 .bf16) (harg10 : arg10.IsWhole) (arg11 : Memref sig .tc .vmem S1x4096x1024 .bf16) (harg11 : arg11.IsWhole) (arg12 : Memref sig .tc .vmem S1x256x1024 .f32) (harg12 : arg12.IsWhole)
    (x0 : Vec Ideal S1x256x1024 .f32) (x1 : Vec Ideal S1x256x256 .bf16) (x2 : Vec Ideal S1x256x512 .bf16) (x3 : Vec Ideal S1x256x256 .bf16) (x4 : Vec Ideal S1x24x6144 .f32) (x5 : Vec Ideal S1x1024 .f32) (x6 : Vec Ideal S1x1024 .f32) (x7 : Vec Ideal S1x1024x1024 .bf16) (x8 : Vec Ideal S1x1024x4096 .bf16) (x9 : Vec Ideal S1x4096x1024 .bf16)
    (r : Fin 256) (b : Fin 24) (hb : b.val = (i 0).val) {x d s h m g2 gf : ℕ → EReal} {wo w1 w2 : ℕ → ℕ → EReal}
    (h0 : ∀ l : Fin 1024, x0 (ix3 0 r l) = x l.val) (h1 : ∀ k : Fin 256, x1 (ix3 0 r k) = d k.val) (h2 : ∀ k : Fin 512, x2 (ix3 0 r k) = s k.val)
    (h3 : ∀ k : Fin 256, x3 (ix3 0 r k) = h k.val) (h4 : ∀ e : Fin 6144, x4 (ix3 0 b e) = m e.val) (h5 : ∀ l : Fin 1024, x5 (ix2 0 l) = g2 l.val)
    (h6 : ∀ l : Fin 1024, x6 (ix2 0 l) = gf l.val) (h7 : ∀ k l : Fin 1024, x7 (ix3 0 k l) = wo k.val l.val)
    (h8 : ∀ (k : Fin 1024) (l : Fin 4096), x8 (ix3 0 k l) = w1 k.val l.val) (h9 : ∀ (k : Fin 4096) (l : Fin 1024), x9 (ix3 0 k l) = w2 k.val l.val) (l : Fin 1024) :
    out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 x9 (ix3 0 r l)
      = row x d s h m g2 gf wo w1 w2 l.val := by
  obtain ⟨L0, eL0, HL0⟩ : ∃ L, View.readAt (Elt Ideal) arg2.view (Rect.unit (s := S1x256x1024) ![0, 0, 0] S1x256x1024.size inb_S1x256x1024_S1x256x1024_0_0_0).toLoadRect (harg2.unread x0) = L
      ∧ ∀ l : Fin 1024, L (ix3 0 r l) = x l.val :=
    ⟨_, rfl, fun l => (harg2.readAt_unread x0 _ _).trans ((congrArg x0 (funext fun a => Fin.ext (match a with | ⟨0, _⟩ => (by rfl) | ⟨1, _⟩ => (by show 0 + 1 * r.val = r.val; omega) | ⟨2, _⟩ => (by show 0 + 1 * l.val = l.val; omega)))).trans (h0 l))⟩
  obtain ⟨L1, eL1, HL1⟩ : ∃ L, View.readAt (Elt Ideal) arg3.view (Rect.unit (s := S1x256x256) ![0, 0, 0] S1x256x256.size inb_S1x256x256_S1x256x256_0_0_0).toLoadRect (harg3.unread x1) = L
      ∧ ∀ k : Fin 256, L (ix3 0 r k) = d k.val :=
    ⟨_, rfl, fun k => (harg3.readAt_unread x1 _ _).trans ((congrArg x1 (funext fun a => Fin.ext (match a with | ⟨0, _⟩ => (by rfl) | ⟨1, _⟩ => (by show 0 + 1 * r.val = r.val; omega) | ⟨2, _⟩ => (by show 0 + 1 * k.val = k.val; omega)))).trans (h1 k))⟩
  obtain ⟨L2, eL2, HL2⟩ : ∃ L, View.readAt (Elt Ideal) arg4.view (Rect.unit (s := S1x256x512) ![0, 0, 0] S1x256x512.size inb_S1x256x512_S1x256x512_0_0_0).toLoadRect (harg4.unread x2) = L
      ∧ ∀ k : Fin 512, L (ix3 0 r k) = s k.val :=
    ⟨_, rfl, fun k => (harg4.readAt_unread x2 _ _).trans ((congrArg x2 (funext fun a => Fin.ext (match a with | ⟨0, _⟩ => (by rfl) | ⟨1, _⟩ => (by show 0 + 1 * r.val = r.val; omega) | ⟨2, _⟩ => (by show 0 + 1 * k.val = k.val; omega)))).trans (h2 k))⟩
  obtain ⟨L3, eL3, HL3⟩ : ∃ L, View.readAt (Elt Ideal) arg5.view (Rect.unit (s := S1x256x256) ![0, 0, 0] S1x256x256.size inb_S1x256x256_S1x256x256_0_0_0).toLoadRect (harg5.unread x3) = L
      ∧ ∀ k : Fin 256, L (ix3 0 r k) = h k.val :=
    ⟨_, rfl, fun k => (harg5.readAt_unread x3 _ _).trans ((congrArg x3 (funext fun a => Fin.ext (match a with | ⟨0, _⟩ => (by rfl) | ⟨1, _⟩ => (by show 0 + 1 * r.val = r.val; omega) | ⟨2, _⟩ => (by show 0 + 1 * k.val = k.val; omega)))).trans (h3 k))⟩
  obtain ⟨M1, eM1, HM1⟩ : ∃ L, View.readAt (Elt Ideal) arg6.view (Rect.unit (s := S1x24x6144) (k0_off1 i) S1x1x1024.size (k0_off1_inb i)).toLoadRect (harg6.unread x4) = L
      ∧ ∀ l : Fin 1024, L (ix3 0 0 l) = m (2048 + l.val) :=
    ⟨_, rfl, fun l => (harg6.readAt_unread x4 _ _).trans ((congrArg x4 (funext fun a => Fin.ext (match a with | ⟨0, _⟩ => (by show k0_off1 i 0 + 1 * 0 = 0; rw [off1]; rfl) | ⟨1, _⟩ => (by show k0_off1 i 1 + 1 * 0 = b.val; rw [off1, hb]; rfl) | ⟨2, _⟩ => (by show k0_off1 i 2 + 1 * l.val = 2048 + l.val; rw [off1, Nat.one_mul]; rfl)))).trans (h4 ⟨2048 + l.val, by have := l.isLt; omega⟩))⟩
  obtain ⟨M2, eM2, HM2⟩ : ∃ L, View.readAt (Elt Ideal) arg6.view (Rect.unit (s := S1x24x6144) (k0_off2 i) S1x1x1024.size (k0_off2_inb i)).toLoadRect (harg6.unread x4) = L
      ∧ ∀ l : Fin 1024, L (ix3 0 0 l) = m (4096 + l.val) :=
    ⟨_, rfl, fun l => (harg6.readAt_unread x4 _ _).trans ((congrArg x4 (funext fun a => Fin.ext (match a with | ⟨0, _⟩ => (by show k0_off2 i 0 + 1 * 0 = 0; rw [off2]; rfl) | ⟨1, _⟩ => (by show k0_off2 i 1 + 1 * 0 = b.val; rw [off2, hb]; rfl) | ⟨2, _⟩ => (by show k0_off2 i 2 + 1 * l.val = 4096 + l.val; rw [off2, Nat.one_mul]; rfl)))).trans (h4 ⟨4096 + l.val, by have := l.isLt; omega⟩))⟩
  obtain ⟨M3, eM3, HM3⟩ : ∃ L, View.readAt (Elt Ideal) arg6.view (Rect.unit (s := S1x24x6144) (k0_off3 i) S1x1x1024.size (k0_off3_inb i)).toLoadRect (harg6.unread x4) = L
      ∧ ∀ l : Fin 1024, L (ix3 0 0 l) = m (3072 + l.val) :=
    ⟨_, rfl, fun l => (harg6.readAt_unread x4 _ _).trans ((congrArg x4 (funext fun a => Fin.ext (match a with | ⟨0, _⟩ => (by show k0_off3 i 0 + 1 * 0 = 0; rw [off3]; rfl) | ⟨1, _⟩ => (by show k0_off3 i 1 + 1 * 0 = b.val; rw [off3, hb]; rfl) | ⟨2, _⟩ => (by show k0_off3 i 2 + 1 * l.val = 3072 + l.val; rw [off3, Nat.one_mul]; rfl)))).trans (h4 ⟨3072 + l.val, by have := l.isLt; omega⟩))⟩
  obtain ⟨M4, eM4, HM4⟩ : ∃ L, View.readAt (Elt Ideal) arg6.view (Rect.unit (s := S1x24x6144) (k0_off4 i) S1x1x1024.size (k0_off4_inb i)).toLoadRect (harg6.unread x4) = L
      ∧ ∀ l : Fin 1024, L (ix3 0 0 l) = m (5120 + l.val) :=
    ⟨_, rfl, fun l => (harg6.readAt_unread x4 _ _).trans ((congrArg x4 (funext fun a => Fin.ext (match a with | ⟨0, _⟩ => (by show k0_off4 i 0 + 1 * 0 = 0; rw [off4]; rfl) | ⟨1, _⟩ => (by show k0_off4 i 1 + 1 * 0 = b.val; rw [off4, hb]; rfl) | ⟨2, _⟩ => (by show k0_off4 i 2 + 1 * l.val = 5120 + l.val; rw [off4, Nat.one_mul]; rfl)))).trans (h4 ⟨5120 + l.val, by have := l.isLt; omega⟩))⟩
  obtain ⟨L5, eL5, HL5⟩ : ∃ L, View.readAt (Elt Ideal) arg7.view (Rect.unit (s := S1x1024) ![0, 0] S1x1024.size inb_S1x1024_S1x1024_0_0).toLoadRect (harg7.unread x5) = L
      ∧ ∀ l : Fin 1024, L (ix2 0 l) = g2 l.val :=
    ⟨_, rfl, fun l => (harg7.readAt_unread x5 _ _).trans ((congrArg x5 (funext fun a => Fin.ext (match a with | ⟨0, _⟩ => (by rfl) | ⟨1, _⟩ => (by show 0 + 1 * l.val = l.val; omega)))).trans (h5 l))⟩
  obtain ⟨L6, eL6, HL6⟩ : ∃ L, View.readAt (Elt Ideal) arg8.view (Rect.unit (s := S1x1024) ![0, 0] S1x1024.size inb_S1x1024_S1x1024_0_0).toLoadRect (harg8.unread x6) = L
      ∧ ∀ l : Fin 1024, L (ix2 0 l) = gf l.val :=
    ⟨_, rfl, fun l => (harg8.readAt_unread x6 _ _).trans ((congrArg x6 (funext fun a => Fin.ext (match a with | ⟨0, _⟩ => (by rfl) | ⟨1, _⟩ => (by show 0 + 1 * l.val = l.val; omega)))).trans (h6 l))⟩
  obtain ⟨L7, eL7, HL7⟩ : ∃ L, View.readAt (Elt Ideal) arg9.view (Rect.unit (s := S1x1024x1024) ![0, 0, 0] S1x1024x1024.size inb_S1x1024x1024_S1x1024x1024_0_0_0).toLoadRect (harg9.unread x7) = L
      ∧ ∀ (k l : Fin 1024), L (ix3 0 k l) = wo k.val l.val :=
    ⟨_, rfl, fun k l => (harg9.readAt_unread x7 _ _).trans ((congrArg x7 (funext fun a => Fin.ext (match a with | ⟨0, _⟩ => (by rfl) | ⟨1, _⟩ => (by show 0 + 1 * k.val = k.val; omega) | ⟨2, _⟩ => (by show 0 + 1 * l.val = l.val; omega)))).trans (h7 k l))⟩
  obtain ⟨A0, eA0, HA0⟩ : ∃ L, View.readAt (Elt Ideal) arg10.view (Rect.unit (s := S1x1024x4096) ![0, 0, 0] S1x1024x1024.size inb_S1x1024x4096_S1x1024x1024_0_0_0).toLoadRect (harg10.unread x8) = L
      ∧ ∀ (k l : Fin 1024), L (ix3 0 k l) = w1 k.val l.val :=
    ⟨_, rfl, fun k l => (harg10.readAt_unread x8 _ _).trans ((congrArg x8 (funext fun a => Fin.ext (match a with | ⟨0, _⟩ => (by rfl) | ⟨1, _⟩ => (by show 0 + 1 * k.val = k.val; omega) | ⟨2, _⟩ => (by show 0 + 1 * l.val = l.val; omega)))).trans (h8 k ⟨l.val, by have := l.isLt; omega⟩))⟩
  obtain ⟨B0, eB0, HB0⟩ : ∃ L, View.readAt (Elt Ideal) arg11.view (Rect.unit (s := S1x4096x1024) ![0, 0, 0] S1x1024x1024.size inb_S1x4096x1024_S1x1024x1024_0_0_0).toLoadRect (harg11.unread x9) = L
      ∧ ∀ (k l : Fin 1024), L (ix3 0 k l) = w2 k.val l.val :=
    ⟨_, rfl, fun k l => (harg11.readAt_unread x9 _ _).trans ((congrArg x9 (funext fun a => Fin.ext (match a with | ⟨0, _⟩ => (by rfl) | ⟨1, _⟩ => (by show 0 + 1 * k.val = k.val; omega) | ⟨2, _⟩ => (by show 0 + 1 * l.val = l.val; omega)))).trans (h9 ⟨k.val, by have := k.isLt; omega⟩ l))⟩
  obtain ⟨A1, eA1, HA1⟩ : ∃ L, View.readAt (Elt Ideal) arg10.view (Rect.unit (s := S1x1024x4096) ![0, 0, 1024] S1x1024x1024.size inb_S1x1024x4096_S1x1024x1024_0_0_1024).toLoadRect (harg10.unread x8) = L
      ∧ ∀ (k l : Fin 1024), L (ix3 0 k l) = w1 k.val (1024 + l.val) :=
    ⟨_, rfl, fun k l => (harg10.readAt_unread x8 _ _).trans ((congrArg x8 (funext fun a => Fin.ext (match a with | ⟨0, _⟩ => (by rfl) | ⟨1, _⟩ => (by show 0 + 1 * k.val = k.val; omega) | ⟨2, _⟩ => (by show 1024 + 1 * l.val = 1024 + l.val; omega)))).trans (h8 k ⟨1024 + l.val, by have := l.isLt; omega⟩))⟩
  obtain ⟨B1, eB1, HB1⟩ : ∃ L, View.readAt (Elt Ideal) arg11.view (Rect.unit (s := S1x4096x1024) ![0, 1024, 0] S1x1024x1024.size inb_S1x4096x1024_S1x1024x1024_0_1024_0).toLoadRect (harg11.unread x9) = L
      ∧ ∀ (k l : Fin 1024), L (ix3 0 k l) = w2 (1024 + k.val) l.val :=
    ⟨_, rfl, fun k l => (harg11.readAt_unread x9 _ _).trans ((congrArg x9 (funext fun a => Fin.ext (match a with | ⟨0, _⟩ => (by rfl) | ⟨1, _⟩ => (by show 1024 + 1 * k.val = 1024 + k.val; omega) | ⟨2, _⟩ => (by show 0 + 1 * l.val = l.val; omega)))).trans (h9 ⟨1024 + k.val, by have := k.isLt; omega⟩ l))⟩
  obtain ⟨A2, eA2, HA2⟩ : ∃ L, View.readAt (Elt Ideal) arg10.view (Rect.unit (s := S1x1024x4096) ![0, 0, 2048] S1x1024x1024.size inb_S1x1024x4096_S1x1024x1024_0_0_2048).toLoadRect (harg10.unread x8) = L
      ∧ ∀ (k l : Fin 1024), L (ix3 0 k l) = w1 k.val (2048 + l.val) :=
    ⟨_, rfl, fun k l => (harg10.readAt_unread x8 _ _).trans ((congrArg x8 (funext fun a => Fin.ext (match a with | ⟨0, _⟩ => (by rfl) | ⟨1, _⟩ => (by show 0 + 1 * k.val = k.val; omega) | ⟨2, _⟩ => (by show 2048 + 1 * l.val = 2048 + l.val; omega)))).trans (h8 k ⟨2048 + l.val, by have := l.isLt; omega⟩))⟩
  obtain ⟨B2, eB2, HB2⟩ : ∃ L, View.readAt (Elt Ideal) arg11.view (Rect.unit (s := S1x4096x1024) ![0, 2048, 0] S1x1024x1024.size inb_S1x4096x1024_S1x1024x1024_0_2048_0).toLoadRect (harg11.unread x9) = L
      ∧ ∀ (k l : Fin 1024), L (ix3 0 k l) = w2 (2048 + k.val) l.val :=
    ⟨_, rfl, fun k l => (harg11.readAt_unread x9 _ _).trans ((congrArg x9 (funext fun a => Fin.ext (match a with | ⟨0, _⟩ => (by rfl) | ⟨1, _⟩ => (by show 2048 + 1 * k.val = 2048 + k.val; omega) | ⟨2, _⟩ => (by show 0 + 1 * l.val = l.val; omega)))).trans (h9 ⟨2048 + k.val, by have := k.isLt; omega⟩ l))⟩
  obtain ⟨A3, eA3, HA3⟩ : ∃ L, View.readAt (Elt Ideal) arg10.view (Rect.unit (s := S1x1024x4096) ![0, 0, 3072] S1x1024x1024.size inb_S1x1024x4096_S1x1024x1024_0_0_3072).toLoadRect (harg10.unread x8) = L
      ∧ ∀ (k l : Fin 1024), L (ix3 0 k l) = w1 k.val (3072 + l.val) :=
    ⟨_, rfl, fun k l => (harg10.readAt_unread x8 _ _).trans ((congrArg x8 (funext fun a => Fin.ext (match a with | ⟨0, _⟩ => (by rfl) | ⟨1, _⟩ => (by show 0 + 1 * k.val = k.val; omega) | ⟨2, _⟩ => (by show 3072 + 1 * l.val = 3072 + l.val; omega)))).trans (h8 k ⟨3072 + l.val, by have := l.isLt; omega⟩))⟩
  obtain ⟨B3, eB3, HB3⟩ : ∃ L, View.readAt (Elt Ideal) arg11.view (Rect.unit (s := S1x4096x1024) ![0, 3072, 0] S1x1024x1024.size inb_S1x4096x1024_S1x1024x1024_0_3072_0).toLoadRect (harg11.unread x9) = L
      ∧ ∀ (k l : Fin 1024), L (ix3 0 k l) = w2 (3072 + k.val) l.val :=
    ⟨_, rfl, fun k l => (harg11.readAt_unread x9 _ _).trans ((congrArg x9 (funext fun a => Fin.ext (match a with | ⟨0, _⟩ => (by rfl) | ⟨1, _⟩ => (by show 3072 + 1 * k.val = 3072 + k.val; omega) | ⟨2, _⟩ => (by show 0 + 1 * l.val = l.val; omega)))).trans (h9 ⟨3072 + k.val, by have := k.isLt; omega⟩ l))⟩
  have p2 := pay2_val r (v5 := L1) (v7 := L2) (v9 := L3) (v12 := L7) (v15 := L0) (v18 := M1) (m2 := fun l => m (2048 + l)) HL1 HL2 HL3 HL7 HL0 HM1
  have p3 := pay3_val r p2
  have p4 := pay4_val r (m4 := fun l => m (4096 + l)) (m3 := fun l => m (3072 + l)) p2 p3 HL5 HM2 HM3
  have p5 := pay5_val r p4 HA0 HB0
  have p6 := pay6_val r p4 HA1
  have p7 := pay7_val r (m5 := fun l => m (5120 + l)) p2 p4 p5 p6 HB1 HA2 HB2 HA3 HB3 HM4
  have p1 := pay1_val r p7 (pay8_val r p7) HL6 l
  refine Eq.trans ?_ p1
  unfold out0_A_10
  rw [View.read_writes_junk_eq_canon]
  unfold kernelRun0_A
  dsimp only
  sl_unfold_words
  rw [View.canon_unit_zero hz3, ← eL0, ← eL1, ← eL2, ← eL3, ← eM1, ← eM2, ← eM3, ← eM4, ← eL5, ← eL6, ← eL7, ← eA0, ← eB0, ← eA1, ← eB1, ← eA2, ← eB2, ← eA3, ← eB3]
  rfl

end Cert.Kernel2Ideal.Out

end
-- ==== Proof.Out.Result.lean ====
/- The kernel's result array: each entry is the row of `Cert.Out` of the ten arguments. -/
module

public import proofs.«01_k».proof.Proof.Out.Body
public import proofs.«01_k».proof.Proof.Out.Args
public import Idealize.ShloMosaic.Lib.StableHlo.ReadAt
public import Idealize.ShloMosaic.Lib.Pipeline.ValueKit

@[expose] public section

set_option maxRecDepth 16384

noncomputable section

namespace Cert.Kernel2Ideal.Out

open Cert.Kernel2Ideal Cert.Kernel2Ideal.Gen Idealize.ShloMosaic Idealize.ShloMosaic.TcCoe Idealize.SL.Sem
open Idealize.ShloMosaic.Pipeline (Dat Cfg Window)
open Cert.Out

variable (m : (ℓ : Loc nD τ sig) → Buf (Elt Ideal) ℓ)

theorem out_index : ∀ t : Fin cfg0.N, win0_10.index t (0 : Fin 3) < 16 ∧ win0_10.index t (1 : Fin 3) < 8 ∧ win0_10.index t (2 : Fin 3) = 0 ∧ (grid0.coords t 0).val = win0_10.index t (0 : Fin 3) :=
  (by decide +kernel : ∀ t : Fin grid0.N, _)
theorem index0 : ∀ t : Fin cfg0.N, win0_0.index t (0 : Fin 3) = win0_10.index t (0 : Fin 3) ∧ win0_0.index t (1 : Fin 3) = win0_10.index t (1 : Fin 3) + 1 ∧ win0_0.index t (2 : Fin 3) = 0 :=
  (by decide +kernel : ∀ t : Fin grid0.N, _)
theorem index1 : ∀ t : Fin cfg0.N, win0_1.index t (0 : Fin 3) = win0_10.index t (0 : Fin 3) ∧ win0_1.index t (1 : Fin 3) = win0_10.index t (1 : Fin 3) + 1 ∧ win0_1.index t (2 : Fin 3) = 0 :=
  (by decide +kernel : ∀ t : Fin grid0.N, _)
theorem index2 : ∀ t : Fin cfg0.N, win0_2.index t (0 : Fin 3) = win0_10.index t (0 : Fin 3) ∧ win0_2.index t (1 : Fin 3) = win0_10.index t (1 : Fin 3) + 1 ∧ win0_2.index t (2 : Fin 3) = 0 :=
  (by decide +kernel : ∀ t : Fin grid0.N, _)
theorem index3 : ∀ t : Fin cfg0.N, win0_3.index t (0 : Fin 3) = win0_10.index t (0 : Fin 3) ∧ win0_3.index t (1 : Fin 3) = win0_10.index t (1 : Fin 3) + 1 ∧ win0_3.index t (2 : Fin 3) = 0 :=
  (by decide +kernel : ∀ t : Fin grid0.N, _)
theorem index4 : ∀ t : Fin cfg0.N, win0_4.index t (0 : Fin 3) = 3 ∧ win0_4.index t (1 : Fin 3) = 0 ∧ win0_4.index t (2 : Fin 3) = 0 :=
  (by decide +kernel : ∀ t : Fin grid0.N, _)
theorem index7 : ∀ t : Fin cfg0.N, win0_7.index t (0 : Fin 3) = 3 ∧ win0_7.index t (1 : Fin 3) = 0 ∧ win0_7.index t (2 : Fin 3) = 0 :=
  (by decide +kernel : ∀ t : Fin grid0.N, _)
theorem index8 : ∀ t : Fin cfg0.N, win0_8.index t (0 : Fin 3) = 3 ∧ win0_8.index t (1 : Fin 3) = 0 ∧ win0_8.index t (2 : Fin 3) = 0 :=
  (by decide +kernel : ∀ t : Fin grid0.N, _)
theorem index9 : ∀ t : Fin cfg0.N, win0_9.index t (0 : Fin 3) = 3 ∧ win0_9.index t (1 : Fin 3) = 0 ∧ win0_9.index t (2 : Fin 3) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)

/-- The point's tokens of the residual stream. -/
theorem blk0 (c : Dev nD) (t : Fin cfg0.N) (r : Fin 256) (l : Fin 1024) :
    iblk m c 0 t (ValueIdx.ix3 (0 : Fin 1) r l)
      = at3 (a := 16) (b := 2304) (c := 1024) (m ((c : Thread nD τ).loc main_arg0)) (win0_10.index t (0 : Fin 3)) (256 + (256 * win0_10.index t (1 : Fin 3) + r.val)) l.val := by
  rw [← V_main_arg0 m c]
  have h := index0 t
  refine at3_eq (v := V m c main_arg0) (i := ((cfg0.win 0).blk t).view.emb (ValueIdx.ix3 (0 : Fin 1) r l)) ?_ ?_ ?_
  · show win0_0.index t (0 : Fin 3) * 1 + 1 * 0 = _; omega
  · show win0_0.index t (1 : Fin 3) * 256 + 1 * r.val = _; omega
  · show win0_0.index t (2 : Fin 3) * 1024 + 1 * l.val = _; omega
/-- The point's tokens of the first mixer. -/
theorem blk1 (c : Dev nD) (t : Fin cfg0.N) (r : Fin 256) (l : Fin 256) :
    iblk m c 1 t (ValueIdx.ix3 (0 : Fin 1) r l)
      = at3 (a := 16) (b := 2304) (c := 256) (m ((c : Thread nD τ).loc main_arg1)) (win0_10.index t (0 : Fin 3)) (256 + (256 * win0_10.index t (1 : Fin 3) + r.val)) l.val := by
  rw [← V_main_arg1 m c]
  have h := index1 t
  refine at3_eq (v := V m c main_arg1) (i := ((cfg0.win 1).blk t).view.emb (ValueIdx.ix3 (0 : Fin 1) r l)) ?_ ?_ ?_
  · show win0_1.index t (0 : Fin 3) * 1 + 1 * 0 = _; omega
  · show win0_1.index t (1 : Fin 3) * 256 + 1 * r.val = _; omega
  · show win0_1.index t (2 : Fin 3) * 256 + 1 * l.val = _; omega
/-- The point's tokens of the second mixer. -/
theorem blk2 (c : Dev nD) (t : Fin cfg0.N) (r : Fin 256) (l : Fin 512) :
    iblk m c 2 t (ValueIdx.ix3 (0 : Fin 1) r l)
      = at3 (a := 16) (b := 2304) (c := 512) (m ((c : Thread nD τ).loc main_arg2)) (win0_10.index t (0 : Fin 3)) (256 + (256 * win0_10.index t (1 : Fin 3) + r.val)) l.val := by
  rw [← V_main_arg2 m c]
  have h := index2 t
  refine at3_eq (v := V m c main_arg2) (i := ((cfg0.win 2).blk t).view.emb (ValueIdx.ix3 (0 : Fin 1) r l)) ?_ ?_ ?_
  · show win0_2.index t (0 : Fin 3) * 1 + 1 * 0 = _; omega
  · show win0_2.index t (1 : Fin 3) * 256 + 1 * r.val = _; omega
  · show win0_2.index t (2 : Fin 3) * 512 + 1 * l.val = _; omega
/-- The point's tokens of the third mixer. -/
theorem blk3 (c : Dev nD) (t : Fin cfg0.N) (r : Fin 256) (l : Fin 256) :
    iblk m c 3 t (ValueIdx.ix3 (0 : Fin 1) r l)
      = at3 (a := 16) (b := 2304) (c := 256) (m ((c : Thread nD τ).loc main_arg3)) (win0_10.index t (0 : Fin 3)) (256 + (256 * win0_10.index t (1 : Fin 3) + r.val)) l.val := by
  rw [← V_main_arg3 m c]
  have h := index3 t
  refine at3_eq (v := V m c main_arg3) (i := ((cfg0.win 3).blk t).view.emb (ValueIdx.ix3 (0 : Fin 1) r l)) ?_ ?_ ?_
  · show win0_3.index t (0 : Fin 3) * 1 + 1 * 0 = _; omega
  · show win0_3.index t (1 : Fin 3) * 256 + 1 * r.val = _; omega
  · show win0_3.index t (2 : Fin 3) * 256 + 1 * l.val = _; omega
/-- The layer's modulations. -/
theorem blk4 (c : Dev nD) (t : Fin cfg0.N) (r : Fin 24) (l : Fin 6144) :
    iblk m c 4 t (ValueIdx.ix3 (0 : Fin 1) r l) = at3 (a := 4) (b := 24) (c := 6144) (m ((c : Thread nD τ).loc main_arg4)) 3 r.val l.val := by
  rw [← V_main_arg4 m c]
  have h := index4 t
  refine at3_eq (v := V m c main_arg4) (i := ((cfg0.win 4).blk t).view.emb (ValueIdx.ix3 (0 : Fin 1) r l)) ?_ ?_ ?_
  · show win0_4.index t (0 : Fin 3) * 1 + 1 * 0 = _; omega
  · show win0_4.index t (1 : Fin 3) * 24 + 1 * r.val = _; omega
  · show win0_4.index t (2 : Fin 3) * 6144 + 1 * l.val = _; omega

theorem gain_arr (c : Dev nD) : V (F := Ideal) m c main_v5
    = shapeCast S1x1024 (shapeCast S1024 (extractStridedSlice S1x1024 ![3, 0] (m ((c : Thread nD τ).loc main_arg5)) slices_S4x1024_S1x1024_3_0) shapeCasts_S1x1024_S1024) shapeCasts_S1024_S1x1024 := by
  unfold V
  after_reads_simp
  try simp -implicitDefEqProofs only [StableHlo.TRef.toBuf, StableHlo.TRef.ofBuf, cast_cast, cast_eq]
  rfl
theorem last_gain_arr (c : Dev nD) : V (F := Ideal) m c main_v6 = shapeCast S1x1024 (m ((c : Thread nD τ).loc main_arg6)) shapeCasts_S1024_S1x1024 := by
  unfold V
  after_reads_simp
  try simp -implicitDefEqProofs only [StableHlo.TRef.toBuf, StableHlo.TRef.ofBuf, cast_cast, cast_eq]
  rfl
theorem wo_arr (c : Dev nD) : V (F := Ideal) m c main_v2 = m ((c : Thread nD τ).loc main_arg7) := by
  unfold V
  after_reads_simp
  try simp -implicitDefEqProofs only [StableHlo.TRef.toBuf, StableHlo.TRef.ofBuf, cast_cast, cast_eq]
  rfl
theorem w1_arr (c : Dev nD) : V (F := Ideal) m c main_v3 = m ((c : Thread nD τ).loc main_arg8) := by
  unfold V
  after_reads_simp
  try simp -implicitDefEqProofs only [StableHlo.TRef.toBuf, StableHlo.TRef.ofBuf, cast_cast, cast_eq]
  rfl
theorem w2_arr (c : Dev nD) : V (F := Ideal) m c main_v4 = m ((c : Thread nD τ).loc main_arg9) := by
  unfold V
  after_reads_simp
  try simp -implicitDefEqProofs only [StableHlo.TRef.toBuf, StableHlo.TRef.ofBuf, cast_cast, cast_eq]
  rfl

/-- The layer's gain. -/
theorem blk5 (c : Dev nD) (t : Fin cfg0.N) (l : Fin 1024) :
    iblk m c 5 t (ValueIdx.ix2 (0 : Fin 1) l) = at2 (a := 4) (b := 1024) (m ((c : Thread nD τ).loc main_arg5)) 3 l.val := by
  have h := index5 t
  have e : iblk m c 5 t (ValueIdx.ix2 (0 : Fin 1) l) = V m c main_v5 (ValueIdx.ix2 (0 : Fin 1) l) := by
    show V m c main_v5 (((cfg0.win 5).blk t).view.emb (ValueIdx.ix2 (0 : Fin 1) l)) = _
    refine congrArg _ (funext fun a => Fin.ext ?_)
    match a with
    | ⟨0, _⟩ => show win0_5.index t (0 : Fin 2) * 1 + 1 * 0 = 0; omega
    | ⟨1, _⟩ => show win0_5.index t (1 : Fin 2) * 1024 + 1 * l.val = l.val; omega
  rw [e, gain_arr]
  refine (shapeCast_apply _ shapeCasts_S1024_S1x1024 _ (ValueIdx.ix1 l) ?_).trans ?_
  · rw [Shape.rowMajor_val_one, Shape.rowMajor_val_two]
    show l.val = 0 * 1024 + l.val
    omega
  refine (shapeCast_apply _ shapeCasts_S1x1024_S1024 _ (ValueIdx.ix2 (0 : Fin 1) l) ?_).trans ?_
  · rw [Shape.rowMajor_val_one, Shape.rowMajor_val_two]
    show 0 * 1024 + l.val = l.val
    omega
  refine (extractStridedSlice_apply ![3, 0] _ slices_S4x1024_S1x1024_3_0 _ (ValueIdx.ix2 (3 : Fin 4) l) (fun a => match a with
    | ⟨0, _⟩ => by show 3 = 3 + 0; rfl
    | ⟨1, _⟩ => by show l.val = 0 + l.val; omega)).trans ?_
  exact at2_eq rfl rfl
/-- The last gain. -/
theorem blk6 (c : Dev nD) (t : Fin cfg0.N) (l : Fin 1024) :
    iblk m c 6 t (ValueIdx.ix2 (0 : Fin 1) l) = at1 (a := 1024) (m ((c : Thread nD τ).loc main_arg6)) l.val := by
  have h := index6 t
  have e : iblk m c 6 t (ValueIdx.ix2 (0 : Fin 1) l) = V m c main_v6 (ValueIdx.ix2 (0 : Fin 1) l) := by
    show V m c main_v6 (((cfg0.win 6).blk t).view.emb (ValueIdx.ix2 (0 : Fin 1) l)) = _
    refine congrArg _ (funext fun a => Fin.ext ?_)
    match a with
    | ⟨0, _⟩ => show win0_6.index t (0 : Fin 2) * 1 + 1 * 0 = 0; omega
    | ⟨1, _⟩ => show win0_6.index t (1 : Fin 2) * 1024 + 1 * l.val = l.val; omega
  rw [e, last_gain_arr]
  refine (shapeCast_apply _ shapeCasts_S1024_S1x1024 _ (ValueIdx.ix1 l) ?_).trans ?_
  · rw [Shape.rowMajor_val_one, Shape.rowMajor_val_two]
    show l.val = 0 * 1024 + l.val
    omega
  exact at1_eq rfl
/-- The layer's output projection. -/
theorem blk7 (c : Dev nD) (t : Fin cfg0.N) (r : Fin 1024) (l : Fin 1024) :
    iblk m c 7 t (ValueIdx.ix3 (0 : Fin 1) r l) = at3 (a := 4) (b := 1024) (c := 1024) (m ((c : Thread nD τ).loc main_arg7)) 3 r.val l.val := by
  have h := index7 t
  have e : iblk m c 7 t (ValueIdx.ix3 (0 : Fin 1) r l) = V m c main_v2 (((cfg0.win 7).blk t).view.emb (ValueIdx.ix3 (0 : Fin 1) r l)) := rfl
  rw [e, wo_arr]
  refine at3_eq (v := m ((c : Thread nD τ).loc main_arg7)) (i := ((cfg0.win 7).blk t).view.emb (ValueIdx.ix3 (0 : Fin 1) r l)) ?_ ?_ ?_
  · show win0_7.index t (0 : Fin 3) * 1 + 1 * 0 = _; omega
  · show win0_7.index t (1 : Fin 3) * 1024 + 1 * r.val = _; omega
  · show win0_7.index t (2 : Fin 3) * 1024 + 1 * l.val = _; omega
/-- The layer's first feed-forward matrix. -/
theorem blk8 (c : Dev nD) (t : Fin cfg0.N) (r : Fin 1024) (l : Fin 4096) :
    iblk m c 8 t (ValueIdx.ix3 (0 : Fin 1) r l) = at3 (a := 4) (b := 1024) (c := 4096) (m ((c : Thread nD τ).loc main_arg8)) 3 r.val l.val := by
  have h := index8 t
  have e : iblk m c 8 t (ValueIdx.ix3 (0 : Fin 1) r l) = V m c main_v3 (((cfg0.win 8).blk t).view.emb (ValueIdx.ix3 (0 : Fin 1) r l)) := rfl
  rw [e, w1_arr]
  refine at3_eq (v := m ((c : Thread nD τ).loc main_arg8)) (i := ((cfg0.win 8).blk t).view.emb (ValueIdx.ix3 (0 : Fin 1) r l)) ?_ ?_ ?_
  · show win0_8.index t (0 : Fin 3) * 1 + 1 * 0 = _; omega
  · show win0_8.index t (1 : Fin 3) * 1024 + 1 * r.val = _; omega
  · show win0_8.index t (2 : Fin 3) * 4096 + 1 * l.val = _; omega
/-- The layer's second feed-forward matrix. -/
theorem blk9 (c : Dev nD) (t : Fin cfg0.N) (r : Fin 4096) (l : Fin 1024) :
    iblk m c 9 t (ValueIdx.ix3 (0 : Fin 1) r l) = at3 (a := 4) (b := 4096) (c := 1024) (m ((c : Thread nD τ).loc main_arg9)) 3 r.val l.val := by
  have h := index9 t
  have e : iblk m c 9 t (ValueIdx.ix3 (0 : Fin 1) r l) = V m c main_v4 (((cfg0.win 9).blk t).view.emb (ValueIdx.ix3 (0 : Fin 1) r l)) := rfl
  rw [e, w2_arr]
  refine at3_eq (v := m ((c : Thread nD τ).loc main_arg9)) (i := ((cfg0.win 9).blk t).view.emb (ValueIdx.ix3 (0 : Fin 1) r l)) ?_ ?_ ?_
  · show win0_9.index t (0 : Fin 3) * 1 + 1 * 0 = _; omega
  · show win0_9.index t (1 : Fin 3) * 4096 + 1 * r.val = _; omega
  · show win0_9.index t (2 : Fin 3) * 1024 + 1 * l.val = _; omega

/-- What a point leaves, row by row. -/
theorem point (c : Dev nD) (t : Fin cfg0.N) (r : Fin 256) (l : Fin 1024) :
    outsAt0 m c t (ValueIdx.ix3 (0 : Fin 1) r l) = outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (win0_10.index t (0 : Fin 3)) (256 * win0_10.index t (1 : Fin 3) + r.val) l.val := by
  have h := out_index t
  unfold outsAt0 outRow
  exact out_val c (grid0.coords t) _ _ _ _ _ _ _ _ _ _ _ _ _ _ _ _ _ _ _ _ _ _ _ _ _ _ _ _ _ _ _ _ r
    (⟨win0_10.index t (0 : Fin 3), by omega⟩ : Fin 24) h.2.2.2.symm
    (fun l => blk0 m c t r l) (fun l => blk1 m c t r l) (fun l => blk2 m c t r l) (fun l => blk3 m c t r l) (fun l => blk4 m c t _ l)
    (fun l => blk5 m c t l) (fun l => blk6 m c t l) (fun k l => blk7 m c t k l) (fun k l => blk8 m c t k l) (fun k l => blk9 m c t k l) l

/-- The result array. -/
def resArr (c : Dev nD) : Vec Ideal S16x2048x1024 .f32 := outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem resArr_apply (c : Dev nD) (i : S16x2048x1024.Idx) {b t l : ℕ} (e0 : (i 0).val = b) (e1 : (i 1).val = t) (e2 : (i 2).val = l) :
    resArr m c i = outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t l := by
  subst e0; subst e1; subst e2
  rfl

theorem kernel_result (c : Dev nD) : (dats (F := Ideal) m 0 c).arrAt 10 cfg0.N = resArr m c := by
  refine (dats (F := Ideal) m 0 c).arrAt_eq_of_covers 10 _ (by decide +kernel) fun t hf y => ?_
  rw [after0_10]
  have l0 : (y 0).val < 1 := (y 0).isLt
  have l1 : (y 1).val < 256 := (y 1).isLt
  have l2 : (y 2).val < 1024 := (y 2).isLt
  have h := out_index t
  have e : outsAt0 m c t ((cfg0.win 10).xinj (cfg0.grid.coords t) y) = outsAt0 m c t (ValueIdx.ix3 (0 : Fin 1) (⟨(y 1).val, l1⟩ : Fin 256) (⟨(y 2).val, l2⟩ : Fin 1024)) :=
    congrArg (outsAt0 m c t) (funext fun a => Fin.ext (match a with | ⟨0, _⟩ => (by show (y 0).val = 0; omega) | ⟨1, _⟩ => rfl | ⟨2, _⟩ => rfl))
  refine (cast_eq _ _).trans ?_
  refine e.trans ((point m c t _ _).trans (resArr_apply m c (((cfg0.win 10).blk t).view.emb y) ?_ ?_ ?_).symm)
  · show win0_10.index t (0 : Fin 3) * 1 + 1 * (y 0).val = _; omega
  · show win0_10.index t (1 : Fin 3) * 256 + 1 * (y 1).val = 256 * win0_10.index t (1 : Fin 3) + (y 1).val; omega
  · show win0_10.index t (2 : Fin 3) * 1024 + 1 * (y 2).val = (y 2).val; omega

end Cert.Kernel2Ideal.Out

end
-- ==== Proof.Out3.Args.lean ====
/- The row a layer but the last leaves, as a function of the call's arguments: the row of `Out/Core` without the final normalisation;
   the context's 256 tokens take their modulations from row 16, a latent token from its batch's. -/
module

public import proofs.«01_k».proof.Proof.Out.Args

@[expose] public section

noncomputable section

namespace Cert.Out

open Idealize.ShloMosaic

/-- The row the call leaves, of the row's six modulations one after the other. -/
def mid (x d s h m g2 : ℕ → EReal) (wo w1 w2 : ℕ → ℕ → EReal) : ℕ → EReal :=
  let v := resid x (fun l => m (2048 + l)) (cat d s h) wo
  ffn v (fun l => m (5120 + l)) (act (hid v g2 (fun l => m (4096 + l)) (fun l => m (3072 + l))) w1) w2

/-- The row of a token's modulations. -/
def modRow (b t : ℕ) : ℕ := if t < 256 then 16 else b

/-- The row of a token, of the arguments. -/
def midRow (x0 : (⟨3, ![16, 2304, 1024]⟩ : Shape).Idx → EReal) (x1 : (⟨3, ![16, 2304, 256]⟩ : Shape).Idx → EReal)
    (x2 : (⟨3, ![16, 2304, 512]⟩ : Shape).Idx → EReal) (x3 : (⟨3, ![16, 2304, 256]⟩ : Shape).Idx → EReal)
    (x4 : (⟨3, ![4, 24, 6144]⟩ : Shape).Idx → EReal) (x5 : (⟨2, ![4, 1024]⟩ : Shape).Idx → EReal)
    (x7 : (⟨3, ![4, 1024, 1024]⟩ : Shape).Idx → EReal) (x8 : (⟨3, ![4, 1024, 4096]⟩ : Shape).Idx → EReal)
    (x9 : (⟨3, ![4, 4096, 1024]⟩ : Shape).Idx → EReal) (b t : ℕ) : ℕ → EReal :=
  mid (at3 x0 b t) (at3 x1 b t) (at3 x2 b t) (at3 x3 b t) (at3 x4 0 (modRow b t)) (at2 x5 0) (at3 x7 0) (at3 x8 0) (at3 x9 0)

/-- The result array, of the arguments. -/
def midArr (x0 : (⟨3, ![16, 2304, 1024]⟩ : Shape).Idx → EReal) (x1 : (⟨3, ![16, 2304, 256]⟩ : Shape).Idx → EReal)
    (x2 : (⟨3, ![16, 2304, 512]⟩ : Shape).Idx → EReal) (x3 : (⟨3, ![16, 2304, 256]⟩ : Shape).Idx → EReal)
    (x4 : (⟨3, ![4, 24, 6144]⟩ : Shape).Idx → EReal) (x5 : (⟨2, ![4, 1024]⟩ : Shape).Idx → EReal)
    (x7 : (⟨3, ![4, 1024, 1024]⟩ : Shape).Idx → EReal) (x8 : (⟨3, ![4, 1024, 4096]⟩ : Shape).Idx → EReal)
    (x9 : (⟨3, ![4, 4096, 1024]⟩ : Shape).Idx → EReal) : (⟨3, ![16, 2304, 1024]⟩ : Shape).Idx → EReal :=
  fun i => midRow x0 x1 x2 x3 x4 x5 x7 x8 x9 (i 0).val (i 1).val (i 2).val

end Cert.Out

end
-- ==== Proof.Out3.Ref.lean ====
/- The reference's first layer after its mixers, entry by entry: the row of `Args`. Its latent tokens and its context tokens go two
   ways through the same steps, the context's with the modulations of row 16; the arithmetic of a step is one lemma for both. -/
module

public import proofs.«01_k».proof.Proof.Gen.Reference3Ideal.Read
public import proofs.«01_k».proof.Proof.Out3.Args
public import Idealize.ShloMosaic.Lib.Pointwise.Tactic
public import Idealize.ShloMosaic.Lib.Pointwise.Reshape

@[expose] public section

set_option maxRecDepth 16384

noncomputable section

namespace Cert.Reference3Ideal.Out

open Cert.Reference3Ideal Cert.Reference3Ideal.Gen Cert.Reference3Ideal.Read Idealize.ShloMosaic Idealize.ShloMosaic.TcCoe Idealize.SL.Sem Idealize.ShloMosaic.StableHlo
open Cert.Out

/-! ## The arithmetic of a step -/

/-- Three arrays joined along the columns, at a token's row. -/
theorem cat_val {n : ℕ} {A : (⟨3, ![16, n, 256]⟩ : Shape).Idx → EReal} {B : (⟨3, ![16, n, 512]⟩ : Shape).Idx → EReal} {C : (⟨3, ![16, n, 256]⟩ : Shape).Idx → EReal}
    (hc : Shape.Concatenates [⟨3, ![16, n, 256]⟩, ⟨3, ![16, n, 512]⟩, ⟨3, ![16, n, 256]⟩] ⟨3, ![16, n, 1024]⟩ 2)
    {i : (⟨3, ![16, n, 1024]⟩ : Shape).Idx} {b t k : ℕ} (e0 : (i 0).val = b) (e1 : (i 1).val = t) (e2 : (i 2).val = k) {d s h : ℕ → EReal}
    (hA : ∀ j : (⟨3, ![16, n, 256]⟩ : Shape).Idx, (j 0).val = b → (j 1).val = t → A j = d (j 2).val)
    (hB : ∀ j : (⟨3, ![16, n, 512]⟩ : Shape).Idx, (j 0).val = b → (j 1).val = t → B j = s (j 2).val)
    (hC : ∀ j : (⟨3, ![16, n, 256]⟩ : Shape).Idx, (j 0).val = b → (j 1).val = t → C j = h (j 2).val) :
    concatenate ⟨3, ![16, n, 1024]⟩ 2 [⟨⟨3, ![16, n, 256]⟩, A⟩, ⟨⟨3, ![16, n, 512]⟩, B⟩, ⟨⟨3, ![16, n, 256]⟩, C⟩] hc i = cat d s h k := by
  have l0 : (i 0).val < 16 := (i 0).isLt
  have l1 : (i 1).val < n := (i 1).isLt
  have l2 : (i 2).val < 1024 := (i 2).isLt
  unfold cat
  by_cases h1 : k < 256
  · rw [if_pos h1]
    exact (concatenate_apply_piece 2 [⟨⟨3, ![16, n, 256]⟩, A⟩, ⟨⟨3, ![16, n, 512]⟩, B⟩, ⟨⟨3, ![16, n, 256]⟩, C⟩] hc i 0 (by show 0 < 3; omega) ⟨3, ![16, n, 256]⟩ A rfl rfl 0 rfl
      (ValueIdx.ix3 (⟨b, by omega⟩ : Fin 16) (⟨t, by omega⟩ : Fin n) (⟨k, by omega⟩ : Fin 256))
      (fun a ha => match a, ha with | ⟨0, _⟩, _ => e0.symm | ⟨1, _⟩, _ => e1.symm | ⟨2, _⟩, ha => absurd rfl ha)
      (by show 0 + k = (i 2).val; omega)).trans (hA _ rfl rfl)
  rw [if_neg h1]
  by_cases h2 : k < 768
  · rw [if_pos h2]
    exact (concatenate_apply_piece 2 [⟨⟨3, ![16, n, 256]⟩, A⟩, ⟨⟨3, ![16, n, 512]⟩, B⟩, ⟨⟨3, ![16, n, 256]⟩, C⟩] hc i 1 (by show 1 < 3; omega) ⟨3, ![16, n, 512]⟩ B rfl rfl 256 rfl
      (ValueIdx.ix3 (⟨b, by omega⟩ : Fin 16) (⟨t, by omega⟩ : Fin n) (⟨k - 256, by omega⟩ : Fin 512))
      (fun a ha => match a, ha with | ⟨0, _⟩, _ => e0.symm | ⟨1, _⟩, _ => e1.symm | ⟨2, _⟩, ha => absurd rfl ha)
      (by show 256 + (k - 256) = (i 2).val; omega)).trans (hB _ rfl rfl)
  rw [if_neg h2]
  exact (concatenate_apply_piece 2 [⟨⟨3, ![16, n, 256]⟩, A⟩, ⟨⟨3, ![16, n, 512]⟩, B⟩, ⟨⟨3, ![16, n, 256]⟩, C⟩] hc i 2 (by show 2 < 3; omega) ⟨3, ![16, n, 256]⟩ C rfl rfl 768 rfl
    (ValueIdx.ix3 (⟨b, by omega⟩ : Fin 16) (⟨t, by omega⟩ : Fin n) (⟨k - 768, by omega⟩ : Fin 256))
    (fun a ha => match a, ha with | ⟨0, _⟩, _ => e0.symm | ⟨1, _⟩, _ => e1.symm | ⟨2, _⟩, ha => absurd rfl ha)
    (by show 768 + (k - 768) = (i 2).val; omega)).trans (hC _ rfl rfl)

/-- The normalised row's entry: its sum of squares starts from the zero constant. -/
theorem rms_val {v : ℕ → EReal} {l : ℕ} {p : EReal} {q : Fin 1024 → EReal} (hp : p = v l) (hq : ∀ k, q k = v k.val * v k.val) :
    p * Ideal.rsqrt (Ideal.div (Ideal.ofBits .f32 0x00000000#32 + ∑ k, q k) (Ideal.ofBits .f32 0x44800000#32) + Ideal.ofBits .f32 0x358637BD#32)
      = v l * rstd (ssq v) := by
  rw [hp, zero_bits, zero_add, Finset.sum_congr rfl fun k _ => hq k]
  rfl

/-- The hidden row's entry. -/
theorem hid_val {v g sc sh : ℕ → EReal} {l : ℕ} {p q e f : EReal} (hp : p = v l * rstd (ssq v)) (hq : q = g l) (he : e = sc l) (hf : f = sh l) :
    p * q * (Ideal.ofBits .f32 0x3F800000#32 + e) + f = hid v g sc sh l := by
  rw [hp, hq, he, hf, one_bits]
  rfl

/-- A feed-forward column. -/
theorem act_val {h : ℕ → EReal} {w : ℕ → ℕ → EReal} {j : ℕ} {p : EReal} (hp : p = dot h w j) :
    max p (Ideal.ofBits .f32 0x00000000#32) * max p (Ideal.ofBits .f32 0x00000000#32) = act h w j := by
  rw [hp, zero_bits]
  rfl

variable (x0 : Vec Ideal S16x2304x1024 .f32) (x1 : Vec Ideal S16x2304x256 .bf16) (x2 : Vec Ideal S16x2304x512 .bf16) (x3 : Vec Ideal S16x2304x256 .bf16)
  (x4 : Vec Ideal S4x24x6144 .f32) (x5 : Vec Ideal S4x1024 .f32) (x7 : Vec Ideal S4x1024x1024 .f32)
  (x8 : Vec Ideal S4x1024x4096 .f32) (x9 : Vec Ideal S4x4096x1024 .f32)

/-- The row after the mixers, of a batch's token. -/
abbrev rowV (b t : ℕ) : ℕ → EReal :=
  resid (at3 (a := 16) (b := 2304) (c := 1024) x0 b t) (fun l => at3 (a := 4) (b := 24) (c := 6144) x4 0 (modRow b t) (2048 + l))
    (cat (at3 (a := 16) (b := 2304) (c := 256) x1 b t) (at3 (a := 16) (b := 2304) (c := 512) x2 b t) (at3 (a := 16) (b := 2304) (c := 256) x3 b t))
    (at3 (a := 4) (b := 1024) (c := 1024) x7 0)
/-- The hidden row. -/
abbrev rowH (b t : ℕ) : ℕ → EReal :=
  hid (rowV x0 x1 x2 x3 x4 x7 b t) (at2 (a := 4) (b := 1024) x5 0) (fun l => at3 (a := 4) (b := 24) (c := 6144) x4 0 (modRow b t) (4096 + l))
    (fun l => at3 (a := 4) (b := 24) (c := 6144) x4 0 (modRow b t) (3072 + l))
/-- The row after the feed-forward. -/
abbrev rowF (b t : ℕ) : ℕ → EReal :=
  ffn (rowV x0 x1 x2 x3 x4 x7 b t) (fun l => at3 (a := 4) (b := 24) (c := 6144) x4 0 (modRow b t) (5120 + l))
    (act (rowH x0 x1 x2 x3 x4 x5 x7 b t) (at3 (a := 4) (b := 1024) (c := 4096) x8 0)) (at3 (a := 4) (b := 4096) (c := 1024) x9 0)

/-! ## The layer's weights, which both ways read -/

theorem v3 {i : S1024x1024.Idx} {k l : ℕ} (e0 : (i 0).val = k) (e1 : (i 1).val = l) :
    val_main_v3 (F := Ideal) x7 i = at3 (a := 4) (b := 1024) (c := 1024) x7 0 k l := by
  have l0 : (i 0).val < 1024 := (i 0).isLt
  have l1 : (i 1).val < 1024 := (i 1).isLt
  rw [val_main_v3_apply, val_main_v2_apply]
  exact at3_eq rfl (by show ((i 0).val * 1024 + (i 1).val) / 1024 % 1024 = k; omega) (by show ((i 0).val * 1024 + (i 1).val) % 1024 = l; omega)
theorem v5 {i : S1024x4096.Idx} {k l : ℕ} (e0 : (i 0).val = k) (e1 : (i 1).val = l) :
    val_main_v5 (F := Ideal) x8 i = at3 (a := 4) (b := 1024) (c := 4096) x8 0 k l := by
  have l0 : (i 0).val < 1024 := (i 0).isLt
  have l1 : (i 1).val < 4096 := (i 1).isLt
  rw [val_main_v5_apply, val_main_v4_apply]
  exact at3_eq rfl (by show ((i 0).val * 4096 + (i 1).val) / 4096 % 1024 = k; omega) (by show ((i 0).val * 4096 + (i 1).val) % 4096 = l; omega)
theorem v7 {i : S4096x1024.Idx} {k l : ℕ} (e0 : (i 0).val = k) (e1 : (i 1).val = l) :
    val_main_v7 (F := Ideal) x9 i = at3 (a := 4) (b := 4096) (c := 1024) x9 0 k l := by
  have l0 : (i 0).val < 4096 := (i 0).isLt
  have l1 : (i 1).val < 1024 := (i 1).isLt
  rw [val_main_v7_apply, val_main_v6_apply]
  exact at3_eq rfl (by show ((i 0).val * 1024 + (i 1).val) / 1024 % 4096 = k; omega) (by show ((i 0).val * 1024 + (i 1).val) % 1024 = l; omega)

/-! ## The latent tokens -/

theorem modRow_eq {b q t : ℕ} (e : q = b) : q = modRow b (256 + t) := by unfold modRow; rw [if_neg (by omega)]; exact e

/-- A token's six modulations lie one after the other. -/
theorem v10 {i : S16x6x1x1024.Idx} {q k l : ℕ} (e0 : (i 0).val = q) (e1 : (i 1).val = k) (e3 : (i 3).val = l) :
    val_main_v10 (F := Ideal) x4 i = at3 (a := 4) (b := 24) (c := 6144) x4 0 q (1024 * k + l) := by
  have l0 : (i 0).val < 16 := (i 0).isLt
  have l1 : (i 1).val < 6 := (i 1).isLt
  have l2 : (i 2).val < 1 := (i 2).isLt
  have l3 : (i 3).val < 1024 := (i 3).isLt
  rw [val_main_v10_apply, val_main_v9_apply, val_main_v8_apply]
  refine at3_eq rfl ?_ ?_
  · show (((((i 0).val * 6 + (i 1).val) * 1 + (i 2).val) * 1024 + (i 3).val) / 6144 * 6144 + ((((i 0).val * 6 + (i 1).val) * 1 + (i 2).val) * 1024 + (i 3).val) % 6144) / 6144 % 16 = q
    omega
  · show (((((i 0).val * 6 + (i 1).val) * 1 + (i 2).val) * 1024 + (i 3).val) / 6144 * 6144 + ((((i 0).val * 6 + (i 1).val) * 1 + (i 2).val) * 1024 + (i 3).val) % 6144) % 6144 = 1024 * k + l
    omega
/-- The mixers' gate. -/
theorem v33 {i : S16x1x1024.Idx} {q l : ℕ} (e0 : (i 0).val = q) (e2 : (i 2).val = l) :
    val_main_v33 (F := Ideal) x4 i = at3 (a := 4) (b := 24) (c := 6144) x4 0 q (2048 + l) := by
  have l1 : (i 1).val < 1 := (i 1).isLt
  have l2 : (i 2).val < 1024 := (i 2).isLt
  rw [val_main_v33_apply, val_main_v32_apply]
  exact v10 x4 (k := 2) (by show (((i 0).val * 1 + (i 1).val) * 1024 + (i 2).val) / 1024 = q; omega) rfl (by show (((i 0).val * 1 + (i 1).val) * 1024 + (i 2).val) % 1024 = l; omega)
/-- The feed-forward's gate. -/
theorem v38 {i : S16x1x1024.Idx} {q l : ℕ} (e0 : (i 0).val = q) (e2 : (i 2).val = l) :
    val_main_v38 (F := Ideal) x4 i = at3 (a := 4) (b := 24) (c := 6144) x4 0 q (5120 + l) := by
  have l1 : (i 1).val < 1 := (i 1).isLt
  have l2 : (i 2).val < 1024 := (i 2).isLt
  rw [val_main_v38_apply, val_main_v37_apply]
  exact v10 x4 (k := 5) (by show (((i 0).val * 1 + (i 1).val) * 1024 + (i 2).val) / 1024 = q; omega) rfl (by show (((i 0).val * 1 + (i 1).val) * 1024 + (i 2).val) % 1024 = l; omega)
/-- The feed-forward's shift. -/
theorem v53 {i : S16x1x1024.Idx} {q l : ℕ} (e0 : (i 0).val = q) (e2 : (i 2).val = l) :
    val_main_v53 (F := Ideal) x4 i = at3 (a := 4) (b := 24) (c := 6144) x4 0 q (3072 + l) := by
  have l1 : (i 1).val < 1 := (i 1).isLt
  have l2 : (i 2).val < 1024 := (i 2).isLt
  rw [val_main_v53_apply, val_main_v52_apply]
  exact v10 x4 (k := 3) (by show (((i 0).val * 1 + (i 1).val) * 1024 + (i 2).val) / 1024 = q; omega) rfl (by show (((i 0).val * 1 + (i 1).val) * 1024 + (i 2).val) % 1024 = l; omega)
/-- The feed-forward's scale. -/
theorem v55 {i : S16x1x1024.Idx} {q l : ℕ} (e0 : (i 0).val = q) (e2 : (i 2).val = l) :
    val_main_v55 (F := Ideal) x4 i = at3 (a := 4) (b := 24) (c := 6144) x4 0 q (4096 + l) := by
  have l1 : (i 1).val < 1 := (i 1).isLt
  have l2 : (i 2).val < 1024 := (i 2).isLt
  rw [val_main_v55_apply, val_main_v54_apply]
  exact v10 x4 (k := 4) (by show (((i 0).val * 1 + (i 1).val) * 1024 + (i 2).val) / 1024 = q; omega) rfl (by show (((i 0).val * 1 + (i 1).val) * 1024 + (i 2).val) % 1024 = l; omega)

/-- The mixers' outputs joined. -/
theorem v28 {i : S16x2048x1024.Idx} {b t k : ℕ} (e0 : (i 0).val = b) (e1 : (i 1).val = t) (e2 : (i 2).val = k) :
    val_main_v28 (F := Ideal) x1 x2 x3 i = cat (at3 (a := 16) (b := 2304) (c := 256) x1 b (256 + t)) (at3 (a := 16) (b := 2304) (c := 512) x2 b (256 + t))
      (at3 (a := 16) (b := 2304) (c := 256) x3 b (256 + t)) k := by
  unfold val_main_v28
  refine cat_val _ e0 e1 e2 (fun j j0 j1 => ?_) (fun j j0 j1 => ?_) (fun j j0 j1 => ?_)
  · rw [val_main_v16_apply, val_main_v15_apply]
    exact at3_eq j0 (by show 256 + (j 1).val = 256 + t; omega) rfl
  · rw [val_main_v18_apply, val_main_v17_apply]
    exact at3_eq j0 (by show 256 + (j 1).val = 256 + t; omega) rfl
  · rw [val_main_v20_apply, val_main_v19_apply]
    exact at3_eq j0 (by show 256 + (j 1).val = 256 + t; omega) rfl

theorem v36 {i : S16x2048x1024.Idx} {b t l : ℕ} (e0 : (i 0).val = b) (e1 : (i 1).val = t) (e2 : (i 2).val = l) :
    val_main_v36 (F := Ideal) x0 x1 x2 x3 x4 x7 i = rowV x0 x1 x2 x3 x4 x7 b (256 + t) l := by
  rw [val_main_v36_apply, val_main_v35_apply, val_main_v29_apply, val_main_v14_apply, val_main_v34_apply]
  refine congrArg₂ (fun p q : EReal => p + q) (at3_eq e0 (by show 256 + (i 1).val = 256 + t; omega) e2) (congrArg₂ (fun p q : EReal => p * q) (v33 x4 (modRow_eq e0) e2) (Finset.sum_congr rfl fun k _ => ?_))
  exact congrArg₂ (· * ·) (v28 x1 x2 x3 e0 e1 rfl) (v3 x7 rfl e2)

theorem v48 {i : S16x2048x1024.Idx} {b t l : ℕ} (e0 : (i 0).val = b) (e1 : (i 1).val = t) (e2 : (i 2).val = l) :
    val_main_v48 (F := Ideal) x0 x1 x2 x3 x4 x7 i = rowV x0 x1 x2 x3 x4 x7 b (256 + t) l * rstd (ssq (rowV x0 x1 x2 x3 x4 x7 b (256 + t))) := by
  rw [val_main_v48_apply, val_main_v47_apply, val_main_v46_apply, val_main_v45_apply, val_main_v43_apply, val_main_v44_apply, val_main_cst_1_apply, val_main_v42_apply, val_main_cst_0_apply, val_main_v41_apply, val_main_v40_apply, val_main_cst_apply]
  refine rms_val (v36 x0 x1 x2 x3 x4 x7 e0 e1 e2) fun k => ?_
  rw [val_main_v39_apply]
  exact congrArg₂ (fun p q : EReal => p * q) (v36 x0 x1 x2 x3 x4 x7 e0 e1 rfl) (v36 x0 x1 x2 x3 x4 x7 e0 e1 rfl)

theorem v50 {i : S16x2048x1024.Idx} {l : ℕ} (e2 : (i 2).val = l) : val_main_v50 (F := Ideal) x5 i = at2 (a := 4) (b := 1024) x5 0 l := by
  have l2 : (i 2).val < 1024 := (i 2).isLt
  rw [val_main_v50_apply, val_main_v49_apply, val_main_v1_apply, val_main_v0_apply]
  exact at2_eq rfl (by show (i 2).val % 1024 = l; omega)

theorem v61 {i : S16x2048x1024.Idx} {b t l : ℕ} (e0 : (i 0).val = b) (e1 : (i 1).val = t) (e2 : (i 2).val = l) :
    val_main_v61 (F := Ideal) x0 x1 x2 x3 x4 x5 x7 i = rowH x0 x1 x2 x3 x4 x5 x7 b (256 + t) l := by
  rw [val_main_v61_apply, val_main_v59_apply, val_main_v51_apply, val_main_v58_apply, val_main_v57_apply, val_main_v56_apply, val_main_cst_2_apply, val_main_v60_apply]
  exact hid_val (v48 x0 x1 x2 x3 x4 x7 e0 e1 e2) (v50 x5 e2) (v55 x4 (modRow_eq e0) e2) (v53 x4 (modRow_eq e0) e2)

theorem v64 {i : S16x2048x4096.Idx} {b t j : ℕ} (e0 : (i 0).val = b) (e1 : (i 1).val = t) (e2 : (i 2).val = j) :
    val_main_v64 (F := Ideal) x0 x1 x2 x3 x4 x5 x7 x8 i = act (rowH x0 x1 x2 x3 x4 x5 x7 b (256 + t)) (at3 (a := 4) (b := 1024) (c := 4096) x8 0) j := by
  rw [val_main_v64_apply, val_main_v63_apply, val_main_v62_apply, val_main_call0_v0_apply, val_main_call0_cst_apply]
  exact act_val (Finset.sum_congr rfl fun k _ => congrArg₂ (· * ·) (v61 x0 x1 x2 x3 x4 x5 x7 e0 e1 rfl) (v5 x8 rfl e2))

theorem v68 {i : S16x2048x1024.Idx} {b t l : ℕ} (e0 : (i 0).val = b) (e1 : (i 1).val = t) (e2 : (i 2).val = l) :
    val_main_v68 (F := Ideal) x0 x1 x2 x3 x4 x5 x7 x8 x9 i = rowF x0 x1 x2 x3 x4 x5 x7 x8 x9 b (256 + t) l := by
  rw [val_main_v68_apply, val_main_v67_apply, val_main_v65_apply, val_main_v66_apply]
  refine congrArg₂ (fun p q : EReal => p + q) (v36 x0 x1 x2 x3 x4 x7 e0 e1 e2) (congrArg₂ (fun p q : EReal => p * q) (v38 x4 (modRow_eq e0) e2) (Finset.sum_congr rfl fun k _ => ?_))
  exact congrArg₂ (· * ·) (v64 x0 x1 x2 x3 x4 x5 x7 x8 e0 e1 rfl) (v7 x9 rfl e2)

/-! ## The context's tokens -/

theorem modRow_eq' {t : ℕ} (ht : t < 256) (b : ℕ) : 16 = modRow b t := by unfold modRow; rw [if_pos ht]

/-- The context's six modulations lie one after the other. -/
theorem v13 {i : S1x6x1x1024.Idx} {q k l : ℕ} (e0 : 16 = q) (e1 : (i 1).val = k) (e3 : (i 3).val = l) :
    val_main_v13 (F := Ideal) x4 i = at3 (a := 4) (b := 24) (c := 6144) x4 0 q (1024 * k + l) := by
  have l0 : (i 0).val < 1 := (i 0).isLt
  have l1 : (i 1).val < 6 := (i 1).isLt
  have l2 : (i 2).val < 1 := (i 2).isLt
  have l3 : (i 3).val < 1024 := (i 3).isLt
  rw [val_main_v13_apply, val_main_v12_apply, val_main_v11_apply]
  refine at3_eq rfl ?_ ?_
  · exact e0
  · show (0 * 6144 + ((((i 0).val * 6 + (i 1).val) * 1 + (i 2).val) * 1024 + (i 3).val) % 6144) % 6144 = 1024 * k + l
    omega
/-- The mixers' gate of the context. -/
theorem v70 {i : S1x1x1024.Idx} {q l : ℕ} (e0 : 16 = q) (e2 : (i 2).val = l) :
    val_main_v70 (F := Ideal) x4 i = at3 (a := 4) (b := 24) (c := 6144) x4 0 q (2048 + l) := by
  have l0 : (i 0).val < 1 := (i 0).isLt
  have l1 : (i 1).val < 1 := (i 1).isLt
  have l2 : (i 2).val < 1024 := (i 2).isLt
  rw [val_main_v70_apply, val_main_v69_apply]
  exact v13 x4 (k := 2) e0 rfl (by show (((i 0).val * 1 + (i 1).val) * 1024 + (i 2).val) % 1024 = l; omega)
/-- The feed-forward's gate of the context. -/
theorem v75 {i : S1x1x1024.Idx} {q l : ℕ} (e0 : 16 = q) (e2 : (i 2).val = l) :
    val_main_v75 (F := Ideal) x4 i = at3 (a := 4) (b := 24) (c := 6144) x4 0 q (5120 + l) := by
  have l0 : (i 0).val < 1 := (i 0).isLt
  have l1 : (i 1).val < 1 := (i 1).isLt
  have l2 : (i 2).val < 1024 := (i 2).isLt
  rw [val_main_v75_apply, val_main_v74_apply]
  exact v13 x4 (k := 5) e0 rfl (by show (((i 0).val * 1 + (i 1).val) * 1024 + (i 2).val) % 1024 = l; omega)
/-- The feed-forward's shift of the context. -/
theorem v90 {i : S1x1x1024.Idx} {q l : ℕ} (e0 : 16 = q) (e2 : (i 2).val = l) :
    val_main_v90 (F := Ideal) x4 i = at3 (a := 4) (b := 24) (c := 6144) x4 0 q (3072 + l) := by
  have l0 : (i 0).val < 1 := (i 0).isLt
  have l1 : (i 1).val < 1 := (i 1).isLt
  have l2 : (i 2).val < 1024 := (i 2).isLt
  rw [val_main_v90_apply, val_main_v89_apply]
  exact v13 x4 (k := 3) e0 rfl (by show (((i 0).val * 1 + (i 1).val) * 1024 + (i 2).val) % 1024 = l; omega)
/-- The feed-forward's scale of the context. -/
theorem v92 {i : S1x1x1024.Idx} {q l : ℕ} (e0 : 16 = q) (e2 : (i 2).val = l) :
    val_main_v92 (F := Ideal) x4 i = at3 (a := 4) (b := 24) (c := 6144) x4 0 q (4096 + l) := by
  have l0 : (i 0).val < 1 := (i 0).isLt
  have l1 : (i 1).val < 1 := (i 1).isLt
  have l2 : (i 2).val < 1024 := (i 2).isLt
  rw [val_main_v92_apply, val_main_v91_apply]
  exact v13 x4 (k := 4) e0 rfl (by show (((i 0).val * 1 + (i 1).val) * 1024 + (i 2).val) % 1024 = l; omega)

/-- The mixers' outputs joined. -/
theorem v30 {i : S16x256x1024.Idx} {b t k : ℕ} (e0 : (i 0).val = b) (e1 : (i 1).val = t) (e2 : (i 2).val = k) :
    val_main_v30 (F := Ideal) x1 x2 x3 i = cat (at3 (a := 16) (b := 2304) (c := 256) x1 b t) (at3 (a := 16) (b := 2304) (c := 512) x2 b t)
      (at3 (a := 16) (b := 2304) (c := 256) x3 b t) k := by
  unfold val_main_v30
  refine cat_val _ e0 e1 e2 (fun j j0 j1 => ?_) (fun j j0 j1 => ?_) (fun j j0 j1 => ?_)
  · rw [val_main_v23_apply, val_main_v22_apply]
    exact at3_eq j0 j1 rfl
  · rw [val_main_v25_apply, val_main_v24_apply]
    exact at3_eq j0 j1 rfl
  · rw [val_main_v27_apply, val_main_v26_apply]
    exact at3_eq j0 j1 rfl

theorem v73 {i : S16x256x1024.Idx} {b t l : ℕ} (e0 : (i 0).val = b) (e1 : (i 1).val = t) (e2 : (i 2).val = l) :
    val_main_v73 (F := Ideal) x0 x1 x2 x3 x4 x7 i = rowV x0 x1 x2 x3 x4 x7 b t l := by
  rw [val_main_v73_apply, val_main_v72_apply, val_main_v31_apply, val_main_v21_apply, val_main_v71_apply]
  refine congrArg₂ (fun p q : EReal => p + q) (at3_eq e0 e1 e2) (congrArg₂ (fun p q : EReal => p * q) (v70 x4 (modRow_eq' (e1 ▸ (i 1).isLt) _) e2) (Finset.sum_congr rfl fun k _ => ?_))
  exact congrArg₂ (· * ·) (v30 x1 x2 x3 e0 e1 rfl) (v3 x7 rfl e2)

theorem v85 {i : S16x256x1024.Idx} {b t l : ℕ} (e0 : (i 0).val = b) (e1 : (i 1).val = t) (e2 : (i 2).val = l) :
    val_main_v85 (F := Ideal) x0 x1 x2 x3 x4 x7 i = rowV x0 x1 x2 x3 x4 x7 b t l * rstd (ssq (rowV x0 x1 x2 x3 x4 x7 b t)) := by
  rw [val_main_v85_apply, val_main_v84_apply, val_main_v83_apply, val_main_v82_apply, val_main_v80_apply, val_main_v81_apply, val_main_cst_5_apply, val_main_v79_apply, val_main_cst_4_apply, val_main_v78_apply, val_main_v77_apply, val_main_cst_3_apply]
  refine rms_val (v73 x0 x1 x2 x3 x4 x7 e0 e1 e2) fun k => ?_
  rw [val_main_v76_apply]
  exact congrArg₂ (fun p q : EReal => p * q) (v73 x0 x1 x2 x3 x4 x7 e0 e1 rfl) (v73 x0 x1 x2 x3 x4 x7 e0 e1 rfl)

theorem v87 {i : S16x256x1024.Idx} {l : ℕ} (e2 : (i 2).val = l) : val_main_v87 (F := Ideal) x5 i = at2 (a := 4) (b := 1024) x5 0 l := by
  have l2 : (i 2).val < 1024 := (i 2).isLt
  rw [val_main_v87_apply, val_main_v86_apply, val_main_v1_apply, val_main_v0_apply]
  exact at2_eq rfl (by show (i 2).val % 1024 = l; omega)

theorem v98 {i : S16x256x1024.Idx} {b t l : ℕ} (e0 : (i 0).val = b) (e1 : (i 1).val = t) (e2 : (i 2).val = l) :
    val_main_v98 (F := Ideal) x0 x1 x2 x3 x4 x5 x7 i = rowH x0 x1 x2 x3 x4 x5 x7 b t l := by
  rw [val_main_v98_apply, val_main_v96_apply, val_main_v88_apply, val_main_v95_apply, val_main_v94_apply, val_main_v93_apply, val_main_cst_6_apply, val_main_v97_apply]
  exact hid_val (v85 x0 x1 x2 x3 x4 x7 e0 e1 e2) (v87 x5 e2) (v92 x4 (modRow_eq' (e1 ▸ (i 1).isLt) _) e2) (v90 x4 (modRow_eq' (e1 ▸ (i 1).isLt) _) e2)

theorem v101 {i : S16x256x4096.Idx} {b t j : ℕ} (e0 : (i 0).val = b) (e1 : (i 1).val = t) (e2 : (i 2).val = j) :
    val_main_v101 (F := Ideal) x0 x1 x2 x3 x4 x5 x7 x8 i = act (rowH x0 x1 x2 x3 x4 x5 x7 b t) (at3 (a := 4) (b := 1024) (c := 4096) x8 0) j := by
  rw [val_main_v101_apply, val_main_v100_apply, val_main_v99_apply, val_main_call1_v0_apply, val_main_call1_cst_apply]
  exact act_val (Finset.sum_congr rfl fun k _ => congrArg₂ (· * ·) (v98 x0 x1 x2 x3 x4 x5 x7 e0 e1 rfl) (v5 x8 rfl e2))

theorem v105 {i : S16x256x1024.Idx} {b t l : ℕ} (e0 : (i 0).val = b) (e1 : (i 1).val = t) (e2 : (i 2).val = l) :
    val_main_v105 (F := Ideal) x0 x1 x2 x3 x4 x5 x7 x8 x9 i = rowF x0 x1 x2 x3 x4 x5 x7 x8 x9 b t l := by
  rw [val_main_v105_apply, val_main_v104_apply, val_main_v102_apply, val_main_v103_apply]
  refine congrArg₂ (fun p q : EReal => p + q) (v73 x0 x1 x2 x3 x4 x7 e0 e1 e2) (congrArg₂ (fun p q : EReal => p * q) (v75 x4 (modRow_eq' (e1 ▸ (i 1).isLt) _) e2) (Finset.sum_congr rfl fun k _ => ?_))
  exact congrArg₂ (· * ·) (v101 x0 x1 x2 x3 x4 x5 x7 x8 e0 e1 rfl) (v7 x9 rfl e2)

/-! ## The two joined -/

/-- The reference's result array. -/
theorem v106 : val_main_v106 (F := Ideal) x0 x1 x2 x3 x4 x5 x7 x8 x9 = midArr x0 x1 x2 x3 x4 x5 x7 x8 x9 := by
  funext i
  have l0 : (i 0).val < 16 := (i 0).isLt
  have l1 : (i 1).val < 2304 := (i 1).isLt
  have l2 : (i 2).val < 1024 := (i 2).isLt
  unfold val_main_v106
  by_cases h : (i 1).val < 256
  · exact (concatenate_apply_piece 1 _ _ i 0 (by show 0 < 2; omega) S16x256x1024 (val_main_v105 (F := Ideal) x0 x1 x2 x3 x4 x5 x7 x8 x9) rfl rfl 0 rfl
      (ValueIdx.ix3 (⟨(i 0).val, l0⟩ : Fin 16) (⟨(i 1).val, h⟩ : Fin 256) (⟨(i 2).val, l2⟩ : Fin 1024))
      (fun a ha => match a, ha with | ⟨0, _⟩, _ => rfl | ⟨1, _⟩, ha => absurd rfl ha | ⟨2, _⟩, _ => rfl)
      (by show 0 + (i 1).val = (i 1).val; omega)).trans (v105 x0 x1 x2 x3 x4 x5 x7 x8 x9 rfl rfl rfl)
  · refine (concatenate_apply_piece 1 _ _ i 1 (by show 1 < 2; omega) S16x2048x1024 (val_main_v68 (F := Ideal) x0 x1 x2 x3 x4 x5 x7 x8 x9) rfl rfl 256 rfl
      (ValueIdx.ix3 (⟨(i 0).val, l0⟩ : Fin 16) (⟨(i 1).val - 256, by omega⟩ : Fin 2048) (⟨(i 2).val, l2⟩ : Fin 1024))
      (fun a ha => match a, ha with | ⟨0, _⟩, _ => rfl | ⟨1, _⟩, ha => absurd rfl ha | ⟨2, _⟩, _ => rfl)
      (by show 256 + ((i 1).val - 256) = (i 1).val; omega)).trans ((v68 x0 x1 x2 x3 x4 x5 x7 x8 x9 rfl rfl rfl).trans ?_)
    show rowF x0 x1 x2 x3 x4 x5 x7 x8 x9 (i 0).val (256 + ((i 1).val - 256)) (i 2).val = _
    rw [Nat.add_sub_cancel' (by omega)]
    rfl

end Cert.Reference3Ideal.Out

end
-- ==== Proof.Out3.Pays.lean ====
/- The values one block of the first layer's call computes, over the ideal values: what each stage leaves at one token's row,
   as the row functions of `Out/Core`. The block holds 768 tokens in three parts of 256, which share the matrix products. -/
module

public import proofs.«01_k».proof.Proof.Gen.Kernel3Ideal.Value
public import proofs.«01_k».proof.Proof.Out.Core
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.ReduceUnfold
public import Idealize.ShloMosaic.Lib.Pointwise.Select
public import Idealize.ShloMosaic.Lib.ValueIdx

@[expose] public section

set_option maxRecDepth 16384

noncomputable section

namespace Cert.Kernel3Ideal.Out

open Cert.Kernel3Ideal Cert.Kernel3Ideal.Gen Idealize.ShloMosaic Idealize.ShloMosaic.TcCoe
open Cert.Out

section
variable (R : Fin 768) (r : Fin 256) {x d s h g2 m2 m3 m4 m5 v y : ℕ → EReal} {wo w1 w2 : ℕ → ℕ → EReal}

theorem pay3_val {v11 : Vec Ideal S1x768x256 .bf16} {v13 : Vec Ideal S1x768x512 .bf16} {v15 : Vec Ideal S1x768x256 .bf16} {v18 : Vec Ideal S1x1024x1024 .bf16}
    (h11 : ∀ k : Fin 256, v11 (ix3 0 R k) = d k.val) (h13 : ∀ k : Fin 512, v13 (ix3 0 R k) = s k.val) (h15 : ∀ k : Fin 256, v15 (ix3 0 R k) = h k.val)
    (h18 : ∀ k l : Fin 1024, v18 (ix3 0 k l) = wo k.val l.val) (l : Fin 1024) :
    k0_pay3 v11 v13 v15 v18 (ix2 R l) = dot (cat d s h) wo l.val := by
  pointwise [k0_pay3, dot_S768x1024_S1024x1024_S768x1024_1_0_0_1_n_n]
  unfold dot cat
  refine Finset.sum_congr rfl fun k _ => ?_
  have hk := k.isLt
  rw [h18]
  congr 1
  by_cases c1 : k.val < 256
  · rw [dif_pos c1, if_pos c1, h11]
  · rw [dif_neg c1, if_neg c1]
    by_cases c2 : k.val < 768
    · rw [dif_pos (show k.val - 256 < 512 by omega), if_pos c2, h13]
    · rw [dif_neg (show ¬ k.val - 256 < 512 by omega), if_neg c2, h15]
      simp only [Nat.sub_sub]

theorem pay6_val {v11 : Vec Ideal S1x768x256 .bf16} {v13 : Vec Ideal S1x768x512 .bf16} {v15 : Vec Ideal S1x768x256 .bf16} {v18 : Vec Ideal S1x1024x1024 .bf16}
    {v21 : Vec Ideal S1x256x1024 .f32} {v24 : Vec Ideal S1x1x1024 .f32} (hR : R.val = r.val)
    (hy : ∀ l : Fin 1024, k0_pay3 v11 v13 v15 v18 (ix2 R l) = dot y wo l.val) (h21 : ∀ l : Fin 1024, v21 (ix3 0 r l) = x l.val)
    (h24 : ∀ l : Fin 1024, v24 (ix3 0 0 l) = m2 l.val) (l : Fin 1024) :
    k0_pay6 (k0_pay4 v21) (k0_pay5 v11 v13 v15 v18 v24) (ix2 r l) = resid x m2 y wo l.val := by
  unfold k0_pay6 k0_pay5
  generalize k0_pay3 v11 v13 v15 v18 = z at hy ⊢
  pointwise [k0_pay4]
  rw [h21, h24]
  unfold resid
  rw [← hy]
  congr 3
  exact congrArg (fun q : Fin 768 => ix2 q l) (Fin.ext hR.symm)

theorem pay7_val {v20 : FVec Ideal S768x1024 .f32} {v30 : Vec Ideal S1x256x1024 .f32} {v33 : Vec Ideal S1x1x1024 .f32} (hR : R.val = 256 + r.val)
    (hy : ∀ l : Fin 1024, v20 (ix2 R l) = dot y wo l.val) (h30 : ∀ l : Fin 1024, v30 (ix3 0 r l) = x l.val)
    (h33 : ∀ l : Fin 1024, v33 (ix3 0 0 l) = m2 l.val) (l : Fin 1024) :
    k0_pay7 v20 v30 v33 (ix2 r l) = resid x m2 y wo l.val := by
  pointwise [k0_pay7]
  rw [h30, h33]
  unfold resid
  rw [← hy]
  congr 3
  exact congrArg (fun q : Fin 768 => ix2 q l) (Fin.ext hR.symm)

theorem pay8_val {v20 : FVec Ideal S768x1024 .f32} {v39 : Vec Ideal S1x256x1024 .f32} {v42 : Vec Ideal S1x1x1024 .f32} (hR : R.val = 512 + r.val)
    (hy : ∀ l : Fin 1024, v20 (ix2 R l) = dot y wo l.val) (h39 : ∀ l : Fin 1024, v39 (ix3 0 r l) = x l.val)
    (h42 : ∀ l : Fin 1024, v42 (ix3 0 0 l) = m2 l.val) (l : Fin 1024) :
    k0_pay8 v20 v39 v42 (ix2 r l) = resid x m2 y wo l.val := by
  pointwise [k0_pay8]
  rw [h39, h42]
  unfold resid
  rw [← hy]
  congr 3
  exact congrArg (fun q : Fin 768 => ix2 q l) (Fin.ext hR.symm)

theorem pay11_val {v38 : FVec Ideal S256x1024 .f32} {v85 : Vec Ideal S1x1024 .f32} {v90 v97 : Vec Ideal S1x1x1024 .f32}
    (hv : ∀ l : Fin 1024, v38 (ix2 r l) = v l.val) (h85 : ∀ l : Fin 1024, v85 (ix2 0 l) = g2 l.val)
    (h90 : ∀ l : Fin 1024, v90 (ix3 0 0 l) = m4 l.val) (h97 : ∀ l : Fin 1024, v97 (ix3 0 0 l) = m3 l.val) (l : Fin 1024) :
    k0_pay11 v38 v85 v90 v97 (ix2 r l) = hid v g2 m4 m3 l.val := by
  pointwise [k0_pay11]
  simp only [hv, h85, h90, h97]
  rfl

theorem pay10_val {v22 v28 : FVec Ideal S256x1024 .f32} {v58 : Vec Ideal S1x1024 .f32} {v63 v70 : Vec Ideal S1x1x1024 .f32}
    (hv : ∀ l : Fin 1024, k0_pay6 v22 v28 (ix2 r l) = v l.val) (h58 : ∀ l : Fin 1024, v58 (ix2 0 l) = g2 l.val)
    (h63 : ∀ l : Fin 1024, v63 (ix3 0 0 l) = m4 l.val) (h70 : ∀ l : Fin 1024, v70 (ix3 0 0 l) = m3 l.val) (l : Fin 1024) :
    k0_pay10 (k0_pay9 v22 v28 v58 v63) v70 (ix2 r l) = hid v g2 m4 m3 l.val := by
  unfold k0_pay9
  generalize k0_pay6 v22 v28 = z at hv ⊢
  pointwise [k0_pay10]
  simp only [hv, h58, h63, h70]
  rfl

theorem pay14_val0 {v74 v101 : FVec Ideal S256x1024 .bf16} {v111 : FVec Ideal S256x1024 .f32} {v113 : FVec Ideal S1x1024 .f32} {v117 v124 : Vec Ideal S1x1x1024 .f32}
    (hR : R.val = r.val) (hy : ∀ l : Fin 1024, v74 (ix2 r l) = y l.val) (l : Fin 1024) :
    k0_pay14 v74 v101 v111 v113 v117 v124 (ix2 R l) = y l.val := by
  have hr := r.isLt
  pointwise [k0_pay14]
  rw [dif_pos (by omega), ← hy]
  congr 2
  exact Fin.ext hR

theorem pay14_val1 {v74 v101 : FVec Ideal S256x1024 .bf16} {v111 : FVec Ideal S256x1024 .f32} {v113 : FVec Ideal S1x1024 .f32} {v117 v124 : Vec Ideal S1x1x1024 .f32}
    (hR : R.val = 256 + r.val) (hy : ∀ l : Fin 1024, v101 (ix2 r l) = y l.val) (l : Fin 1024) :
    k0_pay14 v74 v101 v111 v113 v117 v124 (ix2 R l) = y l.val := by
  have hr := r.isLt
  pointwise [k0_pay14]
  rw [dif_neg (by omega), dif_pos (by omega), ← hy]
  congr 2
  exact Fin.ext (by show R.val - 256 = r.val; omega)

theorem pay14_val2 {v74 v101 : FVec Ideal S256x1024 .bf16} {v47 : FVec Ideal S256x1024 .f32} {v112 : Vec Ideal S1x1024 .f32} {v117 v124 : Vec Ideal S1x1x1024 .f32}
    (hR : R.val = 512 + r.val) (hv : ∀ l : Fin 1024, v47 (ix2 r l) = v l.val) (h112 : ∀ l : Fin 1024, v112 (ix2 0 l) = g2 l.val)
    (h117 : ∀ l : Fin 1024, v117 (ix3 0 0 l) = m4 l.val) (h124 : ∀ l : Fin 1024, v124 (ix3 0 0 l) = m3 l.val) (l : Fin 1024) :
    k0_pay14 v74 v101 (k0_pay12 v47) (k0_pay13 v112) v117 v124 (ix2 R l) = hid v g2 m4 m3 l.val := by
  have hr := r.isLt
  pointwise [k0_pay14, k0_pay12, k0_pay13]
  rw [dif_neg (by omega), dif_neg (by omega)]
  rw [show (⟨R.val - 256 - 256, by omega⟩ : Fin 256) = r from Fin.ext (by show R.val - 256 - 256 = r.val; omega)]
  simp only [hv, h112, h117, h124]
  rfl

theorem pay18_val {v74 v101 : FVec Ideal S256x1024 .bf16} {v111 : FVec Ideal S256x1024 .f32} {v113 : FVec Ideal S1x1024 .f32} {v117 v124 : Vec Ideal S1x1x1024 .f32}
    {v131 v138 v142 v149 v153 v160 v164 v171 : Vec Ideal S1x1024x1024 .bf16}
    (hy : ∀ l : Fin 1024, k0_pay14 v74 v101 v111 v113 v117 v124 (ix2 R l) = y l.val)
    (h131 : ∀ k l : Fin 1024, v131 (ix3 0 k l) = w1 k.val l.val) (h138 : ∀ k l : Fin 1024, v138 (ix3 0 k l) = w2 k.val l.val)
    (h142 : ∀ k l : Fin 1024, v142 (ix3 0 k l) = w1 k.val (1024 + l.val)) (h149 : ∀ k l : Fin 1024, v149 (ix3 0 k l) = w2 (1024 + k.val) l.val)
    (h153 : ∀ k l : Fin 1024, v153 (ix3 0 k l) = w1 k.val (2048 + l.val)) (h160 : ∀ k l : Fin 1024, v160 (ix3 0 k l) = w2 (2048 + k.val) l.val)
    (h164 : ∀ k l : Fin 1024, v164 (ix3 0 k l) = w1 k.val (3072 + l.val)) (h171 : ∀ k l : Fin 1024, v171 (ix3 0 k l) = w2 (3072 + k.val) l.val) (l : Fin 1024) :
    k0_pay18 (k0_pay14 v74 v101 v111 v113 v117 v124) (k0_pay15 v74 v101 v111 v113 v117 v124 v131 v138) (k0_pay16 v74 v101 v111 v113 v117 v124 v142)
      (k0_pay17 v149) v153 v160 v164 v171 (ix2 R l) = ∑ j : Fin 4096, act y w1 j.val * w2 j.val l.val := by
  unfold k0_pay15 k0_pay16
  generalize k0_pay14 v74 v101 v111 v113 v117 v124 = z at hy ⊢
  pointwise [k0_pay18, k0_pay17, dot_S768x1024_S1024x1024_S768x1024_1_0_0_1_n_n]
  rw [sum_four (fun j => act y w1 j * w2 j l.val)]
  simp only [hy, h131, h138, h142, h149, h153, h160, h164, h171]
  rfl

theorem pay19_val {v29 : FVec Ideal S256x1024 .f32} {v129 : FVec Ideal S768x1024 .bf16} {v141 : FVec Ideal S768x1024 .f32} {v148 : FVec Ideal S768x1024 .bf16}
    {v150 : FVec Ideal S1024x1024 .bf16} {v153 v160 v164 v171 : Vec Ideal S1x1024x1024 .bf16} {v176 : Vec Ideal S1x1x1024 .f32} {a : ℕ → EReal} (hR : R.val = r.val)
    (hv : ∀ l : Fin 1024, v29 (ix2 r l) = v l.val) (h176 : ∀ l : Fin 1024, v176 (ix3 0 0 l) = m5 l.val)
    (ha : ∀ l : Fin 1024, k0_pay18 v129 v141 v148 v150 v153 v160 v164 v171 (ix2 R l) = ∑ j : Fin 4096, a j.val * w2 j.val l.val) (l : Fin 1024) :
    k0_pay19 v29 v129 v141 v148 v150 v153 v160 v164 v171 v176 (ix3 0 r l) = ffn v m5 a w2 l.val := by
  unfold k0_pay19
  generalize k0_pay18 v129 v141 v148 v150 v153 v160 v164 v171 = z at ha ⊢
  pointwise []
  rw [hv, h176]
  unfold ffn
  rw [← ha]
  congr 3
  exact congrArg (fun q : Fin 768 => ix2 q l) (Fin.ext hR.symm)

theorem pay1_val {v38 : FVec Ideal S256x1024 .f32} {v174 : FVec Ideal S768x1024 .f32} {v186 : Vec Ideal S1x1x1024 .f32} {a : ℕ → EReal} (hR : R.val = 256 + r.val)
    (hv : ∀ l : Fin 1024, v38 (ix2 r l) = v l.val) (h186 : ∀ l : Fin 1024, v186 (ix3 0 0 l) = m5 l.val)
    (ha : ∀ l : Fin 1024, v174 (ix2 R l) = ∑ j : Fin 4096, a j.val * w2 j.val l.val) (l : Fin 1024) :
    k0_pay1 v38 v174 v186 (ix3 0 r l) = ffn v m5 a w2 l.val := by
  pointwise [k0_pay1]
  rw [hv, h186]
  unfold ffn
  rw [← ha]
  congr 3
  exact congrArg (fun q : Fin 768 => ix2 q l) (Fin.ext hR.symm)

theorem pay2_val {v47 : FVec Ideal S256x1024 .f32} {v174 : FVec Ideal S768x1024 .f32} {v196 : Vec Ideal S1x1x1024 .f32} {a : ℕ → EReal} (hR : R.val = 512 + r.val)
    (hv : ∀ l : Fin 1024, v47 (ix2 r l) = v l.val) (h196 : ∀ l : Fin 1024, v196 (ix3 0 0 l) = m5 l.val)
    (ha : ∀ l : Fin 1024, v174 (ix2 R l) = ∑ j : Fin 4096, a j.val * w2 j.val l.val) (l : Fin 1024) :
    k0_pay2 v47 v174 v196 (ix3 0 r l) = ffn v m5 a w2 l.val := by
  pointwise [k0_pay2]
  rw [hv, h196]
  unfold ffn
  rw [← ha]
  congr 3
  exact congrArg (fun q : Fin 768 => ix2 q l) (Fin.ext hR.symm)

end

end Cert.Kernel3Ideal.Out

end
-- ==== Proof.Out3.Body.lean ====
/- One block of the first layer's call over the ideal values: each row it stores is the row function of `Args` of what its loads hold. -/
module

public import proofs.«01_k».proof.Proof.Out3.Pays
public import proofs.«01_k».proof.Proof.Out3.Args
public import Idealize.ShloMosaic.Lib.WholeRead

@[expose] public section

set_option maxRecDepth 16384

noncomputable section

namespace Cert.Kernel3Ideal.Out

open Cert.Kernel3Ideal Cert.Kernel3Ideal.Gen Idealize.ShloMosaic Idealize.ShloMosaic.TcCoe Idealize.SL.Sem
open Cert.Out

/-! ## The block's loads and stores -/

/-- What a load of a part of a whole array of three axes holds at an index. -/
theorem load3 {n size off : Fin 3 → ℕ} {φ : EltTy} {M : Memref sig .tc .vmem ⟨3, n⟩ φ} (hM : M.IsWhole) (x : Vec Ideal ⟨3, n⟩ φ)
    (inb : ∀ a, off a + size a ≤ n a) (i : (⟨3, size⟩ : Shape).Idx) (j : (⟨3, n⟩ : Shape).Idx)
    (e0 : off 0 + 1 * (i 0).val = (j 0).val) (e1 : off 1 + 1 * (i 1).val = (j 1).val) (e2 : off 2 + 1 * (i 2).val = (j 2).val) :
    View.readAt (Elt Ideal) M.view (Rect.unit (s := ⟨3, n⟩) off size inb).toLoadRect (hM.unread x) i = x j :=
  (hM.readAt_unread x _ _).trans (congrArg x (funext fun a => Fin.ext (match a with | ⟨0, _⟩ => e0 | ⟨1, _⟩ => e1 | ⟨2, _⟩ => e2)))

/-- What a load of a part of a whole array of two axes holds at an index. -/
theorem load2 {n size off : Fin 2 → ℕ} {φ : EltTy} {M : Memref sig .tc .vmem ⟨2, n⟩ φ} (hM : M.IsWhole) (x : Vec Ideal ⟨2, n⟩ φ)
    (inb : ∀ a, off a + size a ≤ n a) (i : (⟨2, size⟩ : Shape).Idx) (j : (⟨2, n⟩ : Shape).Idx)
    (e0 : off 0 + 1 * (i 0).val = (j 0).val) (e1 : off 1 + 1 * (i 1).val = (j 1).val) :
    View.readAt (Elt Ideal) M.view (Rect.unit (s := ⟨2, n⟩) off size inb).toLoadRect (hM.unread x) i = x j :=
  (hM.readAt_unread x _ _).trans (congrArg x (funext fun a => Fin.ext (match a with | ⟨0, _⟩ => e0 | ⟨1, _⟩ => e1)))

/-- The row of the modulations a part of a block takes. -/
def brow (i : grid0.Coords) (p : ℕ) : ℕ := if (i 1).val = 0 ∧ p = 0 then 16 else (i 0).val

theorem off1 : ∀ (i : grid0.Coords) (p : Fin 3), k0_off1 i (BitVec.ofNat 32 p.val) = ![0, brow i p.val, 2048] := by unfold brow; decide +kernel
theorem off2 : ∀ (i : grid0.Coords) (p : Fin 3), k0_off2 i (BitVec.ofNat 32 p.val) = ![0, brow i p.val, 4096] := by unfold brow; decide +kernel
theorem off3 : ∀ (i : grid0.Coords) (p : Fin 3), k0_off3 i (BitVec.ofNat 32 p.val) = ![0, brow i p.val, 3072] := by unfold brow; decide +kernel
theorem off4 : ∀ (i : grid0.Coords) (p : Fin 3), k0_off4 i (BitVec.ofNat 32 p.val) = ![0, brow i p.val, 5120] := by unfold brow; decide +kernel

/-- A load of 1024 of a token's modulations. -/
theorem loadM {M : Memref sig .tc .vmem S1x24x6144 .f32} (hM : M.IsWhole) (x : Vec Ideal S1x24x6144 .f32) {off : Fin 3 → ℕ} {p q : ℕ}
    (eo : off = ![0, p, q]) (inb : ∀ a, off a + S1x1x1024.size a ≤ S1x24x6144.size a) {b : Fin 24} (hb : b.val = p) {m : ℕ → EReal}
    (h4 : ∀ e : Fin 6144, x (ix3 0 b e) = m e.val) (hq : q + 1024 ≤ 6144) (l : Fin 1024) :
    View.readAt (Elt Ideal) M.view (Rect.unit (s := S1x24x6144) off S1x1x1024.size inb).toLoadRect (hM.unread x) (ix3 0 0 l) = m (q + l.val) := by
  subst eo
  have hl := l.isLt
  exact (load3 hM x inb (ix3 0 0 l) (ix3 0 b ⟨q + l.val, by omega⟩) rfl (by show p + 1 * 0 = b.val; omega) (by show q + 1 * l.val = q + l.val; omega)).trans (h4 _)

variable {o : ℕ} {R : Fin 768} {r : Fin 256} {l : Fin 1024}

/-- A row the last store wrote. -/
theorem canon_at (inb : ∀ a, (![0, o, 0] : Fin 3 → ℕ) a + S1x256x1024.size a ≤ S1x768x1024.size a) (w : S1x256x1024.Idx → Elt Ideal .f32)
    (L : List (View.Piece (Elt Ideal) S1x768x1024 .f32)) (hR : R.val = o + r.val) :
    View.canon (⟨Rect.unit (s := S1x768x1024) ![0, o, 0] S1x256x1024.size inb, w⟩ :: L) (ix3 0 R l) = w (ix3 0 r l) := by
  have e : (ix3 0 R l : S1x768x1024.Idx) = (Rect.unit (s := S1x768x1024) ![0, o, 0] S1x256x1024.size inb).emb (ix3 0 r l) :=
    funext fun a => Fin.ext (match a with
      | ⟨0, _⟩ => rfl
      | ⟨1, _⟩ => (by show R.val = o + 1 * r.val; omega)
      | ⟨2, _⟩ => (by show l.val = 0 + 1 * l.val; omega))
  rw [e]
  exact View.canon_cons_emb (Rect.unit (s := S1x768x1024) ![0, o, 0] S1x256x1024.size inb) w L _

/-- A row the last store did not write. -/
theorem canon_off (inb : ∀ a, (![0, o, 0] : Fin 3 → ℕ) a + S1x256x1024.size a ≤ S1x768x1024.size a) (w : S1x256x1024.Idx → Elt Ideal .f32)
    (L : List (View.Piece (Elt Ideal) S1x768x1024 .f32)) (hR : R.val < o) :
    View.canon (⟨Rect.unit (s := S1x768x1024) ![0, o, 0] S1x256x1024.size inb, w⟩ :: L) (ix3 0 R l) = View.canon L (ix3 0 R l) := by
  refine View.canon_cons_of_not_mem _ L fun hm => ?_
  obtain ⟨x, hx⟩ := (Rect.unit (s := S1x768x1024) ![0, o, 0] S1x256x1024.size inb).exists_idx_of_mem hm
  have h1 : o + 1 * (x 1).val = R.val := congrArg (fun y : S1x768x1024.Idx => (y 1).val) hx
  omega

theorem out_val (c : Dev nD) (i : grid0.Coords) (arg2 : Memref sig .tc .vmem S1x768x1024 .f32) (harg2 : arg2.IsWhole) (arg3 : Memref sig .tc .vmem S1x768x256 .bf16) (harg3 : arg3.IsWhole) (arg4 : Memref sig .tc .vmem S1x768x512 .bf16) (harg4 : arg4.IsWhole) (arg5 : Memref sig .tc .vmem S1x768x256 .bf16) (harg5 : arg5.IsWhole) (arg6 : Memref sig .tc .vmem S1x24x6144 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x1024 .bf16) (harg9 : arg9.IsWhole) (arg10 : Memref sig .tc .vmem S1x1024x4096 .bf16) (harg10 : arg10.IsWhole) (arg11 : Memref sig .tc .vmem S1x4096x1024 .bf16) (harg11 : arg11.IsWhole) (arg12 : Memref sig .tc .vmem S1x768x1024 .f32) (harg12 : arg12.IsWhole)
    (x0 : Vec Ideal S1x768x1024 .f32) (x1 : Vec Ideal S1x768x256 .bf16) (x2 : Vec Ideal S1x768x512 .bf16) (x3 : Vec Ideal S1x768x256 .bf16) (x4 : Vec Ideal S1x24x6144 .f32) (x5 : Vec Ideal S1x1024 .f32) (x6 : Vec Ideal S1x1024 .f32) (x7 : Vec Ideal S1x1024x1024 .bf16) (x8 : Vec Ideal S1x1024x4096 .bf16) (x9 : Vec Ideal S1x4096x1024 .bf16)
    (R : Fin 768) (b : Fin 24) (hb : b.val = if (i 1).val = 0 ∧ R.val < 256 then 16 else (i 0).val) {x d s h m g2 : ℕ → EReal} {wo w1 w2 : ℕ → ℕ → EReal}
    (h0 : ∀ l : Fin 1024, x0 (ix3 0 R l) = x l.val) (h1 : ∀ k : Fin 256, x1 (ix3 0 R k) = d k.val) (h2 : ∀ k : Fin 512, x2 (ix3 0 R k) = s k.val)
    (h3 : ∀ k : Fin 256, x3 (ix3 0 R k) = h k.val) (h4 : ∀ e : Fin 6144, x4 (ix3 0 b e) = m e.val) (h5 : ∀ l : Fin 1024, x5 (ix2 0 l) = g2 l.val)
    (h7 : ∀ k l : Fin 1024, x7 (ix3 0 k l) = wo k.val l.val)
    (h8 : ∀ (k : Fin 1024) (l : Fin 4096), x8 (ix3 0 k l) = w1 k.val l.val) (h9 : ∀ (k : Fin 4096) (l : Fin 1024), x9 (ix3 0 k l) = w2 k.val l.val) (l : Fin 1024) :
    out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 x9 (ix3 0 R l)
      = mid x d s h m g2 wo w1 w2 l.val := by
  have HD : ∀ k : Fin 256, View.readAt (Elt Ideal) arg3.view (Rect.unit (s := S1x768x256) ![0, 0, 0] S1x768x256.size inb_S1x768x256_S1x768x256_0_0_0).toLoadRect (harg3.unread x1) (ix3 0 R k) = d k.val :=
    fun k => (load3 harg3 x1 _ (ix3 0 R k) (ix3 0 R k) rfl (by show 0 + 1 * R.val = R.val; omega) (by show 0 + 1 * k.val = k.val; omega)).trans (h1 k)
  have HS : ∀ k : Fin 512, View.readAt (Elt Ideal) arg4.view (Rect.unit (s := S1x768x512) ![0, 0, 0] S1x768x512.size inb_S1x768x512_S1x768x512_0_0_0).toLoadRect (harg4.unread x2) (ix3 0 R k) = s k.val :=
    fun k => (load3 harg4 x2 _ (ix3 0 R k) (ix3 0 R k) rfl (by show 0 + 1 * R.val = R.val; omega) (by show 0 + 1 * k.val = k.val; omega)).trans (h2 k)
  have HH : ∀ k : Fin 256, View.readAt (Elt Ideal) arg5.view (Rect.unit (s := S1x768x256) ![0, 0, 0] S1x768x256.size inb_S1x768x256_S1x768x256_0_0_0).toLoadRect (harg5.unread x3) (ix3 0 R k) = h k.val :=
    fun k => (load3 harg5 x3 _ (ix3 0 R k) (ix3 0 R k) rfl (by show 0 + 1 * R.val = R.val; omega) (by show 0 + 1 * k.val = k.val; omega)).trans (h3 k)
  have HG : ∀ l : Fin 1024, View.readAt (Elt Ideal) arg7.view (Rect.unit (s := S1x1024) ![0, 0] S1x1024.size inb_S1x1024_S1x1024_0_0).toLoadRect (harg7.unread x5) (ix2 0 l) = g2 l.val :=
    fun l => (load2 harg7 x5 _ (ix2 0 l) (ix2 0 l) rfl (by show 0 + 1 * l.val = l.val; omega)).trans (h5 l)
  have HO : ∀ k l : Fin 1024, View.readAt (Elt Ideal) arg9.view (Rect.unit (s := S1x1024x1024) ![0, 0, 0] S1x1024x1024.size inb_S1x1024x1024_S1x1024x1024_0_0_0).toLoadRect (harg9.unread x7) (ix3 0 k l) = wo k.val l.val :=
    fun k l => (load3 harg9 x7 _ (ix3 0 k l) (ix3 0 k l) rfl (by show 0 + 1 * k.val = k.val; omega) (by show 0 + 1 * l.val = l.val; omega)).trans (h7 k l)
  have HA : ∀ (q : ℕ) (hq : q + 1024 ≤ 4096) (inb) (k l : Fin 1024), View.readAt (Elt Ideal) arg10.view (Rect.unit (s := S1x1024x4096) ![0, 0, q] S1x1024x1024.size inb).toLoadRect (harg10.unread x8) (ix3 0 k l) = w1 k.val (q + l.val) :=
    fun q hq inb k l => have hl := l.isLt; (load3 harg10 x8 _ (ix3 0 k l) (ix3 0 k ⟨q + l.val, by omega⟩) rfl (by show 0 + 1 * k.val = k.val; omega) (by show q + 1 * l.val = q + l.val; omega)).trans (h8 k _)
  have HB : ∀ (q : ℕ) (hq : q + 1024 ≤ 4096) (inb) (k l : Fin 1024), View.readAt (Elt Ideal) arg11.view (Rect.unit (s := S1x4096x1024) ![0, q, 0] S1x1024x1024.size inb).toLoadRect (harg11.unread x9) (ix3 0 k l) = w2 (q + k.val) l.val :=
    fun q hq inb k l => have hk := k.isLt; (load3 harg11 x9 _ (ix3 0 k l) (ix3 0 ⟨q + k.val, by omega⟩ l) rfl (by show q + 1 * k.val = q + k.val; omega) (by show 0 + 1 * l.val = l.val; omega)).trans (h9 _ l)
  have HA0 : ∀ k l : Fin 1024, View.readAt (Elt Ideal) arg10.view (Rect.unit (s := S1x1024x4096) ![0, 0, 0] S1x1024x1024.size inb_S1x1024x4096_S1x1024x1024_0_0_0).toLoadRect (harg10.unread x8) (ix3 0 k l) = w1 k.val l.val :=
    fun k l => (HA 0 (by omega) _ k l).trans (congrArg (w1 k.val) (Nat.zero_add _))
  have HB0 : ∀ k l : Fin 1024, View.readAt (Elt Ideal) arg11.view (Rect.unit (s := S1x4096x1024) ![0, 0, 0] S1x1024x1024.size inb_S1x4096x1024_S1x1024x1024_0_0_0).toLoadRect (harg11.unread x9) (ix3 0 k l) = w2 k.val l.val :=
    fun k l => (HB 0 (by omega) _ k l).trans (congrArg (fun q => w2 q l.val) (Nat.zero_add _))
  have HX : ∀ (o : ℕ) (r : Fin 256) (hR : R.val = o + r.val) (inb) (l : Fin 1024), View.readAt (Elt Ideal) arg2.view (Rect.unit (s := S1x768x1024) ![0, o, 0] S1x256x1024.size inb).toLoadRect (harg2.unread x0) (ix3 0 r l) = x l.val :=
    fun o r hR inb l => (load3 harg2 x0 _ (ix3 0 r l) (ix3 0 R l) rfl (by show o + 1 * r.val = R.val; omega) (by show 0 + 1 * l.val = l.val; omega)).trans (h0 l)
  unfold out0_A_10
  rw [View.read_writes_junk_eq_canon]
  unfold kernelRun0_A
  dsimp only
  sl_unfold_words
  unfold mid
  by_cases c0 : R.val < 256
  · have hR' : R.val = 0 + (⟨R.val - 0, by omega⟩ : Fin 256).val := by show R.val = 0 + (R.val - 0); omega
    generalize (⟨R.val - 0, _⟩ : Fin 256) = r at hR'
    have hR : R.val = r.val := by omega
    have hp : b.val = brow i ((0 : Fin 3)).val := by rw [hb]; unfold brow; exact if_congr (and_congr_right fun _ => ⟨fun _ => rfl, fun _ => c0⟩) rfl rfl
    refine (canon_off _ _ _ (by omega)).trans ?_
    refine (canon_off _ _ _ (by omega)).trans ?_
    refine (canon_at _ _ _ hR').trans ?_
    refine pay19_val R r (m5 := fun l => m (5120 + l)) hR ?xv (loadM harg6 x4 (off4 i 0) _ hp h4 (by omega)) ?acc l
    case xv => exact pay6_val R r (m2 := fun l => m (2048 + l)) hR (pay3_val R HD HS HH HO) (HX 0 r hR' _) (loadM harg6 x4 (off1 i 0) _ hp h4 (by omega))
    case acc =>
      refine pay18_val R ?_ HA0 HB0 (HA 1024 (by omega) _) (HB 1024 (by omega) _) (HA 2048 (by omega) _) (HB 2048 (by omega) _) (HA 3072 (by omega) _) (HB 3072 (by omega) _)
      exact pay14_val0 R r hR (pay10_val r (m4 := fun l => m (4096 + l)) (m3 := fun l => m (3072 + l)) (pay6_val R r (m2 := fun l => m (2048 + l)) hR (pay3_val R HD HS HH HO) (HX 0 r hR' _) (loadM harg6 x4 (off1 i 0) _ hp h4 (by omega))) HG (loadM harg6 x4 (off2 i 0) _ hp h4 (by omega)) (loadM harg6 x4 (off3 i 0) _ hp h4 (by omega)))
  by_cases c1 : R.val < 512
  · have hR' : R.val = 256 + (⟨R.val - 256, by omega⟩ : Fin 256).val := by show R.val = 256 + (R.val - 256); omega
    generalize (⟨R.val - 256, _⟩ : Fin 256) = r at hR'
    have hR := hR'
    have hp : b.val = brow i ((1 : Fin 3)).val := by rw [hb]; unfold brow; rw [if_neg (fun h => c0 h.2), if_neg (fun h => absurd h.2 (by decide))]
    refine (canon_off _ _ _ (by omega)).trans ?_
    refine (canon_at _ _ _ hR').trans ?_
    refine pay1_val R r (m5 := fun l => m (5120 + l)) hR ?xv (loadM harg6 x4 (off4 i 1) _ hp h4 (by omega)) ?acc l
    case xv => exact pay7_val R r (m2 := fun l => m (2048 + l)) hR (pay3_val R HD HS HH HO) (HX 256 r hR' _) (loadM harg6 x4 (off1 i 1) _ hp h4 (by omega))
    case acc =>
      refine pay18_val R ?_ HA0 HB0 (HA 1024 (by omega) _) (HB 1024 (by omega) _) (HA 2048 (by omega) _) (HB 2048 (by omega) _) (HA 3072 (by omega) _) (HB 3072 (by omega) _)
      exact pay14_val1 R r hR (pay11_val r (m4 := fun l => m (4096 + l)) (m3 := fun l => m (3072 + l)) (pay7_val R r (m2 := fun l => m (2048 + l)) hR (pay3_val R HD HS HH HO) (HX 256 r hR' _) (loadM harg6 x4 (off1 i 1) _ hp h4 (by omega))) HG (loadM harg6 x4 (off2 i 1) _ hp h4 (by omega)) (loadM harg6 x4 (off3 i 1) _ hp h4 (by omega)))
  have hR' : R.val = 512 + (⟨R.val - 512, by omega⟩ : Fin 256).val := by show R.val = 512 + (R.val - 512); omega
  generalize (⟨R.val - 512, _⟩ : Fin 256) = r at hR'
  have hR := hR'
  have hp : b.val = brow i ((2 : Fin 3)).val := by rw [hb]; unfold brow; rw [if_neg (fun h => c0 h.2), if_neg (fun h => absurd h.2 (by decide))]
  refine (canon_at _ _ _ hR').trans ?_
  refine pay2_val R r (m5 := fun l => m (5120 + l)) hR ?xv (loadM harg6 x4 (off4 i 2) _ hp h4 (by omega)) ?acc l
  case xv => exact pay8_val R r (m2 := fun l => m (2048 + l)) hR (pay3_val R HD HS HH HO) (HX 512 r hR' _) (loadM harg6 x4 (off1 i 2) _ hp h4 (by omega))
  case acc =>
    refine pay18_val R ?_ HA0 HB0 (HA 1024 (by omega) _) (HB 1024 (by omega) _) (HA 2048 (by omega) _) (HB 2048 (by omega) _) (HA 3072 (by omega) _) (HB 3072 (by omega) _)
    exact pay14_val2 R r (m4 := fun l => m (4096 + l)) (m3 := fun l => m (3072 + l)) hR (pay8_val R r (m2 := fun l => m (2048 + l)) hR (pay3_val R HD HS HH HO) (HX 512 r hR' _) (loadM harg6 x4 (off1 i 2) _ hp h4 (by omega))) HG (loadM harg6 x4 (off2 i 2) _ hp h4 (by omega)) (loadM harg6 x4 (off3 i 2) _ hp h4 (by omega))

end Cert.Kernel3Ideal.Out

end
-- ==== Proof.Out3.Result.lean ====
/- The kernel's result array: each entry is the row of `Args` of the arguments. -/
module

public import proofs.«01_k».proof.Proof.Out3.Body
public import Idealize.ShloMosaic.Lib.StableHlo.ReadAt
public import Idealize.ShloMosaic.Lib.Pipeline.ValueKit

@[expose] public section

set_option maxRecDepth 16384

noncomputable section

namespace Cert.Kernel3Ideal.Out

open Cert.Kernel3Ideal Cert.Kernel3Ideal.Gen Idealize.ShloMosaic Idealize.ShloMosaic.TcCoe Idealize.SL.Sem
open Idealize.ShloMosaic.Pipeline (Dat Cfg Window)
open Cert.Out

variable (m : (ℓ : Loc nD τ sig) → Buf (Elt Ideal) ℓ)

theorem out_index : ∀ t : Fin cfg0.N, win0_10.index t (0 : Fin 3) < 16 ∧ win0_10.index t (1 : Fin 3) < 3 ∧ win0_10.index t (2 : Fin 3) = 0 ∧ (grid0.coords t 0).val = win0_10.index t (0 : Fin 3) ∧ (grid0.coords t 1).val = win0_10.index t (1 : Fin 3) :=
  (by decide +kernel : ∀ t : Fin grid0.N, _)
theorem index0 : ∀ t : Fin cfg0.N, win0_0.index t (0 : Fin 3) = win0_10.index t (0 : Fin 3) ∧ win0_0.index t (1 : Fin 3) = win0_10.index t (1 : Fin 3) ∧ win0_0.index t (2 : Fin 3) = 0 :=
  (by decide +kernel : ∀ t : Fin grid0.N, _)
theorem index1 : ∀ t : Fin cfg0.N, win0_1.index t (0 : Fin 3) = win0_10.index t (0 : Fin 3) ∧ win0_1.index t (1 : Fin 3) = win0_10.index t (1 : Fin 3) ∧ win0_1.index t (2 : Fin 3) = 0 :=
  (by decide +kernel : ∀ t : Fin grid0.N, _)
theorem index2 : ∀ t : Fin cfg0.N, win0_2.index t (0 : Fin 3) = win0_10.index t (0 : Fin 3) ∧ win0_2.index t (1 : Fin 3) = win0_10.index t (1 : Fin 3) ∧ win0_2.index t (2 : Fin 3) = 0 :=
  (by decide +kernel : ∀ t : Fin grid0.N, _)
theorem index3 : ∀ t : Fin cfg0.N, win0_3.index t (0 : Fin 3) = win0_10.index t (0 : Fin 3) ∧ win0_3.index t (1 : Fin 3) = win0_10.index t (1 : Fin 3) ∧ win0_3.index t (2 : Fin 3) = 0 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index7 : ∀ t : Fin cfg0.N, win0_7.index t (0 : Fin 3) = 0 ∧ win0_7.index t (1 : Fin 3) = 0 ∧ win0_7.index t (2 : Fin 3) = 0 :=
  (by decide +kernel : ∀ t : Fin grid0.N, _)
theorem index8 : ∀ t : Fin cfg0.N, win0_8.index t (0 : Fin 3) = 0 ∧ win0_8.index t (1 : Fin 3) = 0 ∧ win0_8.index t (2 : Fin 3) = 0 :=
  (by decide +kernel : ∀ t : Fin grid0.N, _)
theorem index9 : ∀ t : Fin cfg0.N, win0_9.index t (0 : Fin 3) = 0 ∧ win0_9.index t (1 : Fin 3) = 0 ∧ win0_9.index t (2 : Fin 3) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)

/-- The point's tokens of the residual stream. -/
theorem blk0 (c : Dev nD) (t : Fin cfg0.N) (r : Fin 768) (l : Fin 1024) :
    iblk m c 0 t (ValueIdx.ix3 (0 : Fin 1) r l)
      = at3 (a := 16) (b := 2304) (c := 1024) (m ((c : Thread nD τ).loc main_arg0)) (win0_10.index t (0 : Fin 3)) (768 * win0_10.index t (1 : Fin 3) + r.val) l.val := by
  rw [← V_main_arg0 m c]
  have h := index0 t
  refine at3_eq (v := V m c main_arg0) (i := ((cfg0.win 0).blk t).view.emb (ValueIdx.ix3 (0 : Fin 1) r l)) ?_ ?_ ?_
  · show win0_0.index t (0 : Fin 3) * 1 + 1 * 0 = _; omega
  · show win0_0.index t (1 : Fin 3) * 768 + 1 * r.val = _; omega
  · show win0_0.index t (2 : Fin 3) * 1024 + 1 * l.val = _; omega
/-- The point's tokens of the first mixer. -/
theorem blk1 (c : Dev nD) (t : Fin cfg0.N) (r : Fin 768) (l : Fin 256) :
    iblk m c 1 t (ValueIdx.ix3 (0 : Fin 1) r l)
      = at3 (a := 16) (b := 2304) (c := 256) (m ((c : Thread nD τ).loc main_arg1)) (win0_10.index t (0 : Fin 3)) (768 * win0_10.index t (1 : Fin 3) + r.val) l.val := by
  rw [← V_main_arg1 m c]
  have h := index1 t
  refine at3_eq (v := V m c main_arg1) (i := ((cfg0.win 1).blk t).view.emb (ValueIdx.ix3 (0 : Fin 1) r l)) ?_ ?_ ?_
  · show win0_1.index t (0 : Fin 3) * 1 + 1 * 0 = _; omega
  · show win0_1.index t (1 : Fin 3) * 768 + 1 * r.val = _; omega
  · show win0_1.index t (2 : Fin 3) * 256 + 1 * l.val = _; omega
/-- The point's tokens of the second mixer. -/
theorem blk2 (c : Dev nD) (t : Fin cfg0.N) (r : Fin 768) (l : Fin 512) :
    iblk m c 2 t (ValueIdx.ix3 (0 : Fin 1) r l)
      = at3 (a := 16) (b := 2304) (c := 512) (m ((c : Thread nD τ).loc main_arg2)) (win0_10.index t (0 : Fin 3)) (768 * win0_10.index t (1 : Fin 3) + r.val) l.val := by
  rw [← V_main_arg2 m c]
  have h := index2 t
  refine at3_eq (v := V m c main_arg2) (i := ((cfg0.win 2).blk t).view.emb (ValueIdx.ix3 (0 : Fin 1) r l)) ?_ ?_ ?_
  · show win0_2.index t (0 : Fin 3) * 1 + 1 * 0 = _; omega
  · show win0_2.index t (1 : Fin 3) * 768 + 1 * r.val = _; omega
  · show win0_2.index t (2 : Fin 3) * 512 + 1 * l.val = _; omega
/-- The point's tokens of the third mixer. -/
theorem blk3 (c : Dev nD) (t : Fin cfg0.N) (r : Fin 768) (l : Fin 256) :
    iblk m c 3 t (ValueIdx.ix3 (0 : Fin 1) r l)
      = at3 (a := 16) (b := 2304) (c := 256) (m ((c : Thread nD τ).loc main_arg3)) (win0_10.index t (0 : Fin 3)) (768 * win0_10.index t (1 : Fin 3) + r.val) l.val := by
  rw [← V_main_arg3 m c]
  have h := index3 t
  refine at3_eq (v := V m c main_arg3) (i := ((cfg0.win 3).blk t).view.emb (ValueIdx.ix3 (0 : Fin 1) r l)) ?_ ?_ ?_
  · show win0_3.index t (0 : Fin 3) * 1 + 1 * 0 = _; omega
  · show win0_3.index t (1 : Fin 3) * 768 + 1 * r.val = _; omega
  · show win0_3.index t (2 : Fin 3) * 256 + 1 * l.val = _; omega
/-- The layer's modulations. -/
theorem blk4 (c : Dev nD) (t : Fin cfg0.N) (r : Fin 24) (l : Fin 6144) :
    iblk m c 4 t (ValueIdx.ix3 (0 : Fin 1) r l) = at3 (a := 4) (b := 24) (c := 6144) (m ((c : Thread nD τ).loc main_arg4)) 0 r.val l.val := by
  rw [← V_main_arg4 m c]
  have h := index4 t
  refine at3_eq (v := V m c main_arg4) (i := ((cfg0.win 4).blk t).view.emb (ValueIdx.ix3 (0 : Fin 1) r l)) ?_ ?_ ?_
  · show win0_4.index t (0 : Fin 3) * 1 + 1 * 0 = _; omega
  · show win0_4.index t (1 : Fin 3) * 24 + 1 * r.val = _; omega
  · show win0_4.index t (2 : Fin 3) * 6144 + 1 * l.val = _; omega

theorem gain_arr (c : Dev nD) : V (F := Ideal) m c main_v5
    = shapeCast S1x1024 (shapeCast S1024 (extractStridedSlice S1x1024 ![0, 0] (m ((c : Thread nD τ).loc main_arg5)) slices_S4x1024_S1x1024_0_0) shapeCasts_S1x1024_S1024) shapeCasts_S1024_S1x1024 := by
  unfold V
  after_reads_simp
  try simp -implicitDefEqProofs only [StableHlo.TRef.toBuf, StableHlo.TRef.ofBuf, cast_cast, cast_eq]
  rfl
theorem wo_arr (c : Dev nD) : V (F := Ideal) m c main_v2 = m ((c : Thread nD τ).loc main_arg7) := by
  unfold V
  after_reads_simp
  try simp -implicitDefEqProofs only [StableHlo.TRef.toBuf, StableHlo.TRef.ofBuf, cast_cast, cast_eq]
  rfl
theorem w1_arr (c : Dev nD) : V (F := Ideal) m c main_v3 = m ((c : Thread nD τ).loc main_arg8) := by
  unfold V
  after_reads_simp
  try simp -implicitDefEqProofs only [StableHlo.TRef.toBuf, StableHlo.TRef.ofBuf, cast_cast, cast_eq]
  rfl
theorem w2_arr (c : Dev nD) : V (F := Ideal) m c main_v4 = m ((c : Thread nD τ).loc main_arg9) := by
  unfold V
  after_reads_simp
  try simp -implicitDefEqProofs only [StableHlo.TRef.toBuf, StableHlo.TRef.ofBuf, cast_cast, cast_eq]
  rfl

/-- The layer's gain. -/
theorem blk5 (c : Dev nD) (t : Fin cfg0.N) (l : Fin 1024) :
    iblk m c 5 t (ValueIdx.ix2 (0 : Fin 1) l) = at2 (a := 4) (b := 1024) (m ((c : Thread nD τ).loc main_arg5)) 0 l.val := by
  have h := index5 t
  have e : iblk m c 5 t (ValueIdx.ix2 (0 : Fin 1) l) = V m c main_v5 (ValueIdx.ix2 (0 : Fin 1) l) := by
    show V m c main_v5 (((cfg0.win 5).blk t).view.emb (ValueIdx.ix2 (0 : Fin 1) l)) = _
    refine congrArg _ (funext fun a => Fin.ext ?_)
    match a with
    | ⟨0, _⟩ => show win0_5.index t (0 : Fin 2) * 1 + 1 * 0 = 0; omega
    | ⟨1, _⟩ => show win0_5.index t (1 : Fin 2) * 1024 + 1 * l.val = l.val; omega
  rw [e, gain_arr]
  refine (shapeCast_apply _ shapeCasts_S1024_S1x1024 _ (ValueIdx.ix1 l) ?_).trans ?_
  · rw [Shape.rowMajor_val_one, Shape.rowMajor_val_two]
    show l.val = 0 * 1024 + l.val
    omega
  refine (shapeCast_apply _ shapeCasts_S1x1024_S1024 _ (ValueIdx.ix2 (0 : Fin 1) l) ?_).trans ?_
  · rw [Shape.rowMajor_val_one, Shape.rowMajor_val_two]
    show 0 * 1024 + l.val = l.val
    omega
  refine (extractStridedSlice_apply ![0, 0] _ slices_S4x1024_S1x1024_0_0 _ (ValueIdx.ix2 (0 : Fin 4) l) (fun a => match a with
    | ⟨0, _⟩ => by show 0 = 0 + 0; rfl
    | ⟨1, _⟩ => by show l.val = 0 + l.val; omega)).trans ?_
  exact at2_eq rfl rfl
/-- The layer's output projection. -/
theorem blk7 (c : Dev nD) (t : Fin cfg0.N) (r : Fin 1024) (l : Fin 1024) :
    iblk m c 7 t (ValueIdx.ix3 (0 : Fin 1) r l) = at3 (a := 4) (b := 1024) (c := 1024) (m ((c : Thread nD τ).loc main_arg7)) 0 r.val l.val := by
  have h := index7 t
  have e : iblk m c 7 t (ValueIdx.ix3 (0 : Fin 1) r l) = V m c main_v2 (((cfg0.win 7).blk t).view.emb (ValueIdx.ix3 (0 : Fin 1) r l)) := rfl
  rw [e, wo_arr]
  refine at3_eq (v := m ((c : Thread nD τ).loc main_arg7)) (i := ((cfg0.win 7).blk t).view.emb (ValueIdx.ix3 (0 : Fin 1) r l)) ?_ ?_ ?_
  · show win0_7.index t (0 : Fin 3) * 1 + 1 * 0 = _; omega
  · show win0_7.index t (1 : Fin 3) * 1024 + 1 * r.val = _; omega
  · show win0_7.index t (2 : Fin 3) * 1024 + 1 * l.val = _; omega
/-- The layer's first feed-forward matrix. -/
theorem blk8 (c : Dev nD) (t : Fin cfg0.N) (r : Fin 1024) (l : Fin 4096) :
    iblk m c 8 t (ValueIdx.ix3 (0 : Fin 1) r l) = at3 (a := 4) (b := 1024) (c := 4096) (m ((c : Thread nD τ).loc main_arg8)) 0 r.val l.val := by
  have h := index8 t
  have e : iblk m c 8 t (ValueIdx.ix3 (0 : Fin 1) r l) = V m c main_v3 (((cfg0.win 8).blk t).view.emb (ValueIdx.ix3 (0 : Fin 1) r l)) := rfl
  rw [e, w1_arr]
  refine at3_eq (v := m ((c : Thread nD τ).loc main_arg8)) (i := ((cfg0.win 8).blk t).view.emb (ValueIdx.ix3 (0 : Fin 1) r l)) ?_ ?_ ?_
  · show win0_8.index t (0 : Fin 3) * 1 + 1 * 0 = _; omega
  · show win0_8.index t (1 : Fin 3) * 1024 + 1 * r.val = _; omega
  · show win0_8.index t (2 : Fin 3) * 4096 + 1 * l.val = _; omega
/-- The layer's second feed-forward matrix. -/
theorem blk9 (c : Dev nD) (t : Fin cfg0.N) (r : Fin 4096) (l : Fin 1024) :
    iblk m c 9 t (ValueIdx.ix3 (0 : Fin 1) r l) = at3 (a := 4) (b := 4096) (c := 1024) (m ((c : Thread nD τ).loc main_arg9)) 0 r.val l.val := by
  have h := index9 t
  have e : iblk m c 9 t (ValueIdx.ix3 (0 : Fin 1) r l) = V m c main_v4 (((cfg0.win 9).blk t).view.emb (ValueIdx.ix3 (0 : Fin 1) r l)) := rfl
  rw [e, w2_arr]
  refine at3_eq (v := m ((c : Thread nD τ).loc main_arg9)) (i := ((cfg0.win 9).blk t).view.emb (ValueIdx.ix3 (0 : Fin 1) r l)) ?_ ?_ ?_
  · show win0_9.index t (0 : Fin 3) * 1 + 1 * 0 = _; omega
  · show win0_9.index t (1 : Fin 3) * 4096 + 1 * r.val = _; omega
  · show win0_9.index t (2 : Fin 3) * 1024 + 1 * l.val = _; omega

/-- What a point leaves, row by row. -/
theorem point (c : Dev nD) (t : Fin cfg0.N) (r : Fin 768) (l : Fin 1024) :
    outsAt0 m c t (ValueIdx.ix3 (0 : Fin 1) r l) = midRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (win0_10.index t (0 : Fin 3)) (768 * win0_10.index t (1 : Fin 3) + r.val) l.val := by
  have h := out_index t
  have hr := r.isLt
  have hb : modRow (win0_10.index t (0 : Fin 3)) (768 * win0_10.index t (1 : Fin 3) + r.val)
      = if (grid0.coords t 1).val = 0 ∧ r.val < 256 then 16 else (grid0.coords t 0).val := by
    unfold modRow
    rw [h.2.2.2.1, h.2.2.2.2]
    exact if_congr (by omega) rfl rfl
  have lb : modRow (win0_10.index t (0 : Fin 3)) (768 * win0_10.index t (1 : Fin 3) + r.val) < 24 := by
    unfold modRow
    split <;> omega
  unfold outsAt0 midRow
  exact out_val c (grid0.coords t) _ _ _ _ _ _ _ _ _ _ _ _ _ _ _ _ _ _ _ _ _ _ _ _ _ _ _ _ _ _ _ _ r
    (⟨modRow (win0_10.index t (0 : Fin 3)) (768 * win0_10.index t (1 : Fin 3) + r.val), lb⟩ : Fin 24) hb
    (fun l => blk0 m c t r l) (fun l => blk1 m c t r l) (fun l => blk2 m c t r l) (fun l => blk3 m c t r l) (fun l => blk4 m c t _ l)
    (fun l => blk5 m c t l) (fun k l => blk7 m c t k l) (fun k l => blk8 m c t k l) (fun k l => blk9 m c t k l) l

/-- The result array. -/
def resArr (c : Dev nD) : Vec Ideal S16x2304x1024 .f32 := midArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9))

theorem resArr_apply (c : Dev nD) (i : S16x2304x1024.Idx) {b t l : ℕ} (e0 : (i 0).val = b) (e1 : (i 1).val = t) (e2 : (i 2).val = l) :
    resArr m c i = midRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) b t l := by
  subst e0; subst e1; subst e2
  rfl

theorem kernel_result (c : Dev nD) : (dats (F := Ideal) m 0 c).arrAt 10 cfg0.N = resArr m c := by
  refine (dats (F := Ideal) m 0 c).arrAt_eq_of_covers 10 _ (by decide +kernel) fun t hf y => ?_
  rw [after0_10]
  have l0 : (y 0).val < 1 := (y 0).isLt
  have l1 : (y 1).val < 768 := (y 1).isLt
  have l2 : (y 2).val < 1024 := (y 2).isLt
  have h := out_index t
  have e : outsAt0 m c t ((cfg0.win 10).xinj (cfg0.grid.coords t) y) = outsAt0 m c t (ValueIdx.ix3 (0 : Fin 1) (⟨(y 1).val, l1⟩ : Fin 768) (⟨(y 2).val, l2⟩ : Fin 1024)) :=
    congrArg (outsAt0 m c t) (funext fun a => Fin.ext (match a with | ⟨0, _⟩ => (by show (y 0).val = 0; omega) | ⟨1, _⟩ => rfl | ⟨2, _⟩ => rfl))
  refine (cast_eq _ _).trans ?_
  refine e.trans ((point m c t _ _).trans (resArr_apply m c (((cfg0.win 10).blk t).view.emb y) ?_ ?_ ?_).symm)
  · show win0_10.index t (0 : Fin 3) * 1 + 1 * (y 0).val = _; omega
  · show win0_10.index t (1 : Fin 3) * 768 + 1 * (y 1).val = 768 * win0_10.index t (1 : Fin 3) + (y 1).val; omega
  · show win0_10.index t (2 : Fin 3) * 1024 + 1 * (y 2).val = (y 2).val; omega

end Cert.Kernel3Ideal.Out

end
-- ==== Proof.Swa.Blocks.lean ====
/- What one trip of each of the attention body's loops computes, as functions of the vectors it loads: the scores of four
   heads stacked in one matrix under the lane mask, the softmax with the sink, and the choice of each lane's own head. -/
module

public import proofs.«01_k».proof.Proof.Gen.KernelIdeal.Loops
public import Idealize.ShloMosaic.Lib.Pipeline.FrameBody

@[expose] public section

set_option maxRecDepth 16384

noncomputable section

namespace Cert.KernelIdeal.Swa

open Cert.KernelIdeal Cert.KernelIdeal.Gen Idealize.ShloMosaic Idealize.ShloMosaic.TcCoe Idealize.SL.Sem

variable {F : FTy → Type} [FloatOps F] [Named F]

/-- Four copies of a query block, one per head, each kept on its own head's lanes. -/
def stack (mask : FVec F S512x256 .bf16) (q : Vec F S128x256 .bf16) : FVec F S512x256 .bf16 :=
  mulf (concatenate S512x256 0 [⟨S128x256, q⟩, ⟨S128x256, q⟩, ⟨S128x256, q⟩, ⟨S128x256, q⟩]
    concatenates_S128x256_S128x256_S128x256_S128x256_S512x256_d0) mask

/-- The context's keys (or values), on twice as many lanes. -/
def dupC (k : Vec F S1x256x128 .bf16) : FVec F S256x256 .bf16 :=
  concatenate S256x256 1 [⟨S256x128, shapeCast S256x128 k shapeCasts_S1x256x128_S256x128⟩,
    ⟨S256x128, shapeCast S256x128 k shapeCasts_S1x256x128_S256x128⟩] concatenates_S256x128_S256x128_S256x256_d1

/-- A window's keys (or values), on twice as many lanes. -/
def dupW (k : Vec F S1x384x128 .bf16) : FVec F S384x256 .bf16 :=
  concatenate S384x256 1 [⟨S384x128, shapeCast S384x128 k shapeCasts_S1x384x128_S384x128⟩,
    ⟨S384x128, shapeCast S384x128 k shapeCasts_S1x384x128_S384x128⟩] concatenates_S384x128_S384x128_S384x256_d1

/-- The scores against the context. -/
def scoreC (q4 : FVec F S512x256 .bf16) (k : Vec F S1x256x128 .bf16) : FVec F S512x256 .f32 :=
  matmul dot_S512x256_S256x256_S512x256_1_1_0_0_n_n none q4 (dupC k) (constant S512x256 .f32 0x00000000#32)

/-- The scores against a window, the band's bias added. -/
def scoreW (q4 : FVec F S512x256 .bf16) (bias : Vec F S1x128x384 .f32) (k : Vec F S1x384x128 .bf16) : FVec F S512x384 .f32 :=
  addf (matmul dot_S512x256_S384x256_S512x384_1_1_0_0_n_n none q4 (dupW k) (constant S512x384 .f32 0x00000000#32))
    (concatenate S512x384 0 [⟨S128x384, shapeCast S128x384 bias shapeCasts_S1x128x384_S128x384⟩,
      ⟨S128x384, shapeCast S128x384 bias shapeCasts_S1x128x384_S128x384⟩,
      ⟨S128x384, shapeCast S128x384 bias shapeCasts_S1x128x384_S128x384⟩,
      ⟨S128x384, shapeCast S128x384 bias shapeCasts_S1x128x384_S128x384⟩] concatenates_S128x384_S128x384_S128x384_S128x384_S512x384_d0)

def maxC (s : FVec F S512x256 .f32) : FVec F S512x1 .f32 :=
  shapeCast S512x1 (multiReduction .maximumf [1] S512 s 0xFF800000#32 reduces_S512x256_S512 (.inl rfl) rfl) shapeCasts_S512_S512x1

def maxW (s : FVec F S512x384 .f32) : FVec F S512x1 .f32 :=
  shapeCast S512x1 (multiReduction .maximumf [1] S512 s 0xFF800000#32 reduces_S512x384_S512 (.inl rfl) rfl) shapeCasts_S512_S512x1

def sumC (s : FVec F S512x256 .f32) : FVec F S512x1 .f32 :=
  shapeCast S512x1 (multiReduction .add [1] S512 s 0x00000000#32 reduces_S512x256_S512 (.inl rfl) rfl) shapeCasts_S512_S512x1

def sumW (s : FVec F S512x384 .f32) : FVec F S512x1 .f32 :=
  shapeCast S512x1 (multiReduction .add [1] S512 s 0x00000000#32 reduces_S512x384_S512 (.inl rfl) rfl) shapeCasts_S512_S512x1

def expC (s : FVec F S512x256 .f32) (m : FVec F S512x1 .f32) : FVec F S512x256 .f32 :=
  exp2 (subf s (broadcastTo S512x256 m broadcasts_S512x1_S512x256))

def expW (s : FVec F S512x384 .f32) (m : FVec F S512x1 .f32) : FVec F S512x384 .f32 :=
  exp2 (subf s (broadcastTo S512x384 m broadcasts_S512x1_S512x384))

def accC (e : FVec F S512x256 .f32) (v : Vec F S1x256x128 .bf16) : FVec F S512x256 .f32 :=
  matmul dot_S512x256_S256x256_S512x256_1_0_0_1_n_n none (truncf .bf16 e) (dupC v) (constant S512x256 .f32 0x00000000#32)

def accW (e : FVec F S512x384 .f32) (v : Vec F S1x384x128 .bf16) : FVec F S512x256 .f32 :=
  matmul dot_S512x384_S384x256_S512x256_1_0_0_1_n_n none (truncf .bf16 e) (dupW v) (constant S512x256 .f32 0x00000000#32)

/-- Each lane's own head's rows of the stacked quotient. -/
def pick (lane : IVec S128x256 32) (acc : FVec F S512x256 .f32) (den : FVec F S512x1 .f32) : FVec F S1x128x256 .bf16 :=
  let o := divf acc (broadcastTo S512x256 den broadcasts_S512x1_S512x256)
  let p0 := select (cmpi .eq lane (broadcast S128x256 0#32)) (extractStridedSlice S128x256 ![0, 0] o slices_S512x256_o0_0_S128x256)
    (broadcast S128x256 (Scalar.ofBits .f32 0x00000000#32 : F .f32))
  let p1 := select (cmpi .eq lane (broadcast S128x256 1#32)) (extractStridedSlice S128x256 ![128, 0] o slices_S512x256_o128_0_S128x256) p0
  let p2 := select (cmpi .eq lane (broadcast S128x256 2#32)) (extractStridedSlice S128x256 ![256, 0] o slices_S512x256_o256_0_S128x256) p1
  let p3 := select (cmpi .eq lane (broadcast S128x256 3#32)) (extractStridedSlice S128x256 ![384, 0] o slices_S512x256_o384_0_S128x256) p2
  shapeCast S1x128x256 (truncf .bf16 p3) shapeCasts_S128x256_S1x128x256

/-- A block of context queries: attention over the context and the sink. -/
def ctxBlk (mask : FVec F S512x256 .bf16) (lane : IVec S128x256 32) (sk : FVec F S512x1 .f32) (q : Vec F S128x256 .bf16)
    (k v : Vec F S1x256x128 .bf16) : FVec F S1x128x256 .bf16 :=
  let s := scoreC (stack mask q) k
  let m := maximumf (maxC s) sk
  pick lane (accC (expC s m) v) (addf (sumC (expC s m)) (exp2 (subf sk m)))

/-- A block of latent queries: attention over the context, the sink and the block's window. -/
def latBlk (mask : FVec F S512x256 .bf16) (lane : IVec S128x256 32) (sk : FVec F S512x1 .f32) (q : Vec F S128x256 .bf16)
    (k v : Vec F S1x256x128 .bf16) (bias : Vec F S1x128x384 .f32) (kw vw : Vec F S1x384x128 .bf16) : FVec F S1x128x256 .bf16 :=
  let s := scoreC (stack mask q) k
  let w := scoreW (stack mask q) bias kw
  let m := maximumf (maximumf (maxC s) sk) (maxW w)
  pick lane (addf (accC (expC s m) v) (accW (expW w m) vw))
    (addf (addf (sumC (expC s m)) (exp2 (subf sk m))) (sumW (expW w m)))

/-! ## The trips' pieces -/

variable (c : Dev nD) (i : grid0.Coords) (arg1 : Memref sig .tc .smem S8 .f32) (harg1 : arg1.IsWhole) (arg2 : Memref sig .tc .vmem S1x2304x768 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x2304x512 .bf16) (harg5 : arg5.IsWhole) (arg6 : Memref sig .tc .vmem S2304x512 .bf16) (harg6 : arg6.IsWhole) (arg7 : Memref sig .tc .vmem S2x2304x128 .bf16) (harg7 : arg7.IsWhole) (arg8 : Memref sig .tc .vmem S2x2304x128 .bf16) (harg8 : arg8.IsWhole) (arg9 : Memref sig .tc .vmem S3x128x384 .f32) (harg9 : arg9.IsWhole)

/-- The context's rows of the first head group's keys or values; of the second's. -/
abbrev ctxRows0 (X : Vec F S2x2304x128 .bf16) : Vec F S1x256x128 .bf16 :=
  View.ld X (Rect.unit ![0, 0, 0] S1x256x128.size inb_S2x2304x128_S1x256x128_0_0_0)
abbrev ctxRows1 (X : Vec F S2x2304x128 .bf16) : Vec F S1x256x128 .bf16 :=
  View.ld X (Rect.unit ![1, 0, 0] S1x256x128.size inb_S2x2304x128_S1x256x128_1_0_0)

theorem trip_ctx (mask : FVec F S512x256 .bf16) (lane : IVec S128x256 32) (sk0 sk1 : FVec F S512x1 .f32)
    (X6 : BufTy.Contents (Elt F) arg6.view.ty) (X7 : BufTy.Contents (Elt F) arg7.view.ty) (X8 : BufTy.Contents (Elt F) arg8.view.ty)
    (k : Fin k0_t2_loop.trips) :
    tripL_k0_t2 (F := F) Variants.none c none i arg1 harg1 arg2 harg2 arg3 harg3 arg4 harg4 arg5 harg5 arg6 harg6 arg7 harg7 arg8 harg8 arg9 harg9 mask lane sk0 sk1 X6 X7 X8 k
      = [⟨Rect.unit (k0_off11 k) S1x128x256.size (k0_off11_inb k), ctxBlk mask lane sk1
            (View.ld (arg6.view.read (Elt F) X6) (Rect.unit (k0_off9 k) S128x256.size (k0_off9_inb k)))
            (ctxRows1 (arg7.view.read (Elt F) X7)) (ctxRows1 (arg8.view.read (Elt F) X8))⟩,
         ⟨Rect.unit (k0_off10 k) S1x128x256.size (k0_off10_inb k), ctxBlk mask lane sk0
            (View.ld (arg6.view.read (Elt F) X6) (Rect.unit (k0_off8 k) S128x256.size (k0_off8_inb k)))
            (ctxRows0 (arg7.view.read (Elt F) X7)) (ctxRows0 (arg8.view.read (Elt F) X8))⟩] := by
  unfold tripL_k0_t2 trip_k0_t2
  dsimp only
  sl_unfold_words
  rfl

theorem trip_lat (mask : FVec F S512x256 .bf16) (lane : IVec S128x256 32) (sk0 sk1 : FVec F S512x1 .f32)
    (X6 : BufTy.Contents (Elt F) arg6.view.ty) (X7 : BufTy.Contents (Elt F) arg7.view.ty) (X8 : BufTy.Contents (Elt F) arg8.view.ty)
    (X9 : BufTy.Contents (Elt F) arg9.view.ty) (k : Fin k0_t3_loop.trips) :
    tripL_k0_t3 (F := F) Variants.none c none i arg1 harg1 arg2 harg2 arg3 harg3 arg4 harg4 arg5 harg5 arg6 harg6 arg7 harg7 arg8 harg8 arg9 harg9 mask lane sk0 sk1 X6 X7 X8 X9 k
      = [⟨Rect.unit (k0_off18 k 1#32) S1x128x256.size (k0_off18_inb k 1), latBlk mask lane sk1
            (View.ld (arg6.view.read (Elt F) X6) (Rect.unit (k0_off13 k 1#32) S128x256.size (k0_off13_inb k 1)))
            (ctxRows1 (arg7.view.read (Elt F) X7)) (ctxRows1 (arg8.view.read (Elt F) X8))
            (View.ld (arg9.view.read (Elt F) X9) (Rect.unit (k0_off14 k 1#32) S1x128x384.size (k0_off14_inb k 1)))
            (View.ld (arg7.view.read (Elt F) X7) (Rect.unit (k0_off16 k 1#32) S1x384x128.size (k0_off16_inb k 1)))
            (View.ld (arg8.view.read (Elt F) X8) (Rect.unit (k0_off16 k 1#32) S1x384x128.size (k0_off16_inb k 1)))⟩,
         ⟨Rect.unit (k0_off17 k 1#32) S1x128x256.size (k0_off17_inb k 1), latBlk mask lane sk0
            (View.ld (arg6.view.read (Elt F) X6) (Rect.unit (k0_off12 k 1#32) S128x256.size (k0_off12_inb k 1)))
            (ctxRows0 (arg7.view.read (Elt F) X7)) (ctxRows0 (arg8.view.read (Elt F) X8))
            (View.ld (arg9.view.read (Elt F) X9) (Rect.unit (k0_off14 k 1#32) S1x128x384.size (k0_off14_inb k 1)))
            (View.ld (arg7.view.read (Elt F) X7) (Rect.unit (k0_off15 k 1#32) S1x384x128.size (k0_off15_inb k 1)))
            (View.ld (arg8.view.read (Elt F) X8) (Rect.unit (k0_off15 k 1#32) S1x384x128.size (k0_off15_inb k 1)))⟩,
         ⟨Rect.unit (k0_off18 k 0#32) S1x128x256.size (k0_off18_inb k 0), latBlk mask lane sk1
            (View.ld (arg6.view.read (Elt F) X6) (Rect.unit (k0_off13 k 0#32) S128x256.size (k0_off13_inb k 0)))
            (ctxRows1 (arg7.view.read (Elt F) X7)) (ctxRows1 (arg8.view.read (Elt F) X8))
            (View.ld (arg9.view.read (Elt F) X9) (Rect.unit (k0_off14 k 0#32) S1x128x384.size (k0_off14_inb k 0)))
            (View.ld (arg7.view.read (Elt F) X7) (Rect.unit (k0_off16 k 0#32) S1x384x128.size (k0_off16_inb k 0)))
            (View.ld (arg8.view.read (Elt F) X8) (Rect.unit (k0_off16 k 0#32) S1x384x128.size (k0_off16_inb k 0)))⟩,
         ⟨Rect.unit (k0_off17 k 0#32) S1x128x256.size (k0_off17_inb k 0), latBlk mask lane sk0
            (View.ld (arg6.view.read (Elt F) X6) (Rect.unit (k0_off12 k 0#32) S128x256.size (k0_off12_inb k 0)))
            (ctxRows0 (arg7.view.read (Elt F) X7)) (ctxRows0 (arg8.view.read (Elt F) X8))
            (View.ld (arg9.view.read (Elt F) X9) (Rect.unit (k0_off14 k 0#32) S1x128x384.size (k0_off14_inb k 0)))
            (View.ld (arg7.view.read (Elt F) X7) (Rect.unit (k0_off15 k 0#32) S1x384x128.size (k0_off15_inb k 0)))
            (View.ld (arg8.view.read (Elt F) X8) (Rect.unit (k0_off15 k 0#32) S1x384x128.size (k0_off15_inb k 0)))⟩] := by
  unfold tripL_k0_t3 trip_k0_t3
  dsimp only
  sl_unfold_words
  rfl

/-- The rotated queries of one block of 128 tokens, scaled. -/
abbrev prepQ (x1 : Vec F S1x2304x768 .f32) (x2 x3 : Vec F S2048x128 .f32) (k : Fin k0_t1_loop.trips) : Vec F S128x512 .bf16 :=
  k0_pay73 (k0_pay9 k0_pay70 0#32 1#32 k (View.ld x1 (Rect.unit (k0_off1 k) S1x128x512.size (k0_off1_inb k)))
    (View.ld x2 (Rect.unit (k0_off4 k) S128x128.size (k0_off4_inb k))) (View.ld x3 (Rect.unit (k0_off4 k) S128x128.size (k0_off4_inb k))))

abbrev keysIn (x1 : Vec F S1x2304x768 .f32) (k : Fin k0_t1_loop.trips) : Vec F S1x128x128 .f32 :=
  View.ld x1 (Rect.unit (k0_off2 k) S1x128x128.size (k0_off2_inb k))
abbrev valsIn (x1 : Vec F S1x2304x768 .f32) (k : Fin k0_t1_loop.trips) : Vec F S1x128x128 .f32 :=
  View.ld x1 (Rect.unit (k0_off3 k) S1x128x128.size (k0_off3_inb k))

/-- The rotated keys of one block for the first head group (on both halves of the lanes); for the second. -/
abbrev prepK0 (x1 : Vec F S1x2304x768 .f32) (x2 x3 : Vec F S2048x128 .f32) (k : Fin k0_t1_loop.trips) : Vec F S1x128x128 .bf16 :=
  k0_pay77 (k0_pay4 (keysIn x1 k)) (k0_pay6 0#32 1#32 k (View.ld x2 (Rect.unit (k0_off4 k) S128x128.size (k0_off4_inb k))))
    (k0_pay7 0#32 1#32 k (View.ld x3 (Rect.unit (k0_off4 k) S128x128.size (k0_off4_inb k)))) (k0_pay8 k0_pay71 (keysIn x1 k))
abbrev prepK1 (x1 : Vec F S1x2304x768 .f32) (x2 x3 : Vec F S2048x128 .f32) (k : Fin k0_t1_loop.trips) : Vec F S1x128x128 .bf16 :=
  k0_pay78 (k0_pay4 (keysIn x1 k)) (k0_pay6 0#32 1#32 k (View.ld x2 (Rect.unit (k0_off4 k) S128x128.size (k0_off4_inb k))))
    (k0_pay7 0#32 1#32 k (View.ld x3 (Rect.unit (k0_off4 k) S128x128.size (k0_off4_inb k)))) (k0_pay8 k0_pay71 (keysIn x1 k))

/-- The values of one block for the first head group (on both halves of the lanes); for the second. -/
abbrev prepV0 (x1 : Vec F S1x2304x768 .f32) (k : Fin k0_t1_loop.trips) : Vec F S1x128x128 .bf16 := k0_pay79 (k0_pay5 (valsIn x1 k))
abbrev prepV1 (x1 : Vec F S1x2304x768 .f32) (k : Fin k0_t1_loop.trips) : Vec F S1x128x128 .bf16 := k0_pay80 (k0_pay5 (valsIn x1 k))

theorem trip_prep (X2 : BufTy.Contents (Elt F) arg2.view.ty) (X3 : BufTy.Contents (Elt F) arg3.view.ty) (X4 : BufTy.Contents (Elt F) arg4.view.ty)
    (k : Fin k0_t1_loop.trips) :
    tripL_k0_t1 (F := F) Variants.none c none i arg1 harg1 arg2 harg2 arg3 harg3 arg4 harg4 arg5 harg5 arg6 harg6 arg7 harg7 arg8 harg8 arg9 harg9 X2 X3 X4 k
      = ([⟨Rect.unit (k0_off5 k) S128x512.size (k0_off5_inb k), prepQ (arg2.view.read (Elt F) X2) (arg3.view.read (Elt F) X3) (arg4.view.read (Elt F) X4) k⟩],
         [⟨Rect.unit (k0_off7 k) S1x128x128.size (k0_off7_inb k), prepK1 (arg2.view.read (Elt F) X2) (arg3.view.read (Elt F) X3) (arg4.view.read (Elt F) X4) k⟩,
          ⟨Rect.unit (k0_off6 k) S1x128x128.size (k0_off6_inb k), prepK0 (arg2.view.read (Elt F) X2) (arg3.view.read (Elt F) X3) (arg4.view.read (Elt F) X4) k⟩],
         [⟨Rect.unit (k0_off7 k) S1x128x128.size (k0_off7_inb k), prepV1 (arg2.view.read (Elt F) X2) k⟩,
          ⟨Rect.unit (k0_off6 k) S1x128x128.size (k0_off6_inb k), prepV0 (arg2.view.read (Elt F) X2) k⟩]) := by
  unfold tripL_k0_t1 trip_k0_t1
  dsimp only
  sl_unfold_words
  rfl

end Cert.KernelIdeal.Swa

end
-- ==== Proof.Swa.Scratch.lean ====
/- What the attention body leaves in its scratch buffers and its output, as functions of its inputs: the pieces the loops
   store agree with one function of the buffer's index, and cover it. -/
module

public import proofs.«01_k».proof.Proof.Swa.Blocks
public import Idealize.ShloMosaic.Lib.Writes
public import Idealize.ShloMosaic.Lib.ValueIdxCore

@[expose] public section

set_option maxRecDepth 16384

noncomputable section

namespace Cert.KernelIdeal.Swa

open Cert.KernelIdeal Cert.KernelIdeal.Gen Idealize.ShloMosaic Idealize.ShloMosaic.TcCoe Idealize.SL.Sem
open Idealize.ShloMosaic.ValueIdx

variable {F : FTy → Type} [FloatOps F] [Named F]

/-! ## The buffers' contents -/

/-- The block of 128 rows a row of the 2304 lies in. -/
def blkOf (n : Fin 2304) : Fin k0_t1_loop.trips := ⟨n.val / 128, by have := n.isLt; show _ < 18; omega⟩
/-- The row's place in its block. -/
def rowOf {N : ℕ} (n : Fin N) : Fin 128 := ⟨n.val % 128, by omega⟩

/-- The rotated, scaled queries. -/
def QS (x1 : Vec F S1x2304x768 .f32) (x2 x3 : Vec F S2048x128 .f32) : Vec F S2304x512 .bf16 := fun y =>
  prepQ x1 x2 x3 (blkOf (y 0)) (ix2 (rowOf (y 0)) (y 1))

def KSrow (x1 : Vec F S1x2304x768 .f32) (x2 x3 : Vec F S2048x128 .f32) (g : Fin 2) (k : Fin k0_t1_loop.trips) : Vec F S1x128x128 .bf16 :=
  if g = 0 then prepK0 x1 x2 x3 k else prepK1 x1 x2 x3 k
/-- The rotated keys of the two head groups. -/
def KS (x1 : Vec F S1x2304x768 .f32) (x2 x3 : Vec F S2048x128 .f32) : Vec F S2x2304x128 .bf16 := fun y =>
  KSrow x1 x2 x3 (y 0) (blkOf (y 1)) (ix3 0 (rowOf (y 1)) (y 2))

def VSrow (x1 : Vec F S1x2304x768 .f32) (g : Fin 2) (k : Fin k0_t1_loop.trips) : Vec F S1x128x128 .bf16 :=
  if g = 0 then prepV0 x1 k else prepV1 x1 k
/-- The values of the two head groups. -/
def VS (x1 : Vec F S1x2304x768 .f32) : Vec F S2x2304x128 .bf16 := fun y =>
  VSrow x1 (y 0) (blkOf (y 1)) (ix3 0 (rowOf (y 1)) (y 2))

def BSrow (g : Fin 3) : Vec F S1x128x384 .f32 := match g with
  | 0 => k0_pay91 | 1 => k0_pay92 | 2 => k0_pay1 k0_pay93
/-- The three band biases. -/
def BS : Vec F S3x128x384 .f32 := fun y => BSrow (y 0) (ix3 0 (y 1) (y 2))

/-- One block of context queries of one head group. -/
def ctxPiece (sk : FVec F S512x1 .f32) (Q : Vec F S2304x512 .bf16) (K V : Vec F S2x2304x128 .bf16) (g : Fin 2) (k : Fin k0_t2_loop.trips) :
    FVec F S1x128x256 .bf16 :=
  if g = 0 then ctxBlk k0_pay81 k0_pay83 sk (View.ld Q (Rect.unit (k0_off8 k) S128x256.size (k0_off8_inb k))) (ctxRows0 K) (ctxRows0 V)
  else ctxBlk k0_pay81 k0_pay83 sk (View.ld Q (Rect.unit (k0_off9 k) S128x256.size (k0_off9_inb k))) (ctxRows1 K) (ctxRows1 V)

/-- One block of latent queries of one head group: block `r` of trip `k`. -/
def latPiece (sk : FVec F S512x1 .f32) (Q : Vec F S2304x512 .bf16) (K V : Vec F S2x2304x128 .bf16) (B : Vec F S3x128x384 .f32)
    (g : Fin 2) (k : Fin k0_t3_loop.trips) (r : Fin 2) : FVec F S1x128x256 .bf16 :=
  if g = 0 then latBlk k0_pay81 k0_pay83 sk (View.ld Q (Rect.unit (k0_off12 k (BitVec.ofNat 32 r)) S128x256.size (k0_off12_inb k r)))
      (ctxRows0 K) (ctxRows0 V) (View.ld B (Rect.unit (k0_off14 k (BitVec.ofNat 32 r)) S1x128x384.size (k0_off14_inb k r)))
      (View.ld K (Rect.unit (k0_off15 k (BitVec.ofNat 32 r)) S1x384x128.size (k0_off15_inb k r)))
      (View.ld V (Rect.unit (k0_off15 k (BitVec.ofNat 32 r)) S1x384x128.size (k0_off15_inb k r)))
  else latBlk k0_pay81 k0_pay83 sk (View.ld Q (Rect.unit (k0_off13 k (BitVec.ofNat 32 r)) S128x256.size (k0_off13_inb k r)))
      (ctxRows1 K) (ctxRows1 V) (View.ld B (Rect.unit (k0_off14 k (BitVec.ofNat 32 r)) S1x128x384.size (k0_off14_inb k r)))
      (View.ld K (Rect.unit (k0_off16 k (BitVec.ofNat 32 r)) S1x384x128.size (k0_off16_inb k r)))
      (View.ld V (Rect.unit (k0_off16 k (BitVec.ofNat 32 r)) S1x384x128.size (k0_off16_inb k r)))

/-- The head group a lane of the 512 lies in. -/
def grpOf (n : Fin 512) : Fin 2 := ⟨n.val / 256, by omega⟩
/-- The lane's place in its group. -/
def laneOf (n : Fin 512) : Fin 256 := ⟨n.val % 256, by omega⟩

/-- The attention body's output. -/
def OUT (sk : Fin 2 → FVec F S512x1 .f32) (Q : Vec F S2304x512 .bf16) (K V : Vec F S2x2304x128 .bf16) (B : Vec F S3x128x384 .f32) :
    Vec F S1x2304x512 .bf16 := fun y =>
  if h : (y 1).val < 256 then
    ctxPiece (sk (grpOf (y 2))) Q K V (grpOf (y 2)) ⟨(y 1).val / 128, by show _ < 2; omega⟩ (ix3 0 (rowOf (y 1)) (laneOf (y 2)))
  else
    latPiece (sk (grpOf (y 2))) Q K V B (grpOf (y 2)) ⟨((y 1).val - 256) / 256, by have h1 : (y 1).val < 2304 := (y 1).isLt; show _ < 8; omega⟩
      ⟨(y 1).val / 128 % 2, by omega⟩ (ix3 0 (rowOf (y 1)) (laneOf (y 2)))

/-! ## The loops' pieces agree with them -/

theorem ex_mem {α : Type*} {P : α → Prop} {a : α} {L : List α} (h : a ∈ L) (hp : P a) : ∃ p ∈ L, P p := ⟨a, h, hp⟩
theorem ex_left {α : Type*} {P : α → Prop} {a : α} {L L' : List α} (h : a ∈ L) (hp : P a) : ∃ p ∈ L ++ L', P p :=
  ⟨a, List.mem_append.mpr (.inl h), hp⟩

theorem emb_val {s : Shape} {off size : Fin s.rank → ℕ} {inb} (x : (Rect.unit off size inb).shape.Idx) (a : Fin s.rank) {v : ℕ} (h : off a = v) :
    (((Rect.unit off size inb).emb x) a : ℕ) = v + x a := by
  subst h; show off a + 1 * (x a : ℕ) = _; rw [Nat.one_mul]

variable (c : Dev nD) (i : grid0.Coords) (arg1 : Memref sig .tc .smem S8 .f32) (harg1 : arg1.IsWhole) (arg2 : Memref sig .tc .vmem S1x2304x768 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x2304x512 .bf16) (harg5 : arg5.IsWhole) (arg6 : Memref sig .tc .vmem S2304x512 .bf16) (harg6 : arg6.IsWhole) (arg7 : Memref sig .tc .vmem S2x2304x128 .bf16) (harg7 : arg7.IsWhole) (arg8 : Memref sig .tc .vmem S2x2304x128 .bf16) (harg8 : arg8.IsWhole) (arg9 : Memref sig .tc .vmem S3x128x384 .f32) (harg9 : arg9.IsWhole)

section Prep
variable (X2 : BufTy.Contents (Elt F) arg2.view.ty) (X3 : BufTy.Contents (Elt F) arg3.view.ty) (X4 : BufTy.Contents (Elt F) arg4.view.ty)

theorem q_agree : ∀ n, n ≤ k0_t1_loop.trips → ∀ p ∈ (pb_k0_t1 (F := F) Variants.none c none i arg1 harg1 arg2 harg2 arg3 harg3 arg4 harg4 arg5 harg5 arg6 harg6 arg7 harg7 arg8 harg8 arg9 harg9 X2 X3 X4 n).1, ∀ x : p.1.shape.Idx,
    p.2 x = QS (arg2.view.read (Elt F) X2) (arg3.view.read (Elt F) X3) (arg4.view.read (Elt F) X4) (p.1.emb x)
  | 0, _, p, hp, _ => absurd hp List.not_mem_nil
  | n + 1, hn, p, hp, x => by
    have ih := q_agree n
    have hs := pb_k0_t1_succ (F := F) Variants.none c none i arg1 harg1 arg2 harg2 arg3 harg3 arg4 harg4 arg5 harg5 arg6 harg6 arg7 harg7 arg8 harg8 arg9 harg9 X2 X3 X4 ⟨n, hn⟩
    rw [trip_prep] at hs
    rw [hs] at hp
    dsimp only at hp
    rcases List.mem_append.mp hp with hp | hp
    · obtain rfl := List.mem_singleton.mp hp
      have e0 : blkOf ((Rect.unit (s := S2304x512) (k0_off5 ⟨n, hn⟩) S128x512.size (k0_off5_inb ⟨n, hn⟩)).emb x 0) = ⟨n, hn⟩ := Fin.ext (by
        have h := emb_val (s := S2304x512) (inb := k0_off5_inb ⟨n, hn⟩) x 0 (v := 128 * n) (congrFun (k0_off5_eq _) 0)
        have hx : (x 0 : ℕ) < 128 := (x 0).isLt
        show _ / 128 = n; rw [h]; omega)
      refine congr (congrArg (prepQ (arg2.view.read (Elt F) X2) (arg3.view.read (Elt F) X3) (arg4.view.read (Elt F) X4)) e0.symm) ?_
      funext a
      match a with
      | ⟨0, _⟩ =>
        refine Fin.ext ?_
        have h := emb_val (s := S2304x512) (inb := k0_off5_inb ⟨n, hn⟩) x 0 (v := 128 * n) (congrFun (k0_off5_eq _) 0)
        have hx : (x 0 : ℕ) < 128 := (x 0).isLt
        show (x 0 : ℕ) = _ % 128; rw [h]; omega
      | ⟨1, _⟩ =>
        refine Fin.ext ?_
        have h := emb_val (s := S2304x512) (inb := k0_off5_inb ⟨n, hn⟩) x 1 (v := 0) (congrFun (k0_off5_eq _) 1)
        show (x 1 : ℕ) = _; rw [h]; omega
    · exact ih (by omega) p hp x

theorem q_cover : ∀ n, n ≤ k0_t1_loop.trips → ∀ y : S2304x512.Idx, (y 0 : ℕ) < 128 * n → ∃ p ∈ (pb_k0_t1 (F := F) Variants.none c none i arg1 harg1 arg2 harg2 arg3 harg3 arg4 harg4 arg5 harg5 arg6 harg6 arg7 harg7 arg8 harg8 arg9 harg9 X2 X3 X4 n).1, y ∈ p.1.set
  | 0, _, y, h => absurd h (by omega)
  | n + 1, hn, y, hlt => by
    have ih := q_cover n
    have hs := pb_k0_t1_succ (F := F) Variants.none c none i arg1 harg1 arg2 harg2 arg3 harg3 arg4 harg4 arg5 harg5 arg6 harg6 arg7 harg7 arg8 harg8 arg9 harg9 X2 X3 X4 ⟨n, hn⟩
    rw [trip_prep] at hs
    rw [hs]
    dsimp only
    rw [Nat.mul_add] at hlt
    have hy : (y 0 : ℕ) < 2304 := (y 0).isLt
    by_cases h : (y 0 : ℕ) < 128 * n
    · obtain ⟨p, hp, hm⟩ := ih (by omega) y h
      exact ⟨p, List.mem_append.mpr (.inr hp), hm⟩
    · refine ex_left (List.mem_singleton.mpr rfl) ?_
      refine (Rect.mem_set_unit (inb := k0_off5_inb ⟨n, hn⟩)).mpr fun a => ?_
      rw [k0_off5_eq]
      match a with
      | ⟨0, _⟩ => show 128 * n ≤ (y 0 : ℕ) ∧ (y 0 : ℕ) < 128 * n + 128; omega
      | ⟨1, _⟩ => have h1 : (y 1 : ℕ) < 512 := (y 1).isLt; show 0 ≤ (y 1 : ℕ) ∧ (y 1 : ℕ) < 0 + 512; omega

theorem q_read (f : BufTy.Contents (Elt F) arg6.view.ty) :
    arg6.view.read (Elt F) (arg6.view.writes (Elt F) f (pb_k0_t1 (F := F) Variants.none c none i arg1 harg1 arg2 harg2 arg3 harg3 arg4 harg4 arg5 harg5 arg6 harg6 arg7 harg7 arg8 harg8 arg9 harg9 X2 X3 X4 k0_t1_loop.trips).1) = QS (arg2.view.read (Elt F) X2) (arg3.view.read (Elt F) X3) (arg4.view.read (Elt F) X4) :=
  funext fun y => View.read_writes_apply_of_pieces arg6.view f _ _ (q_agree c i arg1 harg1 arg2 harg2 arg3 harg3 arg4 harg4 arg5 harg5 arg6 harg6 arg7 harg7 arg8 harg8 arg9 harg9 X2 X3 X4 _ le_rfl) y
    (q_cover c i arg1 harg1 arg2 harg2 arg3 harg3 arg4 harg4 arg5 harg5 arg6 harg6 arg7 harg7 arg8 harg8 arg9 harg9 X2 X3 X4 _ le_rfl y (y 0).isLt)

theorem k_agree : ∀ n, n ≤ k0_t1_loop.trips → ∀ p ∈ (pb_k0_t1 (F := F) Variants.none c none i arg1 harg1 arg2 harg2 arg3 harg3 arg4 harg4 arg5 harg5 arg6 harg6 arg7 harg7 arg8 harg8 arg9 harg9 X2 X3 X4 n).2.1, ∀ x : p.1.shape.Idx,
    p.2 x = KS (arg2.view.read (Elt F) X2) (arg3.view.read (Elt F) X3) (arg4.view.read (Elt F) X4) (p.1.emb x)
  | 0, _, p, hp, _ => absurd hp List.not_mem_nil
  | n + 1, hn, p, hp, x => by
    have ih := k_agree n
    have hs := pb_k0_t1_succ (F := F) Variants.none c none i arg1 harg1 arg2 harg2 arg3 harg3 arg4 harg4 arg5 harg5 arg6 harg6 arg7 harg7 arg8 harg8 arg9 harg9 X2 X3 X4 ⟨n, hn⟩
    rw [trip_prep] at hs
    rw [hs] at hp
    dsimp only at hp
    rcases List.mem_append.mp hp with hp | hp
    · rcases List.mem_cons.mp hp with rfl | hp
      · skip
        have e0 : ((Rect.unit (s := S2x2304x128) (k0_off7 ⟨n, hn⟩) S1x128x128.size (k0_off7_inb ⟨n, hn⟩)).emb x 0) = (1 : Fin 2) := Fin.ext (by
          have h := emb_val (s := S2x2304x128) (inb := k0_off7_inb ⟨n, hn⟩) x 0 (v := 1) (congrFun (k0_off7_eq _) 0)
          have hx : (x 0 : ℕ) < 1 := (x 0).isLt
          rw [h]; show _ = 1; omega)
        have h1 : ((Rect.unit (s := S2x2304x128) (k0_off7 ⟨n, hn⟩) S1x128x128.size (k0_off7_inb ⟨n, hn⟩)).emb x 1 : ℕ) = 128 * n + (x 1 : ℕ) := by
          have h := emb_val (s := S2x2304x128) (inb := k0_off7_inb ⟨n, hn⟩) x 1 (v := 128 * n) (congrFun (k0_off7_eq _) 1)
          exact h
        have hx1 : (x 1 : ℕ) < 128 := (x 1).isLt
        have e1 : blkOf ((Rect.unit (s := S2x2304x128) (k0_off7 ⟨n, hn⟩) S1x128x128.size (k0_off7_inb ⟨n, hn⟩)).emb x 1) = ⟨n, hn⟩ := Fin.ext (by
          show _ / 128 = n; rw [h1]; omega)
        refine congr ((congrFun (congrArg (KSrow (arg2.view.read (Elt F) X2) (arg3.view.read (Elt F) X3) (arg4.view.read (Elt F) X4)) e0) _).trans (congrArg (KSrow (arg2.view.read (Elt F) X2) (arg3.view.read (Elt F) X3) (arg4.view.read (Elt F) X4) 1) e1)).symm ?_
        funext a
        match a with
        | ⟨0, _⟩ => exact Fin.ext (by have hx : (x 0 : ℕ) < 1 := (x 0).isLt; show (x 0 : ℕ) = 0; omega)
        | ⟨1, _⟩ => exact Fin.ext (by show (x 1 : ℕ) = _ % 128; rw [h1]; omega)
        | ⟨2, _⟩ =>
          refine Fin.ext ?_
          have h := emb_val (s := S2x2304x128) (inb := k0_off7_inb ⟨n, hn⟩) x 2 (v := 0) (congrFun (k0_off7_eq _) 2)
          show (x 2 : ℕ) = _; rw [h]; omega
      · obtain rfl := List.mem_singleton.mp hp
        have e0 : ((Rect.unit (s := S2x2304x128) (k0_off6 ⟨n, hn⟩) S1x128x128.size (k0_off6_inb ⟨n, hn⟩)).emb x 0) = (0 : Fin 2) := Fin.ext (by
          have h := emb_val (s := S2x2304x128) (inb := k0_off6_inb ⟨n, hn⟩) x 0 (v := 0) (congrFun (k0_off6_eq _) 0)
          have hx : (x 0 : ℕ) < 1 := (x 0).isLt
          rw [h]; show _ = 0; omega)
        have h1 : ((Rect.unit (s := S2x2304x128) (k0_off6 ⟨n, hn⟩) S1x128x128.size (k0_off6_inb ⟨n, hn⟩)).emb x 1 : ℕ) = 128 * n + (x 1 : ℕ) := by
          have h := emb_val (s := S2x2304x128) (inb := k0_off6_inb ⟨n, hn⟩) x 1 (v := 128 * n) (congrFun (k0_off6_eq _) 1)
          exact h
        have hx1 : (x 1 : ℕ) < 128 := (x 1).isLt
        have e1 : blkOf ((Rect.unit (s := S2x2304x128) (k0_off6 ⟨n, hn⟩) S1x128x128.size (k0_off6_inb ⟨n, hn⟩)).emb x 1) = ⟨n, hn⟩ := Fin.ext (by
          show _ / 128 = n; rw [h1]; omega)
        refine congr ((congrFun (congrArg (KSrow (arg2.view.read (Elt F) X2) (arg3.view.read (Elt F) X3) (arg4.view.read (Elt F) X4)) e0) _).trans (congrArg (KSrow (arg2.view.read (Elt F) X2) (arg3.view.read (Elt F) X3) (arg4.view.read (Elt F) X4) 0) e1)).symm ?_
        funext a
        match a with
        | ⟨0, _⟩ => exact Fin.ext (by have hx : (x 0 : ℕ) < 1 := (x 0).isLt; show (x 0 : ℕ) = 0; omega)
        | ⟨1, _⟩ => exact Fin.ext (by show (x 1 : ℕ) = _ % 128; rw [h1]; omega)
        | ⟨2, _⟩ =>
          refine Fin.ext ?_
          have h := emb_val (s := S2x2304x128) (inb := k0_off6_inb ⟨n, hn⟩) x 2 (v := 0) (congrFun (k0_off6_eq _) 2)
          show (x 2 : ℕ) = _; rw [h]; omega
    · exact ih (by omega) p hp x

theorem k_cover : ∀ n, n ≤ k0_t1_loop.trips → ∀ y : S2x2304x128.Idx, (y 1 : ℕ) < 128 * n → ∃ p ∈ (pb_k0_t1 (F := F) Variants.none c none i arg1 harg1 arg2 harg2 arg3 harg3 arg4 harg4 arg5 harg5 arg6 harg6 arg7 harg7 arg8 harg8 arg9 harg9 X2 X3 X4 n).2.1, y ∈ p.1.set
  | 0, _, y, h => absurd h (by omega)
  | n + 1, hn, y, hlt => by
    have ih := k_cover n
    have hs := pb_k0_t1_succ (F := F) Variants.none c none i arg1 harg1 arg2 harg2 arg3 harg3 arg4 harg4 arg5 harg5 arg6 harg6 arg7 harg7 arg8 harg8 arg9 harg9 X2 X3 X4 ⟨n, hn⟩
    rw [trip_prep] at hs
    rw [hs]
    dsimp only
    rw [Nat.mul_add] at hlt
    have hy : (y 1 : ℕ) < 2304 := (y 1).isLt
    by_cases h : (y 1 : ℕ) < 128 * n
    · obtain ⟨p, hp, hm⟩ := ih (by omega) y h
      exact ⟨p, List.mem_append.mpr (.inr hp), hm⟩
    · have h0 : (y 0 : ℕ) < 2 := (y 0).isLt
      have h2 : (y 2 : ℕ) < 128 := (y 2).isLt
      by_cases hg : (y 0 : ℕ) = 1
      · refine ex_left (List.mem_cons_self) ?_
        refine (Rect.mem_set_unit (inb := k0_off7_inb ⟨n, hn⟩)).mpr fun a => ?_
        rw [k0_off7_eq]
        match a with
        | ⟨0, _⟩ => show 1 ≤ (y 0 : ℕ) ∧ (y 0 : ℕ) < 1 + 1; omega
        | ⟨1, _⟩ => show 128 * n ≤ (y 1 : ℕ) ∧ (y 1 : ℕ) < 128 * n + 128; omega
        | ⟨2, _⟩ => show 0 ≤ (y 2 : ℕ) ∧ (y 2 : ℕ) < 0 + 128; omega
      · refine ex_left (List.mem_cons_of_mem _ List.mem_cons_self) ?_
        refine (Rect.mem_set_unit (inb := k0_off6_inb ⟨n, hn⟩)).mpr fun a => ?_
        rw [k0_off6_eq]
        match a with
        | ⟨0, _⟩ => show 0 ≤ (y 0 : ℕ) ∧ (y 0 : ℕ) < 0 + 1; omega
        | ⟨1, _⟩ => show 128 * n ≤ (y 1 : ℕ) ∧ (y 1 : ℕ) < 128 * n + 128; omega
        | ⟨2, _⟩ => show 0 ≤ (y 2 : ℕ) ∧ (y 2 : ℕ) < 0 + 128; omega

theorem k_read (f : BufTy.Contents (Elt F) arg7.view.ty) :
    arg7.view.read (Elt F) (arg7.view.writes (Elt F) f (pb_k0_t1 (F := F) Variants.none c none i arg1 harg1 arg2 harg2 arg3 harg3 arg4 harg4 arg5 harg5 arg6 harg6 arg7 harg7 arg8 harg8 arg9 harg9 X2 X3 X4 k0_t1_loop.trips).2.1) = KS (arg2.view.read (Elt F) X2) (arg3.view.read (Elt F) X3) (arg4.view.read (Elt F) X4) :=
  funext fun y => View.read_writes_apply_of_pieces arg7.view f _ _ (k_agree c i arg1 harg1 arg2 harg2 arg3 harg3 arg4 harg4 arg5 harg5 arg6 harg6 arg7 harg7 arg8 harg8 arg9 harg9 X2 X3 X4 _ le_rfl) y
    (k_cover c i arg1 harg1 arg2 harg2 arg3 harg3 arg4 harg4 arg5 harg5 arg6 harg6 arg7 harg7 arg8 harg8 arg9 harg9 X2 X3 X4 _ le_rfl y (y 1).isLt)

theorem v_agree : ∀ n, n ≤ k0_t1_loop.trips → ∀ p ∈ (pb_k0_t1 (F := F) Variants.none c none i arg1 harg1 arg2 harg2 arg3 harg3 arg4 harg4 arg5 harg5 arg6 harg6 arg7 harg7 arg8 harg8 arg9 harg9 X2 X3 X4 n).2.2, ∀ x : p.1.shape.Idx,
    p.2 x = VS (arg2.view.read (Elt F) X2) (p.1.emb x)
  | 0, _, p, hp, _ => absurd hp List.not_mem_nil
  | n + 1, hn, p, hp, x => by
    have ih := v_agree n
    have hs := pb_k0_t1_succ (F := F) Variants.none c none i arg1 harg1 arg2 harg2 arg3 harg3 arg4 harg4 arg5 harg5 arg6 harg6 arg7 harg7 arg8 harg8 arg9 harg9 X2 X3 X4 ⟨n, hn⟩
    rw [trip_prep] at hs
    rw [hs] at hp
    dsimp only at hp
    rcases List.mem_append.mp hp with hp | hp
    · rcases List.mem_cons.mp hp with rfl | hp
      · skip
        have e0 : ((Rect.unit (s := S2x2304x128) (k0_off7 ⟨n, hn⟩) S1x128x128.size (k0_off7_inb ⟨n, hn⟩)).emb x 0) = (1 : Fin 2) := Fin.ext (by
          have h := emb_val (s := S2x2304x128) (inb := k0_off7_inb ⟨n, hn⟩) x 0 (v := 1) (congrFun (k0_off7_eq _) 0)
          have hx : (x 0 : ℕ) < 1 := (x 0).isLt
          rw [h]; show _ = 1; omega)
        have h1 : ((Rect.unit (s := S2x2304x128) (k0_off7 ⟨n, hn⟩) S1x128x128.size (k0_off7_inb ⟨n, hn⟩)).emb x 1 : ℕ) = 128 * n + (x 1 : ℕ) := by
          have h := emb_val (s := S2x2304x128) (inb := k0_off7_inb ⟨n, hn⟩) x 1 (v := 128 * n) (congrFun (k0_off7_eq _) 1)
          exact h
        have hx1 : (x 1 : ℕ) < 128 := (x 1).isLt
        have e1 : blkOf ((Rect.unit (s := S2x2304x128) (k0_off7 ⟨n, hn⟩) S1x128x128.size (k0_off7_inb ⟨n, hn⟩)).emb x 1) = ⟨n, hn⟩ := Fin.ext (by
          show _ / 128 = n; rw [h1]; omega)
        refine congr ((congrFun (congrArg (VSrow (arg2.view.read (Elt F) X2)) e0) _).trans (congrArg (VSrow (arg2.view.read (Elt F) X2) 1) e1)).symm ?_
        funext a
        match a with
        | ⟨0, _⟩ => exact Fin.ext (by have hx : (x 0 : ℕ) < 1 := (x 0).isLt; show (x 0 : ℕ) = 0; omega)
        | ⟨1, _⟩ => exact Fin.ext (by show (x 1 : ℕ) = _ % 128; rw [h1]; omega)
        | ⟨2, _⟩ =>
          refine Fin.ext ?_
          have h := emb_val (s := S2x2304x128) (inb := k0_off7_inb ⟨n, hn⟩) x 2 (v := 0) (congrFun (k0_off7_eq _) 2)
          show (x 2 : ℕ) = _; rw [h]; omega
      · obtain rfl := List.mem_singleton.mp hp
        have e0 : ((Rect.unit (s := S2x2304x128) (k0_off6 ⟨n, hn⟩) S1x128x128.size (k0_off6_inb ⟨n, hn⟩)).emb x 0) = (0 : Fin 2) := Fin.ext (by
          have h := emb_val (s := S2x2304x128) (inb := k0_off6_inb ⟨n, hn⟩) x 0 (v := 0) (congrFun (k0_off6_eq _) 0)
          have hx : (x 0 : ℕ) < 1 := (x 0).isLt
          rw [h]; show _ = 0; omega)
        have h1 : ((Rect.unit (s := S2x2304x128) (k0_off6 ⟨n, hn⟩) S1x128x128.size (k0_off6_inb ⟨n, hn⟩)).emb x 1 : ℕ) = 128 * n + (x 1 : ℕ) := by
          have h := emb_val (s := S2x2304x128) (inb := k0_off6_inb ⟨n, hn⟩) x 1 (v := 128 * n) (congrFun (k0_off6_eq _) 1)
          exact h
        have hx1 : (x 1 : ℕ) < 128 := (x 1).isLt
        have e1 : blkOf ((Rect.unit (s := S2x2304x128) (k0_off6 ⟨n, hn⟩) S1x128x128.size (k0_off6_inb ⟨n, hn⟩)).emb x 1) = ⟨n, hn⟩ := Fin.ext (by
          show _ / 128 = n; rw [h1]; omega)
        refine congr ((congrFun (congrArg (VSrow (arg2.view.read (Elt F) X2)) e0) _).trans (congrArg (VSrow (arg2.view.read (Elt F) X2) 0) e1)).symm ?_
        funext a
        match a with
        | ⟨0, _⟩ => exact Fin.ext (by have hx : (x 0 : ℕ) < 1 := (x 0).isLt; show (x 0 : ℕ) = 0; omega)
        | ⟨1, _⟩ => exact Fin.ext (by show (x 1 : ℕ) = _ % 128; rw [h1]; omega)
        | ⟨2, _⟩ =>
          refine Fin.ext ?_
          have h := emb_val (s := S2x2304x128) (inb := k0_off6_inb ⟨n, hn⟩) x 2 (v := 0) (congrFun (k0_off6_eq _) 2)
          show (x 2 : ℕ) = _; rw [h]; omega
    · exact ih (by omega) p hp x

theorem v_cover : ∀ n, n ≤ k0_t1_loop.trips → ∀ y : S2x2304x128.Idx, (y 1 : ℕ) < 128 * n → ∃ p ∈ (pb_k0_t1 (F := F) Variants.none c none i arg1 harg1 arg2 harg2 arg3 harg3 arg4 harg4 arg5 harg5 arg6 harg6 arg7 harg7 arg8 harg8 arg9 harg9 X2 X3 X4 n).2.2, y ∈ p.1.set
  | 0, _, y, h => absurd h (by omega)
  | n + 1, hn, y, hlt => by
    have ih := v_cover n
    have hs := pb_k0_t1_succ (F := F) Variants.none c none i arg1 harg1 arg2 harg2 arg3 harg3 arg4 harg4 arg5 harg5 arg6 harg6 arg7 harg7 arg8 harg8 arg9 harg9 X2 X3 X4 ⟨n, hn⟩
    rw [trip_prep] at hs
    rw [hs]
    dsimp only
    rw [Nat.mul_add] at hlt
    have hy : (y 1 : ℕ) < 2304 := (y 1).isLt
    by_cases h : (y 1 : ℕ) < 128 * n
    · obtain ⟨p, hp, hm⟩ := ih (by omega) y h
      exact ⟨p, List.mem_append.mpr (.inr hp), hm⟩
    · have h0 : (y 0 : ℕ) < 2 := (y 0).isLt
      have h2 : (y 2 : ℕ) < 128 := (y 2).isLt
      by_cases hg : (y 0 : ℕ) = 1
      · refine ex_left (List.mem_cons_self) ?_
        refine (Rect.mem_set_unit (inb := k0_off7_inb ⟨n, hn⟩)).mpr fun a => ?_
        rw [k0_off7_eq]
        match a with
        | ⟨0, _⟩ => show 1 ≤ (y 0 : ℕ) ∧ (y 0 : ℕ) < 1 + 1; omega
        | ⟨1, _⟩ => show 128 * n ≤ (y 1 : ℕ) ∧ (y 1 : ℕ) < 128 * n + 128; omega
        | ⟨2, _⟩ => show 0 ≤ (y 2 : ℕ) ∧ (y 2 : ℕ) < 0 + 128; omega
      · refine ex_left (List.mem_cons_of_mem _ List.mem_cons_self) ?_
        refine (Rect.mem_set_unit (inb := k0_off6_inb ⟨n, hn⟩)).mpr fun a => ?_
        rw [k0_off6_eq]
        match a with
        | ⟨0, _⟩ => show 0 ≤ (y 0 : ℕ) ∧ (y 0 : ℕ) < 0 + 1; omega
        | ⟨1, _⟩ => show 128 * n ≤ (y 1 : ℕ) ∧ (y 1 : ℕ) < 128 * n + 128; omega
        | ⟨2, _⟩ => show 0 ≤ (y 2 : ℕ) ∧ (y 2 : ℕ) < 0 + 128; omega

theorem v_read (f : BufTy.Contents (Elt F) arg8.view.ty) :
    arg8.view.read (Elt F) (arg8.view.writes (Elt F) f (pb_k0_t1 (F := F) Variants.none c none i arg1 harg1 arg2 harg2 arg3 harg3 arg4 harg4 arg5 harg5 arg6 harg6 arg7 harg7 arg8 harg8 arg9 harg9 X2 X3 X4 k0_t1_loop.trips).2.2) = VS (arg2.view.read (Elt F) X2) :=
  funext fun y => View.read_writes_apply_of_pieces arg8.view f _ _ (v_agree c i arg1 harg1 arg2 harg2 arg3 harg3 arg4 harg4 arg5 harg5 arg6 harg6 arg7 harg7 arg8 harg8 arg9 harg9 X2 X3 X4 _ le_rfl) y
    (v_cover c i arg1 harg1 arg2 harg2 arg3 harg3 arg4 harg4 arg5 harg5 arg6 harg6 arg7 harg7 arg8 harg8 arg9 harg9 X2 X3 X4 _ le_rfl y (y 1).isLt)

end Prep

section Out
variable (sk : Fin 2 → FVec F S512x1 .f32) (X6 : BufTy.Contents (Elt F) arg6.view.ty) (X7 : BufTy.Contents (Elt F) arg7.view.ty)
  (X8 : BufTy.Contents (Elt F) arg8.view.ty) (X9 : BufTy.Contents (Elt F) arg9.view.ty)

/-- A block of the context's rows, as the output function tells it. -/
theorem OUT_ctx (Q : Vec F S2304x512 .bf16) (K V : Vec F S2x2304x128 .bf16) (B : Vec F S3x128x384 .f32) (g : Fin 2) (k : Fin k0_t2_loop.trips)
    (x : S1x128x256.Idx) (y : S1x2304x512.Idx) (h1 : (y 1 : ℕ) = 128 * k.val + (x 1 : ℕ)) (h2 : (y 2 : ℕ) = 256 * g.val + (x 2 : ℕ)) :
    ctxPiece (sk g) Q K V g k x = OUT sk Q K V B y := by
  have hk : k.val < 2 := k.isLt
  have hx1 : (x 1 : ℕ) < 128 := (x 1).isLt
  have hx2 : (x 2 : ℕ) < 256 := (x 2).isLt
  have hx0 : (x 0 : ℕ) < 1 := (x 0).isLt
  have hy : (y 1 : ℕ) < 256 := by omega
  have hg : grpOf (y 2) = g := Fin.ext (by show (y 2 : ℕ) / 256 = g.val; omega)
  have hk' : (⟨(y 1 : ℕ) / 128, by show _ < 2; omega⟩ : Fin k0_t2_loop.trips) = k := Fin.ext (by show (y 1 : ℕ) / 128 = k.val; omega)
  have hx : x = ix3 0 (rowOf (y 1)) (laneOf (y 2)) := funext fun a => match a with
    | ⟨0, _⟩ => Fin.ext (by show (x 0 : ℕ) = 0; omega)
    | ⟨1, _⟩ => Fin.ext (by show (x 1 : ℕ) = (y 1 : ℕ) % 128; omega)
    | ⟨2, _⟩ => Fin.ext (by show (x 2 : ℕ) = (y 2 : ℕ) % 256; omega)
  unfold OUT
  rw [dif_pos hy, hg, hk', ← hx]

/-- A block of the latents' rows, as the output function tells it. -/
theorem OUT_lat (Q : Vec F S2304x512 .bf16) (K V : Vec F S2x2304x128 .bf16) (B : Vec F S3x128x384 .f32) (g : Fin 2) (k : Fin k0_t3_loop.trips) (r : Fin 2)
    (x : S1x128x256.Idx) (y : S1x2304x512.Idx) (h1 : (y 1 : ℕ) = 256 * k.val + 128 * r.val + 256 + (x 1 : ℕ)) (h2 : (y 2 : ℕ) = 256 * g.val + (x 2 : ℕ)) :
    latPiece (sk g) Q K V B g k r x = OUT sk Q K V B y := by
  have hk : k.val < 8 := k.isLt
  have hx1 : (x 1 : ℕ) < 128 := (x 1).isLt
  have hx2 : (x 2 : ℕ) < 256 := (x 2).isLt
  have hx0 : (x 0 : ℕ) < 1 := (x 0).isLt
  have hy : ¬ (y 1 : ℕ) < 256 := by omega
  have hg : grpOf (y 2) = g := Fin.ext (by show (y 2 : ℕ) / 256 = g.val; omega)
  have hk' : (⟨((y 1 : ℕ) - 256) / 256, by show _ < 8; omega⟩ : Fin k0_t3_loop.trips) = k := Fin.ext (by show ((y 1 : ℕ) - 256) / 256 = k.val; omega)
  have hr' : (⟨(y 1 : ℕ) / 128 % 2, by omega⟩ : Fin 2) = r := Fin.ext (by show (y 1 : ℕ) / 128 % 2 = r.val; omega)
  have hx : x = ix3 0 (rowOf (y 1)) (laneOf (y 2)) := funext fun a => match a with
    | ⟨0, _⟩ => Fin.ext (by show (x 0 : ℕ) = 0; omega)
    | ⟨1, _⟩ => Fin.ext (by show (x 1 : ℕ) = (y 1 : ℕ) % 128; omega)
    | ⟨2, _⟩ => Fin.ext (by show (x 2 : ℕ) = (y 2 : ℕ) % 256; omega)
  unfold OUT
  rw [dif_neg hy, hg, hk', hr', ← hx]

theorem ctx_agree : ∀ n, n ≤ k0_t2_loop.trips → ∀ p ∈ pb_k0_t2 (F := F) Variants.none c none i arg1 harg1 arg2 harg2 arg3 harg3 arg4 harg4 arg5 harg5 arg6 harg6 arg7 harg7 arg8 harg8 arg9 harg9 k0_pay81 k0_pay83 (sk 0) (sk 1) X6 X7 X8 n, ∀ x : p.1.shape.Idx,
    p.2 x = OUT sk (arg6.view.read (Elt F) X6) (arg7.view.read (Elt F) X7) (arg8.view.read (Elt F) X8) (arg9.view.read (Elt F) X9) (p.1.emb x)
  | 0, _, p, hp, _ => absurd hp List.not_mem_nil
  | n + 1, hn, p, hp, x => by
    have ih := ctx_agree n
    have hs := pb_k0_t2_succ (F := F) Variants.none c none i arg1 harg1 arg2 harg2 arg3 harg3 arg4 harg4 arg5 harg5 arg6 harg6 arg7 harg7 arg8 harg8 arg9 harg9 k0_pay81 k0_pay83 (sk 0) (sk 1) X6 X7 X8 ⟨n, hn⟩
    rw [trip_ctx] at hs
    rw [hs] at hp
    rcases List.mem_append.mp hp with hp | hp
    · rcases List.mem_cons.mp hp with rfl | hp
      · refine OUT_ctx sk _ _ _ _ 1 ⟨n, hn⟩ x _ ?_ ?_
        · exact emb_val (s := S1x2304x512) (inb := k0_off11_inb ⟨n, hn⟩) x 1 (v := 128 * n) (congrFun (k0_off11_eq _) 1)
        · exact emb_val (s := S1x2304x512) (inb := k0_off11_inb ⟨n, hn⟩) x 2 (v := 256) (congrFun (k0_off11_eq _) 2)
      · obtain rfl := List.mem_singleton.mp hp
        refine OUT_ctx sk _ _ _ _ 0 ⟨n, hn⟩ x _ ?_ ?_
        · exact emb_val (s := S1x2304x512) (inb := k0_off10_inb ⟨n, hn⟩) x 1 (v := 128 * n) (congrFun (k0_off10_eq _) 1)
        · exact emb_val (s := S1x2304x512) (inb := k0_off10_inb ⟨n, hn⟩) x 2 (v := 0) (congrFun (k0_off10_eq _) 2)
    · exact ih (by omega) p hp x

theorem ctx_cover : ∀ n, n ≤ k0_t2_loop.trips → ∀ y : S1x2304x512.Idx, (y 1 : ℕ) < 128 * n → ∃ p ∈ pb_k0_t2 (F := F) Variants.none c none i arg1 harg1 arg2 harg2 arg3 harg3 arg4 harg4 arg5 harg5 arg6 harg6 arg7 harg7 arg8 harg8 arg9 harg9 k0_pay81 k0_pay83 (sk 0) (sk 1) X6 X7 X8 n, y ∈ p.1.set
  | 0, _, y, h => absurd h (by omega)
  | n + 1, hn, y, hlt => by
    have ih := ctx_cover n
    have hs := pb_k0_t2_succ (F := F) Variants.none c none i arg1 harg1 arg2 harg2 arg3 harg3 arg4 harg4 arg5 harg5 arg6 harg6 arg7 harg7 arg8 harg8 arg9 harg9 k0_pay81 k0_pay83 (sk 0) (sk 1) X6 X7 X8 ⟨n, hn⟩
    rw [trip_ctx] at hs
    rw [hs]
    rw [Nat.mul_add] at hlt
    by_cases h : (y 1 : ℕ) < 128 * n
    · obtain ⟨p, hp, hm⟩ := ih (by omega) y h
      exact ⟨p, List.mem_append.mpr (.inr hp), hm⟩
    · have h0 : (y 0 : ℕ) < 1 := (y 0).isLt
      have h2 : (y 2 : ℕ) < 512 := (y 2).isLt
      by_cases hg : 256 ≤ (y 2 : ℕ)
      · refine ex_left (List.mem_cons_self) ?_
        refine (Rect.mem_set_unit (inb := k0_off11_inb ⟨n, hn⟩)).mpr fun a => ?_
        rw [k0_off11_eq]
        match a with
        | ⟨0, _⟩ => show 0 ≤ (y 0 : ℕ) ∧ (y 0 : ℕ) < 0 + 1; omega
        | ⟨1, _⟩ => show 128 * n ≤ (y 1 : ℕ) ∧ (y 1 : ℕ) < 128 * n + 128; omega
        | ⟨2, _⟩ => show 256 ≤ (y 2 : ℕ) ∧ (y 2 : ℕ) < 256 + 256; omega
      · refine ex_left (List.mem_cons_of_mem _ List.mem_cons_self) ?_
        refine (Rect.mem_set_unit (inb := k0_off10_inb ⟨n, hn⟩)).mpr fun a => ?_
        rw [k0_off10_eq]
        match a with
        | ⟨0, _⟩ => show 0 ≤ (y 0 : ℕ) ∧ (y 0 : ℕ) < 0 + 1; omega
        | ⟨1, _⟩ => show 128 * n ≤ (y 1 : ℕ) ∧ (y 1 : ℕ) < 128 * n + 128; omega
        | ⟨2, _⟩ => show 0 ≤ (y 2 : ℕ) ∧ (y 2 : ℕ) < 0 + 256; omega

theorem lat_agree : ∀ n, n ≤ k0_t3_loop.trips → ∀ p ∈ pb_k0_t3 (F := F) Variants.none c none i arg1 harg1 arg2 harg2 arg3 harg3 arg4 harg4 arg5 harg5 arg6 harg6 arg7 harg7 arg8 harg8 arg9 harg9 k0_pay81 k0_pay83 (sk 0) (sk 1) X6 X7 X8 X9 n, ∀ x : p.1.shape.Idx,
    p.2 x = OUT sk (arg6.view.read (Elt F) X6) (arg7.view.read (Elt F) X7) (arg8.view.read (Elt F) X8) (arg9.view.read (Elt F) X9) (p.1.emb x)
  | 0, _, p, hp, _ => absurd hp List.not_mem_nil
  | n + 1, hn, p, hp, x => by
    have ih := lat_agree n
    have hs := pb_k0_t3_succ (F := F) Variants.none c none i arg1 harg1 arg2 harg2 arg3 harg3 arg4 harg4 arg5 harg5 arg6 harg6 arg7 harg7 arg8 harg8 arg9 harg9 k0_pay81 k0_pay83 (sk 0) (sk 1) X6 X7 X8 X9 ⟨n, hn⟩
    rw [trip_lat] at hs
    rw [hs] at hp
    rcases List.mem_append.mp hp with hp | hp
    · rcases List.mem_cons.mp hp with rfl | hp
      · refine OUT_lat sk _ _ _ _ 1 ⟨n, hn⟩ 1 x _ ?_ ?_
        · exact emb_val (s := S1x2304x512) (inb := k0_off18_inb ⟨n, hn⟩ 1) x 1 (v := 256 * n + 128 * 1 + 256) (congrFun (k0_off18_eq ⟨n, hn⟩ 1) 1)
        · exact emb_val (s := S1x2304x512) (inb := k0_off18_inb ⟨n, hn⟩ 1) x 2 (v := 256) (congrFun (k0_off18_eq ⟨n, hn⟩ 1) 2)
      · rcases List.mem_cons.mp hp with rfl | hp
        · refine OUT_lat sk _ _ _ _ 0 ⟨n, hn⟩ 1 x _ ?_ ?_
          · exact emb_val (s := S1x2304x512) (inb := k0_off17_inb ⟨n, hn⟩ 1) x 1 (v := 256 * n + 128 * 1 + 256) (congrFun (k0_off17_eq ⟨n, hn⟩ 1) 1)
          · exact emb_val (s := S1x2304x512) (inb := k0_off17_inb ⟨n, hn⟩ 1) x 2 (v := 0) (congrFun (k0_off17_eq ⟨n, hn⟩ 1) 2)
        · rcases List.mem_cons.mp hp with rfl | hp
          · refine OUT_lat sk _ _ _ _ 1 ⟨n, hn⟩ 0 x _ ?_ ?_
            · exact emb_val (s := S1x2304x512) (inb := k0_off18_inb ⟨n, hn⟩ 0) x 1 (v := 256 * n + 128 * 0 + 256) (congrFun (k0_off18_eq ⟨n, hn⟩ 0) 1)
            · exact emb_val (s := S1x2304x512) (inb := k0_off18_inb ⟨n, hn⟩ 0) x 2 (v := 256) (congrFun (k0_off18_eq ⟨n, hn⟩ 0) 2)
          · obtain rfl := List.mem_singleton.mp hp
            refine OUT_lat sk _ _ _ _ 0 ⟨n, hn⟩ 0 x _ ?_ ?_
            · exact emb_val (s := S1x2304x512) (inb := k0_off17_inb ⟨n, hn⟩ 0) x 1 (v := 256 * n + 128 * 0 + 256) (congrFun (k0_off17_eq ⟨n, hn⟩ 0) 1)
            · exact emb_val (s := S1x2304x512) (inb := k0_off17_inb ⟨n, hn⟩ 0) x 2 (v := 0) (congrFun (k0_off17_eq ⟨n, hn⟩ 0) 2)
    · exact ih (by omega) p hp x

theorem lat_cover : ∀ n, n ≤ k0_t3_loop.trips → ∀ y : S1x2304x512.Idx, 256 ≤ (y 1 : ℕ) → (y 1 : ℕ) < 256 * n + 256 → ∃ p ∈ pb_k0_t3 (F := F) Variants.none c none i arg1 harg1 arg2 harg2 arg3 harg3 arg4 harg4 arg5 harg5 arg6 harg6 arg7 harg7 arg8 harg8 arg9 harg9 k0_pay81 k0_pay83 (sk 0) (sk 1) X6 X7 X8 X9 n, y ∈ p.1.set
  | 0, _, y, h, h' => absurd h (by omega)
  | n + 1, hn, y, hge, hlt => by
    have ih := lat_cover n
    have hs := pb_k0_t3_succ (F := F) Variants.none c none i arg1 harg1 arg2 harg2 arg3 harg3 arg4 harg4 arg5 harg5 arg6 harg6 arg7 harg7 arg8 harg8 arg9 harg9 k0_pay81 k0_pay83 (sk 0) (sk 1) X6 X7 X8 X9 ⟨n, hn⟩
    rw [trip_lat] at hs
    rw [hs]
    rw [Nat.mul_add] at hlt
    by_cases h : (y 1 : ℕ) < 256 * n + 256
    · obtain ⟨p, hp, hm⟩ := ih (by omega) y hge h
      exact ⟨p, List.mem_append.mpr (.inr hp), hm⟩
    · have h0 : (y 0 : ℕ) < 1 := (y 0).isLt
      have h2 : (y 2 : ℕ) < 512 := (y 2).isLt
      by_cases hc0 : 256 * n + 384 ≤ (y 1 : ℕ) ∧ 256 ≤ (y 2 : ℕ)
      · refine ex_left (List.mem_cons_self) ?_
        refine (Rect.mem_set_unit (inb := k0_off18_inb ⟨n, hn⟩ 1)).mpr fun a => ?_
        rw [show k0_off18 ⟨n, hn⟩ 1#32 = _ from k0_off18_eq ⟨n, hn⟩ 1]
        match a with
        | ⟨0, _⟩ => show 0 ≤ (y 0 : ℕ) ∧ (y 0 : ℕ) < 0 + 1; omega
        | ⟨1, _⟩ => show 256 * n + 128 * 1 + 256 ≤ (y 1 : ℕ) ∧ (y 1 : ℕ) < 256 * n + 128 * 1 + 256 + 128; omega
        | ⟨2, _⟩ => show 256 ≤ (y 2 : ℕ) ∧ (y 2 : ℕ) < 256 + 256; omega
      by_cases hc1 : 256 * n + 384 ≤ (y 1 : ℕ) ∧ (y 2 : ℕ) < 256
      · refine ex_left (List.mem_cons_of_mem _ List.mem_cons_self) ?_
        refine (Rect.mem_set_unit (inb := k0_off17_inb ⟨n, hn⟩ 1)).mpr fun a => ?_
        rw [show k0_off17 ⟨n, hn⟩ 1#32 = _ from k0_off17_eq ⟨n, hn⟩ 1]
        match a with
        | ⟨0, _⟩ => show 0 ≤ (y 0 : ℕ) ∧ (y 0 : ℕ) < 0 + 1; omega
        | ⟨1, _⟩ => show 256 * n + 128 * 1 + 256 ≤ (y 1 : ℕ) ∧ (y 1 : ℕ) < 256 * n + 128 * 1 + 256 + 128; omega
        | ⟨2, _⟩ => show 0 ≤ (y 2 : ℕ) ∧ (y 2 : ℕ) < 0 + 256; omega
      by_cases hc2 : (y 1 : ℕ) < 256 * n + 384 ∧ 256 ≤ (y 2 : ℕ)
      · refine ex_left (List.mem_cons_of_mem _ (List.mem_cons_of_mem _ List.mem_cons_self)) ?_
        refine (Rect.mem_set_unit (inb := k0_off18_inb ⟨n, hn⟩ 0)).mpr fun a => ?_
        rw [show k0_off18 ⟨n, hn⟩ 0#32 = _ from k0_off18_eq ⟨n, hn⟩ 0]
        match a with
        | ⟨0, _⟩ => show 0 ≤ (y 0 : ℕ) ∧ (y 0 : ℕ) < 0 + 1; omega
        | ⟨1, _⟩ => show 256 * n + 128 * 0 + 256 ≤ (y 1 : ℕ) ∧ (y 1 : ℕ) < 256 * n + 128 * 0 + 256 + 128; omega
        | ⟨2, _⟩ => show 256 ≤ (y 2 : ℕ) ∧ (y 2 : ℕ) < 256 + 256; omega
      refine ex_left (List.mem_cons_of_mem _ (List.mem_cons_of_mem _ (List.mem_cons_of_mem _ List.mem_cons_self))) ?_
      refine (Rect.mem_set_unit (inb := k0_off17_inb ⟨n, hn⟩ 0)).mpr fun a => ?_
      rw [show k0_off17 ⟨n, hn⟩ 0#32 = _ from k0_off17_eq ⟨n, hn⟩ 0]
      match a with
      | ⟨0, _⟩ => show 0 ≤ (y 0 : ℕ) ∧ (y 0 : ℕ) < 0 + 1; omega
      | ⟨1, _⟩ => show 256 * n + 128 * 0 + 256 ≤ (y 1 : ℕ) ∧ (y 1 : ℕ) < 256 * n + 128 * 0 + 256 + 128; omega
      | ⟨2, _⟩ => show 0 ≤ (y 2 : ℕ) ∧ (y 2 : ℕ) < 0 + 256; omega

theorem out_read (f : BufTy.Contents (Elt F) arg5.view.ty) :
    arg5.view.read (Elt F) (arg5.view.writes (Elt F) f (pb_k0_t3 (F := F) Variants.none c none i arg1 harg1 arg2 harg2 arg3 harg3 arg4 harg4 arg5 harg5 arg6 harg6 arg7 harg7 arg8 harg8 arg9 harg9 k0_pay81 k0_pay83 (sk 0) (sk 1) X6 X7 X8 X9 k0_t3_loop.trips ++ pb_k0_t2 (F := F) Variants.none c none i arg1 harg1 arg2 harg2 arg3 harg3 arg4 harg4 arg5 harg5 arg6 harg6 arg7 harg7 arg8 harg8 arg9 harg9 k0_pay81 k0_pay83 (sk 0) (sk 1) X6 X7 X8 k0_t2_loop.trips)) = OUT sk (arg6.view.read (Elt F) X6) (arg7.view.read (Elt F) X7) (arg8.view.read (Elt F) X8) (arg9.view.read (Elt F) X9) := by
  refine funext fun y => View.read_writes_apply_of_pieces arg5.view f _ _ (fun p hp x => ?_) y ?_
  · rcases List.mem_append.mp hp with hp | hp
    · exact lat_agree c i arg1 harg1 arg2 harg2 arg3 harg3 arg4 harg4 arg5 harg5 arg6 harg6 arg7 harg7 arg8 harg8 arg9 harg9 sk X6 X7 X8 X9 _ le_rfl p hp x
    · exact ctx_agree c i arg1 harg1 arg2 harg2 arg3 harg3 arg4 harg4 arg5 harg5 arg6 harg6 arg7 harg7 arg8 harg8 arg9 harg9 sk X6 X7 X8 X9 _ le_rfl p hp x
  · have hy : (y 1 : ℕ) < 2304 := (y 1).isLt
    by_cases h : (y 1 : ℕ) < 256
    · obtain ⟨p, hp, hm⟩ := ctx_cover c i arg1 harg1 arg2 harg2 arg3 harg3 arg4 harg4 arg5 harg5 arg6 harg6 arg7 harg7 arg8 harg8 arg9 harg9 sk X6 X7 X8 k0_t2_loop.trips le_rfl y h
      exact ⟨p, List.mem_append.mpr (.inr hp), hm⟩
    · obtain ⟨p, hp, hm⟩ := lat_cover c i arg1 harg1 arg2 harg2 arg3 harg3 arg4 harg4 arg5 harg5 arg6 harg6 arg7 harg7 arg8 harg8 arg9 harg9 sk X6 X7 X8 X9 k0_t3_loop.trips le_rfl y (by omega) (by show _ < 256 * 8 + 256; omega)
      exact ⟨p, List.mem_append.mpr (.inl hp), hm⟩

end Out

/-! ## The biases -/

theorem bias_read (f : BufTy.Contents (Elt F) arg9.view.ty) :
    arg9.view.read (Elt F) (arg9.view.writes (Elt F) f
      [⟨Rect.unit ![2, 0, 0] S1x128x384.size inb_S3x128x384_S1x128x384_2_0_0, k0_pay1 k0_pay93⟩,
       ⟨Rect.unit ![1, 0, 0] S1x128x384.size inb_S3x128x384_S1x128x384_1_0_0, k0_pay92⟩,
       ⟨Rect.unit ![0, 0, 0] S1x128x384.size inb_S3x128x384_S1x128x384_0_0_0, k0_pay91⟩]) = BS := by
  refine funext fun y => View.read_writes_apply_of_pieces arg9.view f _ _ (fun p hp x => ?_) y ?_
  · rcases List.mem_cons.mp hp with rfl | hp
    · skip
      have e0 : ((Rect.unit (s := S3x128x384) ![2, 0, 0] S1x128x384.size inb_S3x128x384_S1x128x384_2_0_0).emb x 0) = ((2 : Fin 3) : Fin 3) := Fin.ext (by
        have h := emb_val (s := S3x128x384) (inb := inb_S3x128x384_S1x128x384_2_0_0) x 0 (v := 2) rfl
        have hx : (x 0 : ℕ) < 1 := (x 0).isLt
        rw [h]; show _ = 2; omega)
      refine congr (congrArg (BSrow (F := F)) e0).symm (funext fun a => ?_)
      match a with
      | ⟨0, _⟩ => exact Fin.ext (by have hx : (x 0 : ℕ) < 1 := (x 0).isLt; show (x 0 : ℕ) = 0; omega)
      | ⟨1, _⟩ => exact Fin.ext (by have h := emb_val (s := S3x128x384) (inb := inb_S3x128x384_S1x128x384_2_0_0) x 1 (v := 0) rfl; show (x 1 : ℕ) = _; rw [h]; omega)
      | ⟨2, _⟩ => exact Fin.ext (by have h := emb_val (s := S3x128x384) (inb := inb_S3x128x384_S1x128x384_2_0_0) x 2 (v := 0) rfl; show (x 2 : ℕ) = _; rw [h]; omega)
    · rcases List.mem_cons.mp hp with rfl | hp
      · skip
        have e0 : ((Rect.unit (s := S3x128x384) ![1, 0, 0] S1x128x384.size inb_S3x128x384_S1x128x384_1_0_0).emb x 0) = ((1 : Fin 3) : Fin 3) := Fin.ext (by
          have h := emb_val (s := S3x128x384) (inb := inb_S3x128x384_S1x128x384_1_0_0) x 0 (v := 1) rfl
          have hx : (x 0 : ℕ) < 1 := (x 0).isLt
          rw [h]; show _ = 1; omega)
        refine congr (congrArg (BSrow (F := F)) e0).symm (funext fun a => ?_)
        match a with
        | ⟨0, _⟩ => exact Fin.ext (by have hx : (x 0 : ℕ) < 1 := (x 0).isLt; show (x 0 : ℕ) = 0; omega)
        | ⟨1, _⟩ => exact Fin.ext (by have h := emb_val (s := S3x128x384) (inb := inb_S3x128x384_S1x128x384_1_0_0) x 1 (v := 0) rfl; show (x 1 : ℕ) = _; rw [h]; omega)
        | ⟨2, _⟩ => exact Fin.ext (by have h := emb_val (s := S3x128x384) (inb := inb_S3x128x384_S1x128x384_1_0_0) x 2 (v := 0) rfl; show (x 2 : ℕ) = _; rw [h]; omega)
      · obtain rfl := List.mem_singleton.mp hp
        have e0 : ((Rect.unit (s := S3x128x384) ![0, 0, 0] S1x128x384.size inb_S3x128x384_S1x128x384_0_0_0).emb x 0) = ((0 : Fin 3) : Fin 3) := Fin.ext (by
          have h := emb_val (s := S3x128x384) (inb := inb_S3x128x384_S1x128x384_0_0_0) x 0 (v := 0) rfl
          have hx : (x 0 : ℕ) < 1 := (x 0).isLt
          rw [h]; show _ = 0; omega)
        refine congr (congrArg (BSrow (F := F)) e0).symm (funext fun a => ?_)
        match a with
        | ⟨0, _⟩ => exact Fin.ext (by have hx : (x 0 : ℕ) < 1 := (x 0).isLt; show (x 0 : ℕ) = 0; omega)
        | ⟨1, _⟩ => exact Fin.ext (by have h := emb_val (s := S3x128x384) (inb := inb_S3x128x384_S1x128x384_0_0_0) x 1 (v := 0) rfl; show (x 1 : ℕ) = _; rw [h]; omega)
        | ⟨2, _⟩ => exact Fin.ext (by have h := emb_val (s := S3x128x384) (inb := inb_S3x128x384_S1x128x384_0_0_0) x 2 (v := 0) rfl; show (x 2 : ℕ) = _; rw [h]; omega)
  · have h0 : (y 0 : ℕ) < 3 := (y 0).isLt
    have h1 : (y 1 : ℕ) < 128 := (y 1).isLt
    have h2 : (y 2 : ℕ) < 384 := (y 2).isLt
    by_cases hg2 : (y 0 : ℕ) = 2
    · refine ex_mem List.mem_cons_self ?_
      refine (Rect.mem_set_unit (inb := inb_S3x128x384_S1x128x384_2_0_0)).mpr fun a => ?_
      match a with
      | ⟨0, _⟩ => show 2 ≤ (y 0 : ℕ) ∧ (y 0 : ℕ) < 2 + 1; omega
      | ⟨1, _⟩ => show 0 ≤ (y 1 : ℕ) ∧ (y 1 : ℕ) < 0 + 128; omega
      | ⟨2, _⟩ => show 0 ≤ (y 2 : ℕ) ∧ (y 2 : ℕ) < 0 + 384; omega
    by_cases hg1 : (y 0 : ℕ) = 1
    · refine ex_mem (List.mem_cons_of_mem _ List.mem_cons_self) ?_
      refine (Rect.mem_set_unit (inb := inb_S3x128x384_S1x128x384_1_0_0)).mpr fun a => ?_
      match a with
      | ⟨0, _⟩ => show 1 ≤ (y 0 : ℕ) ∧ (y 0 : ℕ) < 1 + 1; omega
      | ⟨1, _⟩ => show 0 ≤ (y 1 : ℕ) ∧ (y 1 : ℕ) < 0 + 128; omega
      | ⟨2, _⟩ => show 0 ≤ (y 2 : ℕ) ∧ (y 2 : ℕ) < 0 + 384; omega
    · refine ex_mem (List.mem_cons_of_mem _ (List.mem_cons_of_mem _ List.mem_cons_self)) ?_
      refine (Rect.mem_set_unit (inb := inb_S3x128x384_S1x128x384_0_0_0)).mpr fun a => ?_
      match a with
      | ⟨0, _⟩ => show 0 ≤ (y 0 : ℕ) ∧ (y 0 : ℕ) < 0 + 1; omega
      | ⟨1, _⟩ => show 0 ≤ (y 1 : ℕ) ∧ (y 1 : ℕ) < 0 + 128; omega
      | ⟨2, _⟩ => show 0 ≤ (y 2 : ℕ) ∧ (y 2 : ℕ) < 0 + 384; omega

end Cert.KernelIdeal.Swa

end
-- ==== Proof.Swa.Run.lean ====
/- The attention body's run: whole staging buffers in, the output's buffer at `bodyOut` of the inputs. -/
module

public import proofs.«01_k».proof.Proof.Gen.KernelIdeal.Frame.Runs
public import proofs.«01_k».proof.Proof.Swa.Scratch
public import Idealize.ShloMosaic.Lib.WholeRead

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1)

variable {F : FTy → Type} [FloatOps F] [Named F]

local notation "𝕄" => MT nD τ sig Unit (Elt F) ℕ (UR sig nD τ) ℕ

/-- Each stacked row's sink, in base two: of the first head group; of the second. -/
def SK (x0 : Vec F S8 .f32) (g : Fin 2) : FVec F S512x1 .f32 := match g with
  | 0 => k0_pay86 k0_pay82 (k0_pay84 (x0 (ix1 0))) k0_pay85 (x0 (ix1 1)) (x0 (ix1 2)) (x0 (ix1 3))
  | 1 => k0_pay89 (k0_pay87 k0_pay82 (x0 (ix1 4)) (x0 (ix1 5)) (x0 (ix1 6))) (k0_pay88 k0_pay82) (x0 (ix1 7)) (Named.named κ "log2e" 0x3FB8AA3B#32)

/-- What the body leaves in its output block, of its four input blocks. -/
def bodyOut (x0 : Vec F S8 .f32) (x1 : Vec F S1x2304x768 .f32) (x2 : Vec F S2048x128 .f32) (x3 : Vec F S2048x128 .f32) : Vec F S1x2304x512 .bf16 :=
  OUT (SK x0) (QS x1 x2 x3) (KS x1 x2 x3) (VS x1) BS

set_option maxHeartbeats 1000000 in
/-- The body's triple. -/
theorem run_body (c : Dev nD) (i : grid0.Coords) (arg1 : Memref sig .tc .smem S8 .f32) (harg1 : arg1.IsWhole) (arg2 : Memref sig .tc .vmem S1x2304x768 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x2304x512 .bf16) (harg5 : arg5.IsWhole) (arg6 : Memref sig .tc .vmem S2304x512 .bf16) (harg6 : arg6.IsWhole) (arg7 : Memref sig .tc .vmem S2x2304x128 .bf16) (harg7 : arg7.IsWhole) (arg8 : Memref sig .tc .vmem S2x2304x128 .bf16) (harg8 : arg8.IsWhole) (arg9 : Memref sig .tc .vmem S3x128x384 .f32) (harg9 : arg9.IsWhole)
    (x0 : Vec F S8 .f32) (x1 : Vec F S1x2304x768 .f32) (x2 : Vec F S2048x128 .f32) (x3 : Vec F S2048x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (bodyOut x0 x1 x2 x3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_swa i arg1 harg1 arg2 harg2 arg3 harg3 arg4 harg4 arg5 harg5 arg6 harg6 arg7 harg7 arg8 harg8 arg9 harg9) K := by
  intro E K
  simp only [cc0_swa_eq_skeleton]; unfold cc0_swa_skel
  simp only [k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have e9 : run_body.sl.r_9 c arg1 harg1 x0 = SK x0 0 := by
    sl_unfold_words
    dsimp only
    simp only [harg1.readAt_unread]
    refine congr (congr (congr (congrArg (fun a => k0_pay86 k0_pay82 (k0_pay84 a) k0_pay85) ?_) ?_) ?_) ?_ <;>
      exact congrArg x0 (funext fun a => match a with | ⟨0, _⟩ => rfl)
  have e11 : run_body.sl.r_11 c arg1 harg1 x0 = SK x0 1 := by
    sl_unfold_words
    dsimp only
    simp only [harg1.readAt_unread]
    refine congr (congr (congr (congrArg (fun a b d e => k0_pay89 (k0_pay87 k0_pay82 a b d) (k0_pay88 k0_pay82) e (Named.named κ "log2e" 0x3FB8AA3B#32)) ?_) ?_) ?_) ?_ <;>
      exact congrArg x0 (funext fun a => match a with | ⟨0, _⟩ => rfl)
  isplitl [H4]
  · iexists _; isplitr
    swap; · iexact H4
    ipureintro
    rw [e9, e11]
    refine (out_read c i arg1 harg1 arg2 harg2 arg3 harg3 arg4 harg4 arg5 harg5 arg6 harg6 arg7 harg7 arg8 harg8 arg9 harg9 (SK x0) _ _ _ _ f4).trans ?_
    unfold bodyOut
    have e6 := q_read c i arg1 harg1 arg2 harg2 arg3 harg3 arg4 harg4 arg5 harg5 arg6 harg6 arg7 harg7 arg8 harg8 arg9 harg9 (harg2.unread x1) (harg3.unread x2) (harg4.unread x3) fs0
    have e7 := k_read c i arg1 harg1 arg2 harg2 arg3 harg3 arg4 harg4 arg5 harg5 arg6 harg6 arg7 harg7 arg8 harg8 arg9 harg9 (harg2.unread x1) (harg3.unread x2) (harg4.unread x3) fs1
    have e8 := v_read c i arg1 harg1 arg2 harg2 arg3 harg3 arg4 harg4 arg5 harg5 arg6 harg6 arg7 harg7 arg8 harg8 arg9 harg9 (harg2.unread x1) (harg3.unread x2) (harg4.unread x3) fs2
    rw [harg2.read_unread, harg3.read_unread, harg4.read_unread] at e6 e7
    rw [harg2.read_unread] at e8
    exact congr (congr (congr (congrArg (OUT (SK x0)) e6) e7) e8) (bias_read arg9 _)
  isplitl [HS0]
  · iexists _, _; isplitr
    swap; · iexact HS0
    ipureintro; rfl
  isplitl [HS1]
  · iexists _, _; isplitr
    swap; · iexact HS1
    ipureintro; rfl
  isplitl [HS2]
  · iexists _, _; isplitr
    swap; · iexact HS2
    ipureintro; rfl
  iexists _, _; isplitr
  swap; · iexact HS3
  ipureintro; rfl

end Cert.KernelIdeal.Swa

end
-- ==== Proof.Swa.Frame.lean ====
/- The kernel's run with its output array named block by block: the pipeline's proof data at the body's triple, the
   quiescent run, and what each point writes back. -/
module

public import proofs.«01_k».proof.Proof.Swa.Run
public import Idealize.ShloMosaic.Lib.Claim
public import Idealize.ShloMosaic.Lib.Pipeline.Value

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

def outsAt0 (c : Dev nD) (t : Fin cfg0.N) : Vec F S1x2304x512 .bf16 :=
  bodyOut (iblk m c 0 t) (iblk m c 1 t) (iblk m c 2 t) (iblk m c 3 t)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  iintro ⟨⟨⟨HS0, HS1, HS2, HS3⟩, Hg⟩, Ho, ⟨%d0, H0⟩, ⟨%d1, H1⟩, ⟨%d2, H2⟩, ⟨%d3, H3⟩, ⟨%d4, H4⟩⟩
  iapply (run_body c (grid0.coords t) _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-! ## Blockwise: what each point writes back, and the final array block by block -/

theorem flushed4 (c : Dev nD) (t : Fin cfg0.N) :
    (dats m 0 c).flushed 4 t = (cfg0.win 4).cut (grid0.coords t) (outsAt0 m c t) := by
  show (cfg0.win 4).cut (grid0.coords t) ((dats m 0 c).after 4 t) = _
  rw [after0_4]

theorem idx_inj4 : ∀ t t' : Fin cfg0.N, win0_4.index t = win0_4.index t' → t = t' :=
  (by decide +kernel : ∀ t t' : Fin grid0.N, win0_4.index t = win0_4.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

theorem entry4 (c : Dev nD) (i : S16x2304x512.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

theorem post4 (r : PUnit × MemSt nD τ sig (Elt F)) (h : Pipeline.FramePost cfgs (dats m) 0 (V m) r) (c : Dev nD) :
    r.2.mem ((c : Thread nD τ).loc main_v40) = (dats m 0 c).arrAt 4 cfg0.N :=
  (h c).1 4

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

theorem run_blocks : θ_run defs (onTc (τ := τ) (main (F := F))) ⟨m, fun _ => 0, ρ⟩ fun r => ∀ c : Dev nD,
      r.2.mem ((c : Thread nD τ).loc main_v40) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post4 m r h c,
      kept_main_arg0 m r h c,
      kept_main_arg1 m r h c⟩)
    (run_main m ρ)

end Cert.KernelIdeal.Swa

end
-- ==== Proof.Swa.Core.lean ====
/- The real numbers the attention computes: the rotated queries and keys, the scores, the softmax with a sink over the
   context and over the band, and the facts about sums, maxima and exponentials that both programs' readings use. -/
module

public import Idealize.ShloMosaic.PureOps.Ideal.Laws

@[expose] public section

noncomputable section

namespace Cert.Swa

open Idealize.ShloMosaic

/-! ## Extended reals -/

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem sum_coe {ι : Type*} {s : Finset ι} {f : ι → EReal} {g : ι → ℝ} (h : ∀ i ∈ s, f i = ((g i : ℝ) : EReal)) :
    ∑ i ∈ s, f i = ((∑ i ∈ s, g i : ℝ) : EReal) := by
  rw [coe_sum]; exact Finset.sum_congr rfl h

theorem mul_coe {x y : EReal} {a b : ℝ} (hx : x = (a : EReal)) (hy : y = (b : EReal)) : x * y = ((a * b : ℝ) : EReal) := by
  rw [hx, hy, EReal.coe_mul]
theorem add_coe {x y : EReal} {a b : ℝ} (hx : x = (a : EReal)) (hy : y = (b : EReal)) : x + y = ((a + b : ℝ) : EReal) := by
  rw [hx, hy, EReal.coe_add]
theorem sub_coe {x y : EReal} {a b : ℝ} (hx : x = (a : EReal)) (hy : y = (b : EReal)) : x - y = ((a - b : ℝ) : EReal) := by
  rw [hx, hy, EReal.coe_sub]

theorem div_coe {x y : EReal} {a b : ℝ} (hx : x = (a : EReal)) (hy : y = (b : EReal)) (hb : b ≠ 0) :
    Ideal.div x y = ((a / b : ℝ) : EReal) := by
  have h0 : ((b : ℝ) : EReal) ≠ 0 := by exact_mod_cast hb
  rw [hx, hy, Ideal.div, if_neg h0, ← EReal.coe_inv, ← EReal.coe_mul, div_eq_mul_inv]

theorem exp2_sub_coe {x y : EReal} {a M : ℝ} (hx : x = (a : EReal)) (hy : y = (M : EReal)) :
    Ideal.exp2 (x - y) = (((2 : ℝ) ^ a * (2 : ℝ) ^ (-M) : ℝ) : EReal) := by
  rw [hx, hy, ← EReal.coe_sub, sub_eq_add_neg, ← Real.rpow_add two_pos]; rfl
theorem exp2_sub_bot {x y : EReal} {M : ℝ} (hx : x = ⊥) (hy : y = (M : EReal)) : Ideal.exp2 (x - y) = ((0 : ℝ) : EReal) := by
  rw [hx, hy, sub_eq_add_neg, EReal.bot_add]; rfl
theorem exp_sub_coe {x y : EReal} {a M : ℝ} (hx : x = (a : EReal)) (hy : y = (M : EReal)) :
    Ideal.exp (x - y) = ((Real.exp a * Real.exp (-M) : ℝ) : EReal) := by
  rw [hx, hy, ← EReal.coe_sub, sub_eq_add_neg, ← Real.exp_add]; rfl
theorem exp_sub_bot {x y : EReal} {M : ℝ} (hx : x = ⊥) (hy : y = (M : EReal)) : Ideal.exp (x - y) = ((0 : ℝ) : EReal) := by
  rw [hx, hy, sub_eq_add_neg, EReal.bot_add]; rfl

theorem fold_ne_top {ι : Type*} (s : Finset ι) {b : EReal} (hb : b ≠ ⊤) {f : ι → EReal} (h : ∀ i ∈ s, f i ≠ ⊤) : s.fold max b f ≠ ⊤ := by
  have : s.fold max b f < ⊤ := by
    rw [Finset.fold_max_lt]
    exact ⟨lt_top_iff_ne_top.mpr hb, fun i hi => lt_top_iff_ne_top.mpr (h i hi)⟩
  exact this.ne

theorem real_of {x : EReal} {a : ℝ} (ht : x ≠ ⊤) (h : (a : EReal) ≤ x) : ∃ M : ℝ, x = (M : EReal) :=
  ⟨x.toReal, (EReal.coe_toReal ht (ne_of_gt (lt_of_lt_of_le (EReal.bot_lt_coe a) h))).symm⟩

theorem two_rpow_log (x : ℝ) : (2 : ℝ) ^ ((Real.log 2)⁻¹ * x) = Real.exp x := by
  rw [Real.rpow_def_of_pos two_pos]
  congr 1
  have : Real.log 2 ≠ 0 := (Real.log_pos one_lt_two).ne'
  field_simp

/-! ## Sums -/

/-- A sum over a window of 384 rows is the sum over all of them, where the summand vanishes outside the window. -/
theorem sum_window (G : ℕ → ℝ) (a : ℕ) (ha : a + 384 ≤ 2432) (h0 : ∀ j, j < a → G j = 0) (h1 : ∀ j, a + 384 ≤ j → G j = 0) :
    ∑ w : Fin 384, G (a + w.val) = ∑ j ∈ Finset.range 2432, G j := by
  rw [Fin.sum_univ_eq_sum_range (fun w => G (a + w)) 384]
  have e : ∑ w ∈ Finset.range 384, G (a + w) = ∑ j ∈ Finset.Ico a (a + 384), G j := by
    rw [Finset.sum_Ico_eq_sum_range]; congr 2; omega
  rw [e]
  refine Finset.sum_subset (fun j hj => ?_) (fun j _ hj => ?_)
  · rw [Finset.mem_Ico] at hj; exact Finset.mem_range.mpr (by omega)
  · rw [Finset.mem_Ico] at hj
    by_cases h : j < a
    · exact h0 j h
    · exact h1 j (by omega)

/-- A sum over 256 lanes of what lives on one head's 64 is the sum over those. -/
theorem sum_head (f : ℕ → ℝ) (hh : ℕ) (h4 : hh < 4) :
    ∑ l : Fin 256, (if l.val / 64 = hh then f l.val else 0) = ∑ d : Fin 64, f (64 * hh + d.val) := by
  rw [Fin.sum_univ_eq_sum_range (fun l => if l / 64 = hh then f l else 0) 256, Fin.sum_univ_eq_sum_range (fun d => f (64 * hh + d)) 64]
  have e : ∑ d ∈ Finset.range 64, f (64 * hh + d) = ∑ l ∈ Finset.Ico (64 * hh) (64 * hh + 64), f l := by
    rw [Finset.sum_Ico_eq_sum_range]; congr 2; omega
  rw [e, ← Finset.sum_filter]
  refine Finset.sum_congr ?_ fun _ _ => rfl
  ext l; simp only [Finset.mem_filter, Finset.mem_range, Finset.mem_Ico]; omega

/-! ## The attention -/

/-- The rotation of a head's 64 entries at one latent position. -/
def rot (cs sn : ℕ → ℕ → ℝ) (f : ℕ → ℝ) (t d : ℕ) : ℝ :=
  if d < 32 then f d * cs t d - f (d + 32) * sn t d else f (d - 32) * sn t (d - 32) + f d * cs t (d - 32)

section
variable (cs sn : ℕ → ℕ → ℝ) (P : ℕ → ℕ → ℝ) (S : ℕ → ℝ)

/-- Head `h`'s query at row `n`: a context row's as it is, a latent row's rotated. -/
def qry (n h d : ℕ) : ℝ := if n < 256 then P n (64 * h + d) else rot cs sn (fun e => P n (64 * h + e)) (n - 256) d
/-- Head group `g`'s key at row `n`. -/
def key (n g d : ℕ) : ℝ := if n < 256 then P n (512 + 64 * g + d) else rot cs sn (fun e => P n (512 + 64 * g + e)) (n - 256) d
/-- Head group `g`'s value at row `n`. -/
def vlu (n g d : ℕ) : ℝ := P n (640 + 64 * g + d)

/-- The score of row `n`'s query of head `h` against row `j`'s key. -/
def score (n h j : ℕ) : ℝ := (∑ d : Fin 64, qry cs sn P n h d.val * key cs sn P j (h / 4) d.val) * 8⁻¹

/-- Whether latent row `j` is in row `n`'s band. -/
def near (n j : ℕ) : Prop := 256 ≤ j ∧ j < 2304 ∧ n ≤ j + 128 ∧ j ≤ n + 128
instance (n j : ℕ) : Decidable (near n j) := by unfold near; infer_instance

/-- The weight of a row of the band; nothing outside. -/
def band (n h j : ℕ) : ℝ := if near n j then Real.exp (score cs sn P n h j) else 0

def denC (n h : ℕ) : ℝ := ∑ j : Fin 256, Real.exp (score cs sn P n h j.val)
def numC (n h d : ℕ) : ℝ := ∑ j : Fin 256, Real.exp (score cs sn P n h j.val) * vlu P j.val (h / 4) d
def denL (n h : ℕ) : ℝ := ∑ j ∈ Finset.range 2432, band cs sn P n h j
def numL (n h d : ℕ) : ℝ := ∑ j ∈ Finset.range 2432, band cs sn P n h j * vlu P j (h / 4) d

/-- The attention's result at row `n`, head `h`, entry `d`. -/
def result (n h d : ℕ) : ℝ :=
  if n < 256 then numC cs sn P n h d / (denC cs sn P n h + Real.exp (S h))
  else (numC cs sn P n h d + numL cs sn P n h d) / (denC cs sn P n h + Real.exp (S h) + denL cs sn P n h)

theorem band_nonneg (n h j : ℕ) : 0 ≤ band cs sn P n h j := by
  unfold band; split
  · exact (Real.exp_pos _).le
  · exact le_rfl
theorem denC_nonneg (n h : ℕ) : 0 ≤ denC cs sn P n h := Finset.sum_nonneg fun _ _ => (Real.exp_pos _).le
theorem denL_nonneg (n h : ℕ) : 0 ≤ denL cs sn P n h := Finset.sum_nonneg fun _ _ => band_nonneg cs sn P n h _

end

end Cert.Swa

end
-- ==== Proof.Swa.BlockValue.lean ====
/- One block of the attention body over the ideal values: where its loads hold real numbers, each entry of the block it
   stores is the softmax-weighted mean of the values over real numbers, the maximum subtracted having cancelled. -/
module

public import proofs.«01_k».proof.Proof.Swa.Blocks
public import proofs.«01_k».proof.Proof.Swa.Core
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.ReduceUnfold
public import Idealize.ShloMosaic.Lib.Pointwise.Select
public import Idealize.ShloMosaic.Lib.ValueIdx

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

/-! ## Index words -/

theorem shr7 : ∀ R : Fin 512, IntOp.shrsi ArithUnit.vector (BitVec.ofNat 32 R.val) 7#32 = BitVec.ofNat 32 (R.val / 128) := by decide +kernel
theorem shr6 : ∀ l : Fin 256, IntOp.shrsi ArithUnit.vector (BitVec.ofNat 32 l.val) 6#32 = BitVec.ofNat 32 (l.val / 64) := by decide +kernel
theorem eq4 : ∀ a b : Fin 4, IntOp.cmpi .eq (BitVec.ofNat 32 a.val) (BitVec.ofNat 32 b.val) = if a = b then 1#1 else 0#1 := by decide +kernel

theorem eq4' (a b : ℕ) (ha : a < 4) (hb : b < 4) :
    IntOp.cmpi .eq (BitVec.ofNat 32 a) (BitVec.ofNat 32 b) = if a = b then 1#1 else 0#1 := by
  have h := eq4 ⟨a, ha⟩ ⟨b, hb⟩
  simp only [Fin.mk.injEq] at h
  exact h

theorem mask_val (R : Fin 512) (l : Fin 256) :
    k0_pay81 (F := Ideal) (ix2 R l) = (((if l.val / 64 = R.val / 128 then 1 else 0 : ℝ)) : EReal) := by
  pointwise [k0_pay81]
  rw [shr7, shr6, eq4' _ _ (by omega) (by omega)]
  by_cases h : R.val / 128 = l.val / 64
  · rw [if_pos h, if_pos h.symm, ValueIdx.select_one]; rfl
  · rw [if_neg h, if_neg (fun e => h e.symm), ValueIdx.select_zero]; rfl

section
variable {q : Vec Ideal S128x256 .bf16} {r : Fin 128} {qf : ℕ → ℝ} (hq : ∀ l : Fin 256, q (ix2 r l) = ((qf l.val : ℝ) : EReal))
include hq

theorem stack_val (R : Fin 512) (l : Fin 256) (hh : ℕ) (hR : R.val = 128 * hh + r.val) :
    stack (k0_pay81 (F := Ideal)) q (ix2 R l) = (((if l.val / 64 = hh then qf l.val else 0 : ℝ)) : EReal) := by
  have hr := r.isLt
  have hRl := R.isLt
  have key : ∀ a : Fin 128, a.val = r.val → q (ix2 a l) = ((qf l.val : ℝ) : EReal) := fun a ha => by
    rw [show a = r from Fin.ext ha]; exact hq l
  have e : stack (k0_pay81 (F := Ideal)) q (ix2 R l) = ((qf l.val : ℝ) : EReal) * k0_pay81 (F := Ideal) (ix2 R l) := by
    pointwise [stack]
    congr 1
    split_ifs <;> exact key _ (by simp only []; omega)
  rw [e, mask_val, ← EReal.coe_mul]
  congr 1
  rw [show R.val / 128 = hh by omega]
  split <;> simp

end

theorem dupC_val {k : Vec Ideal S1x256x128 .bf16} {kf : ℕ → ℕ → ℝ} (hk : ∀ (j : Fin 256) (l : Fin 128), k (ix3 0 j l) = ((kf j.val (l.val % 64) : ℝ) : EReal))
    (j : Fin 256) (l : Fin 256) : dupC k (ix2 j l) = ((kf j.val (l.val % 64) : ℝ) : EReal) := by
  have hl := l.isLt
  pointwise [dupC]
  split_ifs
  · rw [hk]
  · rw [hk]; congr 2; simp only []; omega
  · rename_i h1; exact absurd rfl h1

theorem dupW_val {k : Vec Ideal S1x384x128 .bf16} {kf : ℕ → ℕ → ℝ} (hk : ∀ (j : Fin 384) (l : Fin 128), k (ix3 0 j l) = ((kf j.val (l.val % 64) : ℝ) : EReal))
    (j : Fin 384) (l : Fin 256) : dupW k (ix2 j l) = ((kf j.val (l.val % 64) : ℝ) : EReal) := by
  have hl := l.isLt
  pointwise [dupW]
  split_ifs
  · rw [hk]
  · rw [hk]; congr 2; simp only []; omega
  · rename_i h1; exact absurd rfl h1

/-- The dot product of one head's query with a key. -/
def dot64 (qf : ℕ → ℝ) (hh : ℕ) (kr : ℕ → ℝ) : ℝ := ∑ d : Fin 64, qf (64 * hh + d.val) * kr d.val

theorem dot_head (qf : ℕ → ℝ) (kr : ℕ → ℝ) (hh : ℕ) (h4 : hh < 4) :
    ∑ l : Fin 256, (if l.val / 64 = hh then qf l.val else 0) * kr (l.val % 64) = dot64 qf hh kr := by
  have e := sum_head (fun l => qf l * kr (l % 64)) hh h4
  have e1 : ∀ d : Fin 64, (64 * hh + d.val) % 64 = d.val := fun d => by have := d.isLt; omega
  simp only [e1] at e
  rw [dot64, ← e]
  refine Finset.sum_congr rfl fun l _ => ?_
  split <;> simp

section
variable {q : Vec Ideal S128x256 .bf16} {r : Fin 128} {qf : ℕ → ℝ} (hq : ∀ l : Fin 256, q (ix2 r l) = ((qf l.val : ℝ) : EReal))
  (R : Fin 512) (hh : ℕ) (h4 : hh < 4) (hR : R.val = 128 * hh + r.val)
  {k v : Vec Ideal S1x256x128 .bf16} {kf vf : ℕ → ℕ → ℝ}
  (hk : ∀ (j : Fin 256) (l : Fin 128), k (ix3 0 j l) = ((kf j.val (l.val % 64) : ℝ) : EReal))
  (hv : ∀ (j : Fin 256) (l : Fin 128), v (ix3 0 j l) = ((vf j.val (l.val % 64) : ℝ) : EReal))
  {kw vw : Vec Ideal S1x384x128 .bf16} {kwf vwf : ℕ → ℕ → ℝ}
  (hkw : ∀ (j : Fin 384) (l : Fin 128), kw (ix3 0 j l) = ((kwf j.val (l.val % 64) : ℝ) : EReal))
  (hvw : ∀ (j : Fin 384) (l : Fin 128), vw (ix3 0 j l) = ((vwf j.val (l.val % 64) : ℝ) : EReal))
  {b : Vec Ideal S1x128x384 .f32} {nr : ℕ → Prop} [DecidablePred nr] (hb : ∀ w : Fin 384, b (ix3 0 r w) = if nr w.val then (0 : EReal) else ⊥)

include hq h4 hR hk in
theorem scoreC_val (j : Fin 256) : scoreC (stack (k0_pay81 (F := Ideal)) q) k (ix2 R j) = ((dot64 qf hh (kf j.val) : ℝ) : EReal) := by
  have e : scoreC (stack (k0_pay81 (F := Ideal)) q) k (ix2 R j)
      = ∑ x : Fin 256, stack (k0_pay81 (F := Ideal)) q (ix2 R x) * dupC k (ix2 j x) := by
    pointwise [scoreC, dot_S512x256_S256x256_S512x256_1_1_0_0_n_n]
  rw [e, sum_coe (fun x _ => mul_coe (stack_val hq R x hh hR) (dupC_val hk j x)), dot_head qf (kf j.val) hh h4]

include hq h4 hR hkw hb in
theorem scoreW_val (w : Fin 384) : scoreW (stack (k0_pay81 (F := Ideal)) q) b kw (ix2 R w)
    = if nr w.val then ((dot64 qf hh (kwf w.val) : ℝ) : EReal) else ⊥ := by
  have hr := r.isLt
  have hRl := R.isLt
  have key : ∀ a : Fin 128, a.val = r.val → b (ix3 0 a w) = b (ix3 0 r w) := fun a ha => by rw [show a = r from Fin.ext ha]
  have e : scoreW (stack (k0_pay81 (F := Ideal)) q) b kw (ix2 R w)
      = ∑ x : Fin 256, stack (k0_pay81 (F := Ideal)) q (ix2 R x) * dupW kw (ix2 w x) + b (ix3 0 r w) := by
    pointwise [scoreW, dot_S512x256_S384x256_S512x384_1_1_0_0_n_n]
    congr 1
    split_ifs <;> exact key _ (by simp only []; omega)
  rw [e, sum_coe (fun x _ => mul_coe (stack_val hq R x hh hR) (dupW_val hkw w x)), dot_head qf (kwf w.val) hh h4, hb]
  split
  · rw [add_zero]
  · rw [EReal.add_bot]

include hv in
theorem accC_val (e : FVec Ideal S512x256 .f32) (ef : ℕ → ℝ) (he : ∀ j : Fin 256, e (ix2 R j) = ((ef j.val : ℝ) : EReal)) (l : Fin 256) :
    accC e v (ix2 R l) = ((∑ j : Fin 256, ef j.val * vf j.val (l.val % 64) : ℝ) : EReal) := by
  have h : accC e v (ix2 R l) = ∑ x : Fin 256, e (ix2 R x) * dupC v (ix2 x l) := by
    pointwise [accC, dot_S512x256_S256x256_S512x256_1_0_0_1_n_n]
  rw [h, sum_coe (fun x _ => mul_coe (he x) (dupC_val hv x l))]

include hvw in
theorem accW_val (e : FVec Ideal S512x384 .f32) (ef : ℕ → ℝ) (he : ∀ j : Fin 384, e (ix2 R j) = ((ef j.val : ℝ) : EReal)) (l : Fin 256) :
    accW e vw (ix2 R l) = ((∑ j : Fin 384, ef j.val * vwf j.val (l.val % 64) : ℝ) : EReal) := by
  have h : accW e vw (ix2 R l) = ∑ x : Fin 384, e (ix2 R x) * dupW vw (ix2 x l) := by
    pointwise [accW, dot_S512x384_S384x256_S512x256_1_0_0_1_n_n]
  rw [h, sum_coe (fun x _ => mul_coe (he x) (dupW_val hvw x l))]
end

theorem negInf : Ideal.ofBits .f32 0xFF800000#32 = ⊥ := by simp [Ideal.ofBits, Ideal.ieee]

theorem pick_val (acc : FVec Ideal S512x256 .f32) (den : FVec Ideal S512x1 .f32) (r : Fin 128) (l : Fin 256) (R : Fin 512)
    (hR : R.val = 128 * (l.val / 64) + r.val) :
    pick k0_pay83 acc den (ix3 0 r l) = Ideal.div (acc (ix2 R l)) (den (ix2 R 0)) := by
  have hl := l.isLt
  have key : ∀ a : Fin 512, a.val = R.val → Ideal.div (acc (ix2 a l)) (den (ix2 a 0)) = Ideal.div (acc (ix2 R l)) (den (ix2 R 0)) :=
    fun a ha => by rw [show a = R from Fin.ext ha]
  pointwise [pick, k0_pay83]
  rw [shr6]
  rw [show (3#32 : BitVec 32) = BitVec.ofNat 32 3 from rfl, show (2#32 : BitVec 32) = BitVec.ofNat 32 2 from rfl,
    show (1#32 : BitVec 32) = BitVec.ofNat 32 1 from rfl, show (0#32 : BitVec 32) = BitVec.ofNat 32 0 from rfl]
  rw [eq4' _ 3 (by omega) (by omega), eq4' _ 2 (by omega) (by omega), eq4' _ 1 (by omega) (by omega), eq4' _ 0 (by omega) (by omega)]
  by_cases h3 : l.val / 64 = 3
  · rw [if_pos h3, ValueIdx.select_one]; exact key _ (by simp only []; omega)
  rw [if_neg h3, ValueIdx.select_zero]
  by_cases h2 : l.val / 64 = 2
  · rw [if_pos h2, ValueIdx.select_one]; exact key _ (by simp only []; omega)
  rw [if_neg h2, ValueIdx.select_zero]
  by_cases h1 : l.val / 64 = 1
  · rw [if_pos h1, ValueIdx.select_one]; exact key _ (by simp only []; omega)
  rw [if_neg h1, ValueIdx.select_zero]
  have h0 : l.val / 64 = 0 := by omega
  rw [if_pos h0, ValueIdx.select_one]; exact key _ (by simp only []; omega)

section
variable (R : Fin 512) (s : FVec Ideal S512x256 .f32) (w : FVec Ideal S512x384 .f32) (m : FVec Ideal S512x1 .f32)

theorem maxC_ne_top (h : ∀ j : Fin 256, s (ix2 R j) ≠ ⊤) : maxC s (ix2 R 0) ≠ ⊤ := by
  pointwise [maxC]
  exact fold_ne_top _ (by rw [negInf]; exact bot_ne_top) fun i _ => h i
theorem maxW_ne_top (h : ∀ j : Fin 384, w (ix2 R j) ≠ ⊤) : maxW w (ix2 R 0) ≠ ⊤ := by
  pointwise [maxW]
  exact fold_ne_top _ (by rw [negInf]; exact bot_ne_top) fun i _ => h i
theorem sumC_val (ef : ℕ → ℝ) (h : ∀ j : Fin 256, s (ix2 R j) = ((ef j.val : ℝ) : EReal)) :
    sumC s (ix2 R 0) = ((∑ j : Fin 256, ef j.val : ℝ) : EReal) := by
  pointwise [sumC]
  exact sum_coe fun i _ => h i
theorem sumW_val (ef : ℕ → ℝ) (h : ∀ j : Fin 384, w (ix2 R j) = ((ef j.val : ℝ) : EReal)) :
    sumW w (ix2 R 0) = ((∑ j : Fin 384, ef j.val : ℝ) : EReal) := by
  pointwise [sumW]
  exact sum_coe fun i _ => h i
theorem expC_val (j : Fin 256) {a M : ℝ} (h : s (ix2 R j) = (a : EReal)) (hm : m (ix2 R 0) = (M : EReal)) :
    expC s m (ix2 R j) = (((2 : ℝ) ^ a * (2 : ℝ) ^ (-M) : ℝ) : EReal) := by
  pointwise [expC]
  exact exp2_sub_coe h hm
theorem expW_val (j : Fin 384) {a M : ℝ} {p : Prop} [Decidable p] (h : w (ix2 R j) = if p then (a : EReal) else ⊥) (hm : m (ix2 R 0) = (M : EReal)) :
    expW w m (ix2 R j) = (((if p then (2 : ℝ) ^ a else 0) * (2 : ℝ) ^ (-M) : ℝ) : EReal) := by
  pointwise [expW]
  by_cases hp : p
  · rw [if_pos hp] at h ⊢; exact exp2_sub_coe h hm
  · rw [if_neg hp] at h ⊢; rw [zero_mul]; exact exp2_sub_bot h hm
end

section
variable {q : Vec Ideal S128x256 .bf16} {r : Fin 128} {qf : ℕ → ℝ} (hq : ∀ l : Fin 256, q (ix2 r l) = ((qf l.val : ℝ) : EReal))
  (l : Fin 256) {sk : FVec Ideal S512x1 .f32} {σ : ℝ} (hs : ∀ R : Fin 512, R.val = 128 * (l.val / 64) + r.val → sk (ix2 R 0) = (σ : EReal))
  {k v : Vec Ideal S1x256x128 .bf16} {kf vf : ℕ → ℕ → ℝ}
  (hk : ∀ (j : Fin 256) (l : Fin 128), k (ix3 0 j l) = ((kf j.val (l.val % 64) : ℝ) : EReal))
  (hv : ∀ (j : Fin 256) (l : Fin 128), v (ix3 0 j l) = ((vf j.val (l.val % 64) : ℝ) : EReal))
  {kw vw : Vec Ideal S1x384x128 .bf16} {kwf vwf : ℕ → ℕ → ℝ}
  (hkw : ∀ (j : Fin 384) (l : Fin 128), kw (ix3 0 j l) = ((kwf j.val (l.val % 64) : ℝ) : EReal))
  (hvw : ∀ (j : Fin 384) (l : Fin 128), vw (ix3 0 j l) = ((vwf j.val (l.val % 64) : ℝ) : EReal))
  {b : Vec Ideal S1x128x384 .f32} {nr : ℕ → Prop} [DecidablePred nr] (hb : ∀ w : Fin 384, b (ix3 0 r w) = if nr w.val then (0 : EReal) else ⊥)

include hq hs hk hv in
/-- A block of context queries. -/
theorem ctxBlk_val : ctxBlk (k0_pay81 (F := Ideal)) k0_pay83 sk q k v (ix3 0 r l)
    = (((∑ j : Fin 256, (2 : ℝ) ^ dot64 qf (l.val / 64) (kf j.val) * vf j.val (l.val % 64))
        / (∑ j : Fin 256, (2 : ℝ) ^ dot64 qf (l.val / 64) (kf j.val) + (2 : ℝ) ^ σ) : ℝ) : EReal) := by
  have hl := l.isLt
  have hr := r.isLt
  let R : Fin 512 := ⟨128 * (l.val / 64) + r.val, by omega⟩
  have hR : R.val = 128 * (l.val / 64) + r.val := rfl
  have hsk := hs R hR
  unfold ctxBlk
  rw [pick_val _ _ r l R hR]
  set s := scoreC (stack (k0_pay81 (F := Ideal)) q) k with hs_def
  have sv : ∀ j : Fin 256, s (ix2 R j) = ((dot64 qf (l.val / 64) (kf j.val) : ℝ) : EReal) := scoreC_val hq R (l.val / 64) (by omega) hR hk
  set m := maximumf (maxC s) sk with hm_def
  obtain ⟨M, hM⟩ : ∃ M : ℝ, m (ix2 R 0) = (M : EReal) := by
    have e : m (ix2 R 0) = max (maxC s (ix2 R 0)) (sk (ix2 R 0)) := rfl
    rw [e, hsk]
    refine real_of (a := σ) ?_ (le_max_right _ _)
    exact (max_lt (lt_top_iff_ne_top.mpr (maxC_ne_top R s fun j => by rw [sv]; exact EReal.coe_ne_top _)) (EReal.coe_lt_top σ)).ne
  have ev := fun j : Fin 256 => expC_val R s m j (sv j) hM
  have hacc := accC_val R hv (expC s m) (fun j => (2 : ℝ) ^ dot64 qf (l.val / 64) (kf j) * (2 : ℝ) ^ (-M)) ev l
  have hsum := sumC_val R (expC s m) (fun j => (2 : ℝ) ^ dot64 qf (l.val / 64) (kf j) * (2 : ℝ) ^ (-M)) ev
  have hsx : (exp2 (subf sk m) : FVec Ideal S512x1 .f32) (ix2 R 0) = (((2 : ℝ) ^ σ * (2 : ℝ) ^ (-M) : ℝ) : EReal) := exp2_sub_coe hsk hM
  have hden : (addf (sumC (expC s m)) (exp2 (subf sk m)) : FVec Ideal S512x1 .f32) (ix2 R 0) = _ := add_coe hsum hsx
  have hc : (0 : ℝ) < (2 : ℝ) ^ (-M) := Real.rpow_pos_of_pos two_pos _
  have hD : (0 : ℝ) < ∑ j : Fin 256, (2 : ℝ) ^ dot64 qf (l.val / 64) (kf j.val) + (2 : ℝ) ^ σ :=
    add_pos_of_nonneg_of_pos (Finset.sum_nonneg fun _ _ => (Real.rpow_pos_of_pos two_pos _).le) (Real.rpow_pos_of_pos two_pos _)
  have hN : ∑ j : Fin 256, (2 : ℝ) ^ dot64 qf (l.val / 64) (kf j.val) * (2 : ℝ) ^ (-M) * vf j.val (l.val % 64)
      = (∑ j : Fin 256, (2 : ℝ) ^ dot64 qf (l.val / 64) (kf j.val) * vf j.val (l.val % 64)) * (2 : ℝ) ^ (-M) := by
    rw [Finset.sum_mul]; exact Finset.sum_congr rfl fun _ _ => by ring
  have hDe : ∑ j : Fin 256, (2 : ℝ) ^ dot64 qf (l.val / 64) (kf j.val) * (2 : ℝ) ^ (-M) + (2 : ℝ) ^ σ * (2 : ℝ) ^ (-M)
      = (∑ j : Fin 256, (2 : ℝ) ^ dot64 qf (l.val / 64) (kf j.val) + (2 : ℝ) ^ σ) * (2 : ℝ) ^ (-M) := by
    rw [add_mul, Finset.sum_mul]
  rw [div_coe hacc hden (by rw [hDe]; exact (mul_pos hD hc).ne'), hDe, hN, mul_div_mul_right _ _ hc.ne']

include hq hs hk hv hkw hvw hb in
/-- A block of latent queries. -/
theorem latBlk_val : latBlk (k0_pay81 (F := Ideal)) k0_pay83 sk q k v b kw vw (ix3 0 r l)
    = (((∑ j : Fin 256, (2 : ℝ) ^ dot64 qf (l.val / 64) (kf j.val) * vf j.val (l.val % 64)
          + ∑ w : Fin 384, (if nr w.val then (2 : ℝ) ^ dot64 qf (l.val / 64) (kwf w.val) else 0) * vwf w.val (l.val % 64))
        / (∑ j : Fin 256, (2 : ℝ) ^ dot64 qf (l.val / 64) (kf j.val) + (2 : ℝ) ^ σ
          + ∑ w : Fin 384, (if nr w.val then (2 : ℝ) ^ dot64 qf (l.val / 64) (kwf w.val) else 0)) : ℝ) : EReal) := by
  have hl := l.isLt
  have hr := r.isLt
  let R : Fin 512 := ⟨128 * (l.val / 64) + r.val, by omega⟩
  have hR : R.val = 128 * (l.val / 64) + r.val := rfl
  have hsk := hs R hR
  unfold latBlk
  rw [pick_val _ _ r l R hR]
  set s := scoreC (stack (k0_pay81 (F := Ideal)) q) k with hs_def
  set w := scoreW (stack (k0_pay81 (F := Ideal)) q) b kw with hw_def
  have sv : ∀ j : Fin 256, s (ix2 R j) = ((dot64 qf (l.val / 64) (kf j.val) : ℝ) : EReal) := scoreC_val hq R (l.val / 64) (by omega) hR hk
  have wv : ∀ j : Fin 384, w (ix2 R j) = if nr j.val then ((dot64 qf (l.val / 64) (kwf j.val) : ℝ) : EReal) else ⊥ :=
    scoreW_val hq R (l.val / 64) (by omega) hR hkw hb
  set m := maximumf (maximumf (maxC s) sk) (maxW w) with hm_def
  obtain ⟨M, hM⟩ : ∃ M : ℝ, m (ix2 R 0) = (M : EReal) := by
    have e : m (ix2 R 0) = max (max (maxC s (ix2 R 0)) (sk (ix2 R 0))) (maxW w (ix2 R 0)) := rfl
    rw [e, hsk]
    refine real_of (a := σ) ?_ ((le_max_right _ _).trans (le_max_left _ _))
    refine (max_lt (max_lt (lt_top_iff_ne_top.mpr (maxC_ne_top R s fun j => by rw [sv]; exact EReal.coe_ne_top _)) (EReal.coe_lt_top σ))
      (lt_top_iff_ne_top.mpr (maxW_ne_top R w fun j => ?_))).ne
    rw [wv]; split
    · exact EReal.coe_ne_top _
    · exact bot_ne_top
  have ev := fun j : Fin 256 => expC_val R s m j (sv j) hM
  have fv := fun j : Fin 384 => expW_val R w m j (wv j) hM
  have hacc := accC_val R hv (expC s m) (fun j => (2 : ℝ) ^ dot64 qf (l.val / 64) (kf j) * (2 : ℝ) ^ (-M)) ev l
  have hacw := accW_val R hvw (expW w m) (fun j => (if nr j then (2 : ℝ) ^ dot64 qf (l.val / 64) (kwf j) else 0) * (2 : ℝ) ^ (-M)) fv l
  have hsum := sumC_val R (expC s m) (fun j => (2 : ℝ) ^ dot64 qf (l.val / 64) (kf j) * (2 : ℝ) ^ (-M)) ev
  have hsuw := sumW_val R (expW w m) (fun j => (if nr j then (2 : ℝ) ^ dot64 qf (l.val / 64) (kwf j) else 0) * (2 : ℝ) ^ (-M)) fv
  have hsx : (exp2 (subf sk m) : FVec Ideal S512x1 .f32) (ix2 R 0) = (((2 : ℝ) ^ σ * (2 : ℝ) ^ (-M) : ℝ) : EReal) := exp2_sub_coe hsk hM
  have hden : (addf (addf (sumC (expC s m)) (exp2 (subf sk m))) (sumW (expW w m)) : FVec Ideal S512x1 .f32) (ix2 R 0) = _ :=
    add_coe (add_coe hsum hsx) hsuw
  have hnum : (addf (accC (expC s m) v) (accW (expW w m) vw) : FVec Ideal S512x256 .f32) (ix2 R l) = _ := add_coe hacc hacw
  have hc : (0 : ℝ) < (2 : ℝ) ^ (-M) := Real.rpow_pos_of_pos two_pos _
  have hW : (0 : ℝ) ≤ ∑ j : Fin 384, (if nr j.val then (2 : ℝ) ^ dot64 qf (l.val / 64) (kwf j.val) else 0) :=
    Finset.sum_nonneg fun _ _ => by
      split
      · exact (Real.rpow_pos_of_pos two_pos _).le
      · exact le_rfl
  have hD : (0 : ℝ) < ∑ j : Fin 256, (2 : ℝ) ^ dot64 qf (l.val / 64) (kf j.val) + (2 : ℝ) ^ σ
      + ∑ j : Fin 384, (if nr j.val then (2 : ℝ) ^ dot64 qf (l.val / 64) (kwf j.val) else 0) :=
    add_pos_of_pos_of_nonneg (add_pos_of_nonneg_of_pos (Finset.sum_nonneg fun _ _ => (Real.rpow_pos_of_pos two_pos _).le)
      (Real.rpow_pos_of_pos two_pos _)) hW
  have hN : ∑ j : Fin 256, (2 : ℝ) ^ dot64 qf (l.val / 64) (kf j.val) * (2 : ℝ) ^ (-M) * vf j.val (l.val % 64)
        + ∑ j : Fin 384, (if nr j.val then (2 : ℝ) ^ dot64 qf (l.val / 64) (kwf j.val) else 0) * (2 : ℝ) ^ (-M) * vwf j.val (l.val % 64)
      = (∑ j : Fin 256, (2 : ℝ) ^ dot64 qf (l.val / 64) (kf j.val) * vf j.val (l.val % 64)
        + ∑ j : Fin 384, (if nr j.val then (2 : ℝ) ^ dot64 qf (l.val / 64) (kwf j.val) else 0) * vwf j.val (l.val % 64)) * (2 : ℝ) ^ (-M) := by
    rw [add_mul, Finset.sum_mul, Finset.sum_mul]
    exact congrArg₂ (· + ·) (Finset.sum_congr rfl fun _ _ => by ring) (Finset.sum_congr rfl fun _ _ => by ring)
  have hDe : ∑ j : Fin 256, (2 : ℝ) ^ dot64 qf (l.val / 64) (kf j.val) * (2 : ℝ) ^ (-M) + (2 : ℝ) ^ σ * (2 : ℝ) ^ (-M)
        + ∑ j : Fin 384, (if nr j.val then (2 : ℝ) ^ dot64 qf (l.val / 64) (kwf j.val) else 0) * (2 : ℝ) ^ (-M)
      = (∑ j : Fin 256, (2 : ℝ) ^ dot64 qf (l.val / 64) (kf j.val) + (2 : ℝ) ^ σ
        + ∑ j : Fin 384, (if nr j.val then (2 : ℝ) ^ dot64 qf (l.val / 64) (kwf j.val) else 0)) * (2 : ℝ) ^ (-M) := by
    rw [add_mul, add_mul, Finset.sum_mul, Finset.sum_mul]
  rw [div_coe hnum hden (by rw [hDe]; exact (mul_pos hD hc).ne'), hDe, hN, mul_div_mul_right _ _ hc.ne']
end

end Cert.KernelIdeal.Swa

end
-- ==== Proof.Swa.PrepValue.lean ====
/- What the attention body prepares in its scratch buffers, over the ideal values: the rotated queries, scaled; the
   rotated keys and the values of each head group on both halves of the lanes; the band's biases; the sinks. -/
module

public import proofs.«01_k».proof.Proof.Swa.Run
public import proofs.«01_k».proof.Proof.Swa.BlockValue

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

/-! ## Words -/

theorem and63 : ∀ c : Fin 512, IntOp.cmpi .slt (IntOp.andi (BitVec.ofNat 32 c.val) 63#32) 32#32 = if c.val % 64 < 32 then 1#1 else 0#1 := by
  decide +kernel
theorem lt64 : ∀ c : Fin 128, IntOp.cmpi .slt (BitVec.ofNat 32 c.val) 64#32 = if c.val < 64 then 1#1 else 0#1 := by decide +kernel
theorem isCtx : ∀ k : Fin 18, Scalar.cmpi .slt (Scalar.muli (Scf.iv 0#32 1#32 k.val) 128#32) 256#32 = if k.val < 2 then 1#1 else 0#1 := by
  decide +kernel

theorem select_ite {α : Type} (p : Prop) [Decidable p] (a b : α) : Scalar.select (if p then 1#1 else 0#1) a b = if p then a else b := by
  by_cases h : p
  · rw [if_pos h, if_pos h, ValueIdx.select_one]
  · rw [if_neg h, if_neg h, ValueIdx.select_zero]

/-! ## Rotating a lane -/

section
variable (cs sn : ℕ → ℕ → ℝ)

/-- A lane of the rotation, heads side by side on the lanes. -/
def rotLane (g : ℕ → ℝ) (t c : ℕ) : ℝ :=
  if c % 64 < 32 then g c * cs t (c % 32) - g (c + 32) * sn t (c % 32) else g (c - 32) * sn t (c % 32) + g c * cs t (c % 32)

theorem rot_lane (g : ℕ → ℝ) (t c : ℕ) : rot cs sn (fun e => g (64 * (c / 64) + e)) t (c % 64) = rotLane cs sn g t c := by
  unfold rot rotLane
  have h0 : 64 * (c / 64) + c % 64 = c := by omega
  beta_reduce
  split
  · rename_i h
    have h1 : 64 * (c / 64) + (c % 64 + 32) = c + 32 := by omega
    have h2 : c % 64 = c % 32 := by omega
    rw [h0, h1, ← h2]
  · rename_i h
    have h1 : 64 * (c / 64) + (c % 64 - 32) = c - 32 := by omega
    have h2 : c % 64 - 32 = c % 32 := by omega
    rw [h0, h1, h2]

end

theorem lane_core (p : Prop) [Decidable p] (c : ℕ) {x xu xd C Sg : EReal} {a u d cv sv : ℝ} (hx : x = (a : EReal))
    (hu : c % 64 < 32 → xu = (u : EReal)) (hd : ¬ c % 64 < 32 → xd = (d : EReal)) (hC : C = ((if p then 1 else cv : ℝ) : EReal))
    (hS : Sg = ((if p then 0 else if c % 64 < 32 then -sv else sv : ℝ) : EReal)) (hp : p → ∃ v : ℝ, (if c % 64 < 32 then xu else xd) = (v : EReal)) :
    x * C + (if c % 64 < 32 then xu else xd) * Sg
      = ((if p then a else if c % 64 < 32 then a * cv - u * sv else d * sv + a * cv : ℝ) : EReal) := by
  subst hx hC hS
  by_cases h : p
  · obtain ⟨v, hv⟩ := hp h
    rw [hv, if_pos h, if_pos h, if_pos h, ← EReal.coe_mul, ← EReal.coe_mul, ← EReal.coe_add]; congr 1; ring
  · rw [if_neg h, if_neg h, if_neg h]
    by_cases h1 : c % 64 < 32
    · rw [if_pos h1, if_pos h1, if_pos h1, hu h1, ← EReal.coe_mul, ← EReal.coe_mul, ← EReal.coe_add]; congr 1; ring
    · rw [if_neg h1, if_neg h1, if_neg h1, hd h1, ← EReal.coe_mul, ← EReal.coe_mul, ← EReal.coe_add]; congr 1; ring

/-! ## The loads -/

section
variable (k : Fin k0_t1_loop.trips)

theorem k_lt : k.val < 18 := k.isLt

theorem off4_val0 : ∀ k : Fin 18, k0_off4 k 0 = 128 * (k.val - 2) := by decide +kernel
theorem off4_val1 : ∀ k : Fin 18, k0_off4 k 1 = 0 := by decide +kernel

theorem ld_q (x1 : Vec Ideal S1x2304x768 .f32) (r : Fin 128) (c : Fin 512) :
    View.ld x1 (Rect.unit (s := S1x2304x768) (k0_off1 k) S1x128x512.size (k0_off1_inb k)) (ix3 0 r c)
      = x1 (ix3 0 ⟨128 * k.val + r.val, by have := k_lt k; omega⟩ ⟨c.val, by omega⟩) := by
  refine congrArg x1 (funext fun a => Fin.ext ?_)
  match a with
  | ⟨0, _⟩ => exact emb_val (s := S1x2304x768) (inb := k0_off1_inb k) (ix3 (n0 := 1) (n1 := 128) (n2 := 512) 0 r c) 0 (v := 0) (congrFun (k0_off1_eq k) 0)
  | ⟨1, _⟩ => exact emb_val (s := S1x2304x768) (inb := k0_off1_inb k) (ix3 (n0 := 1) (n1 := 128) (n2 := 512) 0 r c) 1 (v := 128 * k.val) (congrFun (k0_off1_eq k) 1)
  | ⟨2, _⟩ => exact (emb_val (s := S1x2304x768) (inb := k0_off1_inb k) (ix3 (n0 := 1) (n1 := 128) (n2 := 512) 0 r c) 2 (v := 0) (congrFun (k0_off1_eq k) 2)).trans (Nat.zero_add _)

theorem ld_k (x1 : Vec Ideal S1x2304x768 .f32) (r : Fin 128) (c : Fin 128) :
    keysIn x1 k (ix3 0 r c) = x1 (ix3 0 ⟨128 * k.val + r.val, by have := k_lt k; omega⟩ ⟨512 + c.val, by omega⟩) := by
  refine congrArg x1 (funext fun a => Fin.ext ?_)
  match a with
  | ⟨0, _⟩ => exact emb_val (s := S1x2304x768) (inb := k0_off2_inb k) (ix3 (n0 := 1) (n1 := 128) (n2 := 128) 0 r c) 0 (v := 0) (congrFun (k0_off2_eq k) 0)
  | ⟨1, _⟩ => exact emb_val (s := S1x2304x768) (inb := k0_off2_inb k) (ix3 (n0 := 1) (n1 := 128) (n2 := 128) 0 r c) 1 (v := 128 * k.val) (congrFun (k0_off2_eq k) 1)
  | ⟨2, _⟩ => exact emb_val (s := S1x2304x768) (inb := k0_off2_inb k) (ix3 (n0 := 1) (n1 := 128) (n2 := 128) 0 r c) 2 (v := 512) (congrFun (k0_off2_eq k) 2)

theorem ld_v (x1 : Vec Ideal S1x2304x768 .f32) (r : Fin 128) (c : Fin 128) :
    valsIn x1 k (ix3 0 r c) = x1 (ix3 0 ⟨128 * k.val + r.val, by have := k_lt k; omega⟩ ⟨640 + c.val, by omega⟩) := by
  refine congrArg x1 (funext fun a => Fin.ext ?_)
  match a with
  | ⟨0, _⟩ => exact emb_val (s := S1x2304x768) (inb := k0_off3_inb k) (ix3 (n0 := 1) (n1 := 128) (n2 := 128) 0 r c) 0 (v := 0) (congrFun (k0_off3_eq k) 0)
  | ⟨1, _⟩ => exact emb_val (s := S1x2304x768) (inb := k0_off3_inb k) (ix3 (n0 := 1) (n1 := 128) (n2 := 128) 0 r c) 1 (v := 128 * k.val) (congrFun (k0_off3_eq k) 1)
  | ⟨2, _⟩ => exact emb_val (s := S1x2304x768) (inb := k0_off3_inb k) (ix3 (n0 := 1) (n1 := 128) (n2 := 128) 0 r c) 2 (v := 640) (congrFun (k0_off3_eq k) 2)

theorem ld_t (x2 : Vec Ideal S2048x128 .f32) (r : Fin 128) (c : Fin 128) :
    View.ld x2 (Rect.unit (s := S2048x128) (k0_off4 k) S128x128.size (k0_off4_inb k)) (ix2 r c)
      = x2 (ix2 ⟨128 * (k.val - 2) + r.val, by have := k_lt k; omega⟩ c) := by
  refine congrArg x2 (funext fun a => Fin.ext ?_)
  match a with
  | ⟨0, _⟩ => exact emb_val (s := S2048x128) (inb := k0_off4_inb k) (ix2 (n0 := 128) (n1 := 128) r c) 0 (v := 128 * (k.val - 2)) (off4_val0 k)
  | ⟨1, _⟩ => exact (emb_val (s := S2048x128) (inb := k0_off4_inb k) (ix2 (n0 := 128) (n1 := 128) r c) 1 (v := 0) (off4_val1 k)).trans (Nat.zero_add _)

end

/-! ## The prepared blocks -/

/-- The factor the queries carry: the scale in base two. -/
def lg8 : ℝ := 8⁻¹ * (Real.log 2)⁻¹

theorem named8 : (Named.named κ "log2e_8" 0x3E38AA3B#32 : Ideal .f32) = ((lg8 : ℝ) : EReal) := rfl
theorem named1 : (Named.named κ "log2e" 0x3FB8AA3B#32 : Ideal .f32) = (((Real.log 2)⁻¹ : ℝ) : EReal) := rfl

section
variable {cs sn : ℕ → ℕ → ℝ} {P : ℕ → ℕ → ℝ} {x1 : Vec Ideal S1x2304x768 .f32} {x2 x3 : Vec Ideal S2048x128 .f32}
  (hX : ∀ (n : Fin 2304) (c : Fin 768), x1 (ix3 0 n c) = ((P n.val c.val : ℝ) : EReal))
  (hC : ∀ (t : Fin 2048) (l : Fin 128), x2 (ix2 t l) = ((cs t.val (l.val % 32) : ℝ) : EReal))
  (hS : ∀ (t : Fin 2048) (l : Fin 128), x3 (ix2 t l) = ((if l.val % 64 < 32 then -sn t.val (l.val % 32) else sn t.val (l.val % 32) : ℝ) : EReal))

include hC in
theorem pay6_val (k : Fin k0_t1_loop.trips) (r l : Fin 128) :
    k0_pay6 (F := Ideal) 0#32 1#32 k (View.ld x2 (Rect.unit (s := S2048x128) (k0_off4 k) S128x128.size (k0_off4_inb k))) (ix2 r l)
      = ((if k.val < 2 then 1 else cs (128 * (k.val - 2) + r.val) (l.val % 32) : ℝ) : EReal) := by
  have e := (ld_t k x2 r l).trans (hC _ l)
  generalize View.ld x2 (Rect.unit (s := S2048x128) (k0_off4 k) S128x128.size (k0_off4_inb k)) = xb at e ⊢
  pointwise [k0_pay6]
  rw [isCtx k, select_ite]
  split
  · rfl
  · exact e

include hS in
theorem pay7_val (k : Fin k0_t1_loop.trips) (r l : Fin 128) :
    k0_pay7 (F := Ideal) 0#32 1#32 k (View.ld x3 (Rect.unit (s := S2048x128) (k0_off4 k) S128x128.size (k0_off4_inb k))) (ix2 r l)
      = ((if k.val < 2 then 0 else if l.val % 64 < 32 then -sn (128 * (k.val - 2) + r.val) (l.val % 32)
          else sn (128 * (k.val - 2) + r.val) (l.val % 32) : ℝ) : EReal) := by
  have e := (ld_t k x3 r l).trans (hS _ l)
  generalize View.ld x3 (Rect.unit (s := S2048x128) (k0_off4 k) S128x128.size (k0_off4_inb k)) = xb at e ⊢
  pointwise [k0_pay7]
  rw [isCtx k, select_ite]
  split
  · rfl
  · exact e

include hX hC hS in
theorem prepQ_val (k : Fin k0_t1_loop.trips) (r : Fin 128) (c : Fin 512) :
    prepQ (F := Ideal) x1 x2 x3 k (ix2 r c)
      = ((qry cs sn P (128 * k.val + r.val) (c.val / 64) (c.val % 64) * lg8 : ℝ) : EReal) := by
  have hk := k_lt k
  have hr := r.isLt
  have hc := c.isLt
  have e6 : ∀ a : Fin 128, a.val = c.val % 128 → k0_pay6 (F := Ideal) 0#32 1#32 k (View.ld x2 (Rect.unit (s := S2048x128) (k0_off4 k) S128x128.size (k0_off4_inb k))) (ix2 r a)
      = ((if k.val < 2 then 1 else cs (128 * (k.val - 2) + r.val) (c.val % 32) : ℝ) : EReal) := fun a ha => by
    rw [pay6_val hC, show a.val % 32 = c.val % 32 by omega]
  have e7 : ∀ a : Fin 128, a.val = c.val % 128 → k0_pay7 (F := Ideal) 0#32 1#32 k (View.ld x3 (Rect.unit (s := S2048x128) (k0_off4 k) S128x128.size (k0_off4_inb k))) (ix2 r a)
      = ((if k.val < 2 then 0 else if c.val % 64 < 32 then -sn (128 * (k.val - 2) + r.val) (c.val % 32)
          else sn (128 * (k.val - 2) + r.val) (c.val % 32) : ℝ) : EReal) := fun a ha => by
    rw [pay7_val hS, show a.val % 32 = c.val % 32 by omega, show a.val % 64 = c.val % 64 by omega]
  have ex : ∀ a : Fin 512, View.ld x1 (Rect.unit (s := S1x2304x768) (k0_off1 k) S1x128x512.size (k0_off1_inb k)) (ix3 0 r a)
      = ((P (128 * k.val + r.val) a.val : ℝ) : EReal) := fun a => (ld_q k x1 r a).trans (hX _ _)
  unfold prepQ
  generalize View.ld x1 (Rect.unit (s := S1x2304x768) (k0_off1 k) S1x128x512.size (k0_off1_inb k)) = xb at ex ⊢
  generalize View.ld x2 (Rect.unit (s := S2048x128) (k0_off4 k) S128x128.size (k0_off4_inb k)) = cb at e6 ⊢
  generalize View.ld x3 (Rect.unit (s := S2048x128) (k0_off4 k) S128x128.size (k0_off4_inb k)) = sb at e7 ⊢
  pointwise [k0_pay73, k0_pay9, k0_pay70]
  rw [and63, select_ite, named8]
  refine mul_coe ((lane_core (k.val < 2) c.val (u := P (128 * k.val + r.val) (c.val + 32)) (d := P (128 * k.val + r.val) (c.val - 32))
    (cv := cs (128 * (k.val - 2) + r.val) (c.val % 32)) (sv := sn (128 * (k.val - 2) + r.val) (c.val % 32))
    (ex c) (fun h => ?_) (fun h => ?_) ?_ ?_ (fun _ => ?_)).trans ?_) rfl
  · rw [ex]; congr 2; simp only []; omega
  · rw [ex]; congr 2; simp only []; omega
  · split_ifs <;> exact (e6 _ (by simp only []; omega)).trans (by simp only [*, if_true, if_false])
  · split_ifs <;> exact (e7 _ (by simp only []; omega)).trans (by simp only [*, if_true, if_false])
  · split
    · exact ⟨_, ex _⟩
    · exact ⟨_, ex _⟩
  · congr 1
    unfold qry
    by_cases h : k.val < 2
    · rw [if_pos h, if_pos (by omega)]; congr 1; omega
    · rw [if_neg h, if_neg (show ¬ 128 * k.val + r.val < 256 by omega), rot_lane cs sn (P (128 * k.val + r.val)) _ c.val, rotLane,
        show 128 * k.val + r.val - 256 = 128 * (k.val - 2) + r.val by omega]

/-- A prepared key lane. -/
def keyLane (cs sn : ℕ → ℕ → ℝ) (P : ℕ → ℕ → ℝ) (k r c : ℕ) : ℝ :=
  if k < 2 then P (128 * k + r) (512 + c) else rotLane cs sn (fun e => P (128 * k + r) (512 + e)) (128 * (k - 2) + r) c

include hX hC hS in
theorem pay74_val (k : Fin k0_t1_loop.trips) (r c : Fin 128) :
    k0_pay74 (F := Ideal) (k0_pay4 (keysIn x1 k)) (k0_pay6 0#32 1#32 k (View.ld x2 (Rect.unit (s := S2048x128) (k0_off4 k) S128x128.size (k0_off4_inb k))))
      (k0_pay7 0#32 1#32 k (View.ld x3 (Rect.unit (s := S2048x128) (k0_off4 k) S128x128.size (k0_off4_inb k)))) (k0_pay8 k0_pay71 (keysIn x1 k)) (ix2 r c)
      = ((keyLane cs sn P k.val r.val c.val : ℝ) : EReal) := by
  have hk := k_lt k
  have hr := r.isLt
  have hc := c.isLt
  have e6 := pay6_val hC k r c
  have e7 := pay7_val hS k r c
  have ex : ∀ a : Fin 128, keysIn x1 k (ix3 0 r a) = ((P (128 * k.val + r.val) (512 + a.val) : ℝ) : EReal) := fun a => (ld_k k x1 r a).trans (hX _ _)
  have w := and63 ⟨c.val, by omega⟩
  simp only [] at w
  generalize keysIn x1 k = xb at ex ⊢
  generalize k0_pay6 (F := Ideal) 0#32 1#32 k (View.ld x2 (Rect.unit (s := S2048x128) (k0_off4 k) S128x128.size (k0_off4_inb k))) = cb at e6 ⊢
  generalize k0_pay7 (F := Ideal) 0#32 1#32 k (View.ld x3 (Rect.unit (s := S2048x128) (k0_off4 k) S128x128.size (k0_off4_inb k))) = sb at e7 ⊢
  pointwise [k0_pay74, k0_pay4, k0_pay8, k0_pay71]
  rw [w, select_ite]
  refine (lane_core (k.val < 2) c.val (u := P (128 * k.val + r.val) (512 + (c.val + 32))) (d := P (128 * k.val + r.val) (512 + (c.val - 32)))
    (ex c) (fun h => ?_) (fun h => ?_) e6 e7 (fun _ => ?_)).trans rfl
  · rw [ex]; congr 2; simp only []; omega
  · rw [ex]; congr 2; simp only []; omega
  · split
    · exact ⟨_, ex _⟩
    · exact ⟨_, ex _⟩

theorem keyLane_key (k r g d : ℕ) (hr : r < 128) (hd : d < 64) :
    keyLane cs sn P k r (64 * g + d) = key cs sn P (128 * k + r) g d := by
  unfold keyLane key
  by_cases h : k < 2
  · rw [if_pos h, if_pos (by omega), Nat.add_assoc]
  · rw [if_neg h, if_neg (by omega)]
    have e := rot_lane cs sn (fun e => P (128 * k + r) (512 + e)) (128 * (k - 2) + r) (64 * g + d)
    rw [← e, show (64 * g + d) / 64 = g by omega, show (64 * g + d) % 64 = d by omega, show 128 * k + r - 256 = 128 * (k - 2) + r by omega]
    simp only [Nat.add_assoc]

include hX hC hS in
theorem KSrow_val (g : Fin 2) (k : Fin k0_t1_loop.trips) (r c : Fin 128) :
    KSrow (F := Ideal) x1 x2 x3 g k (ix3 0 r c) = ((key cs sn P (128 * k.val + r.val) g.val (c.val % 64) : ℝ) : EReal) := by
  have hc := c.isLt
  have e := pay74_val hX hC hS k r
  have kl : ∀ a : Fin 128, a.val = 64 * g.val + c.val % 64 → k0_pay74 (F := Ideal) (k0_pay4 (keysIn x1 k)) (k0_pay6 0#32 1#32 k (View.ld x2 (Rect.unit (s := S2048x128) (k0_off4 k) S128x128.size (k0_off4_inb k))))
      (k0_pay7 0#32 1#32 k (View.ld x3 (Rect.unit (s := S2048x128) (k0_off4 k) S128x128.size (k0_off4_inb k)))) (k0_pay8 k0_pay71 (keysIn x1 k)) (ix2 r a)
      = ((key cs sn P (128 * k.val + r.val) g.val (c.val % 64) : ℝ) : EReal) := fun a ha => by
    rw [e a, ha, keyLane_key _ _ _ _ r.isLt (by omega)]
  unfold KSrow
  match g with
  | ⟨0, _⟩ =>
    show prepK0 x1 x2 x3 k (ix3 0 r c) = _
    unfold prepK0
    generalize k0_pay6 (F := Ideal) 0#32 1#32 k (View.ld x2 (Rect.unit (s := S2048x128) (k0_off4 k) S128x128.size (k0_off4_inb k))) = cb at kl ⊢
    generalize k0_pay7 (F := Ideal) 0#32 1#32 k (View.ld x3 (Rect.unit (s := S2048x128) (k0_off4 k) S128x128.size (k0_off4_inb k))) = sb at kl ⊢
    pointwise [k0_pay77, k0_pay72, k0_pay75]
    rw [lt64, select_ite]
    split
    · exact kl _ (by simp only []; omega)
    · exact kl _ (by simp only []; omega)
  | ⟨1, _⟩ =>
    show prepK1 x1 x2 x3 k (ix3 0 r c) = _
    unfold prepK1
    generalize k0_pay6 (F := Ideal) 0#32 1#32 k (View.ld x2 (Rect.unit (s := S2048x128) (k0_off4 k) S128x128.size (k0_off4_inb k))) = cb at kl ⊢
    generalize k0_pay7 (F := Ideal) 0#32 1#32 k (View.ld x3 (Rect.unit (s := S2048x128) (k0_off4 k) S128x128.size (k0_off4_inb k))) = sb at kl ⊢
    pointwise [k0_pay78, k0_pay72, k0_pay75]
    rw [lt64, select_ite]
    split
    · exact kl _ (by simp only []; omega)
    · exact kl _ (by simp only []; omega)

include hX in
theorem VSrow_val (g : Fin 2) (k : Fin k0_t1_loop.trips) (r c : Fin 128) :
    VSrow (F := Ideal) x1 g k (ix3 0 r c) = ((vlu P (128 * k.val + r.val) g.val (c.val % 64) : ℝ) : EReal) := by
  have hc := c.isLt
  have kl : ∀ a : Fin 128, a.val = 64 * g.val + c.val % 64 → valsIn x1 k (ix3 0 r a)
      = ((vlu P (128 * k.val + r.val) g.val (c.val % 64) : ℝ) : EReal) := fun a ha => by
    rw [ld_v, hX]; unfold vlu; simp only [ha, Nat.add_assoc]
  unfold VSrow
  match g with
  | ⟨0, _⟩ =>
    show prepV0 x1 k (ix3 0 r c) = _
    unfold prepV0
    generalize valsIn x1 k = xb at kl ⊢
    pointwise [k0_pay79, k0_pay5, k0_pay72, k0_pay76]
    rw [lt64, select_ite]
    split
    · exact kl _ (by simp only []; omega)
    · exact kl _ (by simp only []; omega)
  | ⟨1, _⟩ =>
    show prepV1 x1 k (ix3 0 r c) = _
    unfold prepV1
    generalize valsIn x1 k = xb at kl ⊢
    pointwise [k0_pay80, k0_pay5, k0_pay72, k0_pay76]
    rw [lt64, select_ite]
    split
    · exact kl _ (by simp only []; omega)
    · exact kl _ (by simp only []; omega)

/-! ## The buffers -/

include hX hC hS in
theorem QS_val (n : Fin 2304) (c : Fin 512) :
    QS (F := Ideal) x1 x2 x3 (ix2 n c) = ((qry cs sn P n.val (c.val / 64) (c.val % 64) * lg8 : ℝ) : EReal) := by
  have h := prepQ_val hX hC hS (blkOf n) (rowOf n) c
  have e : 128 * (blkOf n).val + (rowOf n).val = n.val := by show 128 * (n.val / 128) + n.val % 128 = _; omega
  rw [e] at h
  exact h

include hX hC hS in
theorem KS_val (g : Fin 2) (n : Fin 2304) (c : Fin 128) :
    KS (F := Ideal) x1 x2 x3 (ix3 g n c) = ((key cs sn P n.val g.val (c.val % 64) : ℝ) : EReal) := by
  have h := KSrow_val hX hC hS g (blkOf n) (rowOf n) c
  have e : 128 * (blkOf n).val + (rowOf n).val = n.val := by show 128 * (n.val / 128) + n.val % 128 = _; omega
  rw [e] at h
  exact h

include hX in
theorem VS_val (g : Fin 2) (n : Fin 2304) (c : Fin 128) :
    VS (F := Ideal) x1 (ix3 g n c) = ((vlu P n.val g.val (c.val % 64) : ℝ) : EReal) := by
  have h := VSrow_val hX g (blkOf n) (rowOf n) c
  have e : 128 * (blkOf n).val + (rowOf n).val = n.val := by show 128 * (n.val / 128) + n.val % 128 = _; omega
  rw [e] at h
  exact h

end

theorem abs_word : ∀ d : Fin 1024, IntOp.cmpi .sle (IntOp.absi (IntOp.subi (BitVec.ofNat 32 d.val) 512#32)) 128#32
    = if 384 ≤ d.val ∧ d.val ≤ 640 then 1#1 else 0#1 := by decide +kernel

theorem band_word (g : ℕ) (hg : g < 3) (r : Fin 128) (w : Fin 384) : IntOp.cmpi .sle
    (IntOp.absi (IntOp.addi (IntOp.subi (BitVec.ofNat 32 r.val) (BitVec.ofNat 32 w.val)) (BitVec.ofNat 32 (128 * g)))) 128#32
      = if r.val + 128 * g ≤ w.val + 128 ∧ w.val ≤ r.val + 128 * g + 128 then 1#1 else 0#1 := by
  have hr := r.isLt
  have hw := w.isLt
  have e : IntOp.addi (IntOp.subi (BitVec.ofNat 32 r.val) (BitVec.ofNat 32 w.val)) (BitVec.ofNat 32 (128 * g))
      = IntOp.subi (BitVec.ofNat 32 (r.val + 128 * g + 512 - w.val)) 512#32 := by
    unfold IntOp.addi IntOp.subi
    bv_omega
  rw [e]
  exact (abs_word ⟨r.val + 128 * g + 512 - w.val, by omega⟩).trans (if_congr (by simp only []; omega) rfl rfl)

theorem BS_val (g : Fin 3) (r : Fin 128) (w : Fin 384) :
    BS (F := Ideal) (ix3 g r w) = if r.val + 128 * g.val ≤ w.val + 128 ∧ w.val ≤ r.val + 128 * g.val + 128 then (0 : EReal) else ⊥ := by
  match g with
  | ⟨0, _⟩ =>
    have e := band_word 0 (by omega) r w
    show k0_pay91 (F := Ideal) (ix3 0 r w) = _
    pointwise [k0_pay91, k0_pay90]
    exact (congrArg (fun c => Scalar.select c (0 : EReal) (Ideal.ofBits FTy.f32 4286578688#32)) e).trans ((select_ite _ _ _).trans (by rw [negInf]; exact if_congr (by omega) rfl rfl))
  | ⟨1, _⟩ =>
    have e := band_word 1 (by omega) r w
    show k0_pay92 (F := Ideal) (ix3 0 r w) = _
    pointwise [k0_pay92, k0_pay90]
    exact (congrArg (fun c => Scalar.select c (0 : EReal) (Ideal.ofBits FTy.f32 4286578688#32)) e).trans ((select_ite _ _ _).trans (by rw [negInf]; exact if_congr (by omega) rfl rfl))
  | ⟨2, _⟩ =>
    have e := band_word 2 (by omega) r w
    show k0_pay1 (F := Ideal) k0_pay93 (ix3 0 r w) = _
    pointwise [k0_pay1, k0_pay93, k0_pay90]
    exact (congrArg (fun c => Scalar.select c (0 : EReal) (Ideal.ofBits FTy.f32 4286578688#32)) e).trans ((select_ite _ _ _).trans (by rw [negInf]; exact if_congr (by omega) rfl rfl))

theorem SK_val {x0 : Vec Ideal S8 .f32} {S : ℕ → ℝ} (h0 : ∀ h : Fin 8, x0 (ix1 h) = ((S h.val : ℝ) : EReal)) (g : Fin 2) (R : Fin 512) :
    SK (F := Ideal) x0 g (ix2 R 0) = ((S (4 * g.val + R.val / 128) * (Real.log 2)⁻¹ : ℝ) : EReal) := by
  have hR := R.isLt
  have key : ∀ (h : Fin 8), h.val = 4 * g.val + R.val / 128 → x0 (ix1 h) * (((Real.log 2)⁻¹ : ℝ) : EReal)
      = ((S (4 * g.val + R.val / 128) * (Real.log 2)⁻¹ : ℝ) : EReal) := fun h e => by rw [h0, e, ← EReal.coe_mul]
  match g with
  | ⟨0, _⟩ =>
    show k0_pay86 (F := Ideal) k0_pay82 (k0_pay84 (x0 (ix1 0))) k0_pay85 (x0 (ix1 1)) (x0 (ix1 2)) (x0 (ix1 3)) (ix2 R 0) = _
    pointwise [k0_pay86, k0_pay84, k0_pay85, k0_pay82]
    rw [shr7, named1]
    rw [show (3#32 : BitVec 32) = BitVec.ofNat 32 3 from rfl, show (2#32 : BitVec 32) = BitVec.ofNat 32 2 from rfl,
      show (1#32 : BitVec 32) = BitVec.ofNat 32 1 from rfl, show (0#32 : BitVec 32) = BitVec.ofNat 32 0 from rfl]
    rw [eq4' _ 3 (by omega) (by omega), eq4' _ 2 (by omega) (by omega), eq4' _ 1 (by omega) (by omega), eq4' _ 0 (by omega) (by omega)]
    simp only [select_ite]
    split_ifs with h3 h2 h1 h00
    · exact (key 3 (by rw [h3]; rfl)).trans (by simp)
    · exact (key 2 (by rw [h2]; rfl)).trans (by simp)
    · exact (key 1 (by rw [h1]; rfl)).trans (by simp)
    · exact (key 0 (by rw [h00]; rfl)).trans (by simp)
    · omega
  | ⟨1, _⟩ =>
    show k0_pay89 (F := Ideal) (k0_pay87 k0_pay82 (x0 (ix1 4)) (x0 (ix1 5)) (x0 (ix1 6))) (k0_pay88 k0_pay82) (x0 (ix1 7)) (Named.named κ "log2e" 0x3FB8AA3B#32) (ix2 R 0) = _
    pointwise [k0_pay89, k0_pay87, k0_pay88, k0_pay82]
    rw [shr7, named1]
    rw [show (3#32 : BitVec 32) = BitVec.ofNat 32 3 from rfl, show (2#32 : BitVec 32) = BitVec.ofNat 32 2 from rfl,
      show (1#32 : BitVec 32) = BitVec.ofNat 32 1 from rfl, show (0#32 : BitVec 32) = BitVec.ofNat 32 0 from rfl]
    rw [eq4' _ 3 (by omega) (by omega), eq4' _ 2 (by omega) (by omega), eq4' _ 1 (by omega) (by omega), eq4' _ 0 (by omega) (by omega)]
    simp only [select_ite]
    split_ifs with h3 h2 h1 h00
    · exact key 7 (by rw [h3]; rfl)
    · exact key 6 (by rw [h2]; rfl)
    · exact key 5 (by rw [h1]; rfl)
    · exact key 4 (by rw [h00]; rfl)
    · omega

end Cert.KernelIdeal.Swa

end
-- ==== Proof.Swa.BodyValue.lean ====
/- The attention body's output over the ideal values: row `n`, lane `c` holds the banded attention's result. -/
module

public import proofs.«01_k».proof.Proof.Swa.PrepValue

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

/-- The first block of a latent block's window. -/
def winBlk (t : ℕ) : ℕ := min (t - 1) 13

theorem off14_0 : ∀ (k : Fin 8) (r : Fin 2), k0_off14 k (BitVec.ofNat 32 r.val) 0 = 2 * k.val + r.val - winBlk (2 * k.val + r.val) := by decide +kernel
theorem off14_1 : ∀ (k : Fin 8) (r : Fin 2), k0_off14 k (BitVec.ofNat 32 r.val) 1 = 0 := by decide +kernel
theorem off14_2 : ∀ (k : Fin 8) (r : Fin 2), k0_off14 k (BitVec.ofNat 32 r.val) 2 = 0 := by decide +kernel
theorem off15_0 : ∀ (k : Fin 8) (r : Fin 2), k0_off15 k (BitVec.ofNat 32 r.val) 0 = 0 := by decide +kernel
theorem off15_1 : ∀ (k : Fin 8) (r : Fin 2), k0_off15 k (BitVec.ofNat 32 r.val) 1 = 256 + 128 * winBlk (2 * k.val + r.val) := by decide +kernel
theorem off15_2 : ∀ (k : Fin 8) (r : Fin 2), k0_off15 k (BitVec.ofNat 32 r.val) 2 = 0 := by decide +kernel
theorem off16_0 : ∀ (k : Fin 8) (r : Fin 2), k0_off16 k (BitVec.ofNat 32 r.val) 0 = 1 := by decide +kernel
theorem off16_1 : ∀ (k : Fin 8) (r : Fin 2), k0_off16 k (BitVec.ofNat 32 r.val) 1 = 256 + 128 * winBlk (2 * k.val + r.val) := by decide +kernel
theorem off16_2 : ∀ (k : Fin 8) (r : Fin 2), k0_off16 k (BitVec.ofNat 32 r.val) 2 = 0 := by decide +kernel

/-! ## Reading a rectangle -/

theorem ld2_val {α : EltTy} {n0 n1 m0 m1 : ℕ} (X : Vec Ideal ⟨2, ![n0, n1]⟩ α) {off : Fin 2 → ℕ} {inb} (r : Fin m0) (c : Fin m1) (a0 : Fin n0) (a1 : Fin n1)
    {v0 v1 : ℕ} (h0 : off 0 = v0) (h1 : off 1 = v1) (e0 : v0 + r.val = a0.val) (e1 : v1 + c.val = a1.val) :
    View.ld X (Rect.unit (s := ⟨2, ![n0, n1]⟩) off ![m0, m1] inb) (ix2 r c) = X (ix2 a0 a1) := by
  refine congrArg X (funext fun a => Fin.ext ?_)
  match a with
  | ⟨0, _⟩ => exact (emb_val (s := ⟨2, ![n0, n1]⟩) (inb := inb) (ix2 (n0 := m0) (n1 := m1) r c) 0 h0).trans e0
  | ⟨1, _⟩ => exact (emb_val (s := ⟨2, ![n0, n1]⟩) (inb := inb) (ix2 (n0 := m0) (n1 := m1) r c) 1 h1).trans e1

theorem ld3_val {α : EltTy} {n0 n1 n2 m0 m1 m2 : ℕ} (X : Vec Ideal ⟨3, ![n0, n1, n2]⟩ α) {off : Fin 3 → ℕ} {inb} (z : Fin m0) (r : Fin m1) (c : Fin m2)
    (a0 : Fin n0) (a1 : Fin n1) (a2 : Fin n2) {v0 v1 v2 : ℕ} (h0 : off 0 = v0) (h1 : off 1 = v1) (h2 : off 2 = v2)
    (e0 : v0 + z.val = a0.val) (e1 : v1 + r.val = a1.val) (e2 : v2 + c.val = a2.val) :
    View.ld X (Rect.unit (s := ⟨3, ![n0, n1, n2]⟩) off ![m0, m1, m2] inb) (ix3 z r c) = X (ix3 a0 a1 a2) := by
  refine congrArg X (funext fun a => Fin.ext ?_)
  match a with
  | ⟨0, _⟩ => exact (emb_val (s := ⟨3, ![n0, n1, n2]⟩) (inb := inb) (ix3 (n0 := m0) (n1 := m1) (n2 := m2) z r c) 0 h0).trans e0
  | ⟨1, _⟩ => exact (emb_val (s := ⟨3, ![n0, n1, n2]⟩) (inb := inb) (ix3 (n0 := m0) (n1 := m1) (n2 := m2) z r c) 1 h1).trans e1
  | ⟨2, _⟩ => exact (emb_val (s := ⟨3, ![n0, n1, n2]⟩) (inb := inb) (ix3 (n0 := m0) (n1 := m1) (n2 := m2) z r c) 2 h2).trans e2

/-! ## The weights -/

section
variable {cs sn : ℕ → ℕ → ℝ} {P : ℕ → ℕ → ℝ} {S : ℕ → ℝ}

theorem dot_score (n g hh j : ℕ) (h4 : hh < 4) :
    dot64 (fun l => qry cs sn P n (4 * g + l / 64) (l % 64) * lg8) hh (key cs sn P j g) = (Real.log 2)⁻¹ * score cs sn P n (4 * g + hh) j := by
  unfold dot64 score
  rw [Finset.sum_mul, Finset.mul_sum]
  refine Finset.sum_congr rfl fun d _ => ?_
  have hd := d.isLt
  beta_reduce
  rw [show (64 * hh + d.val) / 64 = hh by omega, show (64 * hh + d.val) % 64 = d.val by omega, show (4 * g + hh) / 4 = g by omega]
  unfold lg8; ring

theorem two_score (n g hh j : ℕ) (h4 : hh < 4) :
    (2 : ℝ) ^ dot64 (fun l => qry cs sn P n (4 * g + l / 64) (l % 64) * lg8) hh (key cs sn P j g) = Real.exp (score cs sn P n (4 * g + hh) j) := by
  rw [dot_score n g hh j h4, two_rpow_log]

theorem two_sink (x : ℝ) : (2 : ℝ) ^ (x * (Real.log 2)⁻¹) = Real.exp x := by rw [mul_comm, two_rpow_log]

variable {sk : Fin 2 → FVec Ideal S512x1 .f32} {Q : Vec Ideal S2304x512 .bf16} {K V : Vec Ideal S2x2304x128 .bf16}
  (hs : ∀ (g : Fin 2) (R : Fin 512), sk g (ix2 R 0) = ((S (4 * g.val + R.val / 128) * (Real.log 2)⁻¹ : ℝ) : EReal))
  (hQ : ∀ (n : Fin 2304) (c : Fin 512), Q (ix2 n c) = ((qry cs sn P n.val (c.val / 64) (c.val % 64) * lg8 : ℝ) : EReal))
  (hK : ∀ (g : Fin 2) (n : Fin 2304) (c : Fin 128), K (ix3 g n c) = ((key cs sn P n.val g.val (c.val % 64) : ℝ) : EReal))
  (hV : ∀ (g : Fin 2) (n : Fin 2304) (c : Fin 128), V (ix3 g n c) = ((vlu P n.val g.val (c.val % 64) : ℝ) : EReal))

include hs hQ in
/-- The rows a block reads: its queries and its sinks. -/
theorem rows_q (g : Fin 2) (n0 : ℕ) (hn : n0 + 128 ≤ 2304) (r : Fin 128) (off : Fin 2 → ℕ) (inb) (h0 : off 0 = n0) (h1 : off 1 = 256 * g.val) (l : Fin 256) :
    View.ld Q (Rect.unit (s := S2304x512) off S128x256.size inb) (ix2 r l)
      = (((fun l => qry cs sn P (n0 + r.val) (4 * g.val + l / 64) (l % 64) * lg8) l.val : ℝ) : EReal) := by
  refine (ld2_val (α := .bf16) (n0 := 2304) (n1 := 512) (m0 := 128) (m1 := 256) Q r l ⟨n0 + r.val, by omega⟩ ⟨256 * g.val + l.val, by omega⟩ h0 h1 rfl rfl).trans ((hQ _ _).trans ?_)
  simp only []
  rw [show (256 * g.val + l.val) / 64 = 4 * g.val + l.val / 64 by omega, show (256 * g.val + l.val) % 64 = l.val % 64 by omega]

include hs in
theorem sinks (g : Fin 2) (hh : ℕ) (r : Fin 128) (R : Fin 512) (e : R.val = 128 * hh + r.val) :
    sk g (ix2 R 0) = ((S (4 * g.val + hh) * (Real.log 2)⁻¹ : ℝ) : EReal) := by
  rw [hs, e, show (128 * hh + r.val) / 128 = hh by omega]

theorem rows0 {W : Vec Ideal S2x2304x128 .bf16} (j : Fin 256) (l : Fin 128) : ctxRows0 W (ix3 0 j l) = W (ix3 0 ⟨j.val, by omega⟩ l) :=
  ld3_val (α := .bf16) (n0 := 2) (n1 := 2304) (n2 := 128) (m0 := 1) (m1 := 256) (m2 := 128) W 0 j l 0 ⟨j.val, by omega⟩ l rfl rfl rfl rfl (Nat.zero_add _) (Nat.zero_add _)
theorem rows1 {W : Vec Ideal S2x2304x128 .bf16} (j : Fin 256) (l : Fin 128) : ctxRows1 W (ix3 0 j l) = W (ix3 1 ⟨j.val, by omega⟩ l) :=
  ld3_val (α := .bf16) (n0 := 2) (n1 := 2304) (n2 := 128) (m0 := 1) (m1 := 256) (m2 := 128) W 0 j l 1 ⟨j.val, by omega⟩ l rfl rfl rfl rfl (Nat.zero_add _) (Nat.zero_add _)

include hs hQ hK hV in
theorem ctxPiece_val (g : Fin 2) (k : Fin k0_t2_loop.trips) (r : Fin 128) (l : Fin 256) :
    ctxPiece (F := Ideal) (sk g) Q K V g k (ix3 0 r l)
      = ((result cs sn P S (128 * k.val + r.val) (4 * g.val + l.val / 64) (l.val % 64) : ℝ) : EReal) := by
  have hk : k.val < 2 := k.isLt
  have hl := l.isLt
  have hr := r.isLt
  have fin : ((∑ j : Fin 256, (2 : ℝ) ^ dot64 (fun l => qry cs sn P (128 * k.val + r.val) (4 * g.val + l / 64) (l % 64) * lg8) (l.val / 64) (key cs sn P j.val g.val) * vlu P j.val g.val (l.val % 64))
        / (∑ j : Fin 256, (2 : ℝ) ^ dot64 (fun l => qry cs sn P (128 * k.val + r.val) (4 * g.val + l / 64) (l % 64) * lg8) (l.val / 64) (key cs sn P j.val g.val) + (2 : ℝ) ^ (S (4 * g.val + l.val / 64) * (Real.log 2)⁻¹)))
      = result cs sn P S (128 * k.val + r.val) (4 * g.val + l.val / 64) (l.val % 64) := by
    unfold result numC denC
    rw [if_pos (by omega), two_sink, show (4 * g.val + l.val / 64) / 4 = g.val by omega]
    simp only [two_score _ _ _ _ (show l.val / 64 < 4 by omega)]
  unfold ctxPiece
  match g with
  | ⟨0, _⟩ =>
    rw [if_pos (show (⟨0, by omega⟩ : Fin 2) = 0 from rfl), ← fin]
    exact ctxBlk_val (kf := fun j => key cs sn P j 0) (vf := fun j => vlu P j 0)
      (rows_q hs hQ 0 (128 * k.val) (by omega) r (k0_off8 k) (k0_off8_inb k) (congrFun (k0_off8_eq k) 0) (congrFun (k0_off8_eq k) 1)) l
      (fun R e => sinks hs 0 (l.val / 64) r R e) (fun j l => (rows0 j l).trans (hK 0 _ l)) (fun j l => (rows0 j l).trans (hV 0 _ l))
  | ⟨1, _⟩ =>
    rw [if_neg (show ¬ (⟨1, by omega⟩ : Fin 2) = 0 from fun h => absurd (congrArg Fin.val h) (by show ¬ (1 = 0); omega)), ← fin]
    exact ctxBlk_val (kf := fun j => key cs sn P j 1) (vf := fun j => vlu P j 1)
      (rows_q hs hQ 1 (128 * k.val) (by omega) r (k0_off9 k) (k0_off9_inb k) (congrFun (k0_off9_eq k) 0) (congrFun (k0_off9_eq k) 1)) l
      (fun R e => sinks hs 1 (l.val / 64) r R e) (fun j l => (rows1 j l).trans (hK 1 _ l)) (fun j l => (rows1 j l).trans (hV 1 _ l))

/-- The band within a window. -/
def nearW (t r w : ℕ) : Prop := r + 128 * (t - winBlk t) ≤ w + 128 ∧ w ≤ r + 128 * (t - winBlk t) + 128
instance (t r : ℕ) : DecidablePred (nearW t r) := fun w => by unfold nearW; infer_instance

theorem nearW_near (t r w : ℕ) (ht : t < 16) (hr : r < 128) (hw : w < 384) : nearW t r w ↔ near (256 + 128 * t + r) (256 + 128 * winBlk t + w) := by
  unfold nearW near winBlk; omega

theorem near_lo (t r j : ℕ) (ht : t < 16) (hr : r < 128) (hj : j < 256 + 128 * winBlk t) : ¬ near (256 + 128 * t + r) j := by
  unfold near winBlk at *; omega
theorem near_hi (t r j : ℕ) (ht : t < 16) (hr : r < 128) (hj : 256 + 128 * winBlk t + 384 ≤ j) : ¬ near (256 + 128 * t + r) j := by
  unfold near winBlk at *; omega

theorem bias_val (k : Fin 8) (r : Fin 2) (inb) (rr : Fin 128) (w : Fin 384) :
    View.ld (BS (F := Ideal)) (Rect.unit (s := S3x128x384) (k0_off14 k (BitVec.ofNat 32 r.val)) S1x128x384.size inb) (ix3 0 rr w)
      = if nearW (2 * k.val + r.val) rr.val w.val then (0 : EReal) else ⊥ := by
  have hc : 2 * k.val + r.val - winBlk (2 * k.val + r.val) < 3 := by unfold winBlk; omega
  exact (ld3_val (α := .f32) (n0 := 3) (n1 := 128) (n2 := 384) (m0 := 1) (m1 := 128) (m2 := 384) (BS (F := Ideal)) 0 rr w ⟨_, hc⟩ rr w
    (off14_0 k r) (off14_1 k r) (off14_2 k r) rfl (Nat.zero_add _) (Nat.zero_add _)).trans ((BS_val ⟨_, hc⟩ rr w).trans (if_congr Iff.rfl rfl rfl))

theorem win_row {W : Vec Ideal S2x2304x128 .bf16} (g : Fin 2) (t : ℕ) (ht : t < 16) (off : Fin 3 → ℕ) (inb) (h0 : off 0 = g.val) (h1 : off 1 = 256 + 128 * winBlk t)
    (h2 : off 2 = 0) (w : Fin 384) (l : Fin 128) :
    View.ld W (Rect.unit (s := S2x2304x128) off S1x384x128.size inb) (ix3 0 w l)
      = W (ix3 g ⟨256 + 128 * winBlk t + w.val, by unfold winBlk; omega⟩ l) :=
  ld3_val (α := .bf16) (n0 := 2) (n1 := 2304) (n2 := 128) (m0 := 1) (m1 := 384) (m2 := 128) W 0 w l g _ l h0 h1 h2 rfl rfl (Nat.zero_add _)

include hs hQ hK hV in
theorem latPiece_val (g : Fin 2) (k : Fin k0_t3_loop.trips) (b : Fin 2) (r : Fin 128) (l : Fin 256) :
    latPiece (F := Ideal) (sk g) Q K V BS g k b (ix3 0 r l)
      = ((result cs sn P S (256 + 128 * (2 * k.val + b.val) + r.val) (4 * g.val + l.val / 64) (l.val % 64) : ℝ) : EReal) := by
  have hk : k.val < 8 := k.isLt
  have hb := b.isLt
  have hl := l.isLt
  have hr := r.isLt
  have ht : 2 * k.val + b.val < 16 := by omega
  obtain ⟨t, et⟩ : ∃ t, t = 2 * k.val + b.val := ⟨_, rfl⟩
  have fin : ((∑ j : Fin 256, (2 : ℝ) ^ dot64 (fun l => qry cs sn P (256 + 128 * t + r.val) (4 * g.val + l / 64) (l % 64) * lg8) (l.val / 64) (key cs sn P j.val g.val) * vlu P j.val g.val (l.val % 64)
          + ∑ w : Fin 384, (if nearW t r.val w.val then (2 : ℝ) ^ dot64 (fun l => qry cs sn P (256 + 128 * t + r.val) (4 * g.val + l / 64) (l % 64) * lg8) (l.val / 64) (key cs sn P (256 + 128 * winBlk t + w.val) g.val) else 0) * vlu P (256 + 128 * winBlk t + w.val) g.val (l.val % 64))
        / (∑ j : Fin 256, (2 : ℝ) ^ dot64 (fun l => qry cs sn P (256 + 128 * t + r.val) (4 * g.val + l / 64) (l % 64) * lg8) (l.val / 64) (key cs sn P j.val g.val) + (2 : ℝ) ^ (S (4 * g.val + l.val / 64) * (Real.log 2)⁻¹)
          + ∑ w : Fin 384, (if nearW t r.val w.val then (2 : ℝ) ^ dot64 (fun l => qry cs sn P (256 + 128 * t + r.val) (4 * g.val + l / 64) (l % 64) * lg8) (l.val / 64) (key cs sn P (256 + 128 * winBlk t + w.val) g.val) else 0)))
      = result cs sn P S (256 + 128 * t + r.val) (4 * g.val + l.val / 64) (l.val % 64) := by
    unfold result numC denC numL denL
    have ht' : t < 16 := by omega
    have hwb : winBlk t ≤ 13 := by unfold winBlk; omega
    rw [if_neg (by omega), two_sink, show (4 * g.val + l.val / 64) / 4 = g.val by omega]
    simp only [two_score _ _ _ _ (show l.val / 64 < 4 by omega)]
    have bw : ∀ w : Fin 384, (if nearW t r.val w.val then Real.exp (score cs sn P (256 + 128 * t + r.val) (4 * g.val + l.val / 64) (256 + 128 * winBlk t + w.val)) else 0)
        = band cs sn P (256 + 128 * t + r.val) (4 * g.val + l.val / 64) (256 + 128 * winBlk t + w.val) := fun w =>
      if_congr (nearW_near t r.val w.val ht' hr w.isLt) rfl rfl
    have b0 : ∀ j, ¬ near (256 + 128 * t + r.val) j → band cs sn P (256 + 128 * t + r.val) (4 * g.val + l.val / 64) j = 0 := fun j h => if_neg h
    simp only [bw]
    rw [sum_window (fun j => band cs sn P (256 + 128 * t + r.val) (4 * g.val + l.val / 64) j * vlu P j g.val (l.val % 64)) (256 + 128 * winBlk t) (by omega)
        (fun j h => by rw [b0 j (near_lo t _ j ht' hr h), zero_mul]) (fun j h => by rw [b0 j (near_hi t _ j ht' hr h), zero_mul]),
      sum_window (fun j => band cs sn P (256 + 128 * t + r.val) (4 * g.val + l.val / 64) j) (256 + 128 * winBlk t) (by omega)
        (fun j h => b0 j (near_lo t _ j ht' hr h)) (fun j h => b0 j (near_hi t _ j ht' hr h))]
  unfold latPiece
  match g with
  | ⟨0, _⟩ =>
    rw [if_pos (show (⟨0, by omega⟩ : Fin 2) = 0 from rfl), ← et, ← fin]
    exact latBlk_val (kf := fun j => key cs sn P j 0) (vf := fun j => vlu P j 0) (nr := nearW t r.val)
      (kwf := fun w => key cs sn P (256 + 128 * winBlk t + w) 0) (vwf := fun w => vlu P (256 + 128 * winBlk t + w) 0)
      (rows_q hs hQ 0 (256 + 128 * t) (by omega) r (k0_off12 k (BitVec.ofNat 32 b.val)) (k0_off12_inb k b) ((congrFun (k0_off12_eq k b) 0).trans (by subst et; show 256 * k.val + 128 * b.val + 256 = _; omega)) (congrFun (k0_off12_eq k b) 1)) l
      (fun R e => sinks hs 0 (l.val / 64) r R e) (fun j l => (rows0 j l).trans (hK 0 _ l)) (fun j l => (rows0 j l).trans (hV 0 _ l))
      (fun w l => (win_row 0 t (by omega) (k0_off15 k (BitVec.ofNat 32 b.val)) (k0_off15_inb k b) (off15_0 k b) ((off15_1 k b).trans (by rw [et])) (off15_2 k b) w l).trans (hK 0 _ l))
      (fun w l => (win_row 0 t (by omega) (k0_off15 k (BitVec.ofNat 32 b.val)) (k0_off15_inb k b) (off15_0 k b) ((off15_1 k b).trans (by rw [et])) (off15_2 k b) w l).trans (hV 0 _ l))
      (fun w => (bias_val k b (k0_off14_inb k b) r w).trans (by rw [et]))
  | ⟨1, _⟩ =>
    rw [if_neg (show ¬ (⟨1, by omega⟩ : Fin 2) = 0 from fun h => absurd (congrArg Fin.val h) (by show ¬ (1 = 0); omega)), ← et, ← fin]
    exact latBlk_val (kf := fun j => key cs sn P j 1) (vf := fun j => vlu P j 1) (nr := nearW t r.val)
      (kwf := fun w => key cs sn P (256 + 128 * winBlk t + w) 1) (vwf := fun w => vlu P (256 + 128 * winBlk t + w) 1)
      (rows_q hs hQ 1 (256 + 128 * t) (by omega) r (k0_off13 k (BitVec.ofNat 32 b.val)) (k0_off13_inb k b) ((congrFun (k0_off13_eq k b) 0).trans (by subst et; show 256 * k.val + 128 * b.val + 256 = _; omega)) (congrFun (k0_off13_eq k b) 1)) l
      (fun R e => sinks hs 1 (l.val / 64) r R e) (fun j l => (rows1 j l).trans (hK 1 _ l)) (fun j l => (rows1 j l).trans (hV 1 _ l))
      (fun w l => (win_row 1 t (by omega) (k0_off16 k (BitVec.ofNat 32 b.val)) (k0_off16_inb k b) (off16_0 k b) ((off16_1 k b).trans (by rw [et])) (off16_2 k b) w l).trans (hK 1 _ l))
      (fun w l => (win_row 1 t (by omega) (k0_off16 k (BitVec.ofNat 32 b.val)) (k0_off16_inb k b) (off16_0 k b) ((off16_1 k b).trans (by rw [et])) (off16_2 k b) w l).trans (hV 1 _ l))
      (fun w => (bias_val k b (k0_off14_inb k b) r w).trans (by rw [et]))

include hs hQ hK hV in
theorem OUT_val (n : Fin 2304) (c : Fin 512) :
    OUT (F := Ideal) sk Q K V BS (ix3 0 n c) = ((result cs sn P S n.val (c.val / 64) (c.val % 64) : ℝ) : EReal) := by
  have hn := n.isLt
  have hc := c.isLt
  have e1 : 4 * (c.val / 256) + c.val % 256 / 64 = c.val / 64 := by omega
  have e2 : c.val % 256 % 64 = c.val % 64 := by omega
  unfold OUT
  by_cases h : n.val < 256
  · refine (dif_pos h).trans ((ctxPiece_val hs hQ hK hV (grpOf c) ⟨n.val / 128, by show _ < 2; omega⟩ (rowOf n) (laneOf c)).trans ?_)
    have e0 : 128 * (n.val / 128) + n.val % 128 = n.val := by omega
    show ((result cs sn P S (128 * (n.val / 128) + n.val % 128) (4 * (c.val / 256) + c.val % 256 / 64) (c.val % 256 % 64) : ℝ) : EReal) = _
    rw [e0, e1, e2]
  · refine (dif_neg h).trans ((latPiece_val hs hQ hK hV (grpOf c) ⟨(n.val - 256) / 256, by show _ < 8; omega⟩ ⟨n.val / 128 % 2, by omega⟩ (rowOf n) (laneOf c)).trans ?_)
    have e0 : 256 + 128 * (2 * ((n.val - 256) / 256) + n.val / 128 % 2) + n.val % 128 = n.val := by omega
    show ((result cs sn P S (256 + 128 * (2 * ((n.val - 256) / 256) + n.val / 128 % 2) + n.val % 128) (4 * (c.val / 256) + c.val % 256 / 64) (c.val % 256 % 64) : ℝ) : EReal) = _
    rw [e0, e1, e2]

end

/-- The body's output, of its input blocks' readings. -/
theorem bodyOut_val {cs sn : ℕ → ℕ → ℝ} {P : ℕ → ℕ → ℝ} {S : ℕ → ℝ} {x0 : Vec Ideal S8 .f32} {x1 : Vec Ideal S1x2304x768 .f32} {x2 x3 : Vec Ideal S2048x128 .f32}
    (h0 : ∀ h : Fin 8, x0 (ix1 h) = ((S h.val : ℝ) : EReal))
    (hX : ∀ (n : Fin 2304) (c : Fin 768), x1 (ix3 0 n c) = ((P n.val c.val : ℝ) : EReal))
    (hC : ∀ (t : Fin 2048) (l : Fin 128), x2 (ix2 t l) = ((cs t.val (l.val % 32) : ℝ) : EReal))
    (hS : ∀ (t : Fin 2048) (l : Fin 128), x3 (ix2 t l) = ((if l.val % 64 < 32 then -sn t.val (l.val % 32) else sn t.val (l.val % 32) : ℝ) : EReal))
    (n : Fin 2304) (c : Fin 512) :
    bodyOut (F := Ideal) x0 x1 x2 x3 (ix3 0 n c) = ((result cs sn P S n.val (c.val / 64) (c.val % 64) : ℝ) : EReal) :=
  OUT_val (SK_val h0) (QS_val hX hC hS) (KS_val hX hC hS) (VS_val hX) n c

end Cert.KernelIdeal.Swa

end
-- ==== Proof.Swa.RefHeads.lean ====
/- The reference's heads over the ideal values: its queries rotated and scaled, its keys rotated, its values. -/
module

public import proofs.«01_k».proof.Proof.Gen.ReferenceIdeal.Read
public import proofs.«01_k».proof.Proof.Swa.Core

@[expose] public section

set_option maxRecDepth 16384

noncomputable section

namespace Cert.ReferenceIdeal.Swa

open Cert.ReferenceIdeal Cert.ReferenceIdeal.Gen Cert.ReferenceIdeal.Read Idealize.ShloMosaic Idealize.ShloMosaic.TcCoe Idealize.SL.Sem Idealize.ShloMosaic.StableHlo
open Cert.Swa

theorem eighth : Ideal.ofBits .f32 0x3E000000#32 = ((8⁻¹ : ℝ) : EReal) := by
  simp [Ideal.ofBits, Ideal.ieee]
  rw [← EReal.coe_mul]; norm_num

/-- The argument's entries as reals. -/
def RealRows (x0 : Vec Ideal S16x2304x768 .f32) (P : ℕ → ℕ → ℕ → ℝ) : Prop :=
  ∀ i : S16x2304x768.Idx, x0 i = ((P (i 0).val (i 1).val (i 2).val : ℝ) : EReal)
/-- The rotation's tables as reals. -/
def RealTables (cs sn : ℕ → ℕ → ℝ) : Prop :=
  (∀ j : S2048x32.Idx, val_main_v32 (F := Ideal) j = ((cs (j 0).val (j 1).val : ℝ) : EReal))
    ∧ ∀ j : S2048x32.Idx, val_main_v33 (F := Ideal) j = ((sn (j 0).val (j 1).val : ℝ) : EReal)

section
variable {x0 : Vec Ideal S16x2304x768 .f32} {P : ℕ → ℕ → ℕ → ℝ} (hX : RealRows x0 P) {cs sn : ℕ → ℕ → ℝ} (hT : RealTables cs sn)

include hX in
theorem px {i : S16x2304x768.Idx} {b n c : ℕ} (e0 : (i 0).val = b) (e1 : (i 1).val = n) (e2 : (i 2).val = c) :
    x0 i = ((P b n c : ℝ) : EReal) := by rw [hX, e0, e1, e2]

include hT in
theorem hcos {j : S2048x32.Idx} {t d : ℕ} (e0 : (j 0).val = t) (e1 : (j 1).val = d) : val_main_v32 (F := Ideal) j = ((cs t d : ℝ) : EReal) := by
  rw [hT.1, e0, e1]
include hT in
theorem hsin {j : S2048x32.Idx} {t d : ℕ} (e0 : (j 0).val = t) (e1 : (j 1).val = d) : val_main_v33 (F := Ideal) j = ((sn t d : ℝ) : EReal) := by
  rw [hT.2, e0, e1]

include hX in
/-- A latent query entry. -/
theorem v41 {i : S16x8x2048x64.Idx} {b h t d : ℕ} (e0 : (i 0).val = b) (e1 : (i 1).val = h) (e2 : (i 2).val = t) (e3 : (i 3).val = d) :
    val_main_v41 (F := Ideal) x0 i = ((P b (256 + t) (64 * h + d) : ℝ) : EReal) := by
  have l0 : (i 0).val < 16 := (i 0).isLt
  have l1 : (i 1).val < 8 := (i 1).isLt
  have l2 : (i 2).val < 2048 := (i 2).isLt
  have l3 : (i 3).val < 64 := (i 3).isLt
  rw [val_main_v41_apply, val_main_v40_apply, val_main_v34_apply, val_main_v1_apply]
  exact px hX (by show ((((i 0).val * 2048 + (i 2).val) * 8 + (i 1).val) * 64 + (i 3).val) / 1048576 = b; omega) (by show 256 + (((((i 0).val * 2048 + (i 2).val) * 8 + (i 1).val) * 64 + (i 3).val) / 512 % 2048) = 256 + t; omega)
    (by show (((((i 0).val * 2048 + (i 2).val) * 8 + (i 1).val) * 64 + (i 3).val) % 512) = 64 * h + d; omega)

include hX in
/-- A latent key entry. -/
theorem v64 {i : S16x2x2048x64.Idx} {b h t d : ℕ} (e0 : (i 0).val = b) (e1 : (i 1).val = h) (e2 : (i 2).val = t) (e3 : (i 3).val = d) :
    val_main_v64 (F := Ideal) x0 i = ((P b (256 + t) (512 + 64 * h + d) : ℝ) : EReal) := by
  have l0 : (i 0).val < 16 := (i 0).isLt
  have l1 : (i 1).val < 2 := (i 1).isLt
  have l2 : (i 2).val < 2048 := (i 2).isLt
  have l3 : (i 3).val < 64 := (i 3).isLt
  rw [val_main_v64_apply, val_main_v63_apply, val_main_v35_apply, val_main_v1_apply]
  exact px hX (by show ((((i 0).val * 2048 + (i 2).val) * 2 + (i 1).val) * 64 + (i 3).val) / 262144 = b; omega) (by show 256 + (((((i 0).val * 2048 + (i 2).val) * 2 + (i 1).val) * 64 + (i 3).val) / 128 % 2048) = 256 + t; omega)
    (by show 512 + (((((i 0).val * 2048 + (i 2).val) * 2 + (i 1).val) * 64 + (i 3).val) % 128) = 512 + 64 * h + d; omega)

include hX in
/-- A latent value entry. -/
theorem v85 {i : S16x2x2048x64.Idx} {b h t d : ℕ} (e0 : (i 0).val = b) (e1 : (i 1).val = h) (e2 : (i 2).val = t) (e3 : (i 3).val = d) :
    val_main_v85 (F := Ideal) x0 i = ((P b (256 + t) (640 + 64 * h + d) : ℝ) : EReal) := by
  have l0 : (i 0).val < 16 := (i 0).isLt
  have l1 : (i 1).val < 2 := (i 1).isLt
  have l2 : (i 2).val < 2048 := (i 2).isLt
  have l3 : (i 3).val < 64 := (i 3).isLt
  rw [val_main_v85_apply, val_main_v84_apply, val_main_v36_apply, val_main_v1_apply]
  exact px hX (by show ((((i 0).val * 2048 + (i 2).val) * 2 + (i 1).val) * 64 + (i 3).val) / 262144 = b; omega) (by show 256 + (((((i 0).val * 2048 + (i 2).val) * 2 + (i 1).val) * 64 + (i 3).val) / 128 % 2048) = 256 + t; omega)
    (by show 640 + (((((i 0).val * 2048 + (i 2).val) * 2 + (i 1).val) * 64 + (i 3).val) % 128) = 640 + 64 * h + d; omega)

include hX in
/-- A context key entry. -/
theorem v87 {i : S16x2x256x64.Idx} {b h t d : ℕ} (e0 : (i 0).val = b) (e1 : (i 1).val = h) (e2 : (i 2).val = t) (e3 : (i 3).val = d) :
    val_main_v87 (F := Ideal) x0 i = ((P b (t) (512 + 64 * h + d) : ℝ) : EReal) := by
  have l0 : (i 0).val < 16 := (i 0).isLt
  have l1 : (i 1).val < 2 := (i 1).isLt
  have l2 : (i 2).val < 256 := (i 2).isLt
  have l3 : (i 3).val < 64 := (i 3).isLt
  rw [val_main_v87_apply, val_main_v86_apply, val_main_v38_apply, val_main_v0_apply]
  exact px hX (by show ((((i 0).val * 256 + (i 2).val) * 2 + (i 1).val) * 64 + (i 3).val) / 32768 = b; omega) (by show (((((i 0).val * 256 + (i 2).val) * 2 + (i 1).val) * 64 + (i 3).val) / 128 % 256) = t; omega)
    (by show 512 + (((((i 0).val * 256 + (i 2).val) * 2 + (i 1).val) * 64 + (i 3).val) % 128) = 512 + 64 * h + d; omega)

include hX in
/-- A context value entry. -/
theorem v89 {i : S16x2x256x64.Idx} {b h t d : ℕ} (e0 : (i 0).val = b) (e1 : (i 1).val = h) (e2 : (i 2).val = t) (e3 : (i 3).val = d) :
    val_main_v89 (F := Ideal) x0 i = ((P b (t) (640 + 64 * h + d) : ℝ) : EReal) := by
  have l0 : (i 0).val < 16 := (i 0).isLt
  have l1 : (i 1).val < 2 := (i 1).isLt
  have l2 : (i 2).val < 256 := (i 2).isLt
  have l3 : (i 3).val < 64 := (i 3).isLt
  rw [val_main_v89_apply, val_main_v88_apply, val_main_v39_apply, val_main_v0_apply]
  exact px hX (by show ((((i 0).val * 256 + (i 2).val) * 2 + (i 1).val) * 64 + (i 3).val) / 32768 = b; omega) (by show (((((i 0).val * 256 + (i 2).val) * 2 + (i 1).val) * 64 + (i 3).val) / 128 % 256) = t; omega)
    (by show 640 + (((((i 0).val * 256 + (i 2).val) * 2 + (i 1).val) * 64 + (i 3).val) % 128) = 640 + 64 * h + d; omega)

include hX in
/-- A context query entry. -/
theorem v168 {i : S16x8x256x64.Idx} {b h t d : ℕ} (e0 : (i 0).val = b) (e1 : (i 1).val = h) (e2 : (i 2).val = t) (e3 : (i 3).val = d) :
    val_main_v168 (F := Ideal) x0 i = ((P b (t) (64 * h + d) : ℝ) : EReal) := by
  have l0 : (i 0).val < 16 := (i 0).isLt
  have l1 : (i 1).val < 8 := (i 1).isLt
  have l2 : (i 2).val < 256 := (i 2).isLt
  have l3 : (i 3).val < 64 := (i 3).isLt
  rw [val_main_v168_apply, val_main_v167_apply, val_main_v37_apply, val_main_v0_apply]
  exact px hX (by show ((((i 0).val * 256 + (i 2).val) * 8 + (i 1).val) * 64 + (i 3).val) / 131072 = b; omega) (by show (((((i 0).val * 256 + (i 2).val) * 8 + (i 1).val) * 64 + (i 3).val) / 512 % 256) = t; omega)
    (by show (((((i 0).val * 256 + (i 2).val) * 8 + (i 1).val) * 64 + (i 3).val) % 512) = 64 * h + d; omega)

include hX hT in
theorem v50 {i : S16x8x2048x32.Idx} {b h t d : ℕ} (e0 : (i 0).val = b) (e1 : (i 1).val = h) (e2 : (i 2).val = t) (e3 : (i 3).val = d) :
    val_main_v50 (F := Ideal) x0 i = ((P b (256 + t) (64 * h + d) * cs t d - P b (256 + t) (64 * h + (d + 32)) * sn t d : ℝ) : EReal) := by
  rw [val_main_v50_apply, val_main_v45_apply, val_main_v49_apply, val_main_v42_apply, val_main_v46_apply, val_main_v44_apply, val_main_v43_apply, val_main_v48_apply, val_main_v47_apply]
  exact sub_coe (mul_coe (v41 hX e0 e1 e2 e3) (hcos hT e2 e3)) (mul_coe (v41 hX (d := d + 32) e0 e1 e2 (by show 32 + (i 3).val = d + 32; omega)) (hsin hT e2 e3))

include hX hT in
theorem v59 {i : S16x8x2048x32.Idx} {b h t d : ℕ} (e0 : (i 0).val = b) (e1 : (i 1).val = h) (e2 : (i 2).val = t) (e3 : (i 3).val = d) :
    val_main_v59 (F := Ideal) x0 i = ((P b (256 + t) (64 * h + d) * sn t d + P b (256 + t) (64 * h + (d + 32)) * cs t d : ℝ) : EReal) := by
  rw [val_main_v59_apply, val_main_v54_apply, val_main_v58_apply, val_main_v51_apply, val_main_v55_apply, val_main_v53_apply, val_main_v52_apply, val_main_v57_apply, val_main_v56_apply]
  exact add_coe (mul_coe (v41 hX e0 e1 e2 e3) (hsin hT e2 e3)) (mul_coe (v41 hX (d := d + 32) e0 e1 e2 (by show 32 + (i 3).val = d + 32; omega)) (hcos hT e2 e3))

include hX hT in
/-- The rotated entry. -/
theorem v60 {i : S16x8x2048x64.Idx} {b h t d : ℕ} (e0 : (i 0).val = b) (e1 : (i 1).val = h) (e2 : (i 2).val = t) (e3 : (i 3).val = d) :
    val_main_v60 (F := Ideal) x0 i = ((rot cs sn (fun e => P b (256 + t) (64 * h + e)) t d : ℝ) : EReal) := by
  have l0 : (i 0).val < 16 := (i 0).isLt
  have l1 : (i 1).val < 8 := (i 1).isLt
  have l2 : (i 2).val < 2048 := (i 2).isLt
  have l3 : (i 3).val < 64 := (i 3).isLt
  unfold val_main_v60 rot
  by_cases hd : d < 32
  · rw [if_pos hd]
    exact (concatenate_pair_apply_left 3 (val_main_v50 (F := Ideal) x0) (val_main_v59 (F := Ideal) x0) concatenates_S16x8x2048x32_S16x8x2048x32_S16x8x2048x64_d3 i rfl
      (ValueIdx.ix4 (⟨b, by omega⟩ : Fin 16) (⟨h, by omega⟩ : Fin 8) (⟨t, by omega⟩ : Fin 2048) (⟨d, hd⟩ : Fin 32))
      (fun a => match a with | ⟨0, _⟩ => e0.symm | ⟨1, _⟩ => e1.symm | ⟨2, _⟩ => e2.symm | ⟨3, _⟩ => e3.symm)).trans (v50 hX hT rfl rfl rfl rfl)
  · rw [if_neg hd]
    refine (concatenate_pair_apply_right 3 (val_main_v50 (F := Ideal) x0) (val_main_v59 (F := Ideal) x0) concatenates_S16x8x2048x32_S16x8x2048x32_S16x8x2048x64_d3 i rfl rfl
      (ValueIdx.ix4 (⟨b, by omega⟩ : Fin 16) (⟨h, by omega⟩ : Fin 8) (⟨t, by omega⟩ : Fin 2048) (⟨d - 32, by omega⟩ : Fin 32))
      (fun a ha => match a, ha with | ⟨0, _⟩, _ => e0.symm | ⟨1, _⟩, _ => e1.symm | ⟨2, _⟩, _ => e2.symm | ⟨3, _⟩, ha => absurd rfl ha)
      (by show d - 32 + 32 = (i 3).val; omega)).trans ((v59 hX hT rfl rfl rfl rfl).trans ?_)
    rw [show d - 32 + 32 = d by omega]

include hX hT in
theorem v73 {i : S16x2x2048x32.Idx} {b h t d : ℕ} (e0 : (i 0).val = b) (e1 : (i 1).val = h) (e2 : (i 2).val = t) (e3 : (i 3).val = d) :
    val_main_v73 (F := Ideal) x0 i = ((P b (256 + t) (512 + 64 * h + d) * cs t d - P b (256 + t) (512 + 64 * h + (d + 32)) * sn t d : ℝ) : EReal) := by
  rw [val_main_v73_apply, val_main_v68_apply, val_main_v72_apply, val_main_v65_apply, val_main_v69_apply, val_main_v67_apply, val_main_v66_apply, val_main_v71_apply, val_main_v70_apply]
  exact sub_coe (mul_coe (v64 hX e0 e1 e2 e3) (hcos hT e2 e3)) (mul_coe (v64 hX (d := d + 32) e0 e1 e2 (by show 32 + (i 3).val = d + 32; omega)) (hsin hT e2 e3))

include hX hT in
theorem v82 {i : S16x2x2048x32.Idx} {b h t d : ℕ} (e0 : (i 0).val = b) (e1 : (i 1).val = h) (e2 : (i 2).val = t) (e3 : (i 3).val = d) :
    val_main_v82 (F := Ideal) x0 i = ((P b (256 + t) (512 + 64 * h + d) * sn t d + P b (256 + t) (512 + 64 * h + (d + 32)) * cs t d : ℝ) : EReal) := by
  rw [val_main_v82_apply, val_main_v77_apply, val_main_v81_apply, val_main_v74_apply, val_main_v78_apply, val_main_v76_apply, val_main_v75_apply, val_main_v80_apply, val_main_v79_apply]
  exact add_coe (mul_coe (v64 hX e0 e1 e2 e3) (hsin hT e2 e3)) (mul_coe (v64 hX (d := d + 32) e0 e1 e2 (by show 32 + (i 3).val = d + 32; omega)) (hcos hT e2 e3))

include hX hT in
/-- The rotated entry. -/
theorem v83 {i : S16x2x2048x64.Idx} {b h t d : ℕ} (e0 : (i 0).val = b) (e1 : (i 1).val = h) (e2 : (i 2).val = t) (e3 : (i 3).val = d) :
    val_main_v83 (F := Ideal) x0 i = ((rot cs sn (fun e => P b (256 + t) (512 + 64 * h + e)) t d : ℝ) : EReal) := by
  have l0 : (i 0).val < 16 := (i 0).isLt
  have l1 : (i 1).val < 2 := (i 1).isLt
  have l2 : (i 2).val < 2048 := (i 2).isLt
  have l3 : (i 3).val < 64 := (i 3).isLt
  unfold val_main_v83 rot
  by_cases hd : d < 32
  · rw [if_pos hd]
    exact (concatenate_pair_apply_left 3 (val_main_v73 (F := Ideal) x0) (val_main_v82 (F := Ideal) x0) concatenates_S16x2x2048x32_S16x2x2048x32_S16x2x2048x64_d3 i rfl
      (ValueIdx.ix4 (⟨b, by omega⟩ : Fin 16) (⟨h, by omega⟩ : Fin 2) (⟨t, by omega⟩ : Fin 2048) (⟨d, hd⟩ : Fin 32))
      (fun a => match a with | ⟨0, _⟩ => e0.symm | ⟨1, _⟩ => e1.symm | ⟨2, _⟩ => e2.symm | ⟨3, _⟩ => e3.symm)).trans (v73 hX hT rfl rfl rfl rfl)
  · rw [if_neg hd]
    refine (concatenate_pair_apply_right 3 (val_main_v73 (F := Ideal) x0) (val_main_v82 (F := Ideal) x0) concatenates_S16x2x2048x32_S16x2x2048x32_S16x2x2048x64_d3 i rfl rfl
      (ValueIdx.ix4 (⟨b, by omega⟩ : Fin 16) (⟨h, by omega⟩ : Fin 2) (⟨t, by omega⟩ : Fin 2048) (⟨d - 32, by omega⟩ : Fin 32))
      (fun a ha => match a, ha with | ⟨0, _⟩, _ => e0.symm | ⟨1, _⟩, _ => e1.symm | ⟨2, _⟩, _ => e2.symm | ⟨3, _⟩, ha => absurd rfl ha)
      (by show d - 32 + 32 = (i 3).val; omega)).trans ((v82 hX hT rfl rfl rfl rfl).trans ?_)
    rw [show d - 32 + 32 = d by omega]

include hX hT in
/-- The rotated latent query, scaled. -/
theorem v62 {i : S16x8x2048x64.Idx} {b h t d : ℕ} (e0 : (i 0).val = b) (e1 : (i 1).val = h) (e2 : (i 2).val = t) (e3 : (i 3).val = d) :
    val_main_v62 (F := Ideal) x0 i = ((qry cs sn (P b) (256 + t) h d * 8⁻¹ : ℝ) : EReal) := by
  rw [val_main_v62_apply, val_main_v61_apply, val_main_cst_3_apply]
  unfold qry
  rw [if_neg (by omega), show 256 + t - 256 = t by omega]
  exact mul_coe (v60 hX hT e0 e1 e2 e3) eighth

include hX in
/-- The context query, scaled. -/
theorem v170 {i : S16x8x256x64.Idx} {b h t d : ℕ} (e0 : (i 0).val = b) (e1 : (i 1).val = h) (e2 : (i 2).val = t) (e3 : (i 3).val = d) :
    val_main_v170 (F := Ideal) x0 i = ((qry cs sn (P b) t h d * 8⁻¹ : ℝ) : EReal) := by
  have l2 : (i 2).val < 256 := (i 2).isLt
  rw [val_main_v170_apply, val_main_v169_apply, val_main_cst_15_apply]
  unfold qry
  rw [if_pos (by omega)]
  exact mul_coe (v168 hX e0 e1 e2 e3) eighth

include hX hT in
/-- The rotated latent key. -/
theorem v83' {i : S16x2x2048x64.Idx} {b h t d : ℕ} (e0 : (i 0).val = b) (e1 : (i 1).val = h) (e2 : (i 2).val = t) (e3 : (i 3).val = d) :
    val_main_v83 (F := Ideal) x0 i = ((key cs sn (P b) (256 + t) h d : ℝ) : EReal) := by
  unfold key
  rw [if_neg (by omega), show 256 + t - 256 = t by omega]
  exact v83 hX hT e0 e1 e2 e3

include hX in
/-- The context key. -/
theorem v87' {i : S16x2x256x64.Idx} {b h t d : ℕ} (e0 : (i 0).val = b) (e1 : (i 1).val = h) (e2 : (i 2).val = t) (e3 : (i 3).val = d) :
    val_main_v87 (F := Ideal) x0 i = ((key cs sn (P b) t h d : ℝ) : EReal) := by
  have l2 : (i 2).val < 256 := (i 2).isLt
  unfold key
  rw [if_pos (by omega)]
  exact v87 hX e0 e1 e2 e3

end

end Cert.ReferenceIdeal.Swa

end
-- ==== Proof.Swa.Tables.lean ====
/- The rotation tables: the reference's are real, and the kernel's two table arguments are the reference's, tiled and (the sines) signed. -/
module

public import proofs.«01_k».proof.Proof.Swa.RefHeads
public import proofs.«01_k».proof.Proof.Swa.Frame
public import Idealize.ShloMosaic.Lib.StableHlo.ReadAt
public import Idealize.ShloMosaic.Lib.Pointwise.Tactic
public import Idealize.ShloMosaic.Lib.Pointwise.Reshape

@[expose] public section

set_option maxRecDepth 16384

noncomputable section

namespace Cert.ReferenceIdeal.Swa

open Cert.ReferenceIdeal Cert.ReferenceIdeal.Gen Cert.ReferenceIdeal.Read Idealize.ShloMosaic Idealize.ShloMosaic.TcCoe Idealize.SL.Sem Idealize.ShloMosaic.StableHlo
open Cert.Swa

/-- An extended real that is a real. -/
def IsR (x : EReal) : Prop := ∃ r : ℝ, x = (r : EReal)

theorem isR_mul {x y : EReal} (hx : IsR x) (hy : IsR y) : IsR (x * y) := by
  obtain ⟨a, rfl⟩ := hx; obtain ⟨b, rfl⟩ := hy; exact ⟨a * b, (EReal.coe_mul a b).symm⟩
theorem isR_add {x y : EReal} (hx : IsR x) (hy : IsR y) : IsR (x + y) := by
  obtain ⟨a, rfl⟩ := hx; obtain ⟨b, rfl⟩ := hy; exact ⟨a + b, (EReal.coe_add a b).symm⟩
theorem isR_neg {x : EReal} (hx : IsR x) : IsR (-x) := by
  obtain ⟨a, rfl⟩ := hx; exact ⟨-a, (EReal.coe_neg a).symm⟩
theorem isR_pow {x y : EReal} (hx : IsR x) (hy : IsR y) : IsR (Ideal.pow x y) := by
  obtain ⟨a, rfl⟩ := hx; obtain ⟨b, rfl⟩ := hy; exact ⟨_, rfl⟩
theorem isR_cos {x : EReal} (hx : IsR x) : IsR (Ideal.cos x) := by
  obtain ⟨a, rfl⟩ := hx; exact ⟨_, rfl⟩
theorem isR_sin {x : EReal} (hx : IsR x) : IsR (Ideal.sin x) := by
  obtain ⟨a, rfl⟩ := hx; exact ⟨_, rfl⟩
theorem isR_toReal {x : EReal} (hx : IsR x) : x = ((x.toReal : ℝ) : EReal) := by
  obtain ⟨a, rfl⟩ := hx; rfl

theorem isR_two : IsR (Ideal.ofBits .f32 0x40000000#32) := ⟨2, by simp [Ideal.ofBits, Ideal.ieee]; rw [← EReal.coe_mul]; norm_num⟩
theorem isR_zero : IsR (Ideal.ofBits .f32 0x00000000#32) := ⟨0, by simp [Ideal.ofBits, Ideal.ieee]⟩
theorem isR_32 : Ideal.ofBits .f32 0x42000000#32 = ((32 : ℝ) : EReal) := by
  simp [Ideal.ofBits, Ideal.ieee]; try (rw [← EReal.coe_mul]; norm_num)
theorem isR_10000 : IsR (Ideal.ofBits .f32 0x461C4000#32) := ⟨_, by
  simp only [Ideal.ofBits, Ideal.ieee]; rfl⟩

theorem isR_div32 {x : EReal} (hx : IsR x) : IsR (Ideal.div x (Ideal.ofBits .f32 0x42000000#32)) := by
  obtain ⟨a, rfl⟩ := hx
  exact ⟨a / 32, div_coe rfl isR_32 (by norm_num)⟩

theorem freq_real (i : S16.Idx) : IsR (val_main_v20 (F := Ideal) i) := by
  rw [val_main_v20_apply, val_main_v19_apply, val_main_cst_2_apply, val_main_v18_apply, val_main_v17_apply, val_main_cst_1_apply, val_main_v16_apply, val_main_v15_apply,
    val_main_v14_apply, val_main_cst_0_apply, val_main_v13_apply, val_main_v12_apply, val_main_cst_apply]
  exact isR_pow isR_10000 (isR_div32 (isR_neg (isR_add isR_zero (isR_mul isR_two ⟨_, rfl⟩))))

theorem angle_real (i : S2048x32.Idx) : IsR (val_main_v31 (F := Ideal) i) := by
  have l0 : (i 0).val < 2048 := (i 0).isLt
  have l1 : (i 1).val < 32 := (i 1).isLt
  unfold val_main_v31
  by_cases h : (i 1).val < 16
  · have e := concatenate_pair_apply_left 1 (val_main_v25 (F := Ideal)) (val_main_v30 (F := Ideal)) concatenates_S2048x16_S2048x16_S2048x32_d1 i rfl
      (ValueIdx.ix2 (⟨(i 0).val, l0⟩ : Fin 2048) (⟨(i 1).val, h⟩ : Fin 16)) (fun a => match a with | ⟨0, _⟩ => rfl | ⟨1, _⟩ => rfl)
    rw [e, val_main_v25_apply, val_main_v23_apply, val_main_v21_apply, val_main_v5_apply, val_main_v24_apply, val_main_v22_apply]
    exact isR_mul ⟨_, rfl⟩ (freq_real _)
  · have e := concatenate_pair_apply_right 1 (val_main_v25 (F := Ideal)) (val_main_v30 (F := Ideal)) concatenates_S2048x16_S2048x16_S2048x32_d1 i rfl rfl
      (ValueIdx.ix2 (⟨(i 0).val, l0⟩ : Fin 2048) (⟨(i 1).val - 16, by omega⟩ : Fin 16)) (fun a ha => match a, ha with | ⟨0, _⟩, _ => rfl | ⟨1, _⟩, ha => absurd rfl ha)
      (by show (i 1).val - 16 + 16 = (i 1).val; omega)
    rw [e, val_main_v30_apply, val_main_v28_apply, val_main_v26_apply, val_main_v10_apply, val_main_v29_apply, val_main_v27_apply]
    exact isR_mul ⟨_, rfl⟩ (freq_real _)

/-- The cosine table, as reals. -/
def cs (t j : ℕ) : ℝ := if h : t < 2048 ∧ j < 32 then (val_main_v32 (F := Ideal) (ValueIdx.ix2 (⟨t, h.1⟩ : Fin 2048) (⟨j, h.2⟩ : Fin 32)) : EReal).toReal else 0
/-- The sine table, as reals. -/
def sn (t j : ℕ) : ℝ := if h : t < 2048 ∧ j < 32 then (val_main_v33 (F := Ideal) (ValueIdx.ix2 (⟨t, h.1⟩ : Fin 2048) (⟨j, h.2⟩ : Fin 32)) : EReal).toReal else 0

theorem real_tables : RealTables cs sn := by
  constructor
  · intro i
    have l0 : (i 0).val < 2048 := (i 0).isLt
    have l1 : (i 1).val < 32 := (i 1).isLt
    have e : i = ValueIdx.ix2 (⟨(i 0).val, l0⟩ : Fin 2048) (⟨(i 1).val, l1⟩ : Fin 32) := funext fun a => match a with | ⟨0, _⟩ => rfl | ⟨1, _⟩ => rfl
    unfold cs
    rw [dif_pos ⟨l0, l1⟩, ← e]
    refine isR_toReal ?_
    rw [val_main_v32_apply]
    exact isR_cos (angle_real i)
  · intro i
    have l0 : (i 0).val < 2048 := (i 0).isLt
    have l1 : (i 1).val < 32 := (i 1).isLt
    have e : i = ValueIdx.ix2 (⟨(i 0).val, l0⟩ : Fin 2048) (⟨(i 1).val, l1⟩ : Fin 32) := funext fun a => match a with | ⟨0, _⟩ => rfl | ⟨1, _⟩ => rfl
    unfold sn
    rw [dif_pos ⟨l0, l1⟩, ← e]
    refine isR_toReal ?_
    rw [val_main_v33_apply]
    exact isR_sin (angle_real i)

end Cert.ReferenceIdeal.Swa

namespace Cert.KernelIdeal.Swa

open Cert.KernelIdeal Cert.KernelIdeal.Gen Idealize.ShloMosaic Idealize.ShloMosaic.TcCoe Idealize.SL.Sem
open Cert.Swa

variable (m : (ℓ : Loc nD τ sig) → Buf (Elt Ideal) ℓ)

theorem cos_arr (c : Dev nD) : V (F := Ideal) m c main_v34
    = shapeCast S2048x128 (broadcastInDim S1x2048x4x32 ![0, 1, 2, 3] bcast_S1x2048x1x32_S1x2048x4x32_0_1_2_3
        (shapeCast S1x2048x1x32 (Cert.ReferenceIdeal.Read.val_main_v32 (F := Ideal)) shapeCasts_S2048x32_S1x2048x1x32)) shapeCasts_S1x2048x4x32_S2048x128 := by
  unfold V
  after_reads_simp
  try simp -implicitDefEqProofs only [StableHlo.TRef.toBuf, StableHlo.TRef.ofBuf, cast_cast, cast_eq]
  rfl

theorem sin_arr (c : Dev nD) : V (F := Ideal) m c main_v39
    = shapeCast S2048x128 (broadcastInDim S1x2048x2x64 ![0, 1, 2, 3] bcast_S1x2048x1x64_S1x2048x2x64_0_1_2_3
        (shapeCast S1x2048x1x64 (concatenate S2048x64 1 [⟨S2048x32, Host.negf (F := Ideal) (s := S2048x32) (φ := .f32) (Cert.ReferenceIdeal.Read.val_main_v33 (F := Ideal))⟩, ⟨S2048x32, Cert.ReferenceIdeal.Read.val_main_v33 (F := Ideal)⟩]
          concatenates_S2048x32_S2048x32_S2048x64_d1) shapeCasts_S2048x64_S1x2048x1x64)) shapeCasts_S1x2048x2x64_S2048x128 := by
  unfold V
  after_reads_simp
  try simp -implicitDefEqProofs only [StableHlo.TRef.toBuf, StableHlo.TRef.ofBuf, cast_cast, cast_eq]
  rfl

theorem cos_val (c : Dev nD) (t : Fin 2048) (l : Fin 128) : V (F := Ideal) m c main_v34 (ValueIdx.ix2 t l) = ((Cert.ReferenceIdeal.Swa.cs t.val (l.val % 32) : ℝ) : EReal) := by
  have h := Cert.ReferenceIdeal.Swa.real_tables.1 (ValueIdx.ix2 t (⟨l.val % 32, by omega⟩ : Fin 32))
  refine Eq.trans ?_ h
  rw [cos_arr]
  generalize Cert.ReferenceIdeal.Read.val_main_v32 (F := Ideal) = y
  refine (shapeCast_apply _ shapeCasts_S1x2048x4x32_S2048x128 _ (ValueIdx.ix4 (0 : Fin 1) t (⟨l.val / 32, by omega⟩ : Fin 4) (⟨l.val % 32, by omega⟩ : Fin 32)) ?_).trans ?_
  · rw [Shape.rowMajor_val_four, Shape.rowMajor_val_two]
    show ((0 * 2048 + t.val) * 4 + l.val / 32) * 32 + l.val % 32 = t.val * 128 + l.val
    omega
  refine (broadcastInDim_apply _ bcast_S1x2048x1x32_S1x2048x4x32_0_1_2_3 _ _ (ValueIdx.ix4 (0 : Fin 1) t (0 : Fin 1) (⟨l.val % 32, by omega⟩ : Fin 32)) ?_).trans ?_
  · intro a
    match a with
    | ⟨0, _⟩ => exact (if_pos rfl).symm
    | ⟨1, _⟩ => exact (if_neg (by show ¬ 2048 = 1; omega)).symm
    | ⟨2, _⟩ => exact (if_pos rfl).symm
    | ⟨3, _⟩ => exact (if_neg (by show ¬ 32 = 1; omega)).symm
  refine shapeCast_apply y shapeCasts_S2048x32_S1x2048x1x32 _ _ ?_
  rw [Shape.rowMajor_val_four, Shape.rowMajor_val_two]
  show t.val * 32 + l.val % 32 = ((0 * 2048 + t.val) * 1 + 0) * 32 + l.val % 32
  omega

theorem sin_val (c : Dev nD) (t : Fin 2048) (l : Fin 128) : V (F := Ideal) m c main_v39 (ValueIdx.ix2 t l)
    = (((if l.val % 64 < 32 then -Cert.ReferenceIdeal.Swa.sn t.val (l.val % 32) else Cert.ReferenceIdeal.Swa.sn t.val (l.val % 32)) : ℝ) : EReal) := by
  have h := Cert.ReferenceIdeal.Swa.real_tables.2 (ValueIdx.ix2 t (⟨l.val % 32, by omega⟩ : Fin 32))
  replace h : Cert.ReferenceIdeal.Read.val_main_v33 (F := Ideal) (ValueIdx.ix2 t (⟨l.val % 32, by omega⟩ : Fin 32)) = ((Cert.ReferenceIdeal.Swa.sn t.val (l.val % 32) : ℝ) : EReal) := h
  rw [sin_arr]
  generalize Cert.ReferenceIdeal.Read.val_main_v33 (F := Ideal) = y at h ⊢
  refine (shapeCast_apply _ shapeCasts_S1x2048x2x64_S2048x128 _ (ValueIdx.ix4 (0 : Fin 1) t (⟨l.val / 64, by omega⟩ : Fin 2) (⟨l.val % 64, by omega⟩ : Fin 64)) ?_).trans ?_
  · rw [Shape.rowMajor_val_four, Shape.rowMajor_val_two]
    show ((0 * 2048 + t.val) * 2 + l.val / 64) * 64 + l.val % 64 = t.val * 128 + l.val
    omega
  refine (broadcastInDim_apply _ bcast_S1x2048x1x64_S1x2048x2x64_0_1_2_3 _ _ (ValueIdx.ix4 (0 : Fin 1) t (0 : Fin 1) (⟨l.val % 64, by omega⟩ : Fin 64)) ?_).trans ?_
  · intro a
    match a with
    | ⟨0, _⟩ => exact (if_pos rfl).symm
    | ⟨1, _⟩ => exact (if_neg (by show ¬ 2048 = 1; omega)).symm
    | ⟨2, _⟩ => exact (if_pos rfl).symm
    | ⟨3, _⟩ => exact (if_neg (by show ¬ 64 = 1; omega)).symm
  refine (shapeCast_apply _ shapeCasts_S2048x64_S1x2048x1x64 _ (ValueIdx.ix2 t (⟨l.val % 64, by omega⟩ : Fin 64)) ?_).trans ?_
  · rw [Shape.rowMajor_val_four, Shape.rowMajor_val_two]
    show t.val * 64 + l.val % 64 = ((0 * 2048 + t.val) * 1 + 0) * 64 + l.val % 64
    omega
  by_cases hl : l.val % 64 < 32
  · rw [if_pos hl]
    refine (concatenate_pair_apply_left 1 (Host.negf (F := Ideal) (s := S2048x32) (φ := .f32) y) y concatenates_S2048x32_S2048x32_S2048x64_d1 _ rfl
      (ValueIdx.ix2 t (⟨l.val % 32, by omega⟩ : Fin 32)) (fun a => match a with | ⟨0, _⟩ => rfl | ⟨1, _⟩ => (by show l.val % 32 = l.val % 64; omega))).trans ?_
    show -(y _) = _
    rw [h, EReal.coe_neg]
  · rw [if_neg hl, ← h]
    exact concatenate_pair_apply_right 1 (Host.negf (F := Ideal) (s := S2048x32) (φ := .f32) y) y concatenates_S2048x32_S2048x32_S2048x64_d1 _ rfl rfl
      (ValueIdx.ix2 t (⟨l.val % 32, by omega⟩ : Fin 32)) (fun a ha => match a, ha with | ⟨0, _⟩, _ => rfl | ⟨1, _⟩, ha => absurd rfl ha)
      (by show l.val % 32 + 32 = l.val % 64; omega)

end Cert.KernelIdeal.Swa

end
-- ==== Proof.Swa.Result.lean ====
/- The two programs' results: under finite arguments each entry of either result array is the banded attention's real result, so the arrays are equal. -/
module

public import proofs.«01_k».proof.Proof.Swa.BodyValue
public import proofs.«01_k».proof.Proof.Swa.Tables
public import Idealize.ShloMosaic.Lib.Pipeline.ValueKit

@[expose] public section

set_option maxRecDepth 16384

noncomputable section

namespace Cert.KernelIdeal.Swa

open Cert.KernelIdeal Cert.KernelIdeal.Gen Idealize.ShloMosaic Idealize.ShloMosaic.TcCoe Idealize.SL.Sem
open Idealize.ShloMosaic.Pipeline (Dat Cfg Window)
open Cert.Swa

variable (m : (ℓ : Loc nD τ sig) → Buf (Elt Ideal) ℓ)

theorem index_facts : ∀ t : Fin cfg0.N, (win0_0.index t (0 : Fin 1) = 0) ∧ (win0_1.index t (0 : Fin 3) = win0_4.index t (0 : Fin 3) ∧ win0_1.index t (1 : Fin 3) = 0 ∧ win0_1.index t (2 : Fin 3) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 3) < 16 ∧ win0_4.index t (1 : Fin 3) = 0 ∧ win0_4.index t (2 : Fin 3) = 0) :=
  (by decide +kernel : ∀ t : Fin grid0.N, _)

/-- The sinks' block is the sinks. -/
theorem blk_sink (c : Dev nD) (t : Fin cfg0.N) (h : Fin 8) :
    iblk m c 0 t (ValueIdx.ix1 h) = m ((c : Thread nD τ).loc main_arg1) (ValueIdx.ix1 h) := by
  rw [← V_main_arg1 m c]
  show V m c main_arg1 (((cfg0.win 0).blk t).view.emb (ValueIdx.ix1 h)) = _
  refine congrArg _ (funext fun a => Fin.ext ?_)
  match a with
  | ⟨0, _⟩ => show win0_0.index t (0 : Fin 1) * 8 + 1 * h.val = h.val; have := (index_facts t).1; omega

/-- The projections' block is the point's batch entry. -/
theorem blk_proj (c : Dev nD) (t : Fin cfg0.N) (n : Fin 2304) (l : Fin 768) :
    iblk m c 1 t (ValueIdx.ix3 (0 : Fin 1) n l) = m ((c : Thread nD τ).loc main_arg0) (ValueIdx.ix3 (⟨win0_4.index t (0 : Fin 3), (index_facts t).2.2.2.2.1⟩ : Fin 16) n l) := by
  rw [← V_main_arg0 m c]
  show V m c main_arg0 (((cfg0.win 1).blk t).view.emb (ValueIdx.ix3 (0 : Fin 1) n l)) = _
  refine congrArg _ (funext fun a => Fin.ext ?_)
  have h1 := (index_facts t).2.1
  match a with
  | ⟨0, _⟩ => show win0_1.index t (0 : Fin 3) * 1 + 1 * 0 = win0_4.index t (0 : Fin 3); omega
  | ⟨1, _⟩ => show win0_1.index t (1 : Fin 3) * 2304 + 1 * n.val = n.val; omega
  | ⟨2, _⟩ => show win0_1.index t (2 : Fin 3) * 768 + 1 * l.val = l.val; omega

/-- The cosines' block is the cosine table. -/
theorem blk_cos (c : Dev nD) (t : Fin cfg0.N) (r : Fin 2048) (l : Fin 128) :
    iblk m c 2 t (ValueIdx.ix2 r l) = V m c main_v34 (ValueIdx.ix2 r l) := by
  show V m c main_v34 (((cfg0.win 2).blk t).view.emb (ValueIdx.ix2 r l)) = _
  refine congrArg _ (funext fun a => Fin.ext ?_)
  have h1 := (index_facts t).2.2.1
  match a with
  | ⟨0, _⟩ => show win0_2.index t (0 : Fin 2) * 2048 + 1 * r.val = r.val; omega
  | ⟨1, _⟩ => show win0_2.index t (1 : Fin 2) * 128 + 1 * l.val = l.val; omega

/-- The sines' block is the sine table. -/
theorem blk_sin (c : Dev nD) (t : Fin cfg0.N) (r : Fin 2048) (l : Fin 128) :
    iblk m c 3 t (ValueIdx.ix2 r l) = V m c main_v39 (ValueIdx.ix2 r l) := by
  show V m c main_v39 (((cfg0.win 3).blk t).view.emb (ValueIdx.ix2 r l)) = _
  refine congrArg _ (funext fun a => Fin.ext ?_)
  have h1 := (index_facts t).2.2.2.1
  match a with
  | ⟨0, _⟩ => show win0_3.index t (0 : Fin 2) * 2048 + 1 * r.val = r.val; omega
  | ⟨1, _⟩ => show win0_3.index t (1 : Fin 2) * 128 + 1 * l.val = l.val; omega

/-- The result array's real entries. -/
def resArr (P : ℕ → ℕ → ℕ → ℝ) (S : ℕ → ℝ) : Vec Ideal S16x2304x512 .bf16 := fun i =>
  ((result Cert.ReferenceIdeal.Swa.cs Cert.ReferenceIdeal.Swa.sn (P (i 0).val) S (i 1).val ((i 2).val / 64) ((i 2).val % 64) : ℝ) : EReal)

theorem kernel_result (c : Dev nD) {P : ℕ → ℕ → ℕ → ℝ} {S : ℕ → ℝ}
    (hX : Cert.ReferenceIdeal.Swa.RealRows (m ((c : Thread nD τ).loc main_arg0)) P)
    (hS : ∀ i : S8.Idx, m ((c : Thread nD τ).loc main_arg1) i = ((S (i 0).val : ℝ) : EReal)) :
    (dats (F := Ideal) m 0 c).arrAt 4 cfg0.N = resArr P S := by
  refine (dats (F := Ideal) m 0 c).arrAt_eq_of_covers 4 _ (by decide +kernel) fun t hf y => ?_
  rw [after0_4]
  have l0 : (y 0).val < 1 := (y 0).isLt
  have l1 : (y 1).val < 2304 := (y 1).isLt
  have l2 : (y 2).val < 512 := (y 2).isLt
  have hv := bodyOut_val (cs := Cert.ReferenceIdeal.Swa.cs) (sn := Cert.ReferenceIdeal.Swa.sn) (P := P (win0_4.index t (0 : Fin 3))) (S := S)
    (x0 := iblk m c 0 t) (x1 := iblk m c 1 t) (x2 := iblk m c 2 t) (x3 := iblk m c 3 t)
    (fun h => (blk_sink m c t h).trans (hS _)) (fun n l => (blk_proj m c t n l).trans (hX _))
    (fun r l => (blk_cos m c t r l).trans (cos_val m c r l)) (fun r l => (blk_sin m c t r l).trans (sin_val m c r l))
    (⟨(y 1).val, l1⟩ : Fin 2304) (⟨(y 2).val, l2⟩ : Fin 512)
  have e : outsAt0 m c t ((cfg0.win 4).xinj (cfg0.grid.coords t) y) = outsAt0 m c t (ValueIdx.ix3 (0 : Fin 1) (⟨(y 1).val, l1⟩ : Fin 2304) (⟨(y 2).val, l2⟩ : Fin 512)) :=
    congrArg (outsAt0 m c t) (funext fun a => Fin.ext (match a with | ⟨0, _⟩ => (by show (y 0).val = 0; omega) | ⟨1, _⟩ => rfl | ⟨2, _⟩ => rfl))
  have h4 := (index_facts t).2.2.2.2
  have e0 : ((((cfg0.win 4).blk t).view.emb y) (0 : Fin 3)).val = win0_4.index t (0 : Fin 3) := by
    show win0_4.index t (0 : Fin 3) * 1 + 1 * (y 0).val = _; omega
  have e1 : ((((cfg0.win 4).blk t).view.emb y) (1 : Fin 3)).val = (y 1).val := by
    show win0_4.index t (1 : Fin 3) * 2304 + 1 * (y 1).val = _; omega
  have e2 : ((((cfg0.win 4).blk t).view.emb y) (2 : Fin 3)).val = (y 2).val := by
    show win0_4.index t (2 : Fin 3) * 512 + 1 * (y 2).val = _; omega
  show outsAt0 m c t ((cfg0.win 4).xinj (cfg0.grid.coords t) y) = _
  refine e.trans (hv.trans ?_)
  unfold resArr
  rw [e0, e1, e2]

end Cert.KernelIdeal.Swa

end
-- ==== Proof.Swa.RefScores.lean ====
/- The reference's scores over the ideal values: the padded windows of keys and values, the band's mask, the scores before the softmax. -/
module

public import proofs.«01_k».proof.Proof.Swa.RefHeads
public import Idealize.ShloMosaic.Lib.KernelVsHost
public import Idealize.ShloMosaic.Lib.ValueIdxRank6

@[expose] public section

set_option maxRecDepth 16384

noncomputable section

namespace Cert.ReferenceIdeal.Swa

open Cert.ReferenceIdeal Cert.ReferenceIdeal.Gen Cert.ReferenceIdeal.Read Idealize.ShloMosaic Idealize.ShloMosaic.TcCoe Idealize.SL.Sem Idealize.ShloMosaic.StableHlo
open Cert.Swa

theorem select_ite {α : Type} (p : Prop) [Decidable p] (a b : α) : Scalar.select (if p then 1#1 else 0#1) a b = if p then a else b := by
  by_cases h : p
  · rw [if_pos h, if_pos h, ValueIdx.select_one]
  · rw [if_neg h, if_neg h, ValueIdx.select_zero]

theorem and_ite (p q : Prop) [Decidable p] [Decidable q] : IntOp.andi (if p then 1#1 else 0#1) (if q then 1#1 else 0#1) = if p ∧ q then 1#1 else 0#1 := by
  by_cases hp : p <;> by_cases hq : q <;> simp [hp, hq, IntOp.andi]

theorem negInf : Ideal.ofBits .f32 0xFF800000#32 = ⊥ := by simp [Ideal.ofBits, Ideal.ieee]

theorem zeroInt (x : BitVec 32) (h : x = 0#32) : (FloatOps.sitofp .f32 x : Ideal .f32) = ((0 : ℝ) : EReal) := by
  subst h
  show (((0#32 : BitVec 32).toInt : ℝ) : EReal) = _
  simp

/-! ## The band's mask -/

theorem abs_word : ∀ d : Fin 1024, IntOp.cmpi .sle (IntOp.absi (IntOp.subi (BitVec.ofNat 32 d.val) 512#32)) 128#32
    = if 384 ≤ d.val ∧ d.val ≤ 640 then 1#1 else 0#1 := by decide +kernel
theorem pos_word : ∀ (t : Fin 16) (w : Fin 384), IntOp.cmpi .sge (IntOp.addi (IntOp.muli (IntOp.subi (BitVec.ofNat 32 t.val) 1#32) 128#32) (BitVec.ofNat 32 w.val)) 0#32
    = if 128 ≤ 128 * t.val + w.val then 1#1 else 0#1 := by decide +kernel
theorem end_word : ∀ (t : Fin 16) (w : Fin 384), IntOp.cmpi .slt (IntOp.addi (IntOp.muli (IntOp.subi (BitVec.ofNat 32 t.val) 1#32) 128#32) (BitVec.ofNat 32 w.val)) 2048#32
    = if 128 * t.val + w.val < 2176 then 1#1 else 0#1 := by decide +kernel

theorem dist_word (t r w : ℕ) (ht : t < 16) (hr : r < 128) (hw : w < 384) :
    IntOp.cmpi .sle (IntOp.absi (IntOp.subi (IntOp.addi (IntOp.muli (BitVec.ofNat 32 t) 128#32) (BitVec.ofNat 32 r))
      (IntOp.addi (IntOp.muli (IntOp.subi (BitVec.ofNat 32 t) 1#32) 128#32) (BitVec.ofNat 32 w)))) 128#32
      = if r ≤ w ∧ w ≤ r + 256 then 1#1 else 0#1 := by
  have e : IntOp.subi (IntOp.addi (IntOp.muli (BitVec.ofNat 32 t) 128#32) (BitVec.ofNat 32 r))
      (IntOp.addi (IntOp.muli (IntOp.subi (BitVec.ofNat 32 t) 1#32) 128#32) (BitVec.ofNat 32 w))
      = IntOp.subi (BitVec.ofNat 32 (r + 640 - w)) 512#32 := by
    unfold IntOp.addi IntOp.subi IntOp.muli
    bv_omega
  rw [e]
  exact (abs_word ⟨r + 640 - w, by omega⟩).trans (if_congr (by simp only []; omega) rfl rfl)

theorem mask {i : S16x128x384.Idx} {t r w : ℕ} (e0 : (i 0).val = t) (e1 : (i 1).val = r) (e2 : (i 2).val = w) :
    val_main_v139 (F := Ideal) i = if near (256 + 128 * t + r) (128 * t + 128 + w) then 1#1 else 0#1 := by
  have l0 : (i 0).val < 16 := (i 0).isLt
  have l1 : (i 1).val < 128 := (i 1).isLt
  have l2 : (i 2).val < 384 := (i 2).isLt
  subst e0 e1 e2
  have a129 : val_main_v129 (F := Ideal) i = if (i 1).val ≤ (i 2).val ∧ (i 2).val ≤ (i 1).val + 256 then 1#1 else 0#1 := by
    rw [val_main_v129_apply, val_main_v127_apply, val_main_v126_apply, val_main_v128_apply, val_main_c_8_apply, val_main_v124_apply, val_main_v122_apply,
      val_main_v112_apply, val_main_v110_apply, val_main_v107_apply, val_main_v105_apply, val_main_v104_apply, val_main_v106_apply, val_main_c_5_apply,
      val_main_v111_apply, val_main_v109_apply, val_main_v108_apply, val_main_v125_apply, val_main_v123_apply, val_main_v121_apply, val_main_v119_apply,
      val_main_v116_apply, val_main_v114_apply, val_main_v105_apply, val_main_v104_apply, val_main_v113_apply, val_main_c_6_apply, val_main_v115_apply,
      val_main_c_7_apply, val_main_v120_apply, val_main_v118_apply, val_main_v117_apply]
    exact dist_word _ _ _ l0 l1 l2
  have a133 : val_main_v133 (F := Ideal) i = if 128 ≤ 128 * (i 0).val + (i 2).val then 1#1 else 0#1 := by
    rw [val_main_v133_apply, val_main_v132_apply, val_main_v130_apply, val_main_v121_apply, val_main_v119_apply,
      val_main_v116_apply, val_main_v114_apply, val_main_v105_apply, val_main_v104_apply, val_main_v113_apply, val_main_c_6_apply, val_main_v115_apply,
      val_main_c_7_apply, val_main_v120_apply, val_main_v118_apply, val_main_v117_apply, val_main_v131_apply, val_main_c_9_apply]
    exact pos_word (i 0) (i 2)
  have a138 : val_main_v138 (F := Ideal) i = if 128 * (i 0).val + (i 2).val < 2176 then 1#1 else 0#1 := by
    rw [val_main_v138_apply, val_main_v137_apply, val_main_v135_apply, val_main_v121_apply, val_main_v119_apply,
      val_main_v116_apply, val_main_v114_apply, val_main_v105_apply, val_main_v104_apply, val_main_v113_apply, val_main_c_6_apply, val_main_v115_apply,
      val_main_c_7_apply, val_main_v120_apply, val_main_v118_apply, val_main_v117_apply, val_main_v136_apply, val_main_c_10_apply]
    exact end_word (i 0) (i 2)
  rw [val_main_v139_apply, val_main_v134_apply, a129, a133, a138, and_ite, and_ite]
  exact if_congr (by unfold near; omega) rfl rfl

/-- A key's entry, nothing outside the latent rows. -/
def padK (cs sn : ℕ → ℕ → ℝ) (P : ℕ → ℕ → ℝ) (j g d : ℕ) : ℝ := if 256 ≤ j ∧ j < 2304 then key cs sn P j g d else 0
/-- A value's entry, nothing outside the latent rows. -/
def padV (P : ℕ → ℕ → ℝ) (j g d : ℕ) : ℝ := if 256 ≤ j ∧ j < 2304 then vlu P j g d else 0

section
variable {x0 : Vec Ideal S16x2304x768 .f32} {P : ℕ → ℕ → ℕ → ℝ} (hX : RealRows x0 P) {cs sn : ℕ → ℕ → ℝ} (hT : RealTables cs sn)

include hX hT in
theorem v92 {i : S16x2x2304x64.Idx} {b g R d : ℕ} (e0 : (i 0).val = b) (e1 : (i 1).val = g) (e2 : (i 2).val = R) (e3 : (i 3).val = d) :
    val_main_v92 (F := Ideal) x0 i = ((padK cs sn (P b) (R + 128) g d : ℝ) : EReal) := by
  have l0 : (i 0).val < 16 := (i 0).isLt
  have l1 : (i 1).val < 2 := (i 1).isLt
  have l2 : (i 2).val < 2304 := (i 2).isLt
  have l3 : (i 3).val < 64 := (i 3).isLt
  unfold val_main_v92 padK
  by_cases h : 128 ≤ R ∧ R < 2176
  · rw [if_pos (by omega)]
    refine (pad_apply_of_inside ![0, 0, 128, 0] ![0, 0, 128, 0] ![0, 0, 0, 0] (val_main_v83 (F := Ideal) x0) (val_main_call0_v0 (F := Ideal)) pads_S16x2x2048x64_S16x2x2304x64_000_000_1281280_000 h_S_ i
      (ValueIdx.ix4 (⟨b, by omega⟩ : Fin 16) (⟨g, by omega⟩ : Fin 2) (⟨R - 128, by omega⟩ : Fin 2048) (⟨d, by omega⟩ : Fin 64))
      (fun a => match a with
        | ⟨0, _⟩ => by show (i 0).val = 0 + b * 1; omega
        | ⟨1, _⟩ => by show (i 1).val = 0 + g * 1; omega
        | ⟨2, _⟩ => by show (i 2).val = 128 + (R - 128) * 1; omega
        | ⟨3, _⟩ => by show (i 3).val = 0 + d * 1; omega)).trans ((v83' hX hT rfl rfl rfl rfl).trans ?_)
    simp only []
    rw [show 256 + (R - 128) = R + 128 by omega]
  · rw [if_neg (by omega)]
    refine (pad_apply_of_not_inside ![0, 0, 128, 0] ![0, 0, 128, 0] ![0, 0, 0, 0] (val_main_v83 (F := Ideal) x0) (val_main_call0_v0 (F := Ideal)) pads_S16x2x2048x64_S16x2x2304x64_000_000_1281280_000 h_S_ i
      2 ?_).trans ?_
    · show ¬ (128 ≤ (i 2).val ∧ ((i 2).val - 128) % 1 = 0 ∧ ((i 2).val - 128) / 1 < 2048); omega
    · exact zeroInt _ rfl

include hX hT in
theorem v93 {i : S16x2x18x128x64.Idx} {b g B r d : ℕ} (e0 : (i 0).val = b) (e1 : (i 1).val = g) (e2 : (i 2).val = B) (e3 : (i 3).val = r) (e4 : (i 4).val = d) :
    val_main_v93 (F := Ideal) x0 i = ((padK cs sn (P b) (128 * B + r + 128) g d : ℝ) : EReal) := by
  have l0 : (i 0).val < 16 := (i 0).isLt
  have l1 : (i 1).val < 2 := (i 1).isLt
  have l2 : (i 2).val < 18 := (i 2).isLt
  have l3 : (i 3).val < 128 := (i 3).isLt
  have l4 : (i 4).val < 64 := (i 4).isLt
  rw [val_main_v93_apply]
  exact v92 hX hT (by show (((((i 0).val * 2 + (i 1).val) * 18 + (i 2).val) * 128 + (i 3).val) * 64 + (i 4).val) / 294912 = b; omega) (by show (((((i 0).val * 2 + (i 1).val) * 18 + (i 2).val) * 128 + (i 3).val) * 64 + (i 4).val) / 147456 % 2 = g; omega) (by show (((((i 0).val * 2 + (i 1).val) * 18 + (i 2).val) * 128 + (i 3).val) * 64 + (i 4).val) / 64 % 2304 = 128 * B + r; omega) (by show (((((i 0).val * 2 + (i 1).val) * 18 + (i 2).val) * 128 + (i 3).val) * 64 + (i 4).val) % 64 = d; omega)

include hX hT in
/-- The window of keys. -/
theorem v97 {i : S16x2x16x384x64.Idx} {b g t w d : ℕ} (e0 : (i 0).val = b) (e1 : (i 1).val = g) (e2 : (i 2).val = t) (e3 : (i 3).val = w) (e4 : (i 4).val = d) :
    val_main_v97 (F := Ideal) x0 i = ((padK cs sn (P b) (128 * t + 128 + w) g d : ℝ) : EReal) := by
  have l0 : (i 0).val < 16 := (i 0).isLt
  have l1 : (i 1).val < 2 := (i 1).isLt
  have l2 : (i 2).val < 16 := (i 2).isLt
  have l3 : (i 3).val < 384 := (i 3).isLt
  have l4 : (i 4).val < 64 := (i 4).isLt
  unfold val_main_v97
  by_cases h1 : w < 128
  · refine (concatenate_apply_piece 3 _ _ i 0 (by show 0 < 3; omega) S16x2x16x128x64 (val_main_v94 (F := Ideal) x0) rfl rfl 0 rfl
      (ValueIdx.ix5 (⟨b, by omega⟩ : Fin 16) (⟨g, by omega⟩ : Fin 2) (⟨t, by omega⟩ : Fin 16) (⟨w - 0, by omega⟩ : Fin 128) (⟨d, by omega⟩ : Fin 64))
      (fun a ha => match a, ha with | ⟨0, _⟩, _ => e0.symm | ⟨1, _⟩, _ => e1.symm | ⟨2, _⟩, _ => e2.symm | ⟨3, _⟩, ha => absurd rfl ha | ⟨4, _⟩, _ => e4.symm)
      (by show 0 + (w - 0) = (i 3).val; omega)).trans ?_
    rw [val_main_v94_apply]
    refine (v93 hX hT rfl rfl rfl rfl rfl).trans ?_
    refine congrArg (fun n => ((padK cs sn (P b) n g d : ℝ) : EReal)) ?_
    show 128 * (t) + (w - 0) + 128 = 128 * t + 128 + w
    omega
  by_cases h2 : w < 256
  · refine (concatenate_apply_piece 3 _ _ i 1 (by show 1 < 3; omega) S16x2x16x128x64 (val_main_v95 (F := Ideal) x0) rfl rfl 128 rfl
      (ValueIdx.ix5 (⟨b, by omega⟩ : Fin 16) (⟨g, by omega⟩ : Fin 2) (⟨t, by omega⟩ : Fin 16) (⟨w - 128, by omega⟩ : Fin 128) (⟨d, by omega⟩ : Fin 64))
      (fun a ha => match a, ha with | ⟨0, _⟩, _ => e0.symm | ⟨1, _⟩, _ => e1.symm | ⟨2, _⟩, _ => e2.symm | ⟨3, _⟩, ha => absurd rfl ha | ⟨4, _⟩, _ => e4.symm)
      (by show 128 + (w - 128) = (i 3).val; omega)).trans ?_
    rw [val_main_v95_apply]
    refine (v93 hX hT rfl rfl rfl rfl rfl).trans ?_
    refine congrArg (fun n => ((padK cs sn (P b) n g d : ℝ) : EReal)) ?_
    show 128 * (1 + t) + (w - 128) + 128 = 128 * t + 128 + w
    omega
  refine (concatenate_apply_piece 3 _ _ i 2 (by show 2 < 3; omega) S16x2x16x128x64 (val_main_v96 (F := Ideal) x0) rfl rfl 256 rfl
      (ValueIdx.ix5 (⟨b, by omega⟩ : Fin 16) (⟨g, by omega⟩ : Fin 2) (⟨t, by omega⟩ : Fin 16) (⟨w - 256, by omega⟩ : Fin 128) (⟨d, by omega⟩ : Fin 64))
      (fun a ha => match a, ha with | ⟨0, _⟩, _ => e0.symm | ⟨1, _⟩, _ => e1.symm | ⟨2, _⟩, _ => e2.symm | ⟨3, _⟩, ha => absurd rfl ha | ⟨4, _⟩, _ => e4.symm)
      (by show 256 + (w - 256) = (i 3).val; omega)).trans ?_
  rw [val_main_v96_apply]
  refine (v93 hX hT rfl rfl rfl rfl rfl).trans ?_
  refine congrArg (fun n => ((padK cs sn (P b) n g d : ℝ) : EReal)) ?_
  show 128 * (2 + t) + (w - 256) + 128 = 128 * t + 128 + w
  omega

include hX in
theorem v98 {i : S16x2x2304x64.Idx} {b g R d : ℕ} (e0 : (i 0).val = b) (e1 : (i 1).val = g) (e2 : (i 2).val = R) (e3 : (i 3).val = d) :
    val_main_v98 (F := Ideal) x0 i = ((padV (P b) (R + 128) g d : ℝ) : EReal) := by
  have l0 : (i 0).val < 16 := (i 0).isLt
  have l1 : (i 1).val < 2 := (i 1).isLt
  have l2 : (i 2).val < 2304 := (i 2).isLt
  have l3 : (i 3).val < 64 := (i 3).isLt
  unfold val_main_v98 padV
  by_cases h : 128 ≤ R ∧ R < 2176
  · rw [if_pos (by omega)]
    refine (pad_apply_of_inside ![0, 0, 128, 0] ![0, 0, 128, 0] ![0, 0, 0, 0] (val_main_v85 (F := Ideal) x0) (val_main_call1_v0 (F := Ideal)) pads_S16x2x2048x64_S16x2x2304x64_000_000_1281280_000 h_S_ i
      (ValueIdx.ix4 (⟨b, by omega⟩ : Fin 16) (⟨g, by omega⟩ : Fin 2) (⟨R - 128, by omega⟩ : Fin 2048) (⟨d, by omega⟩ : Fin 64))
      (fun a => match a with
        | ⟨0, _⟩ => by show (i 0).val = 0 + b * 1; omega
        | ⟨1, _⟩ => by show (i 1).val = 0 + g * 1; omega
        | ⟨2, _⟩ => by show (i 2).val = 128 + (R - 128) * 1; omega
        | ⟨3, _⟩ => by show (i 3).val = 0 + d * 1; omega)).trans ((v85 hX rfl rfl rfl rfl).trans ?_)
    simp only []
    rw [show 256 + (R - 128) = R + 128 by omega]; rfl
  · rw [if_neg (by omega)]
    refine (pad_apply_of_not_inside ![0, 0, 128, 0] ![0, 0, 128, 0] ![0, 0, 0, 0] (val_main_v85 (F := Ideal) x0) (val_main_call1_v0 (F := Ideal)) pads_S16x2x2048x64_S16x2x2304x64_000_000_1281280_000 h_S_ i
      2 ?_).trans ?_
    · show ¬ (128 ≤ (i 2).val ∧ ((i 2).val - 128) % 1 = 0 ∧ ((i 2).val - 128) / 1 < 2048); omega
    · exact zeroInt _ rfl

include hX in
theorem v99 {i : S16x2x18x128x64.Idx} {b g B r d : ℕ} (e0 : (i 0).val = b) (e1 : (i 1).val = g) (e2 : (i 2).val = B) (e3 : (i 3).val = r) (e4 : (i 4).val = d) :
    val_main_v99 (F := Ideal) x0 i = ((padV (P b) (128 * B + r + 128) g d : ℝ) : EReal) := by
  have l0 : (i 0).val < 16 := (i 0).isLt
  have l1 : (i 1).val < 2 := (i 1).isLt
  have l2 : (i 2).val < 18 := (i 2).isLt
  have l3 : (i 3).val < 128 := (i 3).isLt
  have l4 : (i 4).val < 64 := (i 4).isLt
  rw [val_main_v99_apply]
  exact v98 hX (by show (((((i 0).val * 2 + (i 1).val) * 18 + (i 2).val) * 128 + (i 3).val) * 64 + (i 4).val) / 294912 = b; omega) (by show (((((i 0).val * 2 + (i 1).val) * 18 + (i 2).val) * 128 + (i 3).val) * 64 + (i 4).val) / 147456 % 2 = g; omega) (by show (((((i 0).val * 2 + (i 1).val) * 18 + (i 2).val) * 128 + (i 3).val) * 64 + (i 4).val) / 64 % 2304 = 128 * B + r; omega) (by show (((((i 0).val * 2 + (i 1).val) * 18 + (i 2).val) * 128 + (i 3).val) * 64 + (i 4).val) % 64 = d; omega)

include hX in
/-- The window of values. -/
theorem v103 {i : S16x2x16x384x64.Idx} {b g t w d : ℕ} (e0 : (i 0).val = b) (e1 : (i 1).val = g) (e2 : (i 2).val = t) (e3 : (i 3).val = w) (e4 : (i 4).val = d) :
    val_main_v103 (F := Ideal) x0 i = ((padV (P b) (128 * t + 128 + w) g d : ℝ) : EReal) := by
  have l0 : (i 0).val < 16 := (i 0).isLt
  have l1 : (i 1).val < 2 := (i 1).isLt
  have l2 : (i 2).val < 16 := (i 2).isLt
  have l3 : (i 3).val < 384 := (i 3).isLt
  have l4 : (i 4).val < 64 := (i 4).isLt
  unfold val_main_v103
  by_cases h1 : w < 128
  · refine (concatenate_apply_piece 3 _ _ i 0 (by show 0 < 3; omega) S16x2x16x128x64 (val_main_v100 (F := Ideal) x0) rfl rfl 0 rfl
      (ValueIdx.ix5 (⟨b, by omega⟩ : Fin 16) (⟨g, by omega⟩ : Fin 2) (⟨t, by omega⟩ : Fin 16) (⟨w - 0, by omega⟩ : Fin 128) (⟨d, by omega⟩ : Fin 64))
      (fun a ha => match a, ha with | ⟨0, _⟩, _ => e0.symm | ⟨1, _⟩, _ => e1.symm | ⟨2, _⟩, _ => e2.symm | ⟨3, _⟩, ha => absurd rfl ha | ⟨4, _⟩, _ => e4.symm)
      (by show 0 + (w - 0) = (i 3).val; omega)).trans ?_
    rw [val_main_v100_apply]
    refine (v99 hX rfl rfl rfl rfl rfl).trans ?_
    refine congrArg (fun n => ((padV (P b) n g d : ℝ) : EReal)) ?_
    show 128 * (t) + (w - 0) + 128 = 128 * t + 128 + w
    omega
  by_cases h2 : w < 256
  · refine (concatenate_apply_piece 3 _ _ i 1 (by show 1 < 3; omega) S16x2x16x128x64 (val_main_v101 (F := Ideal) x0) rfl rfl 128 rfl
      (ValueIdx.ix5 (⟨b, by omega⟩ : Fin 16) (⟨g, by omega⟩ : Fin 2) (⟨t, by omega⟩ : Fin 16) (⟨w - 128, by omega⟩ : Fin 128) (⟨d, by omega⟩ : Fin 64))
      (fun a ha => match a, ha with | ⟨0, _⟩, _ => e0.symm | ⟨1, _⟩, _ => e1.symm | ⟨2, _⟩, _ => e2.symm | ⟨3, _⟩, ha => absurd rfl ha | ⟨4, _⟩, _ => e4.symm)
      (by show 128 + (w - 128) = (i 3).val; omega)).trans ?_
    rw [val_main_v101_apply]
    refine (v99 hX rfl rfl rfl rfl rfl).trans ?_
    refine congrArg (fun n => ((padV (P b) n g d : ℝ) : EReal)) ?_
    show 128 * (1 + t) + (w - 128) + 128 = 128 * t + 128 + w
    omega
  refine (concatenate_apply_piece 3 _ _ i 2 (by show 2 < 3; omega) S16x2x16x128x64 (val_main_v102 (F := Ideal) x0) rfl rfl 256 rfl
      (ValueIdx.ix5 (⟨b, by omega⟩ : Fin 16) (⟨g, by omega⟩ : Fin 2) (⟨t, by omega⟩ : Fin 16) (⟨w - 256, by omega⟩ : Fin 128) (⟨d, by omega⟩ : Fin 64))
      (fun a ha => match a, ha with | ⟨0, _⟩, _ => e0.symm | ⟨1, _⟩, _ => e1.symm | ⟨2, _⟩, _ => e2.symm | ⟨3, _⟩, ha => absurd rfl ha | ⟨4, _⟩, _ => e4.symm)
      (by show 256 + (w - 256) = (i 3).val; omega)).trans ?_
  rw [val_main_v102_apply]
  refine (v99 hX rfl rfl rfl rfl rfl).trans ?_
  refine congrArg (fun n => ((padV (P b) n g d : ℝ) : EReal)) ?_
  show 128 * (2 + t) + (w - 256) + 128 = 128 * t + 128 + w
  omega

include hX hT in
/-- The latent queries by blocks. -/
theorem v91 {i : S16x2x4x16x128x64.Idx} {b g hh t r d : ℕ} (e0 : (i 0).val = b) (e1 : (i 1).val = g) (e2 : (i 2).val = hh) (e3 : (i 3).val = t)
    (e4 : (i 4).val = r) (e5 : (i 5).val = d) :
    val_main_v91 (F := Ideal) x0 i = ((qry cs sn (P b) (256 + 128 * t + r) (4 * g + hh) d * 8⁻¹ : ℝ) : EReal) := by
  have l0 : (i 0).val < 16 := (i 0).isLt
  have l1 : (i 1).val < 2 := (i 1).isLt
  have l2 : (i 2).val < 4 := (i 2).isLt
  have l3 : (i 3).val < 16 := (i 3).isLt
  have l4 : (i 4).val < 128 := (i 4).isLt
  have l5 : (i 5).val < 64 := (i 5).isLt
  unfold val_main_v91
  refine (shapeCast_apply (val_main_v62 (F := Ideal) x0) shapeCasts_S16x8x2048x64_S16x2x4x16x128x64 i
    (ValueIdx.ix4 (⟨b, by omega⟩ : Fin 16) (⟨4 * g + hh, by omega⟩ : Fin 8) (⟨128 * t + r, by omega⟩ : Fin 2048) (⟨d, by omega⟩ : Fin 64)) ?_).trans
    ((v62 hX hT rfl rfl rfl rfl).trans ?_)
  · rw [Shape.rowMajor_val_four, Shape.rowMajor_val_six]
    show ((b * 8 + (4 * g + hh)) * 2048 + (128 * t + r)) * 64 + d = ((((((i 0).val * 2 + (i 1).val) * 4 + (i 2).val) * 16 + (i 3).val) * 128 + (i 4).val) * 64 + (i 5).val)
    omega
  · show ((qry cs sn (P b) (256 + (128 * t + r)) (4 * g + hh) d * 8⁻¹ : ℝ) : EReal) = _
    rw [← Nat.add_assoc]

include hX in
/-- The context queries by head groups. -/
theorem v171 {i : S16x2x4x256x64.Idx} {b g hh n d : ℕ} (e0 : (i 0).val = b) (e1 : (i 1).val = g) (e2 : (i 2).val = hh) (e3 : (i 3).val = n) (e4 : (i 4).val = d) :
    val_main_v171 (F := Ideal) x0 i = ((qry cs sn (P b) n (4 * g + hh) d * 8⁻¹ : ℝ) : EReal) := by
  have l0 : (i 0).val < 16 := (i 0).isLt
  have l1 : (i 1).val < 2 := (i 1).isLt
  have l2 : (i 2).val < 4 := (i 2).isLt
  have l3 : (i 3).val < 256 := (i 3).isLt
  have l4 : (i 4).val < 64 := (i 4).isLt
  rw [val_main_v171_apply]
  exact v170 hX (by show (((((i 0).val * 2 + (i 1).val) * 4 + (i 2).val) * 256 + (i 3).val) * 64 + (i 4).val) / 131072 = b; omega)
    (by show (((((i 0).val * 2 + (i 1).val) * 4 + (i 2).val) * 256 + (i 3).val) * 64 + (i 4).val) / 16384 % 8 = 4 * g + hh; omega)
    (by show (((((i 0).val * 2 + (i 1).val) * 4 + (i 2).val) * 256 + (i 3).val) * 64 + (i 4).val) / 64 % 256 = n; omega)
    (by show (((((i 0).val * 2 + (i 1).val) * 4 + (i 2).val) * 256 + (i 3).val) * 64 + (i 4).val) % 64 = d; omega)

theorem score_swap (n g hh j : ℕ) (h4 : hh < 4) (b : ℕ) :
    ∑ d : Fin 64, qry cs sn (P b) n (4 * g + hh) d.val * 8⁻¹ * key cs sn (P b) j g d.val = score cs sn (P b) n (4 * g + hh) j := by
  unfold score
  rw [Finset.sum_mul, show (4 * g + hh) / 4 = g by omega]
  exact Finset.sum_congr rfl fun d _ => by ring

include hX hT in
/-- A banded score. -/
theorem v142 {i : S16x2x4x16x128x384.Idx} {b g hh t r w : ℕ} (e0 : (i 0).val = b) (e1 : (i 1).val = g) (e2 : (i 2).val = hh) (e3 : (i 3).val = t)
    (e4 : (i 4).val = r) (e5 : (i 5).val = w) :
    val_main_v142 (F := Ideal) x0 i = if near (256 + 128 * t + r) (128 * t + 128 + w)
      then ((score cs sn (P b) (256 + 128 * t + r) (4 * g + hh) (128 * t + 128 + w) : ℝ) : EReal) else ⊥ := by
  have l2 : (i 2).val < 4 := (i 2).isLt
  rw [val_main_v142_apply, val_main_call2_v1_apply, mask (t := t) (r := r) (w := w) e3 e4 e5, select_ite]
  by_cases h : near (256 + 128 * t + r) (128 * t + 128 + w)
  · rw [if_pos h, if_pos h, val_main_v141_apply, val_main_v140_apply, ← score_swap _ _ _ _ (by omega)]
    refine sum_coe fun d _ => ?_
    refine (mul_coe (v97 hX hT e0 e1 e3 e5 rfl) (v91 hX hT e0 e1 e2 e3 e4 rfl)).trans ?_
    unfold padK
    rw [if_pos (by unfold near at h; omega), mul_comm]
  · rw [if_neg h, if_neg h, val_main_call2_v2_apply]
    exact negInf

include hX hT in
/-- A latent query's score against a context row. -/
theorem v143 {i : S16x2x4x16x128x256.Idx} {b g hh t r j : ℕ} (e0 : (i 0).val = b) (e1 : (i 1).val = g) (e2 : (i 2).val = hh) (e3 : (i 3).val = t)
    (e4 : (i 4).val = r) (e5 : (i 5).val = j) :
    val_main_v143 (F := Ideal) x0 i = ((score cs sn (P b) (256 + 128 * t + r) (4 * g + hh) j : ℝ) : EReal) := by
  have l2 : (i 2).val < 4 := (i 2).isLt
  rw [val_main_v143_apply, ← score_swap _ _ _ _ (by omega)]
  exact sum_coe fun d _ => mul_coe (v91 hX hT e0 e1 e2 e3 e4 rfl) (v87' hX e0 e1 e5 rfl)

include hX in
/-- A context query's score against a context row. -/
theorem v172 {i : S16x2x4x256x256.Idx} {b g hh n j : ℕ} (e0 : (i 0).val = b) (e1 : (i 1).val = g) (e2 : (i 2).val = hh) (e3 : (i 3).val = n)
    (e4 : (i 4).val = j) :
    val_main_v172 (F := Ideal) x0 i = ((score cs sn (P b) n (4 * g + hh) j : ℝ) : EReal) := by
  have l2 : (i 2).val < 4 := (i 2).isLt
  rw [val_main_v172_apply, ← score_swap _ _ _ _ (by omega)]
  exact sum_coe fun d _ => mul_coe (v171 hX e0 e1 e2 e3 rfl) (v87' hX e0 e1 e4 rfl)

end

end Cert.ReferenceIdeal.Swa

end
-- ==== Proof.Swa.RefSoftmax.lean ====
/- The reference's softmax and its result over the ideal values: row `n`, lane `c` holds the banded attention's result. -/
module

public import proofs.«01_k».proof.Proof.Swa.RefScores

@[expose] public section

set_option maxRecDepth 16384

noncomputable section

namespace Cert.ReferenceIdeal.Swa

open Cert.ReferenceIdeal Cert.ReferenceIdeal.Gen Cert.ReferenceIdeal.Read Idealize.ShloMosaic Idealize.ShloMosaic.TcCoe Idealize.SL.Sem Idealize.ShloMosaic.StableHlo
open Cert.Swa

/-- The sinks as reals. -/
def RealSinks (x1 : Vec Ideal S8 .f32) (S : ℕ → ℝ) : Prop := ∀ i : S8.Idx, x1 i = ((S (i 0).val : ℝ) : EReal)

/-- A row's weight at place `l` of the joined scores: the band's window, the context, the sink. -/
def wgtL (cs sn : ℕ → ℕ → ℝ) (P : ℕ → ℕ → ℝ) (S : ℕ → ℝ) (n h a l : ℕ) : ℝ :=
  if l < 384 then band cs sn P n h (a + l) else if l < 640 then Real.exp (score cs sn P n h (l - 384)) else Real.exp (S h)
/-- The same for a context row. -/
def wgtC (cs sn : ℕ → ℕ → ℝ) (P : ℕ → ℕ → ℝ) (S : ℕ → ℝ) (n h l : ℕ) : ℝ :=
  if l < 256 then Real.exp (score cs sn P n h l) else Real.exp (S h)

section
variable (cs sn : ℕ → ℕ → ℝ) (P : ℕ → ℕ → ℝ) (S : ℕ → ℝ)

theorem not_near_lo (t r j : ℕ) (hr : r < 128) (hj : j < 128 * t + 128) : ¬ near (256 + 128 * t + r) j := by unfold near; omega
theorem not_near_hi (t r j : ℕ) (hr : r < 128) (hj : 128 * t + 128 + 384 ≤ j) : ¬ near (256 + 128 * t + r) j := by unfold near; omega

theorem sum_wgtL (t r h : ℕ) (ht : t < 16) (hr : r < 128) :
    ∑ l : Fin 641, wgtL cs sn P S (256 + 128 * t + r) h (128 * t + 128) l.val
      = denL cs sn P (256 + 128 * t + r) h + denC cs sn P (256 + 128 * t + r) h + Real.exp (S h) := by
  rw [Fin.sum_univ_eq_sum_range (fun l => wgtL cs sn P S (256 + 128 * t + r) h (128 * t + 128) l) 641, Finset.sum_range_succ,
    show 640 = 384 + 256 from rfl, Finset.sum_range_add]
  unfold denL denC
  rw [← sum_window (fun j => band cs sn P (256 + 128 * t + r) h j) (128 * t + 128) (by omega) (fun j hj => if_neg (not_near_lo t r j hr hj))
      (fun j hj => if_neg (not_near_hi t r j hr hj)), Fin.sum_univ_eq_sum_range (fun w => band cs sn P (256 + 128 * t + r) h (128 * t + 128 + w)) 384,
    Fin.sum_univ_eq_sum_range (fun j => Real.exp (score cs sn P (256 + 128 * t + r) h j)) 256]
  refine congrArg₂ (· + ·) (congrArg₂ (· + ·) (Finset.sum_congr rfl fun w hw => ?_) (Finset.sum_congr rfl fun w hw => ?_)) ?_
  · have := Finset.mem_range.mp hw
    unfold wgtL; rw [if_pos this]
  · have := Finset.mem_range.mp hw
    unfold wgtL; rw [if_neg (by omega), if_pos (by omega), Nat.add_sub_cancel_left]
  · unfold wgtL; rw [if_neg (by omega), if_neg (by omega)]

theorem sum_wgtC (n h : ℕ) : ∑ l : Fin 257, wgtC cs sn P S n h l.val = denC cs sn P n h + Real.exp (S h) := by
  rw [Fin.sum_univ_eq_sum_range (fun l => wgtC cs sn P S n h l) 257, Finset.sum_range_succ]
  unfold denC
  rw [Fin.sum_univ_eq_sum_range (fun j => Real.exp (score cs sn P n h j)) 256]
  refine congrArg₂ (· + ·) (Finset.sum_congr rfl fun w hw => ?_) ?_
  · have := Finset.mem_range.mp hw
    unfold wgtC; rw [if_pos this]
  · unfold wgtC; rw [if_neg (by omega)]

end

section
variable {x0 : Vec Ideal S16x2304x768 .f32} {P : ℕ → ℕ → ℕ → ℝ} (hX : RealRows x0 P) {cs sn : ℕ → ℕ → ℝ} (hT : RealTables cs sn)
  {x1 : Vec Ideal S8 .f32} {S : ℕ → ℝ} (hS : RealSinks x1 S)

include hS in
theorem sx {i : S8.Idx} {h : ℕ} (e0 : (i 0).val = h) : x1 i = ((S h : ℝ) : EReal) := by rw [hS, e0]

include hS in
theorem v145 {i : S16x2x4x16x128x1.Idx} {g hh : ℕ} (e1 : (i 1).val = g) (e2 : (i 2).val = hh) :
    val_main_v145 (F := Ideal) x1 i = ((S (4 * g + hh) : ℝ) : EReal) := by
  rw [val_main_v145_apply, val_main_v144_apply, val_main_v90_apply]
  exact sx hS (by show (i 1).val * 4 + (i 2).val = 4 * g + hh; omega)

include hX hT hS in
/-- An entry of the joined scores: a real whose exponential is the weight, or minus infinity where the weight is zero. -/
theorem v146 {i : S16x2x4x16x128x641.Idx} {b g hh t r l : ℕ} (e0 : (i 0).val = b) (e1 : (i 1).val = g) (e2 : (i 2).val = hh) (e3 : (i 3).val = t) (e4 : (i 4).val = r) (e5 : (i 5).val = l) :
    (∃ x : ℝ, val_main_v146 (F := Ideal) x0 x1 i = (x : EReal) ∧ Real.exp x = wgtL cs sn (P b) S (256 + 128 * t + r) (4 * g + hh) (128 * t + 128) l)
      ∨ (val_main_v146 (F := Ideal) x0 x1 i = ⊥ ∧ wgtL cs sn (P b) S (256 + 128 * t + r) (4 * g + hh) (128 * t + 128) l = 0) := by
  have l0 : (i 0).val < 16 := (i 0).isLt
  have l1 : (i 1).val < 2 := (i 1).isLt
  have l2 : (i 2).val < 4 := (i 2).isLt
  have l3 : (i 3).val < 16 := (i 3).isLt
  have l4 : (i 4).val < 128 := (i 4).isLt
  have l5 : (i 5).val < 641 := (i 5).isLt
  unfold val_main_v146 wgtL
  by_cases h1 : l < 384
  · have e := (concatenate_apply_piece 5 [⟨S16x2x4x16x128x384, val_main_v142 (F := Ideal) x0⟩, ⟨S16x2x4x16x128x256, val_main_v143 (F := Ideal) x0⟩, ⟨S16x2x4x16x128x1, val_main_v145 (F := Ideal) x1⟩]
      concatenates_S16x2x4x16x128x384_S16x2x4x16x128x256_S16x2x4x16x128x1_S16x2x4x16x128x641_d5 i 0 (by show 0 < 3; omega) S16x2x4x16x128x384 (val_main_v142 (F := Ideal) x0) rfl rfl 0 rfl
      (ValueIdx.ix6 (⟨b, by omega⟩ : Fin 16) (⟨g, by omega⟩ : Fin 2) (⟨hh, by omega⟩ : Fin 4) (⟨t, by omega⟩ : Fin 16) (⟨r, by omega⟩ : Fin 128) (⟨l, h1⟩ : Fin 384))
      (fun a ha => match a, ha with | ⟨0, _⟩, _ => e0.symm | ⟨1, _⟩, _ => e1.symm | ⟨2, _⟩, _ => e2.symm | ⟨3, _⟩, _ => e3.symm | ⟨4, _⟩, _ => e4.symm | ⟨5, _⟩, ha => absurd rfl ha) (by show 0 + l = (i 5).val; omega)).trans (v142 hX hT rfl rfl rfl rfl rfl rfl)
    rw [if_pos h1]
    unfold band
    by_cases hn : near (256 + 128 * t + r) (128 * t + 128 + l)
    · rw [if_pos hn]
      exact .inl ⟨_, e.trans (if_pos hn), rfl⟩
    · rw [if_neg hn]
      exact .inr ⟨e.trans (if_neg hn), rfl⟩
  · rw [if_neg h1]
    by_cases h2 : l < 640
    · rw [if_pos h2]
      exact .inl ⟨_, (concatenate_apply_piece 5 [⟨S16x2x4x16x128x384, val_main_v142 (F := Ideal) x0⟩, ⟨S16x2x4x16x128x256, val_main_v143 (F := Ideal) x0⟩, ⟨S16x2x4x16x128x1, val_main_v145 (F := Ideal) x1⟩]
        concatenates_S16x2x4x16x128x384_S16x2x4x16x128x256_S16x2x4x16x128x1_S16x2x4x16x128x641_d5 i 1 (by show 1 < 3; omega) S16x2x4x16x128x256 (val_main_v143 (F := Ideal) x0) rfl rfl 384 rfl
        (ValueIdx.ix6 (⟨b, by omega⟩ : Fin 16) (⟨g, by omega⟩ : Fin 2) (⟨hh, by omega⟩ : Fin 4) (⟨t, by omega⟩ : Fin 16) (⟨r, by omega⟩ : Fin 128) (⟨l - 384, by omega⟩ : Fin 256))
        (fun a ha => match a, ha with | ⟨0, _⟩, _ => e0.symm | ⟨1, _⟩, _ => e1.symm | ⟨2, _⟩, _ => e2.symm | ⟨3, _⟩, _ => e3.symm | ⟨4, _⟩, _ => e4.symm | ⟨5, _⟩, ha => absurd rfl ha) (by show 384 + (l - 384) = (i 5).val; omega)).trans (v143 hX hT rfl rfl rfl rfl rfl rfl), rfl⟩
    · rw [if_neg h2]
      exact .inl ⟨_, (concatenate_apply_piece 5 [⟨S16x2x4x16x128x384, val_main_v142 (F := Ideal) x0⟩, ⟨S16x2x4x16x128x256, val_main_v143 (F := Ideal) x0⟩, ⟨S16x2x4x16x128x1, val_main_v145 (F := Ideal) x1⟩]
        concatenates_S16x2x4x16x128x384_S16x2x4x16x128x256_S16x2x4x16x128x1_S16x2x4x16x128x641_d5 i 2 (by show 2 < 3; omega) S16x2x4x16x128x1 (val_main_v145 (F := Ideal) x1) rfl rfl 640 rfl
        (ValueIdx.ix6 (⟨b, by omega⟩ : Fin 16) (⟨g, by omega⟩ : Fin 2) (⟨hh, by omega⟩ : Fin 4) (⟨t, by omega⟩ : Fin 16) (⟨r, by omega⟩ : Fin 128) (⟨0, Nat.one_pos⟩ : Fin 1))
        (fun a ha => match a, ha with | ⟨0, _⟩, _ => e0.symm | ⟨1, _⟩, _ => e1.symm | ⟨2, _⟩, _ => e2.symm | ⟨3, _⟩, _ => e3.symm | ⟨4, _⟩, _ => e4.symm | ⟨5, _⟩, ha => absurd rfl ha) (by show 640 + 0 = (i 5).val; omega)).trans (v145 hS rfl rfl), rfl⟩

include hX hT hS in
/-- The row's shift is a real. -/
theorem v149 (i : S16x2x4x16x128.Idx) : ∃ M : ℝ, val_main_v149 (F := Ideal) x0 x1 i = (M : EReal) := by
  have hr : S16x2x4x16x128x641.Reduces [5] S16x2x4x16x128 := by decide
  have e : val_main_v149 (F := Ideal) x0 x1 i = max ⊥ ((Finset.univ : Finset (Fin 641)).fold max ⊥ (val_main_v146 (F := Ideal) x0 x1 ∘ hr.lift i)) := by
    rw [val_main_v149_apply, val_main_v148_apply]
    refine congrArg₂ max negInf ?_
    unfold val_main_v147
    refine (Host.reduce_eq_fold_single (FloatOps.maximumf : Ideal .f32 → Ideal .f32 → Ideal .f32) _ _ reducesTo_S16x2x4x16x128x641_S16x2x4x16x128_d5 hr h_S_ i).trans ?_
    exact congrArg (fun z => (Finset.univ : Finset (Fin 641)).fold max z _) negInf
  have ent := fun l : Fin 641 => v146 hX hT hS (i := hr.lift i l) rfl rfl rfl rfl rfl rfl
  have nt : ∀ l : Fin 641, val_main_v146 (F := Ideal) x0 x1 (hr.lift i l) ≠ ⊤ := fun l => by
    rcases ent l with ⟨x, h, _⟩ | ⟨h, _⟩
    · rw [h]; exact EReal.coe_ne_top x
    · rw [h]; exact bot_ne_top
  rw [e, max_eq_right bot_le]
  have hl : ∃ x : ℝ, val_main_v146 (F := Ideal) x0 x1 (hr.lift i (⟨640, by omega⟩ : Fin 641)) = (x : EReal) := by
    rcases ent (⟨640, by omega⟩ : Fin 641) with ⟨x, h, _⟩ | ⟨_, h⟩
    · exact ⟨x, h⟩
    · exact absurd h (fun h => (Real.exp_pos _).ne' h)
  obtain ⟨x, hx⟩ := hl
  refine real_of (a := x) (fold_ne_top _ bot_ne_top fun l _ => nt l) ?_
  refine (Finset.le_fold_max _).mpr (.inr ⟨(⟨640, by omega⟩ : Fin 641), Finset.mem_univ _, hx.ge⟩)

include hX hT hS in
/-- A shifted exponential. -/
theorem v153 {M : ℝ} {i : S16x2x4x16x128x641.Idx} {b g hh t r l : ℕ} (e0 : (i 0).val = b) (e1 : (i 1).val = g) (e2 : (i 2).val = hh) (e3 : (i 3).val = t) (e4 : (i 4).val = r) (e5 : (i 5).val = l) (hM : ∀ j : S16x2x4x16x128.Idx, (∀ a : Fin 5, (j a).val = (i (a.castLE (by show 5 ≤ 5 + 1; omega))).val) → val_main_v149 (F := Ideal) x0 x1 j = (M : EReal)) :
    val_main_v153 (F := Ideal) x0 x1 i = ((wgtL cs sn (P b) S (256 + 128 * t + r) (4 * g + hh) (128 * t + 128) l * Real.exp (-M) : ℝ) : EReal) := by
  rw [val_main_v153_apply, val_main_v152_apply, val_main_v151_apply, val_main_v150_apply]
  have m := hM (idx_main_v150 (idx_main_v151 i)) (fun a => match a with | ⟨0, _⟩ => rfl | ⟨1, _⟩ => rfl | ⟨2, _⟩ => rfl | ⟨3, _⟩ => rfl | ⟨4, _⟩ => rfl)
  rcases v146 hX hT hS e0 e1 e2 e3 e4 e5 with ⟨x, h, hw⟩ | ⟨h, hw⟩
  · rw [← hw]; exact exp_sub_coe h m
  · rw [hw, zero_mul]; exact exp_sub_bot h m

theorem zero154 : val_main_cst_14 (F := Ideal) (Shape.Idx.first h_S_) = (0 : EReal) := by
  show (Ideal.ofBits .f32 0x00000000#32 : EReal) = 0
  simp [Ideal.ofBits, Ideal.ieee]

include hX hT hS in
/-- A row's sum of shifted exponentials. -/
theorem v154 {M : ℝ} {i : S16x2x4x16x128.Idx} {b g hh t r : ℕ} (e0 : (i 0).val = b) (e1 : (i 1).val = g) (e2 : (i 2).val = hh) (e3 : (i 3).val = t) (e4 : (i 4).val = r) (hM : val_main_v149 (F := Ideal) x0 x1 i = (M : EReal)) :
    val_main_v154 (F := Ideal) x0 x1 i = (((denL cs sn (P b) (256 + 128 * t + r) (4 * g + hh) + denC cs sn (P b) (256 + 128 * t + r) (4 * g + hh) + Real.exp (S (4 * g + hh))) * Real.exp (-M) : ℝ) : EReal) := by
  have l0 : (i 0).val < 16 := (i 0).isLt
  have l1 : (i 1).val < 2 := (i 1).isLt
  have l2 : (i 2).val < 4 := (i 2).isLt
  have l3 : (i 3).val < 16 := (i 3).isLt
  have l4 : (i 4).val < 128 := (i 4).isLt
  rw [val_main_v154_apply, zero154]
  generalize hf : (fun k : Fin 641 => val_main_v153 (F := Ideal) x0 x1 (idx_main_v154 i k)) = f
  have h : ∀ k : Fin 641, f k = ((wgtL cs sn (P b) S (256 + 128 * t + r) (4 * g + hh) (128 * t + 128) k.val * Real.exp (-M) : ℝ) : EReal) := fun k => by
    rw [← hf]
    exact v153 hX hT hS e0 e1 e2 e3 e4 rfl (fun j' h => by
      rw [← hM]; exact congrArg _ (funext fun a => Fin.ext ((h a).trans (match a with | ⟨0, _⟩ => rfl | ⟨1, _⟩ => rfl | ⟨2, _⟩ => rfl | ⟨3, _⟩ => rfl | ⟨4, _⟩ => rfl))))
  refine (zero_add _).trans ?_
  rw [sum_coe (fun k _ => h k), ← Finset.sum_mul, sum_wgtL cs sn (P b) S t r (4 * g + hh) (by omega) (by omega)]

include hX hT hS in
/-- A softmax weight. -/
theorem v157 {i : S16x2x4x16x128x641.Idx} {b g hh t r l : ℕ} (e0 : (i 0).val = b) (e1 : (i 1).val = g) (e2 : (i 2).val = hh) (e3 : (i 3).val = t) (e4 : (i 4).val = r) (e5 : (i 5).val = l) :
    val_main_v157 (F := Ideal) x0 x1 i = ((wgtL cs sn (P b) S (256 + 128 * t + r) (4 * g + hh) (128 * t + 128) l / (denL cs sn (P b) (256 + 128 * t + r) (4 * g + hh) + denC cs sn (P b) (256 + 128 * t + r) (4 * g + hh) + Real.exp (S (4 * g + hh))) : ℝ) : EReal) := by
  obtain ⟨M, hM⟩ := v149 hX hT hS (idx_main_v155 (idx_main_v156 i))
  have hj : ∀ j' : S16x2x4x16x128.Idx, (∀ a : Fin 5, (j' a).val = (i (a.castLE (by show 5 ≤ 5 + 1; omega))).val) → val_main_v149 (F := Ideal) x0 x1 j' = (M : EReal) := fun j' h => by
    rw [← hM]; exact congrArg _ (funext fun a => Fin.ext ((h a).trans (match a with | ⟨0, _⟩ => rfl | ⟨1, _⟩ => rfl | ⟨2, _⟩ => rfl | ⟨3, _⟩ => rfl | ⟨4, _⟩ => rfl)))
  have hs := v154 hX hT hS e0 e1 e2 e3 e4 hM
  have hD : 0 < (denL cs sn (P b) (256 + 128 * t + r) (4 * g + hh) + denC cs sn (P b) (256 + 128 * t + r) (4 * g + hh) + Real.exp (S (4 * g + hh))) := by
    have h0 := Real.exp_pos (S (4 * g + hh))
    have h1 := denC_nonneg cs sn (P b) (256 + 128 * t + r) (4 * g + hh)
    have h2 := denL_nonneg cs sn (P b) (256 + 128 * t + r) (4 * g + hh)
    linarith
  have hu := v153 hX hT hS e0 e1 e2 e3 e4 e5 hj
  rw [val_main_v157_apply, val_main_v156_apply, val_main_v155_apply]
  refine (div_coe hu hs (mul_ne_zero hD.ne' (Real.exp_pos _).ne')).trans ?_
  rw [mul_div_mul_right _ _ (Real.exp_pos _).ne']

include hS in
theorem v174 {i : S16x2x4x256x1.Idx} {g hh : ℕ} (e1 : (i 1).val = g) (e2 : (i 2).val = hh) :
    val_main_v174 (F := Ideal) x1 i = ((S (4 * g + hh) : ℝ) : EReal) := by
  rw [val_main_v174_apply, val_main_v173_apply, val_main_v90_apply]
  exact sx hS (by show (i 1).val * 4 + (i 2).val = 4 * g + hh; omega)

include hX hS in
/-- An entry of a context row's joined scores. -/
theorem v175 {i : S16x2x4x256x257.Idx} {b g hh n l : ℕ} (e0 : (i 0).val = b) (e1 : (i 1).val = g) (e2 : (i 2).val = hh) (e3 : (i 3).val = n) (e4 : (i 4).val = l) :
    (∃ x : ℝ, val_main_v175 (F := Ideal) x0 x1 i = (x : EReal) ∧ Real.exp x = wgtC cs sn (P b) S n (4 * g + hh) l)
      ∨ (val_main_v175 (F := Ideal) x0 x1 i = ⊥ ∧ wgtC cs sn (P b) S n (4 * g + hh) l = 0) := by
  have l0 : (i 0).val < 16 := (i 0).isLt
  have l1 : (i 1).val < 2 := (i 1).isLt
  have l2 : (i 2).val < 4 := (i 2).isLt
  have l3 : (i 3).val < 256 := (i 3).isLt
  have l4 : (i 4).val < 257 := (i 4).isLt
  unfold val_main_v175 wgtC
  left
  by_cases h1 : l < 256
  · rw [if_pos h1]
    exact ⟨_, (concatenate_pair_apply_left 4 (val_main_v172 (F := Ideal) x0) (val_main_v174 (F := Ideal) x1) concatenates_S16x2x4x256x256_S16x2x4x256x1_S16x2x4x256x257_d4 i rfl
      (ValueIdx.ix5 (⟨b, by omega⟩ : Fin 16) (⟨g, by omega⟩ : Fin 2) (⟨hh, by omega⟩ : Fin 4) (⟨n, by omega⟩ : Fin 256) (⟨l, h1⟩ : Fin 256))
      (fun a => match a with | ⟨0, _⟩ => e0.symm | ⟨1, _⟩ => e1.symm | ⟨2, _⟩ => e2.symm | ⟨3, _⟩ => e3.symm | ⟨4, _⟩ => e4.symm)).trans
        (v172 hX rfl rfl rfl rfl rfl), rfl⟩
  · rw [if_neg h1]
    exact ⟨_, (concatenate_pair_apply_right 4 (val_main_v172 (F := Ideal) x0) (val_main_v174 (F := Ideal) x1) concatenates_S16x2x4x256x256_S16x2x4x256x1_S16x2x4x256x257_d4 i rfl rfl
      (ValueIdx.ix5 (⟨b, by omega⟩ : Fin 16) (⟨g, by omega⟩ : Fin 2) (⟨hh, by omega⟩ : Fin 4) (⟨n, by omega⟩ : Fin 256) (⟨0, Nat.one_pos⟩ : Fin 1))
      (fun a ha => match a, ha with | ⟨0, _⟩, _ => e0.symm | ⟨1, _⟩, _ => e1.symm | ⟨2, _⟩, _ => e2.symm | ⟨3, _⟩, _ => e3.symm | ⟨4, _⟩, ha => absurd rfl ha)
      (by show 0 + 256 = (i 4).val; omega)).trans (v174 hS rfl rfl), rfl⟩

include hX hS in
/-- The row's shift is a real. -/
theorem v178 (i : S16x2x4x256.Idx) : ∃ M : ℝ, val_main_v178 (F := Ideal) x0 x1 i = (M : EReal) := by
  have hr : S16x2x4x256x257.Reduces [4] S16x2x4x256 := by decide
  have e : val_main_v178 (F := Ideal) x0 x1 i = max ⊥ ((Finset.univ : Finset (Fin 257)).fold max ⊥ (val_main_v175 (F := Ideal) x0 x1 ∘ hr.lift i)) := by
    rw [val_main_v178_apply, val_main_v177_apply]
    refine congrArg₂ max negInf ?_
    unfold val_main_v176
    refine (Host.reduce_eq_fold_single (FloatOps.maximumf : Ideal .f32 → Ideal .f32 → Ideal .f32) _ _ reducesTo_S16x2x4x256x257_S16x2x4x256_d4 hr h_S_ i).trans ?_
    exact congrArg (fun z => (Finset.univ : Finset (Fin 257)).fold max z _) negInf
  have ent := fun l : Fin 257 => v175 (cs := fun _ _ => 0) (sn := fun _ _ => 0) hX hS (i := hr.lift i l) rfl rfl rfl rfl rfl
  have nt : ∀ l : Fin 257, val_main_v175 (F := Ideal) x0 x1 (hr.lift i l) ≠ ⊤ := fun l => by
    rcases ent l with ⟨x, h, _⟩ | ⟨h, _⟩
    · rw [h]; exact EReal.coe_ne_top x
    · rw [h]; exact bot_ne_top
  rw [e, max_eq_right bot_le]
  have hl : ∃ x : ℝ, val_main_v175 (F := Ideal) x0 x1 (hr.lift i (⟨256, by omega⟩ : Fin 257)) = (x : EReal) := by
    rcases ent (⟨256, by omega⟩ : Fin 257) with ⟨x, h, _⟩ | ⟨_, h⟩
    · exact ⟨x, h⟩
    · exact absurd h (fun h => (Real.exp_pos _).ne' h)
  obtain ⟨x, hx⟩ := hl
  refine real_of (a := x) (fold_ne_top _ bot_ne_top fun l _ => nt l) ?_
  refine (Finset.le_fold_max _).mpr (.inr ⟨(⟨256, by omega⟩ : Fin 257), Finset.mem_univ _, hx.ge⟩)

include hX hS in
/-- A shifted exponential. -/
theorem v182 {M : ℝ} {i : S16x2x4x256x257.Idx} {b g hh n l : ℕ} (e0 : (i 0).val = b) (e1 : (i 1).val = g) (e2 : (i 2).val = hh) (e3 : (i 3).val = n) (e4 : (i 4).val = l) (hM : ∀ j : S16x2x4x256.Idx, (∀ a : Fin 4, (j a).val = (i (a.castLE (by show 4 ≤ 4 + 1; omega))).val) → val_main_v178 (F := Ideal) x0 x1 j = (M : EReal)) :
    val_main_v182 (F := Ideal) x0 x1 i = ((wgtC cs sn (P b) S n (4 * g + hh) l * Real.exp (-M) : ℝ) : EReal) := by
  rw [val_main_v182_apply, val_main_v181_apply, val_main_v180_apply, val_main_v179_apply]
  have m := hM (idx_main_v179 (idx_main_v180 i)) (fun a => match a with | ⟨0, _⟩ => rfl | ⟨1, _⟩ => rfl | ⟨2, _⟩ => rfl | ⟨3, _⟩ => rfl)
  rcases v175 (cs := cs) (sn := sn) hX hS e0 e1 e2 e3 e4 with ⟨x, h, hw⟩ | ⟨h, hw⟩
  · rw [← hw]; exact exp_sub_coe h m
  · rw [hw, zero_mul]; exact exp_sub_bot h m

theorem zero183 : val_main_cst_18 (F := Ideal) (Shape.Idx.first h_S_) = (0 : EReal) := by
  show (Ideal.ofBits .f32 0x00000000#32 : EReal) = 0
  simp [Ideal.ofBits, Ideal.ieee]

include hX hS in
/-- A row's sum of shifted exponentials. -/
theorem v183 {M : ℝ} {i : S16x2x4x256.Idx} {b g hh n : ℕ} (e0 : (i 0).val = b) (e1 : (i 1).val = g) (e2 : (i 2).val = hh) (e3 : (i 3).val = n) (hM : val_main_v178 (F := Ideal) x0 x1 i = (M : EReal)) :
    val_main_v183 (F := Ideal) x0 x1 i = (((denC cs sn (P b) n (4 * g + hh) + Real.exp (S (4 * g + hh))) * Real.exp (-M) : ℝ) : EReal) := by
  have l0 : (i 0).val < 16 := (i 0).isLt
  have l1 : (i 1).val < 2 := (i 1).isLt
  have l2 : (i 2).val < 4 := (i 2).isLt
  have l3 : (i 3).val < 256 := (i 3).isLt
  rw [val_main_v183_apply, zero183]
  generalize hf : (fun k : Fin 257 => val_main_v182 (F := Ideal) x0 x1 (idx_main_v183 i k)) = f
  have h : ∀ k : Fin 257, f k = ((wgtC cs sn (P b) S n (4 * g + hh) k.val * Real.exp (-M) : ℝ) : EReal) := fun k => by
    rw [← hf]
    exact v182 (cs := cs) (sn := sn) hX hS e0 e1 e2 e3 rfl (fun j' h => by
      rw [← hM]; exact congrArg _ (funext fun a => Fin.ext ((h a).trans (match a with | ⟨0, _⟩ => rfl | ⟨1, _⟩ => rfl | ⟨2, _⟩ => rfl | ⟨3, _⟩ => rfl))))
  refine (zero_add _).trans ?_
  rw [sum_coe (fun k _ => h k), ← Finset.sum_mul, sum_wgtC cs sn (P b) S n (4 * g + hh)]

include hX hS in
/-- A softmax weight. -/
theorem v186 {i : S16x2x4x256x257.Idx} {b g hh n l : ℕ} (e0 : (i 0).val = b) (e1 : (i 1).val = g) (e2 : (i 2).val = hh) (e3 : (i 3).val = n) (e4 : (i 4).val = l) :
    val_main_v186 (F := Ideal) x0 x1 i = ((wgtC cs sn (P b) S n (4 * g + hh) l / (denC cs sn (P b) n (4 * g + hh) + Real.exp (S (4 * g + hh))) : ℝ) : EReal) := by
  obtain ⟨M, hM⟩ := v178 hX hS (idx_main_v184 (idx_main_v185 i))
  have hj : ∀ j' : S16x2x4x256.Idx, (∀ a : Fin 4, (j' a).val = (i (a.castLE (by show 4 ≤ 4 + 1; omega))).val) → val_main_v178 (F := Ideal) x0 x1 j' = (M : EReal) := fun j' h => by
    rw [← hM]; exact congrArg _ (funext fun a => Fin.ext ((h a).trans (match a with | ⟨0, _⟩ => rfl | ⟨1, _⟩ => rfl | ⟨2, _⟩ => rfl | ⟨3, _⟩ => rfl)))
  have hs := v183 (cs := cs) (sn := sn) hX hS e0 e1 e2 e3 hM
  have hD : 0 < (denC cs sn (P b) n (4 * g + hh) + Real.exp (S (4 * g + hh))) := by
    have h0 := Real.exp_pos (S (4 * g + hh))
    have h1 := denC_nonneg cs sn (P b) n (4 * g + hh)
    have h2 := denL_nonneg cs sn (P b) n (4 * g + hh)
    linarith
  have hu := v182 (cs := cs) (sn := sn) hX hS e0 e1 e2 e3 e4 hj
  rw [val_main_v186_apply, val_main_v185_apply, val_main_v184_apply]
  refine (div_coe hu hs (mul_ne_zero hD.ne' (Real.exp_pos _).ne')).trans ?_
  rw [mul_div_mul_right _ _ (Real.exp_pos _).ne']

section
variable (cs sn : ℕ → ℕ → ℝ) (P : ℕ → ℕ → ℝ) (S : ℕ → ℝ)
theorem result_latent (t r g hh d : ℕ) (ht : t < 16) (hr : r < 128) (h4 : hh < 4) :
    (∑ w : Fin 384, padV P (128 * t + 128 + w.val) g d * (band cs sn P (256 + 128 * t + r) (4 * g + hh) (128 * t + 128 + w.val) / (denL cs sn P (256 + 128 * t + r) (4 * g + hh) + denC cs sn P (256 + 128 * t + r) (4 * g + hh) + Real.exp (S (4 * g + hh)))))
      + (∑ j : Fin 256, Real.exp (score cs sn P (256 + 128 * t + r) (4 * g + hh) j.val) / (denL cs sn P (256 + 128 * t + r) (4 * g + hh) + denC cs sn P (256 + 128 * t + r) (4 * g + hh) + Real.exp (S (4 * g + hh))) * vlu P j.val g d)
      = result cs sn P S (256 + 128 * t + r) (4 * g + hh) d := by
  unfold result numL numC
  rw [if_neg (show ¬ 256 + 128 * t + r < 256 by omega), show (4 * g + hh) / 4 = g by omega,
    ← sum_window (fun j => band cs sn P (256 + 128 * t + r) (4 * g + hh) j * vlu P j g d) (128 * t + 128) (by omega)
      (fun j hj => by rw [band, if_neg (not_near_lo t r j (by omega) hj), zero_mul]) (fun j hj => by rw [band, if_neg (not_near_hi t r j (by omega) hj), zero_mul]),
    add_div, add_comm (_ / _), Finset.sum_div, Finset.sum_div,
    show denC cs sn P (256 + 128 * t + r) (4 * g + hh) + Real.exp (S (4 * g + hh)) + denL cs sn P (256 + 128 * t + r) (4 * g + hh)
      = (denL cs sn P (256 + 128 * t + r) (4 * g + hh) + denC cs sn P (256 + 128 * t + r) (4 * g + hh) + Real.exp (S (4 * g + hh))) by ring]
  refine congrArg₂ (· + ·) (Finset.sum_congr rfl fun w _ => ?_) (Finset.sum_congr rfl fun j _ => by ring)
  by_cases hn : near (256 + 128 * t + r) (128 * t + 128 + w.val)
  · have e : padV P (128 * t + 128 + w.val) g d = vlu P (128 * t + 128 + w.val) g d := if_pos (by unfold near at hn; omega)
    rw [e]; ring
  · have e : band cs sn P (256 + 128 * t + r) (4 * g + hh) (128 * t + 128 + w.val) = 0 := if_neg hn
    rw [e]; ring
end

include hX hT hS in
/-- The band's part of a latent row's result. -/
theorem v159 {i : S16x2x16x64x4x128.Idx} {b g hh t r d : ℕ} (e0 : (i 0).val = b) (e1 : (i 1).val = g) (e2 : (i 4).val = hh) (e3 : (i 2).val = t)
    (e4 : (i 5).val = r) (e5 : (i 3).val = d) :
    val_main_v159 (F := Ideal) x0 x1 i = ((∑ w : Fin 384, padV (P b) (128 * t + 128 + w.val) g d * (band cs sn (P b) (256 + 128 * t + r) (4 * g + hh) (128 * t + 128 + w.val) / (denL cs sn (P b) (256 + 128 * t + r) (4 * g + hh) + denC cs sn (P b) (256 + 128 * t + r) (4 * g + hh) + Real.exp (S (4 * g + hh)))) : ℝ) : EReal) := by
  rw [val_main_v159_apply]
  refine sum_coe fun w _ => mul_coe (v103 hX e0 e1 e3 rfl e5) ?_
  rw [val_main_v158_apply]
  refine (v157 hX hT hS (l := w.val) e0 e1 e2 e3 e4 rfl).trans ?_
  unfold wgtL; rw [if_pos w.isLt]

include hX hT hS in
/-- The context's part. -/
theorem v162 {i : S16x2x4x16x128x64.Idx} {b g hh t r d : ℕ} (e0 : (i 0).val = b) (e1 : (i 1).val = g) (e2 : (i 2).val = hh) (e3 : (i 3).val = t)
    (e4 : (i 4).val = r) (e5 : (i 5).val = d) :
    val_main_v162 (F := Ideal) x0 x1 i = ((∑ j : Fin 256, Real.exp (score cs sn (P b) (256 + 128 * t + r) (4 * g + hh) j.val) / (denL cs sn (P b) (256 + 128 * t + r) (4 * g + hh) + denC cs sn (P b) (256 + 128 * t + r) (4 * g + hh) + Real.exp (S (4 * g + hh))) * vlu (P b) j.val g d : ℝ) : EReal) := by
  rw [val_main_v162_apply]
  refine sum_coe fun j _ => mul_coe ?_ (v89 hX e0 e1 rfl e5)
  rw [val_main_v161_apply]
  refine (v157 hX hT hS (l := 384 + j.val) e0 e1 e2 e3 e4 rfl).trans ?_
  have := j.isLt
  unfold wgtL; rw [if_neg (show ¬ 384 + j.val < 384 by omega), if_pos (show 384 + j.val < 640 by omega), Nat.add_sub_cancel_left]

include hX hT hS in
/-- A latent row's result. -/
theorem v163 {i : S16x2x4x16x128x64.Idx} {b g hh t r d : ℕ} (e0 : (i 0).val = b) (e1 : (i 1).val = g) (e2 : (i 2).val = hh) (e3 : (i 3).val = t)
    (e4 : (i 4).val = r) (e5 : (i 5).val = d) :
    val_main_v163 (F := Ideal) x0 x1 i = ((result cs sn (P b) S (256 + 128 * t + r) (4 * g + hh) d : ℝ) : EReal) := by
  have l2 : (i 2).val < 4 := (i 2).isLt
  have l3 : (i 3).val < 16 := (i 3).isLt
  have l4 : (i 4).val < 128 := (i 4).isLt
  rw [val_main_v163_apply, val_main_v160_apply, ← result_latent cs sn (P b) S t r g hh d (by omega) (by omega) (by omega)]
  exact add_coe (v159 hX hT hS (i := idx_main_v160 i) e0 e1 e2 e3 e4 e5) (v162 hX hT hS e0 e1 e2 e3 e4 e5)

include hX hT hS in
/-- A latent row's result, lane by lane. -/
theorem v166 {i : S16x2048x512.Idx} {b t c : ℕ} (e0 : (i 0).val = b) (e1 : (i 1).val = t) (e2 : (i 2).val = c) :
    val_main_v166 (F := Ideal) x0 x1 i = ((result cs sn (P b) S (256 + t) (c / 64) (c % 64) : ℝ) : EReal) := by
  have l0 : (i 0).val < 16 := (i 0).isLt
  have l1 : (i 1).val < 2048 := (i 1).isLt
  have l2 : (i 2).val < 512 := (i 2).isLt
  rw [val_main_v166_apply, val_main_v165_apply]
  unfold val_main_v164
  refine (shapeCast_apply (val_main_v163 (F := Ideal) x0 x1) shapeCasts_S16x2x4x16x128x64_S16x8x2048x64 _
    (ValueIdx.ix6 (⟨b, by omega⟩ : Fin 16) (⟨c / 256, by omega⟩ : Fin 2) (⟨c / 64 % 4, by omega⟩ : Fin 4) (⟨t / 128, by omega⟩ : Fin 16) (⟨t % 128, by omega⟩ : Fin 128) (⟨c % 64, by omega⟩ : Fin 64)) ?_).trans
    ((v163 hX hT hS rfl rfl rfl rfl rfl rfl).trans ?_)
  · rw [Shape.rowMajor_val_four, Shape.rowMajor_val_six]
    show ((((b * 2 + c / 256) * 4 + c / 64 % 4) * 16 + t / 128) * 128 + t % 128) * 64 + c % 64
      = (((((i 0).val * 2048 + (i 1).val) * 512 + (i 2).val) / 1048576 * 8 + (((i 0).val * 2048 + (i 1).val) * 512 + (i 2).val) / 64 % 8) * 2048
        + (((i 0).val * 2048 + (i 1).val) * 512 + (i 2).val) / 512 % 2048) * 64 + (((i 0).val * 2048 + (i 1).val) * 512 + (i 2).val) % 64
    omega
  · show ((result cs sn (P b) S (256 + 128 * (t / 128) + t % 128) (4 * (c / 256) + c / 64 % 4) (c % 64) : ℝ) : EReal) = _
    rw [show 256 + 128 * (t / 128) + t % 128 = 256 + t by omega, show 4 * (c / 256) + c / 64 % 4 = c / 64 by omega]

include hX hS in
/-- A context row's result. -/
theorem v188 {i : S16x2x4x256x64.Idx} {b g hh n d : ℕ} (e0 : (i 0).val = b) (e1 : (i 1).val = g) (e2 : (i 2).val = hh) (e3 : (i 3).val = n)
    (e4 : (i 4).val = d) :
    val_main_v188 (F := Ideal) x0 x1 i = ((result cs sn (P b) S n (4 * g + hh) d : ℝ) : EReal) := by
  have l2 : (i 2).val < 4 := (i 2).isLt
  have l3 : (i 3).val < 256 := (i 3).isLt
  rw [val_main_v188_apply]
  refine (sum_coe (g := fun j : Fin 256 => Real.exp (score cs sn (P b) n (4 * g + hh) j.val)
      / (denC cs sn (P b) n (4 * g + hh) + Real.exp (S (4 * g + hh))) * vlu (P b) j.val g d) fun j _ => ?_).trans ?_
  · refine mul_coe ?_ (v89 hX e0 e1 rfl e4)
    rw [val_main_v187_apply]
    refine (v186 (cs := cs) (sn := sn) hX hS (l := j.val) e0 e1 e2 e3 rfl).trans ?_
    unfold wgtC; rw [if_pos j.isLt]
  · congr 1
    unfold result numC
    rw [if_pos (by omega), show (4 * g + hh) / 4 = g by omega, Finset.sum_div]
    exact Finset.sum_congr rfl fun j _ => by ring

include hX hS in
/-- A context row's result, lane by lane. -/
theorem v191 {i : S16x256x512.Idx} {b n c : ℕ} (e0 : (i 0).val = b) (e1 : (i 1).val = n) (e2 : (i 2).val = c) :
    val_main_v191 (F := Ideal) x0 x1 i = ((result cs sn (P b) S n (c / 64) (c % 64) : ℝ) : EReal) := by
  have l0 : (i 0).val < 16 := (i 0).isLt
  have l1 : (i 1).val < 256 := (i 1).isLt
  have l2 : (i 2).val < 512 := (i 2).isLt
  rw [val_main_v191_apply, val_main_v190_apply]
  unfold val_main_v189
  refine (shapeCast_apply (val_main_v188 (F := Ideal) x0 x1) shapeCasts_S16x2x4x256x64_S16x8x256x64 _
    (ValueIdx.ix5 (⟨b, by omega⟩ : Fin 16) (⟨c / 256, by omega⟩ : Fin 2) (⟨c / 64 % 4, by omega⟩ : Fin 4) (⟨n, by omega⟩ : Fin 256) (⟨c % 64, by omega⟩ : Fin 64)) ?_).trans
    ((v188 (cs := cs) (sn := sn) hX hS rfl rfl rfl rfl rfl).trans ?_)
  · rw [Shape.rowMajor_val_four, Shape.rowMajor_val_five]
    show (((b * 2 + c / 256) * 4 + c / 64 % 4) * 256 + n) * 64 + c % 64
      = (((((i 0).val * 256 + (i 1).val) * 512 + (i 2).val) / 131072 * 8 + (((i 0).val * 256 + (i 1).val) * 512 + (i 2).val) / 64 % 8) * 256
        + (((i 0).val * 256 + (i 1).val) * 512 + (i 2).val) / 512 % 256) * 64 + (((i 0).val * 256 + (i 1).val) * 512 + (i 2).val) % 64
    omega
  · show ((result cs sn (P b) S n (4 * (c / 256) + c / 64 % 4) (c % 64) : ℝ) : EReal) = _
    rw [show 4 * (c / 256) + c / 64 % 4 = c / 64 by omega]

include hX hT hS in
/-- The reference's result. -/
theorem v193 (i : S16x2304x512.Idx) :
    val_main_v193 (F := Ideal) x0 x1 i = ((result cs sn (P (i 0).val) S (i 1).val ((i 2).val / 64) ((i 2).val % 64) : ℝ) : EReal) := by
  have l0 : (i 0).val < 16 := (i 0).isLt
  have l1 : (i 1).val < 2304 := (i 1).isLt
  have l2 : (i 2).val < 512 := (i 2).isLt
  rw [val_main_v193_apply]
  show val_main_v192 (F := Ideal) x0 x1 i = _
  unfold val_main_v192
  by_cases h : (i 1).val < 256
  · exact (concatenate_pair_apply_left 1 (val_main_v191 (F := Ideal) x0 x1) (val_main_v166 (F := Ideal) x0 x1) concatenates_S16x256x512_S16x2048x512_S16x2304x512_d1 i rfl
      (ValueIdx.ix3 (⟨(i 0).val, l0⟩ : Fin 16) (⟨(i 1).val, h⟩ : Fin 256) (⟨(i 2).val, l2⟩ : Fin 512))
      (fun a => match a with | ⟨0, _⟩ => rfl | ⟨1, _⟩ => rfl | ⟨2, _⟩ => rfl)).trans (v191 (cs := cs) (sn := sn) hX hS rfl rfl rfl)
  · refine (concatenate_pair_apply_right 1 (val_main_v191 (F := Ideal) x0 x1) (val_main_v166 (F := Ideal) x0 x1) concatenates_S16x256x512_S16x2048x512_S16x2304x512_d1 i rfl rfl
      (ValueIdx.ix3 (⟨(i 0).val, l0⟩ : Fin 16) (⟨(i 1).val - 256, by omega⟩ : Fin 2048) (⟨(i 2).val, l2⟩ : Fin 512))
      (fun a ha => match a, ha with | ⟨0, _⟩, _ => rfl | ⟨1, _⟩, ha => absurd rfl ha | ⟨2, _⟩, _ => rfl)
      (by show (i 1).val - 256 + 256 = (i 1).val; omega)).trans ((v166 hX hT hS rfl rfl rfl).trans ?_)
    show ((result cs sn (P (i 0).val) S (256 + ((i 1).val - 256)) ((i 2).val / 64) ((i 2).val % 64) : ℝ) : EReal) = _
    rw [show 256 + ((i 1).val - 256) = (i 1).val by omega]

end

end Cert.ReferenceIdeal.Swa

end
-- ==== Proof.Swa.Finite.lean ====
/- The precondition read: every entry of both arguments is a real. -/
module

public import proofs.«01_k».proof.Pre_finite
public import Idealize.ShloMosaic.Lib.Pipeline.Value
public import Idealize.ShloMosaic.Lib.Pointwise.Tactic
public import Idealize.ShloMosaic.Lib.ValueIdx

@[expose] public section

noncomputable section

namespace Cert.Pre_finite

open Idealize.ShloMosaic

/-- The side conditions the precondition's operations take. -/
theorem facts : Facts where
  bcast_S16x2304x768_S16x2304x768x1_0_1_2 := by decide
  bcast_S_S16x2304x768x1 := by decide
  bcast_S_S8 := by decide
  bcast_S8_S1x1x1x8_3 := by decide
  bcast_S16x2304x768x1_S16x2304x768x8_0_1_2_3 := by decide
  bcast_S1x1x1x8_S16x2304x768x8_0_1_2_3 := by decide

theorem real_of_lt {x : EReal} (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have h' : max x (-x) < ⊤ := by
    by_contra hn
    rw [show Ideal.cmp .olt (max x (-x)) ⊤ = BitVec.ofBool (decide (max x (-x) < ⊤)) from rfl, decide_eq_false hn] at h
    exact absurd h (by decide)
  have h1 : x ≠ ⊤ := fun e => by rw [e] at h'; simp at h'
  have h2 : x ≠ ⊥ := fun e => by rw [e] at h'; simp at h'
  exact (EReal.coe_toReal h1 h2).symm

theorem and_one {a b : BitVec 1} (h : a &&& b = 1#1) : a = 1#1 ∧ b = 1#1 := by
  revert a b; decide

theorem entry [Facts] {x0 : FVec Ideal S16x2304x768 .f32} {x1 : FVec Ideal S8 .f32} (h : fn (F := Ideal) x0 x1 = fun _ => 1#1)
    (b : Fin 16) (n : Fin 2304) (c : Fin 768) (s : Fin 8) :
    x0 (ValueIdx.ix3 b n c) = ((EReal.toReal (x0 (ValueIdx.ix3 b n c)) : ℝ) : EReal)
      ∧ x1 (ValueIdx.ix1 s) = ((EReal.toReal (x1 (ValueIdx.ix1 s)) : ℝ) : EReal) := by
  have e := congrFun h (ValueIdx.ix4 b n c s)
  unfold fn at e
  dsimp only at e
  have e0 := (and_one e).1
  have e1 := (and_one e).2
  rw [broadcastInDim_apply _ Facts.bcast_S16x2304x768x1_S16x2304x768x8_0_1_2_3 _ _ (ValueIdx.ix4 b n c (0 : Fin 1)) (fun a => match a with
    | ⟨0, _⟩ => (if_neg (by show ¬ 16 = 1; omega)).symm | ⟨1, _⟩ => (if_neg (by show ¬ 2304 = 1; omega)).symm
    | ⟨2, _⟩ => (if_neg (by show ¬ 768 = 1; omega)).symm | ⟨3, _⟩ => (if_pos rfl).symm)] at e0
  rw [broadcastInDim_apply _ Facts.bcast_S1x1x1x8_S16x2304x768x8_0_1_2_3 _ _ (ValueIdx.ix4 (0 : Fin 1) (0 : Fin 1) (0 : Fin 1) s) (fun a => match a with
    | ⟨0, _⟩ => (if_pos rfl).symm | ⟨1, _⟩ => (if_pos rfl).symm
    | ⟨2, _⟩ => (if_pos rfl).symm | ⟨3, _⟩ => (if_neg (by show ¬ 8 = 1; omega)).symm)] at e1
  rw [broadcastInDim_apply _ Facts.bcast_S8_S1x1x1x8_3 _ _ (ValueIdx.ix1 s) (fun a => match a with
    | ⟨0, _⟩ => (if_neg (by show ¬ 8 = 1; omega)).symm)] at e1
  constructor
  · refine real_of_lt (Eq.trans ?_ e0)
    refine congrArg (fun z => Ideal.cmp .olt z _) ?_
    exact (broadcastInDim_apply _ Facts.bcast_S16x2304x768_S16x2304x768x1_0_1_2 (Host.absf x0) _ (ValueIdx.ix3 b n c) (fun a => match a with
      | ⟨0, _⟩ => (if_neg (by show ¬ 16 = 1; omega)).symm | ⟨1, _⟩ => (if_neg (by show ¬ 2304 = 1; omega)).symm
      | ⟨2, _⟩ => (if_neg (by show ¬ 768 = 1; omega)).symm)).symm
  · exact real_of_lt e1

end Cert.Pre_finite

end
-- ==== Proof.lean ====
module

public import proofs.«01_k».proof.Defs
public import proofs.«01_k».proof.Proof.Gen.Kernel
public import proofs.«01_k».proof.Proof.SwaBits.Frame
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Out.Ref
public import proofs.«01_k».proof.Proof.Out.Result
public import proofs.«01_k».proof.Proof.Out3.Ref
public import proofs.«01_k».proof.Proof.Out3.Result
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Swa.Frame
public import proofs.«01_k».proof.Proof.Swa.Result
public import proofs.«01_k».proof.Proof.Swa.RefSoftmax
public import proofs.«01_k».proof.Proof.Swa.Finite
public import Idealize.ShloMosaic.Adequacy
public import Idealize.ShloMosaic.Init

@[expose] public section

noncomputable section

namespace Cert.Proof

open Idealize.ShloMosaic Idealize.SL.Sem

/-- The reference's frame: its run read at its two arguments; it declares no semaphore. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.1, (h c).2.2⟩, sem_eq_zero_of_no_sems (by decide) r.2⟩)
    (Cert.ReferenceIdeal.Value.run (F := Ideal) m g)

theorem preserves : Cert.preserves_Kernel_KernelIdeal :=
  ⟨IdealRules.named_const.statement Cert.KernelIdeal.κ "log2e_8" .f32 0x3E38AA3B#32 ((8⁻¹ * (Real.log 2)⁻¹ : ℝ) : EReal) rfl,
   IdealRules.named_const.statement Cert.KernelIdeal.κ "log2e" .f32 0x3FB8AA3B#32 (((Real.log 2)⁻¹ : ℝ) : EReal) rfl⟩

/-- The projections, as reals. -/
def proj (x0 : Vec Ideal Cert.ReferenceIdeal.S16x2304x768 .f32) (b n c : ℕ) : ℝ :=
  if h : b < 16 ∧ n < 2304 ∧ c < 768 then (x0 (ValueIdx.ix3 (⟨b, h.1⟩ : Fin 16) (⟨n, h.2.1⟩ : Fin 2304) (⟨c, h.2.2⟩ : Fin 768)) : EReal).toReal else 0
/-- The sinks, as reals. -/
def sinks (x1 : Vec Ideal Cert.ReferenceIdeal.S8 .f32) (s : ℕ) : ℝ :=
  if h : s < 8 then (x1 (ValueIdx.ix1 (⟨s, h⟩ : Fin 8)) : EReal).toReal else 0

theorem real_args [Cert.Pre_finite.Facts] {x0 : Vec Ideal Cert.ReferenceIdeal.S16x2304x768 .f32} {x1 : Vec Ideal Cert.ReferenceIdeal.S8 .f32}
    (h : Cert.Pre_finite.fn (F := Ideal) x0 x1 = fun _ => 1#1) :
    Cert.ReferenceIdeal.Swa.RealRows x0 (proj x0) ∧ Cert.ReferenceIdeal.Swa.RealSinks x1 (sinks x1) := by
  constructor
  · intro i
    have l0 : (i 0).val < 16 := (i 0).isLt
    have l1 : (i 1).val < 2304 := (i 1).isLt
    have l2 : (i 2).val < 768 := (i 2).isLt
    have e : i = ValueIdx.ix3 (⟨(i 0).val, l0⟩ : Fin 16) (⟨(i 1).val, l1⟩ : Fin 2304) (⟨(i 2).val, l2⟩ : Fin 768) :=
      funext fun a => match a with | ⟨0, _⟩ => rfl | ⟨1, _⟩ => rfl | ⟨2, _⟩ => rfl
    have := (Cert.Pre_finite.entry h ⟨(i 0).val, l0⟩ ⟨(i 1).val, l1⟩ ⟨(i 2).val, l2⟩ 0).1
    unfold proj
    rw [dif_pos ⟨l0, l1, l2⟩]
    exact (congrArg x0 e).trans this
  · intro i
    have l0 : (i 0).val < 8 := (i 0).isLt
    have e : i = ValueIdx.ix1 (⟨(i 0).val, l0⟩ : Fin 8) := funext fun a => match a with | ⟨0, _⟩ => rfl
    have := (Cert.Pre_finite.entry h 0 0 0 ⟨(i 0).val, l0⟩).2
    unfold sinks
    rw [dif_pos l0]
    exact (congrArg x1 e).trans this

theorem algebraic [Cert.Pre_finite.Facts] : Cert.algebraic_KernelIdeal_ReferenceIdeal_pre_finite := by
  intro m g m' g' hpre hagree
  refine ⟨fun c => Cert.KernelIdeal.Swa.resArr (proj (m ((c.tc : Thread Cert.KernelIdeal.nD Cert.KernelIdeal.τ).loc Cert.KernelIdeal.main_arg0)))
    (sinks (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2.1, (h c).2.2⟩) (Cert.KernelIdeal.Swa.run_blocks (F := Ideal) m g)
    have hr := real_args (hpre c)
    exact Cert.KernelIdeal.Swa.kernel_result m c hr.1 hr.2
  · refine (θ_run Cert.ReferenceIdeal.defs _ _).mono (fun r h c => ⟨(h c).1.trans ?_, (h c).2.1, (h c).2.2⟩) (Cert.ReferenceIdeal.Value.run (F := Ideal) m' g')
    have hr := real_args (hpre c)
    refine (Cert.ReferenceIdeal.Read.val_main_v193_eq (F := Ideal) (StableHlo.launchContents m' c)).trans ?_
    have e0 : StableHlo.launchContents m' c (Proc.devRef .tc Cert.ReferenceIdeal.main_arg0) = m ((c.tc : Thread Cert.KernelIdeal.nD Cert.KernelIdeal.τ).loc Cert.KernelIdeal.main_arg0) := (hagree c).1
    have e1 : StableHlo.launchContents m' c (Proc.devRef .tc Cert.ReferenceIdeal.main_arg1) = m ((c.tc : Thread Cert.KernelIdeal.nD Cert.KernelIdeal.τ).loc Cert.KernelIdeal.main_arg1) := (hagree c).2
    rw [e0, e1]
    exact funext fun i => Cert.ReferenceIdeal.Swa.v193 hr.1 Cert.ReferenceIdeal.Swa.real_tables hr.2 i

/-- The second reference's frame: its run read at its ten arguments; it declares no semaphore. -/
theorem frame_ref2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

theorem algebraic2 : Cert.algebraic_Kernel2Ideal_Reference2Ideal := by
  intro m g m' g' _ hagree
  refine ⟨fun c => Cert.Kernel2Ideal.Out.resArr m c, ?_, ?_⟩
  · exact (θ_run Cert.Kernel2Ideal.defs _ _).mono (fun r h c => ⟨(h c).1.trans (Cert.Kernel2Ideal.Out.kernel_result m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    refine (Cert.Reference2Ideal.Read.val_main_v69_eq (F := Ideal) m' c).trans ?_
    obtain ⟨e0, e1, e2, e3, e4, e5, e6, e7, e8, e9⟩ := hagree c
    rw [e0, e1, e2, e3, e4, e5, e6, e7, e8, e9]
    exact Cert.Reference2Ideal.Out.v69 _ _ _ _ _ _ _ _ _ _

/-- The third reference's frame: its run read at its ten arguments; it declares no semaphore. -/
theorem frame_ref3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

theorem algebraic3 : Cert.algebraic_Kernel3Ideal_Reference3Ideal := by
  intro m g m' g' _ hagree
  refine ⟨fun c => Cert.Kernel3Ideal.Out.resArr m c, ?_, ?_⟩
  · exact (θ_run Cert.Kernel3Ideal.defs _ _).mono (fun r h c => ⟨(h c).1.trans (Cert.Kernel3Ideal.Out.kernel_result m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    refine (Cert.Reference3Ideal.Read.val_main_v106_eq (F := Ideal) m' c).trans ?_
    obtain ⟨e0, e1, e2, e3, e4, e5, e6, e7, e8, e9⟩ := hagree c
    rw [e0, e1, e2, e3, e4, e5, e7, e8, e9]
    exact Cert.Reference3Ideal.Out.v106 _ _ _ _ _ _ _ _ _

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.facts,
    fun m g _ => Cert.Kernel.Swa.frame m g, fun m g _ => Cert.KernelIdeal.Swa.frame m g, fun m g _ => Cert.KernelIdeal.Swa.frame m g,
    fun m g _ => frame_ref m g, fun m g _ => frame_ref m g,
    fun m g _ => Cert.Kernel2.Gen.frame m g, fun m g _ => Cert.Kernel2Ideal.Gen.frame m g, fun m g _ => frame_ref2 m g,
    fun m g _ => Cert.Kernel3.Gen.frame m g, fun m g _ => Cert.Kernel3Ideal.Gen.frame m g, fun m g _ => frame_ref3 m g,
    preserves, @algebraic Cert.Pre_finite.facts, trivial, algebraic2, trivial, algebraic3⟩

end Cert.Proof

end
